-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_router_finite [hPre_router_finite : Cert.Pre_router_finite.Facts] (m : (ℓ : Loc Cert.RouterIdeal.nD Cert.RouterIdeal.τ Cert.RouterIdeal.sig) → Buf (Elt Ideal) ℓ) : Prop :=
  ∀ c : Dev Cert.RouterIdeal.nD,
    (Cert.Pre_router_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1))) = (fun _ => 1#1)

def Pre_ChoiceIdeal (m : (ℓ : Loc Cert.ChoiceIdeal.nD Cert.ChoiceIdeal.τ Cert.ChoiceIdeal.sig) → Buf (Elt Ideal) ℓ) : Prop :=
  True

def Pre_ChoiceIdeal_router_finite [hPre_router_finite : Cert.Pre_router_finite.Facts] (m : (ℓ : Loc Cert.ChoiceIdeal.nD Cert.ChoiceIdeal.τ Cert.ChoiceIdeal.sig) → Buf (Elt Ideal) ℓ) : Prop :=
  ∀ c : Dev Cert.ChoiceIdeal.nD,
    (Cert.Pre_router_finite.fn (F := Ideal) (m ((c.tc : Thread Cert.ChoiceIdeal.nD Cert.ChoiceIdeal.τ).loc Cert.ChoiceIdeal.main_arg0)) (m ((c.tc : Thread Cert.ChoiceIdeal.nD Cert.ChoiceIdeal.τ).loc Cert.ChoiceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterIdeal_pre_router_finite [hRouterIdeal : Cert.RouterIdeal.Facts] [hPre_router_finite : Cert.Pre_router_finite.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_router_finite m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_ChoiceIdeal [hChoiceIdeal : Cert.ChoiceIdeal.Facts] : Prop :=
  ∀ (m : (ℓ : Loc Cert.ChoiceIdeal.nD Cert.ChoiceIdeal.τ Cert.ChoiceIdeal.sig) → Buf (Elt Ideal) ℓ) (g : Dev Cert.ChoiceIdeal.nD → PrngReg), Pre_ChoiceIdeal m →
    θ_run (Cert.ChoiceIdeal.defs (F := Ideal)) (onTc (τ := Cert.ChoiceIdeal.τ) (Cert.ChoiceIdeal.main (F := Ideal))) ⟨m, fun _ => 0, g⟩ (fun r => (∀ c : Dev Cert.ChoiceIdeal.nD,
      r.2.mem ((c.tc : Thread Cert.ChoiceIdeal.nD Cert.ChoiceIdeal.τ).loc Cert.ChoiceIdeal.main_arg0) = m ((c.tc : Thread Cert.ChoiceIdeal.nD Cert.ChoiceIdeal.τ).loc Cert.ChoiceIdeal.main_arg0)
      ∧ r.2.mem ((c.tc : Thread Cert.ChoiceIdeal.nD Cert.ChoiceIdeal.τ).loc Cert.ChoiceIdeal.main_arg1) = m ((c.tc : Thread Cert.ChoiceIdeal.nD Cert.ChoiceIdeal.τ).loc Cert.ChoiceIdeal.main_arg1))
      ∧ r.2.sem = fun _ => 0)

def quiescent_ChoiceIdeal_pre_router_finite [hChoiceIdeal : Cert.ChoiceIdeal.Facts] [hPre_router_finite : Cert.Pre_router_finite.Facts] : Prop :=
  ∀ (m : (ℓ : Loc Cert.ChoiceIdeal.nD Cert.ChoiceIdeal.τ Cert.ChoiceIdeal.sig) → Buf (Elt Ideal) ℓ) (g : Dev Cert.ChoiceIdeal.nD → PrngReg), Pre_ChoiceIdeal_router_finite m →
    θ_run (Cert.ChoiceIdeal.defs (F := Ideal)) (onTc (τ := Cert.ChoiceIdeal.τ) (Cert.ChoiceIdeal.main (F := Ideal))) ⟨m, fun _ => 0, g⟩ (fun r => (∀ c : Dev Cert.ChoiceIdeal.nD,
      r.2.mem ((c.tc : Thread Cert.ChoiceIdeal.nD Cert.ChoiceIdeal.τ).loc Cert.ChoiceIdeal.main_arg0) = m ((c.tc : Thread Cert.ChoiceIdeal.nD Cert.ChoiceIdeal.τ).loc Cert.ChoiceIdeal.main_arg0)
      ∧ r.2.mem ((c.tc : Thread Cert.ChoiceIdeal.nD Cert.ChoiceIdeal.τ).loc Cert.ChoiceIdeal.main_arg1) = m ((c.tc : Thread Cert.ChoiceIdeal.nD Cert.ChoiceIdeal.τ).loc Cert.ChoiceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Router_RouterIdeal : Prop :=
  True

def algebraic_RouterIdeal_ChoiceIdeal_pre_router_finite [hRouterIdeal : Cert.RouterIdeal.Facts] [hChoiceIdeal : Cert.ChoiceIdeal.Facts] [hPre_router_finite : Cert.Pre_router_finite.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.ChoiceIdeal.nD Cert.ChoiceIdeal.τ Cert.ChoiceIdeal.sig) → Buf (Elt Ideal) ℓ) (g' : Dev Cert.ChoiceIdeal.nD → PrngReg), Pre_RouterIdeal_router_finite m →
    (∀ c : Dev Cert.RouterIdeal.nD,
      m' ((c.tc : Thread Cert.ChoiceIdeal.nD Cert.ChoiceIdeal.τ).loc Cert.ChoiceIdeal.main_arg0) = m ((c.tc : Thread Cert.RouterIdeal.nD Cert.RouterIdeal.τ).loc Cert.RouterIdeal.main_arg0)
      ∧ m' ((c.tc : Thread Cert.ChoiceIdeal.nD Cert.ChoiceIdeal.τ).loc Cert.ChoiceIdeal.main_arg1) = m ((c.tc : Thread Cert.RouterIdeal.nD Cert.RouterIdeal.τ).loc Cert.RouterIdeal.main_arg1)) →
    ∃ (v0 : (c : Dev Cert.RouterIdeal.nD) → Buf (Elt Ideal) ((c.tc : Thread Cert.RouterIdeal.nD Cert.RouterIdeal.τ).loc Cert.RouterIdeal.main_v0_0)) (v1 : (c : Dev Cert.RouterIdeal.nD) → Buf (Elt Ideal) ((c.tc : Thread Cert.RouterIdeal.nD Cert.RouterIdeal.τ).loc Cert.RouterIdeal.main_v0_1)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v0_0) = v0 c
          ∧ r.2.mem ((c.tc : Thread Cert.RouterIdeal.nD Cert.RouterIdeal.τ).loc Cert.RouterIdeal.main_v0_1) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ θ_run (Cert.ChoiceIdeal.defs (F := Ideal)) (onTc (τ := Cert.ChoiceIdeal.τ) (Cert.ChoiceIdeal.main (F := Ideal))) ⟨m', fun _ => 0, g'⟩ (fun r => ∀ c : Dev Cert.ChoiceIdeal.nD,
          r.2.mem ((c.tc : Thread Cert.ChoiceIdeal.nD Cert.ChoiceIdeal.τ).loc Cert.ChoiceIdeal.main_v16) = v0 c
          ∧ r.2.mem ((c.tc : Thread Cert.ChoiceIdeal.nD Cert.ChoiceIdeal.τ).loc Cert.ChoiceIdeal.main_v18) = v1 c
          ∧ r.2.mem ((c.tc : Thread Cert.ChoiceIdeal.nD Cert.ChoiceIdeal.τ).loc Cert.ChoiceIdeal.main_arg0) = m' ((c.tc : Thread Cert.ChoiceIdeal.nD Cert.ChoiceIdeal.τ).loc Cert.ChoiceIdeal.main_arg0)
          ∧ r.2.mem ((c.tc : Thread Cert.ChoiceIdeal.nD Cert.ChoiceIdeal.τ).loc Cert.ChoiceIdeal.main_arg1) = m' ((c.tc : Thread Cert.ChoiceIdeal.nD Cert.ChoiceIdeal.τ).loc Cert.ChoiceIdeal.main_arg1))

def Claim : Prop :=
  ∃ (hKernel : Cert.Kernel.Facts) (hKernelIdeal : Cert.KernelIdeal.Facts) (hReferenceIdeal : Cert.ReferenceIdeal.Facts) (hRouter : Cert.Router.Facts) (hRouterIdeal : Cert.RouterIdeal.Facts) (hChoiceIdeal : Cert.ChoiceIdeal.Facts) (hPre_finite : Cert.Pre_finite.Facts) (hPre_router_finite : Cert.Pre_router_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Router (hRouter := hRouter)
    ∧ quiescent_RouterIdeal (hRouterIdeal := hRouterIdeal)
    ∧ quiescent_RouterIdeal_pre_router_finite (hRouterIdeal := hRouterIdeal) (hPre_router_finite := hPre_router_finite)
    ∧ quiescent_ChoiceIdeal (hChoiceIdeal := hChoiceIdeal)
    ∧ quiescent_ChoiceIdeal_pre_router_finite (hChoiceIdeal := hChoiceIdeal) (hPre_router_finite := hPre_router_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Router_RouterIdeal
    ∧ algebraic_RouterIdeal_ChoiceIdeal_pre_router_finite (hRouterIdeal := hRouterIdeal) (hChoiceIdeal := hChoiceIdeal) (hPre_router_finite := hPre_router_finite)
-- ==== Pre_finite.lean ====
abbrev S2048x2048 : Shape := ⟨2, ![2048, 2048]⟩
abbrev S2x2048 : Shape := ⟨2, ![2, 2048]⟩
abbrev S2x8192x2048 : Shape := ⟨3, ![2, 8192, 2048]⟩
abbrev S2x2048x8192 : Shape := ⟨3, ![2, 2048, 8192]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2x2048 : S_.BroadcastsInDim S2x2048 (![] : Fin 0 → Fin S2x2048.rank)
  reducesTo_S2x2048_S_d0_1 : S2x2048.ReducesTo [0, 1] S_

variable [Facts]

def fn {F : FTy → Type} [FloatOps F] (main_arg0 : FVec F S2048x2048 .f32) (main_arg1 : FVec F S2x2048 .f32) (main_arg2 : FVec F S2x8192x2048 .f32) (main_arg3 : FVec F S2x2048x8192 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2x2048 .f32 := Host.absf main_arg1
  let main_cst_0 : FVec F S_ .f32 := constant S_ .f32 0x7F800000#32
  let main_v5 : FVec F S2x2048 .f32 := broadcastInDim S2x2048 ![] bcast_S_S2x2048 main_cst_0
  let main_v6 : IVec S2x2048 1 := cmpf .olt main_v4 main_v5
  let main_c_1 : IVec S_ 1 := constantI S_ 1 1#1
  let main_v7 : IVec S_ 1 := (fun x v => Host.reduce IntOp.andi x v reducesTo_S2x2048_S_d0_1 h_S_) main_v6 main_c_1
  let main_v8 : IVec S_ 1 := andi main_v3 main_v7
  main_v8
-- ==== Pre_router_finite.lean ====
abbrev S2048x2048 : Shape := ⟨2, ![2048, 2048]⟩
abbrev S2x2048 : Shape := ⟨2, ![2, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2x2048 : S_.BroadcastsInDim S2x2048 (![] : Fin 0 → Fin S2x2048.rank)
  reducesTo_S2x2048_S_d0_1 : S2x2048.ReducesTo [0, 1] S_

variable [Facts]

def fn {F : FTy → Type} [FloatOps F] (main_arg0 : FVec F S2048x2048 .f32) (main_arg1 : FVec F S2x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2x2048 .f32 := Host.absf main_arg1
  let main_cst_0 : FVec F S_ .f32 := constant S_ .f32 0x7F800000#32
  let main_v5 : FVec F S2x2048 .f32 := broadcastInDim S2x2048 ![] bcast_S_S2x2048 main_cst_0
  let main_v6 : IVec S2x2048 1 := cmpf .olt main_v4 main_v5
  let main_c_1 : IVec S_ 1 := constantI S_ 1 1#1
  let main_v7 : IVec S_ 1 := (fun x v => Host.reduce IntOp.andi x v reducesTo_S2x2048_S_d0_1 h_S_) main_v6 main_c_1
  let main_v8 : IVec S_ 1 := andi main_v3 main_v7
  main_v8
-- ==== Kernel.lean ====
abbrev S2048x2048 : Shape := ⟨2, ![2048, 2048]⟩
abbrev S2x2048 : Shape := ⟨2, ![2, 2048]⟩
abbrev S2x8192x2048 : Shape := ⟨3, ![2, 8192, 2048]⟩
abbrev S2x2048x8192 : Shape := ⟨3, ![2, 2048, 8192]⟩
abbrev S2048x1 : Shape := ⟨2, ![2048, 1]⟩
abbrev S256x2048 : Shape := ⟨2, ![256, 2048]⟩
abbrev S256x1 : Shape := ⟨2, ![256, 1]⟩
abbrev S256x2 : Shape := ⟨2, ![256, 2]⟩
abbrev S2048 : Shape := ⟨1, ![2048]⟩
abbrev S2048x8x2x128 : Shape := ⟨4, ![2048, 8, 2, 128]⟩
abbrev S8x2048x2x128 : Shape := ⟨4, ![8, 2048, 2, 128]⟩
abbrev S16 : Shape := ⟨1, ![16]⟩
abbrev S64 : Shape := ⟨1, ![64]⟩
abbrev S8x32x2x128 : Shape := ⟨4, ![8, 32, 2, 128]⟩
abbrev S_ : Shape := ⟨0, ![]⟩
abbrev S1x32x2x128 : Shape := ⟨4, ![1, 32, 2, 128]⟩
abbrev S32x2x128 : Shape := ⟨3, ![32, 2, 128]⟩
abbrev S32 : Shape := ⟨1, ![32]⟩
abbrev S1x2048x2x128 : Shape := ⟨4, ![1, 2048, 2, 128]⟩
abbrev S2048x2x128 : Shape := ⟨3, ![2048, 2, 128]⟩
abbrev S1 : Shape := ⟨1, ![1]⟩
abbrev S9 : Shape := ⟨1, ![9]⟩
abbrev S9x1 : Shape := ⟨2, ![9, 1]⟩
abbrev S256 : Shape := ⟨1, ![256]⟩
abbrev S1x256 : Shape := ⟨2, ![1, 256]⟩
abbrev S9x256 : Shape := ⟨2, ![9, 256]⟩
abbrev S2304 : Shape := ⟨1, ![2304]⟩
abbrev S2304x1 : Shape := ⟨2, ![2304, 1]⟩
abbrev S1x1 : Shape := ⟨2, ![1, 1]⟩
abbrev S9x256x1 : Shape := ⟨3, ![9, 256, 1]⟩
abbrev S1x512x2048 : Shape := ⟨3, ![1, 512, 2048]⟩
abbrev S1x2048x512 : Shape := ⟨3, ![1, 2048, 512]⟩
abbrev S512x2048 : Shape := ⟨2, ![512, 2048]⟩
abbrev S256x512 : Shape := ⟨2, ![256, 512]⟩
abbrev S1x256x1 : Shape := ⟨3, ![1, 256, 1]⟩
abbrev S2048x512 : Shape := ⟨2, ![2048, 512]⟩
abbrev S32x2x32 : Shape := ⟨3, ![32, 2, 32]⟩
abbrev S2x32 : Shape := ⟨2, ![2, 32]⟩
abbrev S1x2x32 : Shape := ⟨3, ![1, 2, 32]⟩
abbrev S1x32 : Shape := ⟨2, ![1, 32]⟩

abbrev nBuf : Table → Nat
  | .hbm => 204
  | .local .tc .vmem => 14
  | .local .tc .smem => 6
  | .local .scVector .vmem => 10
  | _ => 0

abbrev hbmTy0_0 (i : Nat) : BufTy := match i % 128 with
  | 0 => ⟨S2048x2048, .f32⟩
  | 1 => ⟨S2x2048, .f32⟩
  | 2 => ⟨S2x8192x2048, .f32⟩
  | 3 => ⟨S2x2048x8192, .f32⟩
  | 4 => ⟨S2048x1, .i32⟩
  | 5 => ⟨S2048x1, .f32⟩
  | 6 => ⟨S2048, .i32⟩
  | 7 => ⟨S2048, .f32⟩
  | 8 => ⟨S2048x8x2x128, .f32⟩
  | 9 => ⟨S8x2048x2x128, .f32⟩
  | 10 => ⟨S8x2048x2x128, .f32⟩
  | 11 => ⟨S2048, .f32⟩
  | 12 => ⟨S2048, .i32⟩
  | 13 => ⟨S16, .i32⟩
  | 14 => ⟨S2048x8x2x128, .f32⟩
  | 15 => ⟨S2048x2048, .f32⟩
  | 16 => ⟨S1, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i1⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i1⟩
  | 40 => ⟨S_, .i32⟩
  | 41 => ⟨S_, .i1⟩
  | 42 => ⟨S_, .i32⟩
  | 43 => ⟨S_, .i1⟩
  | 44 => ⟨S_, .i1⟩
  | 45 => ⟨S_, .i1⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S9, .i32⟩
  | 53 => ⟨S9, .i32⟩
  | 54 => ⟨S9, .i1⟩
  | 55 => ⟨S9, .i32⟩
  | 56 => ⟨S9, .i32⟩
  | 57 => ⟨S9, .i32⟩
  | 58 => ⟨S9, .i32⟩
  | 59 => ⟨S_, .i32⟩
  | 60 => ⟨S9, .i32⟩
  | 61 => ⟨S9, .i32⟩
  | 62 => ⟨S9, .i32⟩
  | 63 => ⟨S_, .i32⟩
  | 64 => ⟨S_, .i32⟩
  | 65 => ⟨S9, .i32⟩
  | 66 => ⟨S9, .i32⟩
  | 67 => ⟨S9, .i32⟩
  | 68 => ⟨S9, .i32⟩
  | 69 => ⟨S_, .i32⟩
  | 70 => ⟨S_, .i1⟩
  | 71 => ⟨S_, .i32⟩
  | 72 => ⟨S_, .i32⟩
  | 73 => ⟨S_, .i32⟩
  | 74 => ⟨S9, .i32⟩
  | 75 => ⟨S9, .i1⟩
  | 76 => ⟨S9, .i32⟩
  | 77 => ⟨S9, .i1⟩
  | 78 => ⟨S_, .i32⟩
  | 79 => ⟨S_, .i1⟩
  | 80 => ⟨S9, .i1⟩
  | 81 => ⟨S9, .i1⟩
  | 82 => ⟨S9, .i1⟩
  | 83 => ⟨S9, .i1⟩
  | 84 => ⟨S_, .i32⟩
  | 85 => ⟨S_, .i32⟩
  | 86 => ⟨S9, .i32⟩
  | 87 => ⟨S9, .i32⟩
  | 88 => ⟨S9, .i32⟩
  | 89 => ⟨S9x1, .i32⟩
  | 90 => ⟨S_, .i32⟩
  | 91 => ⟨S9x1, .i32⟩
  | 92 => ⟨S9x1, .i32⟩
  | 93 => ⟨S256, .i32⟩
  | 94 => ⟨S1x256, .i32⟩
  | 95 => ⟨S9x256, .i32⟩
  | 96 => ⟨S9x256, .i32⟩
  | 97 => ⟨S9x256, .i32⟩
  | 98 => ⟨S2304, .i32⟩
  | 99 => ⟨S_, .i32⟩
  | 100 => ⟨S2304, .i32⟩
  | 101 => ⟨S2304, .i1⟩
  | 102 => ⟨S_, .i32⟩
  | 103 => ⟨S2304, .i32⟩
  | 104 => ⟨S2304, .i32⟩
  | 105 => ⟨S2304, .i32⟩
  | 106 => ⟨S2304x1, .i32⟩
  | 107 => ⟨S1, .i32⟩
  | 108 => ⟨S_, .i32⟩
  | 109 => ⟨S2304x1, .i32⟩
  | 110 => ⟨S2304x1, .i1⟩
  | 111 => ⟨S1x1, .i32⟩
  | 112 => ⟨S2304x1, .i32⟩
  | 113 => ⟨S2304x1, .i1⟩
  | 114 => ⟨S2304x1, .i1⟩
  | 115 => ⟨S_, .i1⟩
  | 116 => ⟨S2304, .i1⟩
  | 117 => ⟨S2304, .f32⟩
  | 118 => ⟨S_, .f32⟩
  | 119 => ⟨S2304, .f32⟩
  | 120 => ⟨S2304, .f32⟩
  | 121 => ⟨S9x256, .f32⟩
  | 122 => ⟨S9x1, .i1⟩
  | 123 => ⟨S9x256, .i32⟩
  | 124 => ⟨S9x256, .i1⟩
  | 125 => ⟨S9x256, .i32⟩
  | 126 => ⟨S9x256, .i1⟩
  | 127 => ⟨S9x256, .i1⟩
  | _ => ⟨S2048x2048, .f32⟩

abbrev hbmTy0_1 (i : Nat) : BufTy := match i % 128 with
  | 0 => ⟨S9x256, .i1⟩
  | 1 => ⟨S9x1, .i1⟩
  | 2 => ⟨S9x256, .i1⟩
  | 3 => ⟨S9x256, .i1⟩
  | 4 => ⟨S9x256, .f32⟩
  | 5 => ⟨S9x256, .f32⟩
  | 6 => ⟨S9x256x1, .f32⟩
  | 7 => ⟨S32, .i32⟩
  | 8 => ⟨S_, .i32⟩
  | 9 => ⟨S_, .i32⟩
  | 10 => ⟨S32, .i32⟩
  | 11 => ⟨S32, .i32⟩
  | 12 => ⟨S32, .i32⟩
  | 13 => ⟨S_, .i32⟩
  | 14 => ⟨S32, .i32⟩
  | 15 => ⟨S32, .i1⟩
  | 16 => ⟨S32, .i32⟩
  | 17 => ⟨S32, .i32⟩
  | 18 => ⟨S_, .i32⟩
  | 19 => ⟨S32, .i32⟩
  | 20 => ⟨S32, .i1⟩
  | 21 => ⟨S32, .i1⟩
  | 22 => ⟨S_, .i32⟩
  | 23 => ⟨S32, .i32⟩
  | 24 => ⟨S32, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S32, .i32⟩
  | 32 => ⟨S32, .i32⟩
  | 33 => ⟨S_, .i32⟩
  | 34 => ⟨S32, .i32⟩
  | 35 => ⟨S32, .i1⟩
  | 36 => ⟨S_, .i32⟩
  | 37 => ⟨S32, .i32⟩
  | 38 => ⟨S32, .i1⟩
  | 39 => ⟨S_, .i32⟩
  | 40 => ⟨S_, .i1⟩
  | 41 => ⟨S32, .i1⟩
  | 42 => ⟨S32, .i1⟩
  | 43 => ⟨S32, .i1⟩
  | 44 => ⟨S32, .i32⟩
  | 45 => ⟨S32, .i32⟩
  | 46 => ⟨S_, .i32⟩
  | 47 => ⟨S32, .i32⟩
  | 48 => ⟨S32, .i1⟩
  | 49 => ⟨S_, .i32⟩
  | 50 => ⟨S_, .i32⟩
  | 51 => ⟨S32, .i32⟩
  | 52 => ⟨S32, .i32⟩
  | 53 => ⟨S_, .i32⟩
  | 54 => ⟨S32, .i32⟩
  | 55 => ⟨S32, .i1⟩
  | 56 => ⟨S_, .i32⟩
  | 57 => ⟨S_, .i32⟩
  | 58 => ⟨S32, .i32⟩
  | 59 => ⟨S32, .i32⟩
  | 60 => ⟨S_, .i32⟩
  | 61 => ⟨S32, .i32⟩
  | 62 => ⟨S32, .i1⟩
  | 63 => ⟨S_, .i32⟩
  | 64 => ⟨S_, .i32⟩
  | 65 => ⟨S_, .i32⟩
  | 66 => ⟨S_, .i32⟩
  | 67 => ⟨S32, .i32⟩
  | 68 => ⟨S32, .i32⟩
  | 69 => ⟨S2048x2048, .f32⟩
  | 70 => ⟨S2048x8x2x128, .f32⟩
  | 71 => ⟨S8x2048x2x128, .f32⟩
  | 72 => ⟨S32x2x32, .i32⟩
  | 73 => ⟨S8x2048x2x128, .f32⟩
  | 74 => ⟨S2048x8x2x128, .f32⟩
  | 75 => ⟨S2048x2048, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (nBuf tb) → BufTy
  | .hbm, ⟨i, _⟩ => hbmTy i
  | .local .tc .vmem, ⟨0, _⟩ => ⟨S256x2048, .f32⟩
  | .local .tc .vmem, ⟨1, _⟩ => ⟨S256x2048, .f32⟩
  | .local .tc .vmem, ⟨2, _⟩ => ⟨S2x2048, .f32⟩
  | .local .tc .vmem, ⟨3, _⟩ => ⟨S256x1, .i32⟩
  | .local .tc .vmem, ⟨4, _⟩ => ⟨S256x1, .i32⟩
  | .local .tc .vmem, ⟨5, _⟩ => ⟨S256x1, .f32⟩
  | .local .tc .vmem, ⟨6, _⟩ => ⟨S256x1, .f32⟩
  | .local .tc .vmem, ⟨7, _⟩ => ⟨S2048x2048, .f32⟩
  | .local .tc .vmem, ⟨8, _⟩ => ⟨S1x512x2048, .f32⟩
  | .local .tc .vmem, ⟨9, _⟩ => ⟨S1x512x2048, .f32⟩
  | .local .tc .vmem, ⟨10, _⟩ => ⟨S1x2048x512, .f32⟩
  | .local .tc .vmem, ⟨11, _⟩ => ⟨S1x2048x512, .f32⟩
  | .local .tc .vmem, ⟨12, _⟩ => ⟨S9x256x1, .f32⟩
  | .local .tc .vmem, ⟨13, _⟩ => ⟨S2048x2048, .f32⟩
  | .local .tc .smem, ⟨0, _⟩ => ⟨S32, .i32⟩
  | .local .tc .smem, ⟨1, _⟩ => ⟨S32, .i32⟩
  | .local .tc .smem, ⟨2, _⟩ => ⟨S32, .i32⟩
  | .local .tc .smem, ⟨3, _⟩ => ⟨S32, .i32⟩
  | .local .tc .smem, ⟨4, _⟩ => ⟨S32, .i32⟩
  | .local .tc .smem, ⟨5, _⟩ => ⟨S9, .i32⟩
  | .local .scVector .vmem, ⟨0, _⟩ => ⟨S2048, .i32⟩
  | .local .scVector .vmem, ⟨1, _⟩ => ⟨S2048, .f32⟩
  | .local .scVector .vmem, ⟨2, _⟩ => ⟨S2048, .i32⟩
  | .local .scVector .vmem, ⟨3, _⟩ => ⟨S2048, .i32⟩
  | .local .scVector .vmem, ⟨4, _⟩ => ⟨S2048, .i32⟩
  | .local .scVector .vmem, ⟨5, _⟩ => ⟨S64, .f32⟩
  | .local .scVector .vmem, ⟨6, _⟩ => ⟨S8x32x2x128, .f32⟩
  | .local .scVector .vmem, ⟨7, _⟩ => ⟨S16, .i32⟩
  | .local .scVector .vmem, ⟨8, _⟩ => ⟨S2x32, .i32⟩
  | .local .scVector .vmem, ⟨9, _⟩ => ⟨S8x32x2x128, .f32⟩
  | _, _ => ⟨S2048x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => false
  | ⟨23, _⟩ => false
  | ⟨24, _⟩ => false
  | ⟨25, _⟩ => false
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c : Ref sig .tc := ⟨.hbm, 25, rfl⟩
abbrev main_call0_v6 : Ref sig .tc := ⟨.hbm, 26, rfl⟩
abbrev main_call0_v7 : Ref sig .tc := ⟨.hbm, 27, rfl⟩
abbrev main_call0_c_0 : Ref sig .tc := ⟨.hbm, 28, rfl⟩
abbrev main_call0_v8 : Ref sig .tc := ⟨.hbm, 29, rfl⟩
abbrev main_v10 : Ref sig .tc := ⟨.hbm, 30, rfl⟩
abbrev main_c_0 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_c_1 : Ref sig .tc := ⟨.hbm, 38, rfl⟩
abbrev main_call1_v4 : Ref sig .tc := ⟨.hbm, 39, rfl⟩
abbrev main_call1_c_2 : Ref sig .tc := ⟨.hbm, 40, rfl⟩
abbrev main_call1_v5 : Ref sig .tc := ⟨.hbm, 41, rfl⟩
abbrev main_call1_c_3 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_v11 : Ref sig .tc := ⟨.hbm, 47, rfl⟩
abbrev main_c_1 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_c_2 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_c_3 : Ref sig .tc := ⟨.hbm, 63, rfl⟩
abbrev main_c_4 : Ref sig .tc := ⟨.hbm, 64, rfl⟩
abbrev main_call3_v0 : Ref sig .tc := ⟨.hbm, 65, rfl⟩
abbrev main_call3_v1 : Ref sig .tc := ⟨.hbm, 66, rfl⟩
abbrev main_v25 : Ref sig .tc := ⟨.hbm, 67, rfl⟩
abbrev main_v26 : Ref sig .tc := ⟨.hbm, 68, rfl⟩
abbrev main_c_5 : Ref sig .tc := ⟨.hbm, 69, rfl⟩
abbrev main_v27 : Ref sig .tc := ⟨.hbm, 70, rfl⟩
abbrev main_v28 : Ref sig .tc := ⟨.hbm, 71, rfl⟩
abbrev main_c_6 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_c_7 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_c_8 : Ref sig .tc := ⟨.hbm, 84, rfl⟩
abbrev main_c_9 : Ref sig .tc := ⟨.hbm, 85, rfl⟩
abbrev main_call4_v0 : Ref sig .tc := ⟨.hbm, 86, rfl⟩
abbrev main_call4_v1 : Ref sig .tc := ⟨.hbm, 87, rfl⟩
abbrev main_v39 : Ref sig .tc := ⟨.hbm, 88, rfl⟩
abbrev main_v41 : Ref sig .tc := ⟨.hbm, 89, rfl⟩
abbrev main_c_10 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_call5_c : Ref sig .tc := ⟨.hbm, 99, rfl⟩
abbrev main_call5_v0 : Ref sig .tc := ⟨.hbm, 100, rfl⟩
abbrev main_call5_v1 : Ref sig .tc := ⟨.hbm, 101, rfl⟩
abbrev main_call5_c_0 : Ref sig .tc := ⟨.hbm, 102, rfl⟩
abbrev main_call5_v2 : Ref sig .tc := ⟨.hbm, 103, rfl⟩
abbrev main_call5_v3 : Ref sig .tc := ⟨.hbm, 104, rfl⟩
abbrev main_call5_v4 : Ref sig .tc := ⟨.hbm, 105, rfl⟩
abbrev main_call5_v5 : Ref sig .tc := ⟨.hbm, 106, rfl⟩
abbrev main_call5_c_1 : Ref sig .tc := ⟨.hbm, 107, rfl⟩
abbrev main_call5_c_2 : Ref sig .tc := ⟨.hbm, 108, rfl⟩
abbrev main_call5_v6 : Ref sig .tc := ⟨.hbm, 109, rfl⟩
abbrev main_call5_v7 : Ref sig .tc := ⟨.hbm, 110, rfl⟩
abbrev main_call5_v8 : Ref sig .tc := ⟨.hbm, 111, rfl⟩
abbrev main_call5_v9 : Ref sig .tc := ⟨.hbm, 112, rfl⟩
abbrev main_call5_v10 : Ref sig .tc := ⟨.hbm, 113, rfl⟩
abbrev main_call5_v11 : Ref sig .tc := ⟨.hbm, 114, rfl⟩
abbrev main_call5_c_3 : Ref sig .tc := ⟨.hbm, 115, rfl⟩
abbrev main_call5_v12 : Ref sig .tc := ⟨.hbm, 116, rfl⟩
abbrev main_call5_v13 : Ref sig .tc := ⟨.hbm, 117, rfl⟩
abbrev main_call5_cst : Ref sig .tc := ⟨.hbm, 118, rfl⟩
abbrev main_call5_v14 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_call6_v0 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_c_11 : Ref sig .tc := ⟨.hbm, 136, rfl⟩
abbrev main_call7_v0 : Ref sig .tc := ⟨.hbm, 137, rfl⟩
abbrev main_call7_v1 : Ref sig .tc := ⟨.hbm, 138, rfl⟩
abbrev main_call7_v2 : Ref sig .tc := ⟨.hbm, 139, rfl⟩
abbrev main_call7_v3 : Ref sig .tc := ⟨.hbm, 140, rfl⟩
abbrev main_call7_v4 : Ref sig .tc := ⟨.hbm, 141, rfl⟩
abbrev main_call7_v5 : Ref sig .tc := ⟨.hbm, 142, rfl⟩
abbrev main_call7_v6 : Ref sig .tc := ⟨.hbm, 143, rfl⟩
abbrev main_call7_v7 : Ref sig .tc := ⟨.hbm, 144, rfl⟩
abbrev main_call7_v8 : Ref sig .tc := ⟨.hbm, 145, rfl⟩
abbrev main_call7_c : Ref sig .tc := ⟨.hbm, 146, rfl⟩
abbrev main_call7_v9 : Ref sig .tc := ⟨.hbm, 147, rfl⟩
abbrev main_call7_v10 : Ref sig .tc := ⟨.hbm, 148, rfl⟩
abbrev main_call7_v11 : Ref sig .tc := ⟨.hbm, 149, rfl⟩
abbrev main_call7_c_0 : Ref sig .tc := ⟨.hbm, 150, rfl⟩
abbrev main_call7_v12 : Ref sig .tc := ⟨.hbm, 151, rfl⟩
abbrev main_call7_v13 : Ref sig .tc := ⟨.hbm, 152, rfl⟩
abbrev main_c_12 : Ref sig .tc := ⟨.hbm, 153, rfl⟩
abbrev main_call8_v0 : Ref sig .tc := ⟨.hbm, 154, rfl⟩
abbrev main_call8_c : Ref sig .tc := ⟨.hbm, 155, rfl⟩
abbrev main_call8_v1 : Ref sig .tc := ⟨.hbm, 156, rfl⟩
abbrev main_call8_c_0 : Ref sig .tc := ⟨.hbm, 157, rfl⟩
abbrev main_call8_v2 : Ref sig .tc := ⟨.hbm, 158, rfl⟩
abbrev main_call8_v3 : Ref sig .tc := ⟨.hbm, 159, rfl⟩
abbrev main_call8_v4 : Ref sig .tc := ⟨.hbm, 160, rfl⟩
abbrev main_call8_c_1 : Ref sig .tc := ⟨.hbm, 161, rfl⟩
abbrev main_call8_v5 : Ref sig .tc := ⟨.hbm, 162, rfl⟩
abbrev main_call8_v6 : Ref sig .tc := ⟨.hbm, 163, rfl⟩
abbrev main_call8_c_2 : Ref sig .tc := ⟨.hbm, 164, rfl⟩
abbrev main_call8_v7 : Ref sig .tc := ⟨.hbm, 165, rfl⟩
abbrev main_call8_v8 : Ref sig .tc := ⟨.hbm, 166, rfl⟩
abbrev main_call8_c_3 : Ref sig .tc := ⟨.hbm, 167, rfl⟩
abbrev main_call8_v9 : Ref sig .tc := ⟨.hbm, 168, rfl⟩
abbrev main_call8_v10 : Ref sig .tc := ⟨.hbm, 169, rfl⟩
abbrev main_call8_v11 : Ref sig .tc := ⟨.hbm, 170, rfl⟩
abbrev main_call8_v12 : Ref sig .tc := ⟨.hbm, 171, rfl⟩
abbrev main_call8_v13 : Ref sig .tc := ⟨.hbm, 172, rfl⟩
abbrev main_call8_v14 : Ref sig .tc := ⟨.hbm, 173, rfl⟩
abbrev main_c_13 : Ref sig .tc := ⟨.hbm, 174, rfl⟩
abbrev main_v67 : Ref sig .tc := ⟨.hbm, 175, rfl⟩
abbrev main_v68 : Ref sig .tc := ⟨.hbm, 176, rfl⟩
abbrev main_c_14 : Ref sig .tc := ⟨.hbm, 177, rfl⟩
abbrev main_v69 : Ref sig .tc := ⟨.hbm, 178, rfl⟩
abbrev main_call9_v0 : Ref sig .tc := ⟨.hbm, 179, rfl⟩
abbrev main_call9_v1 : Ref sig .tc := ⟨.hbm, 180, rfl⟩
abbrev main_c_15 : Ref sig .tc := ⟨.hbm, 181, rfl⟩
abbrev main_v71 : Ref sig .tc := ⟨.hbm, 182, rfl⟩
abbrev main_v72 : Ref sig .tc := ⟨.hbm, 183, rfl⟩
abbrev main_c_16 : Ref sig .tc := ⟨.hbm, 184, rfl⟩
abbrev main_call10_v0 : Ref sig .tc := ⟨.hbm, 185, rfl⟩
abbrev main_call10_v1 : Ref sig .tc := ⟨.hbm, 186, rfl⟩
abbrev main_call10_v2 : Ref sig .tc := ⟨.hbm, 187, rfl⟩
abbrev main_c_17 : Ref sig .tc := ⟨.hbm, 188, rfl⟩
abbrev main_v74 : Ref sig .tc := ⟨.hbm, 189, rfl⟩
abbrev main_v75 : Ref sig .tc := ⟨.hbm, 190, rfl⟩
abbrev main_c_18 : Ref sig .tc := ⟨.hbm, 191, rfl⟩
abbrev main_v76 : Ref sig .tc := ⟨.hbm, 192, rfl⟩
abbrev main_c_19 : Ref sig .tc := ⟨.hbm, 193, rfl⟩
abbrev main_call11_v0 : Ref sig .tc := ⟨.hbm, 194, rfl⟩
abbrev main_call11_v1 : Ref sig .tc := ⟨.hbm, 195, rfl⟩
abbrev main_call11_v2 : Ref sig .tc := ⟨.hbm, 196, rfl⟩
abbrev main_v78 : Ref sig .tc := ⟨.hbm, 197, rfl⟩
abbrev main_v79 : Ref sig .tc := ⟨.hbm, 198, rfl⟩
abbrev main_v80 : Ref sig .tc := ⟨.hbm, 199, rfl⟩
abbrev main_v81 : Ref sig .tc := ⟨.hbm, 200, rfl⟩
abbrev main_v82 : Ref sig .tc := ⟨.hbm, 201, rfl⟩
abbrev main_v83 : Ref sig .tc := ⟨.hbm, 202, rfl⟩
abbrev main_v84 : Ref sig .tc := ⟨.hbm, 203, rfl⟩
abbrev main_v66 : Ref sig .tc := ⟨.smem, 0, rfl⟩
abbrev main_v65 : Ref sig .tc := ⟨.smem, 1, rfl⟩
abbrev main_v70 : Ref sig .tc := ⟨.smem, 2, rfl⟩
abbrev main_v73 : Ref sig .tc := ⟨.smem, 3, rfl⟩
abbrev main_v77 : Ref sig .tc := ⟨.smem, 4, rfl⟩
abbrev main_v40 : Ref sig .tc := ⟨.smem, 5, rfl⟩
abbrev main_v1_scv : Ref sig .scVector := ⟨.hbm, 6, rfl⟩
abbrev main_v2_scv : Ref sig .scVector := ⟨.hbm, 7, rfl⟩
abbrev main_v4_scv : Ref sig .scVector := ⟨.hbm, 9, rfl⟩
abbrev main_v5_0_scv : Ref sig .scVector := ⟨.hbm, 10, rfl⟩
abbrev main_v5_1_scv : Ref sig .scVector := ⟨.hbm, 11, rfl⟩
abbrev main_v5_2_scv : Ref sig .scVector := ⟨.hbm, 12, rfl⟩
abbrev main_v5_3_scv : Ref sig .scVector := ⟨.hbm, 13, rfl⟩
abbrev main_v80_scv : Ref sig .scVector := ⟨.hbm, 199, rfl⟩
abbrev main_v81_scv : Ref sig .scVector := ⟨.hbm, 200, rfl⟩
abbrev main_v82_scv : Ref sig .scVector := ⟨.hbm, 201, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc2_stg0_0 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc2_stg3_0 : Ref sig .tc := ⟨.vmem, 12, rfl⟩
abbrev cc2_stg4_0 : Ref sig .tc := ⟨.vmem, 13, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc3_scratch0 : Ref sig .scVector := ⟨.vmem, 8, rfl⟩
abbrev cc3_scratch1 : Ref sig .scVector := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc2_sem0_0 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

@[reducible] def k1_t1_loop : Scf.Loop 32 :=
  let c0_i32_1 : BitVec 32 := 0#32
  let c128_i32 : BitVec 32 := 128#32
  let v2 : BitVec 32 := Scalar.addi c0_i32_1 c128_i32
  let c1_i32 : BitVec 32 := 1#32
  ⟨c0_i32_1, v2, c1_i32⟩
def k1_off1 (k1_t1 : Fin k1_t1_loop.trips) : Fin 1 → Nat :=
  let c0_i32_1 : BitVec 32 := 0#32
  let c1_i32 : BitVec 32 := 1#32
  let arg18 : BitVec 32 := Scf.iv c0_i32_1 c1_i32 k1_t1
  let c16_i32 : BitVec 32 := 16#32
  let v16 : BitVec 32 := Scalar.muli arg18 c16_i32
  let v17 : Index := Scalar.indexCast v16
  ![v17.toNat]
@[reducible] def k1_t2_loop : Scf.Loop 32 :=
  let c0_i32_4 : BitVec 32 := 0#32
  let c128_i32_5 : BitVec 32 := 128#32
  let v4 : BitVec 32 := Scalar.addi c0_i32_4 c128_i32_5
  let c1_i32_6 : BitVec 32 := 1#32
  ⟨c0_i32_4, v4, c1_i32_6⟩
def k1_off2 (k1_t2 : Fin k1_t2_loop.trips) : Fin 1 → Nat :=
  let c0_i32_4 : BitVec 32 := 0#32
  let c1_i32_6 : BitVec 32 := 1#32
  let arg18 : BitVec 32 := Scf.iv c0_i32_4 c1_i32_6 k1_t2
  let c16_i32 : BitVec 32 := 16#32
  let v16 : BitVec 32 := Scalar.muli arg18 c16_i32
  let v17 : Index := Scalar.indexCast v16
  ![v17.toNat]

def k1_chk1 (v29 : IVec S16 32) : Prop :=
  (∀ a x, ((![v29] : Fin 1 → IVec S16 32) a x).toNat < S2048.size a)
theorem k1_idx1_inb : ∀ (v29 : IVec S16 32) (k1_hw1 : k1_chk1 v29), ∀ a x, ((![v29] : Fin 1 → IVec S16 32) a x).toNat < S2048.size a := fun v29 k1_hw1 => k1_hw1
@[reducible] def k1_t3_loop : Scf.Loop 32 :=
  let c0_i32_9 : BitVec 32 := 0#32
  let c4_i32 : BitVec 32 := 4#32
  let v7 : BitVec 32 := Scalar.addi c0_i32_9 c4_i32
  let c1_i32_10 : BitVec 32 := 1#32
  ⟨c0_i32_9, v7, c1_i32_10⟩
def k1_off3 (i : grid1.Coords) (k1_t3 : Fin k1_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v6 : BitVec 32 := Scalar.muli v1 c64_i32
  let c0_i32_9 : BitVec 32 := 0#32
  let c1_i32_10 : BitVec 32 := 1#32
  let arg18 : BitVec 32 := Scf.iv c0_i32_9 c1_i32_10 k1_t3
  let c16_i32 : BitVec 32 := 16#32
  let v16 : BitVec 32 := Scalar.muli arg18 c16_i32
  let v17 : BitVec 32 := Scalar.addi v6 v16
  let v18 : Index := Scalar.indexCast v17
  ![v18.toNat]

def k1_chk2 (v19 : IVec S16 32) : Prop :=
  (∀ a x, ((![v19] : Fin 1 → IVec S16 32) a x).toNat < S2048.size a)
theorem k1_idx2_inb : ∀ (v19 : IVec S16 32) (k1_hw2 : k1_chk2 v19), ∀ a x, ((![v19] : Fin 1 → IVec S16 32) a x).toNat < S2048.size a := fun v19 k1_hw2 => k1_hw2
def k1_off4 (k1_t3 : Fin k1_t3_loop.trips) : Fin 1 → Nat :=
  let c0_i32_9 : BitVec 32 := 0#32
  let c1_i32_10 : BitVec 32 := 1#32
  let arg18 : BitVec 32 := Scf.iv c0_i32_9 c1_i32_10 k1_t3
  let c16_i32_22 : BitVec 32 := 16#32
  let v21 : BitVec 32 := Scalar.muli arg18 c16_i32_22
  let v22 : Index := Scalar.indexCast v21
  ![v22.toNat]
def k1_off5 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v6 : BitVec 32 := Scalar.muli v1 c64_i32
  ![v6.toNat]
@[reducible] def k1_t4_loop : Scf.Loop 32 :=
  let c0_i32_13 : BitVec 32 := 0#32
  let c8_i32 : BitVec 32 := 8#32
  let v10 : BitVec 32 := Scalar.addi c0_i32_13 c8_i32
  let c1_i32_14 : BitVec 32 := 1#32
  ⟨c0_i32_13, v10, c1_i32_14⟩
def k1_off6 (k1_t4 : Fin k1_t4_loop.trips) : Fin 4 → Nat :=
  let c0_i32_23 : BitVec 32 := 0#32
  let c0_i32_13 : BitVec 32 := 0#32
  let c1_i32_14 : BitVec 32 := 1#32
  let arg18 : BitVec 32 := Scf.iv c0_i32_13 c1_i32_14 k1_t4
  let c1_i32_22 : BitVec 32 := 1#32
  let v16 : BitVec 32 := Scalar.muli arg18 c1_i32_22
  let v17 : BitVec 32 := Scalar.addi c0_i32_23 v16
  let c0_i32_24 : BitVec 32 := 0#32
  let c0_i32_25 : BitVec 32 := 0#32
  let c0_i32_26 : BitVec 32 := 0#32
  ![v17.toNat, 0, 0, 0]
def k1_off7 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v6 : BitVec 32 := Scalar.muli v1 c64_i32
  let c0_i32_12 : BitVec 32 := 0#32
  let v9 : BitVec 32 := Scalar.addi v6 c0_i32_12
  ![v9.toNat]
def k1_off8 (k1_t4 : Fin k1_t4_loop.trips) : Fin 4 → Nat :=
  let c0_i32_23 : BitVec 32 := 0#32
  let c0_i32_13 : BitVec 32 := 0#32
  let c1_i32_14 : BitVec 32 := 1#32
  let arg18 : BitVec 32 := Scf.iv c0_i32_13 c1_i32_14 k1_t4
  let c1_i32_22 : BitVec 32 := 1#32
  let v16 : BitVec 32 := Scalar.muli arg18 c1_i32_22
  let v17 : BitVec 32 := Scalar.addi c0_i32_23 v16
  let c0_i32_27 : BitVec 32 := 0#32
  let c0_i32_28 : BitVec 32 := 0#32
  let c0_i32_29 : BitVec 32 := 0#32
  ![v17.toNat, 0, 0, 0]
def k1_off9 (i : grid1.Coords) (c0_i32_12 : BitVec 32) : Fin 4 → Nat :=
  let c0_i32_22_r3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v6 : BitVec 32 := Scalar.muli v1 c64_i32
  let v9 : BitVec 32 := Scalar.addi v6 c0_i32_12
  let c0_i32_23_r3 : BitVec 32 := 0#32
  let c0_i32_24_r3 : BitVec 32 := 0#32
  ![0, v9.toNat, 0, 0]
@[reducible] def k1_t5_loop : Scf.Loop 32 :=
  let c0_i32_16 : BitVec 32 := 0#32
  let c8_i32_17 : BitVec 32 := 8#32
  let v12 : BitVec 32 := Scalar.addi c0_i32_16 c8_i32_17
  let c1_i32_18 : BitVec 32 := 1#32
  ⟨c0_i32_16, v12, c1_i32_18⟩
def k1_off10 (k1_t5 : Fin k1_t5_loop.trips) : Fin 4 → Nat :=
  let c0_i32_23 : BitVec 32 := 0#32
  let c0_i32_16 : BitVec 32 := 0#32
  let c1_i32_18 : BitVec 32 := 1#32
  let arg18 : BitVec 32 := Scf.iv c0_i32_16 c1_i32_18 k1_t5
  let c1_i32_22 : BitVec 32 := 1#32
  let v16 : BitVec 32 := Scalar.muli arg18 c1_i32_22
  let v17 : BitVec 32 := Scalar.addi c0_i32_23 v16
  let c0_i32_24 : BitVec 32 := 0#32
  let c0_i32_25 : BitVec 32 := 0#32
  let c0_i32_26 : BitVec 32 := 0#32
  ![v17.toNat, 0, 0, 0]
def k1_off11 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v6 : BitVec 32 := Scalar.muli v1 c64_i32
  let c32_i32 : BitVec 32 := 32#32
  let v11 : BitVec 32 := Scalar.addi v6 c32_i32
  ![v11.toNat]
def k1_off12 (k1_t5 : Fin k1_t5_loop.trips) : Fin 4 → Nat :=
  let c0_i32_23 : BitVec 32 := 0#32
  let c0_i32_16 : BitVec 32 := 0#32
  let c1_i32_18 : BitVec 32 := 1#32
  let arg18 : BitVec 32 := Scf.iv c0_i32_16 c1_i32_18 k1_t5
  let c1_i32_22 : BitVec 32 := 1#32
  let v16 : BitVec 32 := Scalar.muli arg18 c1_i32_22
  let v17 : BitVec 32 := Scalar.addi c0_i32_23 v16
  let c0_i32_27 : BitVec 32 := 0#32
  let c0_i32_28 : BitVec 32 := 0#32
  let c0_i32_29 : BitVec 32 := 0#32
  ![v17.toNat, 0, 0, 0]
abbrev grid2 : Pipeline.Grid := ⟨1, ![32], ![false]⟩

abbrev pre2 : Pipeline.Prefetch sig := ⟨6, ![main_v66.idx, main_v65.idx, main_v70.idx, main_v73.idx, main_v77.idx, main_v40.idx], fun | 0 => main_v66.names | 1 => main_v65.names | 2 => main_v70.names | 3 => main_v73.names | 4 => main_v77.names | 5 => main_v40.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
@[reducible] def k2_t1_loop (v8 : BitVec 32) : Scf.Loop 32 :=
  let c0_i32_1 : BitVec 32 := 0#32
  let v9 : BitVec 32 := Scalar.subi v8 c0_i32_1
  let c1_i32 : BitVec 32 := 1#32
  let v11 : BitVec 32 := Scalar.divsi v9 c1_i32
  let v12 : BitVec 32 := Scalar.muli v11 c1_i32
  let v13 : BitVec 32 := Scalar.addi c0_i32_1 v12
  let c1_i32_2 : BitVec 32 := 1#32
  ⟨c0_i32_1, v13, c1_i32_2⟩

def k2_off2 (v4 : BitVec 32) (v8 : BitVec 32) (k2_t1 : Fin (k2_t1_loop v8).trips) : Fin 1 → Nat :=
  let c0_i32_1 : BitVec 32 := 0#32
  let c1_i32_2 : BitVec 32 := 1#32
  let arg12 : BitVec 32 := Scf.iv c0_i32_1 c1_i32_2 k2_t1
  let v17 : BitVec 32 := Scalar.addi v4 arg12
  let v18 : Index := Scalar.indexCast v17
  ![v18.toNat]
def k2_off3 (v6 : BitVec 32) (v8 : BitVec 32) (k2_t1 : Fin (k2_t1_loop v8).trips) : Fin 2 → Nat :=
  let c0_i32_1 : BitVec 32 := 0#32
  let c1_i32_2 : BitVec 32 := 1#32
  let arg12 : BitVec 32 := Scf.iv c0_i32_1 c1_i32_2 k2_t1
  let v14 : BitVec 32 := Scalar.addi v6 arg12
  let c7_i32 : BitVec 32 := 7#32
  let v15 : BitVec 32 := Scalar.minsi v14 c7_i32
  let c256_i32 : BitVec 32 := 256#32
  let v16 : BitVec 32 := Scalar.muli v15 c256_i32
  let v51 : Index := Scalar.indexCast v16
  let c0_20 : Index := 0#32
  ![v51.toNat, 0]
def k2_cond1 (v1 : BitVec 32) (v19 : BitVec 32) : BitVec 1 :=
  let c0_i32 : BitVec 32 := 0#32
  let v2 : BitVec 1 := Scalar.cmpi .eq v1 c0_i32
  let c1_i32_4 : BitVec 32 := 1#32
  let v20 : BitVec 1 := Scalar.cmpi .eq v19 c1_i32_4
  let v21 : BitVec 1 := Scalar.andi v2 v20
  let v22 : BitVec 32 := Scalar.extui v21
  let c0_i32_5 : BitVec 32 := 0#32
  let v23 : BitVec 1 := Scalar.cmpi .ne v22 c0_i32_5
  v23

def k2_chk2 (v1 : BitVec 32) (v6 : BitVec 32) (v8 : BitVec 32) (k2_t1 : Fin (k2_t1_loop v8).trips) (v19 : BitVec 32) : Prop :=
  (∀ (k2_h1 : k2_cond1 v1 v19 = 1#1), ∀ a, (k2_off3 v6 v8 k2_t1) a + S256x2048.size a ≤ S2048x2048.size a)
theorem k2_off3_inb : ∀ (v1 : BitVec 32) (v6 : BitVec 32) (v8 : BitVec 32) (k2_t1 : Fin (k2_t1_loop v8).trips) (v19 : BitVec 32) (k2_hw2 : k2_chk2 v1 v6 v8 k2_t1 v19), ∀ (k2_h1 : k2_cond1 v1 v19 = 1#1), ∀ a, (k2_off3 v6 v8 k2_t1) a + S256x2048.size a ≤ S2048x2048.size a := fun v1 v6 v8 k2_t1 v19 k2_hw2 k2_h1 => k2_hw2 k2_h1

def k2_off4 (v6 : BitVec 32) (v8 : BitVec 32) (k2_t1 : Fin (k2_t1_loop v8).trips) : Fin 2 → Nat :=
  let c0_i32_1 : BitVec 32 := 0#32
  let c1_i32_2 : BitVec 32 := 1#32
  let arg12 : BitVec 32 := Scf.iv c0_i32_1 c1_i32_2 k2_t1
  let v14 : BitVec 32 := Scalar.addi v6 arg12
  let c7_i32 : BitVec 32 := 7#32
  let v15 : BitVec 32 := Scalar.minsi v14 c7_i32
  let c256_i32 : BitVec 32 := 256#32
  let v16 : BitVec 32 := Scalar.muli v15 c256_i32
  let v24 : Index := Scalar.indexCast v16
  let c0 : Index := 0#32
  ![v24.toNat, 0]
def k2_off5 (v4 : BitVec 32) (v8 : BitVec 32) (k2_t1 : Fin (k2_t1_loop v8).trips) : Fin 3 → Nat :=
  let c0_i32_1 : BitVec 32 := 0#32
  let c1_i32_2 : BitVec 32 := 1#32
  let arg12 : BitVec 32 := Scf.iv c0_i32_1 c1_i32_2 k2_t1
  let v17 : BitVec 32 := Scalar.addi v4 arg12
  let v36 : Index := Scalar.indexCast v17
  let c0_11 : Index := 0#32
  let c0_12 : Index := 0#32
  ![v36.toNat, 0, 0]
@[reducible] def k2_t2_loop (v8 : BitVec 32) : Scf.Loop 32 :=
  let c0_i32_1 : BitVec 32 := 0#32
  let v9 : BitVec 32 := Scalar.subi v8 c0_i32_1
  let c1_i32 : BitVec 32 := 1#32
  let v11 : BitVec 32 := Scalar.divsi v9 c1_i32
  let v12 : BitVec 32 := Scalar.muli v11 c1_i32
  let v13 : BitVec 32 := Scalar.addi c0_i32_1 v12
  let v10 : BitVec 32 := Scalar.addi c0_i32_1 v9
  let c1_i32_3 : BitVec 32 := 1#32
  ⟨v13, v10, c1_i32_3⟩
def k2_off6 (v4 : BitVec 32) (v8 : BitVec 32) (k2_t2 : Fin (k2_t2_loop v8).trips) : Fin 1 → Nat :=
  let c0_i32_1 : BitVec 32 := 0#32
  let v9 : BitVec 32 := Scalar.subi v8 c0_i32_1
  let c1_i32 : BitVec 32 := 1#32
  let v11 : BitVec 32 := Scalar.divsi v9 c1_i32
  let v12 : BitVec 32 := Scalar.muli v11 c1_i32
  let v13 : BitVec 32 := Scalar.addi c0_i32_1 v12
  let c1_i32_3 : BitVec 32 := 1#32
  let arg12 : BitVec 32 := Scf.iv v13 c1_i32_3 k2_t2
  let v17 : BitVec 32 := Scalar.addi v4 arg12
  let v18 : Index := Scalar.indexCast v17
  ![v18.toNat]
def k2_off7 (v6 : BitVec 32) (v8 : BitVec 32) (k2_t2 : Fin (k2_t2_loop v8).trips) : Fin 2 → Nat :=
  let c0_i32_1 : BitVec 32 := 0#32
  let v9 : BitVec 32 := Scalar.subi v8 c0_i32_1
  let c1_i32 : BitVec 32 := 1#32
  let v11 : BitVec 32 := Scalar.divsi v9 c1_i32
  let v12 : BitVec 32 := Scalar.muli v11 c1_i32
  let v13 : BitVec 32 := Scalar.addi c0_i32_1 v12
  let c1_i32_3 : BitVec 32 := 1#32
  let arg12 : BitVec 32 := Scf.iv v13 c1_i32_3 k2_t2
  let v14 : BitVec 32 := Scalar.addi v6 arg12
  let c7_i32 : BitVec 32 := 7#32
  let v15 : BitVec 32 := Scalar.minsi v14 c7_i32
  let c256_i32 : BitVec 32 := 256#32
  let v16 : BitVec 32 := Scalar.muli v15 c256_i32
  let v51 : Index := Scalar.indexCast v16
  let c0_20 : Index := 0#32
  ![v51.toNat, 0]
def k2_cond2 (v1 : BitVec 32) (v19 : BitVec 32) : BitVec 1 :=
  let c0_i32 : BitVec 32 := 0#32
  let v2 : BitVec 1 := Scalar.cmpi .eq v1 c0_i32
  let c1_i32_4 : BitVec 32 := 1#32
  let v20 : BitVec 1 := Scalar.cmpi .eq v19 c1_i32_4
  let v21 : BitVec 1 := Scalar.andi v2 v20
  let v22 : BitVec 32 := Scalar.extui v21
  let c0_i32_5 : BitVec 32 := 0#32
  let v23 : BitVec 1 := Scalar.cmpi .ne v22 c0_i32_5
  v23

def k2_chk3 (v1 : BitVec 32) (v6 : BitVec 32) (v8 : BitVec 32) (k2_t2 : Fin (k2_t2_loop v8).trips) (v19 : BitVec 32) : Prop :=
  (∀ (k2_h2 : k2_cond2 v1 v19 = 1#1), ∀ a, (k2_off7 v6 v8 k2_t2) a + S256x2048.size a ≤ S2048x2048.size a)
theorem k2_off7_inb : ∀ (v1 : BitVec 32) (v6 : BitVec 32) (v8 : BitVec 32) (k2_t2 : Fin (k2_t2_loop v8).trips) (v19 : BitVec 32) (k2_hw3 : k2_chk3 v1 v6 v8 k2_t2 v19), ∀ (k2_h2 : k2_cond2 v1 v19 = 1#1), ∀ a, (k2_off7 v6 v8 k2_t2) a + S256x2048.size a ≤ S2048x2048.size a := fun v1 v6 v8 k2_t2 v19 k2_hw3 k2_h2 => k2_hw3 k2_h2

def k2_off8 (v6 : BitVec 32) (v8 : BitVec 32) (k2_t2 : Fin (k2_t2_loop v8).trips) : Fin 2 → Nat :=
  let c0_i32_1 : BitVec 32 := 0#32
  let v9 : BitVec 32 := Scalar.subi v8 c0_i32_1
  let c1_i32 : BitVec 32 := 1#32
  let v11 : BitVec 32 := Scalar.divsi v9 c1_i32
  let v12 : BitVec 32 := Scalar.muli v11 c1_i32
  let v13 : BitVec 32 := Scalar.addi c0_i32_1 v12
  let c1_i32_3 : BitVec 32 := 1#32
  let arg12 : BitVec 32 := Scf.iv v13 c1_i32_3 k2_t2
  let v14 : BitVec 32 := Scalar.addi v6 arg12
  let c7_i32 : BitVec 32 := 7#32
  let v15 : BitVec 32 := Scalar.minsi v14 c7_i32
  let c256_i32 : BitVec 32 := 256#32
  let v16 : BitVec 32 := Scalar.muli v15 c256_i32
  let v24 : Index := Scalar.indexCast v16
  let c0 : Index := 0#32
  ![v24.toNat, 0]
def k2_off9 (v4 : BitVec 32) (v8 : BitVec 32) (k2_t2 : Fin (k2_t2_loop v8).trips) : Fin 3 → Nat :=
  let c0_i32_1 : BitVec 32 := 0#32
  let v9 : BitVec 32 := Scalar.subi v8 c0_i32_1
  let c1_i32 : BitVec 32 := 1#32
  let v11 : BitVec 32 := Scalar.divsi v9 c1_i32
  let v12 : BitVec 32 := Scalar.muli v11 c1_i32
  let v13 : BitVec 32 := Scalar.addi c0_i32_1 v12
  let c1_i32_3 : BitVec 32 := 1#32
  let arg12 : BitVec 32 := Scf.iv v13 c1_i32_3 k2_t2
  let v17 : BitVec 32 := Scalar.addi v4 arg12
  let v36 : Index := Scalar.indexCast v17
  let c0_11 : Index := 0#32
  let c0_12 : Index := 0#32
  ![v36.toNat, 0, 0]

def k2_chk1 (v4 : BitVec 32) (v6 : BitVec 32) (v8 : BitVec 32) : Prop :=
  ((k2_t1_loop v8).OK) ∧
  (∀ k2_t1 : Fin (k2_t1_loop v8).trips, ∀ a, (k2_off2 v4 v8 k2_t1) a + S1.size a ≤ S9.size a) ∧
  (∀ k2_t1 : Fin (k2_t1_loop v8).trips, ∀ a, (k2_off4 v6 v8 k2_t1) a + S256x2048.size a ≤ S2048x2048.size a) ∧
  (∀ k2_t1 : Fin (k2_t1_loop v8).trips, ∀ a, (k2_off5 v4 v8 k2_t1) a + S1x256x1.size a ≤ S9x256x1.size a) ∧
  ((k2_t2_loop v8).OK) ∧
  (∀ k2_t2 : Fin (k2_t2_loop v8).trips, ∀ a, (k2_off6 v4 v8 k2_t2) a + S1.size a ≤ S9.size a) ∧
  (∀ k2_t2 : Fin (k2_t2_loop v8).trips, ∀ a, (k2_off8 v6 v8 k2_t2) a + S256x2048.size a ≤ S2048x2048.size a) ∧
  (∀ k2_t2 : Fin (k2_t2_loop v8).trips, ∀ a, (k2_off9 v4 v8 k2_t2) a + S1x256x1.size a ≤ S9x256x1.size a)
theorem k2_t1_ok : ∀ (v4 : BitVec 32) (v6 : BitVec 32) (v8 : BitVec 32) (k2_hw1 : k2_chk1 v4 v6 v8), (k2_t1_loop v8).OK := fun v4 v6 v8 k2_hw1 => k2_hw1.1
theorem k2_off2_inb : ∀ (v4 : BitVec 32) (v6 : BitVec 32) (v8 : BitVec 32) (k2_hw1 : k2_chk1 v4 v6 v8) (k2_t1 : Fin (k2_t1_loop v8).trips), ∀ a, (k2_off2 v4 v8 k2_t1) a + S1.size a ≤ S9.size a := fun v4 v6 v8 k2_hw1 k2_t1 => k2_hw1.2.1 k2_t1
theorem k2_off4_inb : ∀ (v4 : BitVec 32) (v6 : BitVec 32) (v8 : BitVec 32) (k2_hw1 : k2_chk1 v4 v6 v8) (k2_t1 : Fin (k2_t1_loop v8).trips), ∀ a, (k2_off4 v6 v8 k2_t1) a + S256x2048.size a ≤ S2048x2048.size a := fun v4 v6 v8 k2_hw1 k2_t1 => k2_hw1.2.2.1 k2_t1
theorem k2_off5_inb : ∀ (v4 : BitVec 32) (v6 : BitVec 32) (v8 : BitVec 32) (k2_hw1 : k2_chk1 v4 v6 v8) (k2_t1 : Fin (k2_t1_loop v8).trips), ∀ a, (k2_off5 v4 v8 k2_t1) a + S1x256x1.size a ≤ S9x256x1.size a := fun v4 v6 v8 k2_hw1 k2_t1 => k2_hw1.2.2.2.1 k2_t1
theorem k2_t2_ok : ∀ (v4 : BitVec 32) (v6 : BitVec 32) (v8 : BitVec 32) (k2_hw1 : k2_chk1 v4 v6 v8), (k2_t2_loop v8).OK := fun v4 v6 v8 k2_hw1 => k2_hw1.2.2.2.2.1
theorem k2_off6_inb : ∀ (v4 : BitVec 32) (v6 : BitVec 32) (v8 : BitVec 32) (k2_hw1 : k2_chk1 v4 v6 v8) (k2_t2 : Fin (k2_t2_loop v8).trips), ∀ a, (k2_off6 v4 v8 k2_t2) a + S1.size a ≤ S9.size a := fun v4 v6 v8 k2_hw1 k2_t2 => k2_hw1.2.2.2.2.2.1 k2_t2
theorem k2_off8_inb : ∀ (v4 : BitVec 32) (v6 : BitVec 32) (v8 : BitVec 32) (k2_hw1 : k2_chk1 v4 v6 v8) (k2_t2 : Fin (k2_t2_loop v8).trips), ∀ a, (k2_off8 v6 v8 k2_t2) a + S256x2048.size a ≤ S2048x2048.size a := fun v4 v6 v8 k2_hw1 k2_t2 => k2_hw1.2.2.2.2.2.2.1 k2_t2
theorem k2_off9_inb : ∀ (v4 : BitVec 32) (v6 : BitVec 32) (v8 : BitVec 32) (k2_hw1 : k2_chk1 v4 v6 v8) (k2_t2 : Fin (k2_t2_loop v8).trips), ∀ a, (k2_off9 v4 v8 k2_t2) a + S1x256x1.size a ≤ S9x256x1.size a := fun v4 v6 v8 k2_hw1 k2_t2 => k2_hw1.2.2.2.2.2.2.2 k2_t2

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (k2_off1_inb : ∀ i : grid2.Coords, ∀ a, (k2_off1 i) a + S1.size a ≤ S32.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S32) ![v0.toNat] S1.size (k2_off1_inb i)) numel1_S1
  let v2 : Index := Scalar.indexCast arg0
  let v3 : BitVec 32 := pf.at 1 (Rect.unit (s := S32) ![v2.toNat] S1.size (k2_off1_inb i)) numel1_S1
  let c0_i32 : BitVec 32 := 0#32
  let c0_i32_0 : BitVec 32 := 0#32
  ![v1.toNat, v3.toNat, c0_i32.toNat]

def cc2_transform_2 (k2_off1_inb : ∀ i : grid2.Coords, ∀ a, (k2_off1 i) a + S1.size a ≤ S32.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S32) ![v0.toNat] S1.size (k2_off1_inb i)) numel1_S1
  let v2 : Index := Scalar.indexCast arg0
  let v3 : BitVec 32 := pf.at 1 (Rect.unit (s := S32) ![v2.toNat] S1.size (k2_off1_inb i)) numel1_S1
  let c0_i32 : BitVec 32 := 0#32
  let c0_i32_0 : BitVec 32 := 0#32
  ![v1.toNat, c0_i32.toNat, v3.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2048x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1x512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2048x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S9x256x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2048x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨2, ![2, 16], ![false, false]⟩

def k3_off1 (i : grid3.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r0 : BitVec 32 := 0#32
  let c0_i32_8_r0 : BitVec 32 := 0#32
  ![v1.toNat, 0, 0]
def k3_off2 (i : grid3.Coords) (c0_i32 : BitVec 32) : Fin 4 → Nat :=
  let c0_i32_7_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  let c0_i32_8_r1 : BitVec 32 := 0#32
  let c0_i32_9_r1 : BitVec 32 := 0#32
  ![0, v3.toNat, 0, 0]
@[reducible] def k3_t1_loop : Scf.Loop 32 :=
  let c0_i32_0 : BitVec 32 := 0#32
  let c8_i32 : BitVec 32 := 8#32
  let v4 : BitVec 32 := Scalar.addi c0_i32_0 c8_i32
  let c1_i32 : BitVec 32 := 1#32
  ⟨c0_i32_0, v4, c1_i32⟩
def k3_off3 (k3_t1 : Fin k3_t1_loop.trips) : Fin 4 → Nat :=
  let c0_i32_8 : BitVec 32 := 0#32
  let c0_i32_0 : BitVec 32 := 0#32
  let c1_i32 : BitVec 32 := 1#32
  let arg8 : BitVec 32 := Scf.iv c0_i32_0 c1_i32 k3_t1
  let c1_i32_7 : BitVec 32 := 1#32
  let v8 : BitVec 32 := Scalar.muli arg8 c1_i32_7
  let v9 : BitVec 32 := Scalar.addi c0_i32_8 v8
  let c0_i32_10 : BitVec 32 := 0#32
  let c0_i32_11 : BitVec 32 := 0#32
  let c0_i32_12 : BitVec 32 := 0#32
  ![v9.toNat, 0, 0, 0]
def k3_off4 (k3_t1 : Fin k3_t1_loop.trips) : Fin 4 → Nat :=
  let c0_i32_8 : BitVec 32 := 0#32
  let c0_i32_0 : BitVec 32 := 0#32
  let c1_i32 : BitVec 32 := 1#32
  let arg8 : BitVec 32 := Scf.iv c0_i32_0 c1_i32 k3_t1
  let c1_i32_7 : BitVec 32 := 1#32
  let v8 : BitVec 32 := Scalar.muli arg8 c1_i32_7
  let v9 : BitVec 32 := Scalar.addi c0_i32_8 v8
  let c0_i32_14 : BitVec 32 := 0#32
  let c0_i32_15 : BitVec 32 := 0#32
  let c0_i32_16 : BitVec 32 := 0#32
  ![v9.toNat, 0, 0, 0]
@[reducible] def k3_t2_loop : Scf.Loop 32 :=
  let c0_i32_3 : BitVec 32 := 0#32
  let c8_i32_4 : BitVec 32 := 8#32
  let v7 : BitVec 32 := Scalar.addi c0_i32_3 c8_i32_4
  let c1_i32_5 : BitVec 32 := 1#32
  ⟨c0_i32_3, v7, c1_i32_5⟩
def k3_off5 (k3_t2 : Fin k3_t2_loop.trips) : Fin 4 → Nat :=
  let c0_i32_8 : BitVec 32 := 0#32
  let c0_i32_3 : BitVec 32 := 0#32
  let c1_i32_5 : BitVec 32 := 1#32
  let arg8 : BitVec 32 := Scf.iv c0_i32_3 c1_i32_5 k3_t2
  let c1_i32_7 : BitVec 32 := 1#32
  let v8 : BitVec 32 := Scalar.muli arg8 c1_i32_7
  let v9 : BitVec 32 := Scalar.addi c0_i32_8 v8
  let c0_i32_10 : BitVec 32 := 0#32
  let c0_i32_11 : BitVec 32 := 0#32
  let c0_i32_12 : BitVec 32 := 0#32
  ![v9.toNat, 0, 0, 0]
def k3_off6 (k3_t2 : Fin k3_t2_loop.trips) : Fin 4 → Nat :=
  let c0_i32_8 : BitVec 32 := 0#32
  let c0_i32_3 : BitVec 32 := 0#32
  let c1_i32_5 : BitVec 32 := 1#32
  let arg8 : BitVec 32 := Scf.iv c0_i32_3 c1_i32_5 k3_t2
  let c1_i32_7 : BitVec 32 := 1#32
  let v8 : BitVec 32 := Scalar.muli arg8 c1_i32_7
  let v9 : BitVec 32 := Scalar.addi c0_i32_8 v8
  let c0_i32_14 : BitVec 32 := 0#32
  let c0_i32_15 : BitVec 32 := 0#32
  let c0_i32_16 : BitVec 32 := 0#32
  ![v9.toNat, 0, 0, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S2048x2048 : Shape := ⟨2, ![2048, 2048]⟩
abbrev S2x2048 : Shape := ⟨2, ![2, 2048]⟩
abbrev S2x8192x2048 : Shape := ⟨3, ![2, 8192, 2048]⟩
abbrev S2x2048x8192 : Shape := ⟨3, ![2, 2048, 8192]⟩
abbrev S2048x2 : Shape := ⟨2, ![2048, 2]⟩
abbrev S_ : Shape := ⟨0, ![]⟩
abbrev S2048 : Shape := ⟨1, ![2048]⟩
abbrev S2048x1 : Shape := ⟨2, ![2048, 1]⟩
abbrev S1x8192x2048 : Shape := ⟨3, ![1, 8192, 2048]⟩
abbrev S8192x2048 : Shape := ⟨2, ![8192, 2048]⟩
abbrev S2048x8192 : Shape := ⟨2, ![2048, 8192]⟩
abbrev S1x2048x8192 : Shape := ⟨3, ![1, 2048, 8192]⟩

abbrev nBuf : Space → Nat
  | .hbm => 88
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2x2048, .f32⟩
  | .hbm, ⟨2, _⟩ => ⟨S2x8192x2048, .f32⟩
  | .hbm, ⟨3, _⟩ => ⟨S2x2048x8192, .f32⟩
  | .hbm, ⟨4, _⟩ => ⟨S2048x2, .f32⟩
  | .hbm, ⟨5, _⟩ => ⟨S2048x2, .f32⟩
  | .hbm, ⟨6, _⟩ => ⟨S_, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S2048x1, .f32⟩
  | .hbm, ⟨12, _⟩ => ⟨S2048x2, .f32⟩
  | .hbm, ⟨13, _⟩ => ⟨S2048x2, .f32⟩
  | .hbm, ⟨14, _⟩ => ⟨S2048x2, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S2048x2, .f32⟩
  | .hbm, ⟨19, _⟩ => ⟨S2048x2, .f32⟩
  | .hbm, ⟨20, _⟩ => ⟨S2048x1, .f32⟩
  | .hbm, ⟨21, _⟩ => ⟨S2048, .f32⟩
  | .hbm, ⟨22, _⟩ => ⟨S2048x1, .f32⟩
  | .hbm, ⟨23, _⟩ => ⟨S2048, .f32⟩
  | .hbm, ⟨24, _⟩ => ⟨S2048, .i1⟩
  | .hbm, ⟨25, _⟩ => ⟨S_, .f32⟩
  | .hbm, ⟨26, _⟩ => ⟨S2048, .f32⟩
  | .hbm, ⟨27, _⟩ => ⟨S_, .f32⟩
  | .hbm, ⟨28, _⟩ => ⟨S2048x2048, .f32⟩
  | .hbm, ⟨29, _⟩ => ⟨S2048, .i1⟩
  | .hbm, ⟨30, _⟩ => ⟨S_, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S2048, .f32⟩
  | .hbm, ⟨35, _⟩ => ⟨S2048x1, .f32⟩
  | .hbm, ⟨36, _⟩ => ⟨S1x8192x2048, .f32⟩
  | .hbm, ⟨37, _⟩ => ⟨S8192x2048, .f32⟩
  | .hbm, ⟨38, _⟩ => ⟨S2048x8192, .f32⟩
  | .hbm, ⟨39, _⟩ => ⟨S2048x8192, .f32⟩
  | .hbm, ⟨40, _⟩ => ⟨S_, .f32⟩
  | .hbm, ⟨41, _⟩ => ⟨S2048x8192, .f32⟩
  | .hbm, ⟨42, _⟩ => ⟨S2048x8192, .i1⟩
  | .hbm, ⟨43, _⟩ => ⟨S_, .f32⟩
  | .hbm, ⟨44, _⟩ => ⟨S2048x8192, .f32⟩
  | .hbm, ⟨45, _⟩ => ⟨S2048x8192, .f32⟩
  | .hbm, ⟨46, _⟩ => ⟨S2048x8192, .f32⟩
  | .hbm, ⟨47, _⟩ => ⟨S2048x8192, .f32⟩
  | .hbm, ⟨48, _⟩ => ⟨S1x2048x8192, .f32⟩
  | .hbm, ⟨49, _⟩ => ⟨S2048x8192, .f32⟩
  | .hbm, ⟨50, _⟩ => ⟨S8192x2048, .f32⟩
  | .hbm, ⟨51, _⟩ => ⟨S2048x2048, .f32⟩
  | .hbm, ⟨52, _⟩ => ⟨S2048x1, .f32⟩
  | .hbm, ⟨53, _⟩ => ⟨S2048x2048, .f32⟩
  | .hbm, ⟨54, _⟩ => ⟨S2048x2048, .f32⟩
  | .hbm, ⟨55, _⟩ => ⟨S2048x1, .f32⟩
  | .hbm, ⟨56, _⟩ => ⟨S2048x2048, .f32⟩
  | .hbm, ⟨57, _⟩ => ⟨S2048x2048, .f32⟩
  | .hbm, ⟨58, _⟩ => ⟨S2048x2048, .f32⟩
  | .hbm, ⟨59, _⟩ => ⟨S_, .f32⟩
  | .hbm, ⟨60, _⟩ => ⟨S_, .f32⟩
  | .hbm, ⟨61, _⟩ => ⟨S2048, .f32⟩
  | .hbm, ⟨62, _⟩ => ⟨S2048, .f32⟩
  | .hbm, ⟨63, _⟩ => ⟨S2048, .f32⟩
  | .hbm, ⟨64, _⟩ => ⟨S2048x1, .f32⟩
  | .hbm, ⟨65, _⟩ => ⟨S1x8192x2048, .f32⟩
  | .hbm, ⟨66, _⟩ => ⟨S8192x2048, .f32⟩
  | .hbm, ⟨67, _⟩ => ⟨S2048x8192, .f32⟩
  | .hbm, ⟨68, _⟩ => ⟨S2048x8192, .f32⟩
  | .hbm, ⟨69, _⟩ => ⟨S_, .f32⟩
  | .hbm, ⟨70, _⟩ => ⟨S2048x8192, .f32⟩
  | .hbm, ⟨71, _⟩ => ⟨S2048x8192, .i1⟩
  | .hbm, ⟨72, _⟩ => ⟨S_, .f32⟩
  | .hbm, ⟨73, _⟩ => ⟨S2048x8192, .f32⟩
  | .hbm, ⟨74, _⟩ => ⟨S2048x8192, .f32⟩
  | .hbm, ⟨75, _⟩ => ⟨S2048x8192, .f32⟩
  | .hbm, ⟨76, _⟩ => ⟨S2048x8192, .f32⟩
  | .hbm, ⟨77, _⟩ => ⟨S1x2048x8192, .f32⟩
  | .hbm, ⟨78, _⟩ => ⟨S2048x8192, .f32⟩
  | .hbm, ⟨79, _⟩ => ⟨S8192x2048, .f32⟩
  | .hbm, ⟨80, _⟩ => ⟨S2048x2048, .f32⟩
  | .hbm, ⟨81, _⟩ => ⟨S2048x1, .f32⟩
  | .hbm, ⟨82, _⟩ => ⟨S2048x2048, .f32⟩
  | .hbm, ⟨83, _⟩ => ⟨S2048x2048, .f32⟩
  | .hbm, ⟨84, _⟩ => ⟨S2048x1, .f32⟩
  | .hbm, ⟨85, _⟩ => ⟨S2048x2048, .f32⟩
  | .hbm, ⟨86, _⟩ => ⟨S2048x2048, .f32⟩
  | .hbm, ⟨87, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_cst_5 : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_cst_9 : Ref sig .tc := ⟨.hbm, 60, rfl⟩
abbrev main_call2_v0 : Ref sig .tc := ⟨.hbm, 61, rfl⟩
abbrev main_call2_v1 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]
-- ==== Router.lean ====
abbrev S2048x2048 : Shape := ⟨2, ![2048, 2048]⟩
abbrev S2x2048 : Shape := ⟨2, ![2, 2048]⟩
abbrev S2048x1 : Shape := ⟨2, ![2048, 1]⟩
abbrev S256x2048 : Shape := ⟨2, ![256, 2048]⟩
abbrev S256x1 : Shape := ⟨2, ![256, 1]⟩
abbrev S256x2 : Shape := ⟨2, ![256, 2]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2x2048, .f32⟩
  | .hbm, ⟨2, _⟩ => ⟨S2048x1, .i32⟩
  | .hbm, ⟨3, _⟩ => ⟨S2048x1, .f32⟩
  | .local _ .vmem, ⟨0, _⟩ => ⟨S256x2048, .f32⟩
  | .local _ .vmem, ⟨1, _⟩ => ⟨S256x2048, .f32⟩
  | .local _ .vmem, ⟨2, _⟩ => ⟨S2x2048, .f32⟩
  | .local _ .vmem, ⟨3, _⟩ => ⟨S256x1, .i32⟩
  | .local _ .vmem, ⟨4, _⟩ => ⟨S256x1, .i32⟩
  | .local _ .vmem, ⟨5, _⟩ => ⟨S256x1, .f32⟩
  | .local _ .vmem, ⟨6, _⟩ => ⟨S256x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ChoiceIdeal.lean ====
abbrev S2048x2048 : Shape := ⟨2, ![2048, 2048]⟩
abbrev S2x2048 : Shape := ⟨2, ![2, 2048]⟩
abbrev S2048x2 : Shape := ⟨2, ![2048, 2]⟩
abbrev S_ : Shape := ⟨0, ![]⟩
abbrev S2048 : Shape := ⟨1, ![2048]⟩
abbrev S2048x1 : Shape := ⟨2, ![2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2x2048, .f32⟩
  | .hbm, ⟨2, _⟩ => ⟨S2048x2, .f32⟩
  | .hbm, ⟨3, _⟩ => ⟨S2048x2, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S2048x1, .f32⟩
  | .hbm, ⟨10, _⟩ => ⟨S2048x2, .f32⟩
  | .hbm, ⟨11, _⟩ => ⟨S2048x2, .f32⟩
  | .hbm, ⟨12, _⟩ => ⟨S2048x2, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x2, .f32⟩
  | .hbm, ⟨17, _⟩ => ⟨S2048x2, .f32⟩
  | .hbm, ⟨18, _⟩ => ⟨S2048x1, .f32⟩
  | .hbm, ⟨19, _⟩ => ⟨S2048x1, .f32⟩
  | .hbm, ⟨20, _⟩ => ⟨S2048x1, .i1⟩
  | .hbm, ⟨21, _⟩ => ⟨S_, .i32⟩
  | .hbm, ⟨22, _⟩ => ⟨S_, .i32⟩
  | .hbm, ⟨23, _⟩ => ⟨S2048x1, .i32⟩
  | .hbm, ⟨24, _⟩ => ⟨S2048x1, .i32⟩
  | .hbm, ⟨25, _⟩ => ⟨S2048x1, .i32⟩
  | .hbm, ⟨26, _⟩ => ⟨S_, .f32⟩
  | .hbm, ⟨27, _⟩ => ⟨S2048, .f32⟩
  | .hbm, ⟨28, _⟩ => ⟨S2048x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_c_2 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Partition.lean ====
/-
  The stable partition of `n` tokens by a property: the tokens with the property first, then the others, each group in
  its own order. `slot` says where a token goes, `src` which token a slot holds; `sorted` says that a stable sort by the
  property's key puts the tokens in that order.
-/
module

public import Mathlib.Data.Nat.Count
public import Idealize.ShloMosaic.Lib.SortFacts
public import Idealize.ShloMosaic.Lib.PlanTiles.StableSort

@[expose] public section

namespace Cert.Proof.Partition

open Idealize.ShloMosaic

variable (z : ℕ → Prop) [DecidablePred z] (n : ℕ)

/-- The slot of token `t`: how many earlier tokens have the property, if it has it; else that many after all that have it,
    as there are earlier tokens without it. -/
def slot (t : ℕ) : ℕ := if z t then Nat.count z t else Nat.count z n + (t - Nat.count z t)

theorem count_le (t : ℕ) : Nat.count z t ≤ t := Nat.count_le z

theorem count_gap {s t : ℕ} (h : s ≤ t) : Nat.count z t ≤ Nat.count z s + (t - s) := by
  obtain ⟨k, rfl⟩ := Nat.exists_eq_add_of_le h
  rw [Nat.count_add]
  have := Nat.count_le (fun k => z (s + k)) (n := k)
  omega

theorem slot_lt {t : ℕ} (h : t < n) : slot z n t < n := by
  unfold slot
  have h0 := count_le z t
  have h1 := count_le z n
  have h2 := count_gap z (show t + 1 ≤ n from h)
  have h3 : Nat.count z (t + 1) ≤ Nat.count z n := Nat.count_monotone z h
  rw [Nat.count_succ] at h2 h3
  split <;> rename_i hz <;> simp only [hz, if_true, if_false] at h2 h3 <;> omega

/-- The order of two tokens' slots. -/
theorem slot_lt_slot {s t : ℕ} (hst : s < t) (ht : t < n) : if z t ∧ ¬ z s then slot z n t < slot z n s else slot z n s < slot z n t := by
  unfold slot
  have h0 := count_le z t
  have h0' := count_le z s
  have h2 := count_gap z (show s + 1 ≤ t from hst)
  have h3 : Nat.count z (s + 1) ≤ Nat.count z t := Nat.count_monotone z hst
  have h4 : Nat.count z (t + 1) ≤ Nat.count z n := Nat.count_monotone z ht
  rw [Nat.count_succ] at h2 h3 h4
  by_cases hs : z s <;> by_cases ht' : z t <;> simp only [hs, ht', if_true, if_false, and_true, and_false, not_true, not_false_iff] at h2 h3 h4 ⊢ <;> omega

theorem slot_inj {s t : ℕ} (hs : s < n) (ht : t < n) (h : slot z n s = slot z n t) : s = t := by
  rcases Nat.lt_trichotomy s t with h1 | h1 | h1
  · have := slot_lt_slot z n h1 ht; split at this <;> omega
  · exact h1
  · have := slot_lt_slot z n h1 hs; split at this <;> omega

/-- The slots as a map of the tokens. -/
def slotF (t : Fin n) : Fin n := ⟨slot z n t.val, slot_lt z n t.isLt⟩

theorem slotF_bijective : Function.Bijective (slotF z n) :=
  Finite.injective_iff_bijective.mp fun s t h => Fin.ext (slot_inj z n s.isLt t.isLt (congrArg Fin.val h))

/-- The token that a slot holds. -/
noncomputable def src : Fin n → Fin n := (Equiv.ofBijective _ (slotF_bijective z n)).symm

theorem slotF_src (j : Fin n) : slotF z n (src z n j) = j := (Equiv.ofBijective _ (slotF_bijective z n)).apply_symm_apply j
theorem src_slotF (t : Fin n) : src z n (slotF z n t) = t := (Equiv.ofBijective _ (slotF_bijective z n)).symm_apply_apply t
theorem slot_src (j : Fin n) : slot z n (src z n j).val = j.val := congrArg Fin.val (slotF_src z n j)
theorem src_injective : Function.Injective (src z n) := (Equiv.ofBijective _ (slotF_bijective z n)).symm.injective

/-- A slot holds token `t` when it is `t`'s slot. -/
theorem src_eq {j t : Fin n} (h : slot z n t.val = j.val) : src z n j = t := by
  rw [show j = slotF z n t from Fin.ext h.symm, src_slotF]

/-- Whether a slot is of the first group is told by its number. -/
theorem src_first (j : Fin n) : z (src z n j).val ↔ j.val < Nat.count z n := by
  have h := slot_src z n j
  have h4 : Nat.count z ((src z n j).val + 1) ≤ Nat.count z n := Nat.count_monotone z (src z n j).isLt
  rw [Nat.count_succ] at h4
  unfold slot at h
  by_cases hz : z (src z n j).val
  · simp only [hz, if_true] at h h4; simp only [hz, true_iff]; omega
  · simp only [hz, if_false] at h h4; simp only [hz, false_iff]; omega

/-- A stable sort that puts the tokens with the property first puts at `j` the token that slot `j` holds. -/
theorem sorted (B : Fin n → Fin n → Bool) (hB : ∀ a b, B a b = true ↔ z a.val ∧ ¬ z b.val) (j : Fin n) :
    sortedFrom B j = src z n j := by
  let G : Fin n → ℕ := fun a => if z a.val then 1 else 0
  have hBG : B = fun a b => decide (G b < G a) := by
    funext a b
    rw [Bool.eq_iff_iff, hB, decide_eq_true_iff]
    by_cases h1 : z a.val <;> by_cases h2 : z b.val <;> simp [G, h1, h2]
  have h1 := PlanTiles.pairwise_stableSort_lex G (· < ·) (List.finRange n) (List.pairwise_lt_finRange n)
  rw [← hBG] at h1
  have h2 : (List.ofFn (src z n)).Pairwise (PlanTiles.Lex G (· < ·)) := by
    rw [List.pairwise_ofFn]
    intro i j hij
    have hi := slot_src z n i
    have hj := slot_src z n j
    have hij' : i.val < j.val := hij
    rcases Nat.lt_trichotomy (src z n i).val (src z n j).val with h | h | h
    · have := slot_lt_slot z n h (src z n j).isLt
      split at this
      · omega
      · next hh =>
        by_cases e1 : z (src z n i).val <;> by_cases e2 : z (src z n j).val
        · exact Or.inr ⟨by simp [G, e1, e2], h⟩
        · exact Or.inl (by simp [G, e1, e2])
        · exact absurd ⟨e2, e1⟩ hh
        · exact Or.inr ⟨by simp [G, e1, e2], h⟩
    · rw [h] at hi; omega
    · have := slot_lt_slot z n h (src z n i).isLt
      split at this
      · next hh => exact Or.inl (by simp [G, hh.1, hh.2])
      · omega
  have hp : (sortPositions n B).Perm (List.ofFn (src z n)) := by
    refine (perm_sortPositions n B).trans ?_
    refine (List.perm_ext_iff_of_nodup (List.nodup_finRange n) (List.nodup_ofFn.mpr (src_injective z n))).mpr fun p => ?_
    simp only [List.mem_finRange, List.mem_ofFn, true_iff]
    exact ⟨slotF z n p, src_slotF z n p⟩
  have : Std.Antisymm (PlanTiles.Lex G (· < ·)) := ⟨fun a b h₁ h₂ => by
    rcases h₁ with h₁ | ⟨h₁, h₁'⟩ <;> rcases h₂ with h₂ | ⟨h₂, h₂'⟩
    · omega
    · omega
    · omega
    · exact absurd h₁' (lt_asymm h₂')⟩
  have e : sortPositions n B = List.ofFn (src z n) := hp.eq_of_pairwise' h1 h2
  unfold sortedFrom
  rw [List.get_of_eq e]
  simp

end Cert.Proof.Partition
-- ==== Proof.Lanes.lean ====
/-
  Two vector operations of a tile read as plain functions: the running sum of a vector of words that name naturals, and a
  scatter whose lanes name different places.
-/
module

public import Mathlib.Data.Nat.Count
public import Mathlib.Algebra.BigOperators.Fin
public import Idealize.ShloMosaic.PureOps
public import Idealize.ShloMosaic.Lib.Routing.Count

@[expose] public section

namespace Cert.Proof.Lanes

open Idealize.ShloMosaic

abbrev V16 : Shape := ⟨1, ![16]⟩

/-- A lane of a vector of 16. -/
def lane (k : Fin 16) : V16.Idx := Shape.ofLane (d := ![16]) k

theorem foldl_words (g : Fin 16 → BitVec 32) (a : Fin 16 → ℕ) (hv : ∀ k : Fin 16, g k = BitVec.ofNat 32 (a k))
    (l : List (Fin 16)) (r : ℕ) :
    l.foldl (fun r k => ScanKind.sum.step r (g k)) (BitVec.ofNat 32 r) = BitVec.ofNat 32 (r + (l.map a).sum) := by
  induction l generalizing r with
  | nil => simp
  | cons k l ih =>
    rw [List.foldl_cons, hv]
    have : ScanKind.sum.step (BitVec.ofNat 32 r) (BitVec.ofNat 32 (a k)) = BitVec.ofNat 32 (r + a k) := by
      show BitVec.ofNat 32 r + BitVec.ofNat 32 (a k) = _
      rw [BitVec.ofNat_add]
    rw [this, ih, List.map_cons, List.sum_cons, Nat.add_assoc]

/-- The lanes after the first, up to lane `j`. -/
theorem lanes_sum (a : Fin 16 → ℕ) (j : Fin 16) :
    a 0 + (((List.finRange 16).filter fun k => decide (0 < k.val ∧ k.val ≤ j.val)).map a).sum
      = ∑ k ∈ Finset.univ.filter (fun k : Fin 16 => k.val ≤ j.val), a k := by
  rw [← List.sum_toFinset a ((List.nodup_finRange 16).filter _)]
  have e : Finset.univ.filter (fun k : Fin 16 => k.val ≤ j.val)
      = insert 0 ((List.finRange 16).filter fun k => decide (0 < k.val ∧ k.val ≤ j.val)).toFinset := by
    ext k
    simp only [Finset.mem_filter, Finset.mem_univ, true_and, Finset.mem_insert, List.mem_toFinset, List.mem_filter, List.mem_finRange,
      decide_eq_true_eq]
    constructor
    · intro h
      rcases Nat.eq_zero_or_pos k.val with h0 | h0
      · exact Or.inl (Fin.ext h0)
      · exact Or.inr ⟨h0, h⟩
    · rintro (rfl | h)
      · exact Nat.zero_le _
      · exact h.2
  rw [e, Finset.sum_insert (by simp)]

/-- The running sum of a vector whose lanes tell, by 1 or 0, which of 16 numbers from `b` on have a property: at lane `j`,
    how many up to and including it. -/
theorem scan_count (z : ℕ → Prop) [DecidablePred z] (b : ℕ) (v : V16.Idx → BitVec 32)
    (hv : ∀ k : Fin 16, v (lane k) = if z (b + k.val) then 1#32 else 0#32) (j : V16.Idx) :
    scan (w := 32) (d := ![16]) .sum v j = BitVec.ofNat 32 (Nat.count z (b + (j 0).val + 1) - Nat.count z b) := by
  let a : Fin 16 → ℕ := fun k => if z (b + k.val) then 1 else 0
  have ha : ∀ k : Fin 16, v (lane k) = BitVec.ofNat 32 (a k) := fun k => by
    rw [hv]; show _ = BitVec.ofNat 32 (if _ then _ else _); split <;> rfl
  have e0 : scan (w := 32) (d := ![16]) .sum v j
      = ((List.finRange 16).filter fun k => decide (0 < k.val ∧ k.val ≤ (j 0).val)).foldl
        (fun r k => ScanKind.sum.step r (v (lane k))) (v (lane 0)) := rfl
  rw [e0, ha 0, foldl_words (fun k => v (lane k)) a ha]
  refine (congrArg (BitVec.ofNat 32) (lanes_sum a (j 0))).trans ?_
  congr 1
  rw [show b + (j 0).val + 1 = b + ((j 0).val + 1) by omega, Nat.count_add, Nat.add_sub_cancel_left]
  have hj : (j 0).val < 16 := (j 0).isLt
  rw [Nat.count_eq_card_filter_range, Finset.card_filter, Finset.sum_filter]
  rw [← Fin.sum_univ_eq_sum_range (fun i => if z (b + i) then 1 else 0)]
  have : ∀ m : ℕ, (hm : m + 1 ≤ 16) → (∑ i : Fin 16, if i.val ≤ m then a i else 0) = ∑ i : Fin (m + 1), if z (b + i.val) then 1 else 0 := by
    intro m hm
    rw [Fin.sum_univ_eq_sum_range (fun i => if z (b + i) then 1 else 0) (m + 1),
      Fin.sum_univ_eq_sum_range (fun i => if i ≤ m then (if z (b + i) then 1 else 0) else 0) 16]
    rw [← Finset.sum_filter]
    refine Finset.sum_congr ?_ fun _ _ => rfl
    ext i; simp only [Finset.mem_filter, Finset.mem_range]; omega
  exact this _ hj

section Store

variable {F : FTy → Type} [FloatOps F] {s : Shape} {e : EltTy}

/-- A scatter of 16 lanes that name different places, at a place: what the lane that names it stores, else what was there. -/
theorem storeIdx_apply (f : Vec F s e) (idxs : Fin s.rank → IVec V16 32) (v : Vec F V16 e)
    (h : ∀ a x, (idxs a x).toNat < s.size a) (hinj : ∀ k k' : Fin 16, idxAt idxs h (lane k) = idxAt idxs h (lane k') → k = k') :
    (∀ k : Fin 16, storeIdx (d := ![16]) f idxs v (fun _ => 1#1) false h (idxAt idxs h (lane k)) = v (lane k))
    ∧ ∀ j, (∀ k : Fin 16, j ≠ idxAt idxs h (lane k)) → storeIdx (d := ![16]) f idxs v (fun _ => 1#1) false h j = f j := by
  have key : ∀ (l : List (Fin 16)) (g : Vec F s e), l.Nodup →
      let R := l.foldl (fun g k =>
        let x := lane k
        if (1#1 : BitVec 1) = 1 then
          let i := idxAt idxs h x
          let y := if false = true then Elt.idxAdd e (g i) (v x) else v x
          fun j => if (∀ a, (j a).val = (i a).val) then y else g j
        else g) g
      (∀ k ∈ l, R (idxAt idxs h (lane k)) = v (lane k))
        ∧ ∀ j, (∀ k ∈ l, j ≠ idxAt idxs h (lane k)) → R j = g j := by
    intro l
    induction l with
    | nil => intro g _; exact ⟨fun k hk => absurd hk List.not_mem_nil, fun _ _ => rfl⟩
    | cons k l ih =>
      intro g hnd
      obtain ⟨hk, hnd'⟩ := List.nodup_cons.mp hnd
      intro R
      obtain ⟨h1, h2⟩ := ih (fun j => if (∀ a, (j a).val = (idxAt idxs h (lane k) a).val) then v (lane k) else g j) hnd'
      refine ⟨fun k' hk' => ?_, fun j hj => ?_⟩
      · rcases List.mem_cons.mp hk' with rfl | hm
        · refine (h2 _ fun k'' hk'' heq => hk (by rw [hinj _ _ heq]; exact hk'')).trans ?_
          exact if_pos fun _ => rfl
        · exact h1 k' hm
      · refine (h2 j fun k' hk' => hj k' (List.mem_cons_of_mem _ hk')).trans ?_
        refine if_neg fun hh => hj k List.mem_cons_self ?_
        funext a; exact Fin.ext (hh a)
  obtain ⟨h1, h2⟩ := key (List.finRange 16) f (List.nodup_finRange 16)
  exact ⟨fun k => h1 k (List.mem_finRange k), fun j hj => h2 j fun k _ => hj k⟩

end Store

end Cert.Proof.Lanes
-- ==== Proof.Values.lean ====
/-
  What the gather's arrays hold, as functions of its arguments: the order in which the tokens of expert 0 come first, each
  group in its own order, and the weights and the rows taken in that order.
-/
module

public import proofs.«01_k».proof.Proof.Partition
public import proofs.«01_k».proof.Proof.Lanes
public import Idealize.ShloMosaic.Lib.Pointwise.Index

@[expose] public section

noncomputable section

namespace Cert.Proof.Values

open Idealize.ShloMosaic Cert.Proof.Partition Cert.Proof.Lanes

abbrev V2048 : Shape := ⟨1, ![2048]⟩
/-- A table of 2048 rows of 2048 numbers as eight panels of rows of two by 128. -/
abbrev Panels : Shape := ⟨4, ![8, 2048, 2, 128]⟩

variable {α : Type}

/-- Token `t` goes to expert 0. -/
def isZero (e : V2048.Idx → BitVec 32) (t : ℕ) : Prop := ∃ h : t < 2048, e (ix1 ⟨t, h⟩) = 0#32

instance (e : V2048.Idx → BitVec 32) : DecidablePred (isZero e) := fun t =>
  if h : t < 2048 then decidable_of_iff (e (ix1 ⟨t, h⟩) = 0#32) ⟨fun h' => ⟨h, h'⟩, fun ⟨_, h'⟩ => h'⟩
  else isFalse fun ⟨h', _⟩ => h h'

theorem isZero_iff (e : V2048.Idx → BitVec 32) (t : Fin 2048) : isZero e t.val ↔ e (ix1 t) = 0#32 :=
  ⟨fun ⟨_, h⟩ => h, fun h => ⟨t.isLt, h⟩⟩

/-- The token that comes at place `j`. -/
def tok (e : V2048.Idx → BitVec 32) : Fin 2048 → Fin 2048 := src (isZero e) 2048
/-- The place of token `t`. -/
def place (e : V2048.Idx → BitVec 32) (t : ℕ) : ℕ := slot (isZero e) 2048 t
/-- How many of the first `n` tokens go to expert 0, and how many to expert 1. -/
def zeros (e : V2048.Idx → BitVec 32) (n : ℕ) : ℕ := Nat.count (isZero e) n
def ones (e : V2048.Idx → BitVec 32) (n : ℕ) : ℕ := Nat.count (fun t => ¬ isZero e t) n

def permA (e : V2048.Idx → BitVec 32) : V2048.Idx → BitVec 32 := fun j => BitVec.ofNat 32 (tok e (j 0)).val
def countA (e : V2048.Idx → BitVec 32) : V16.Idx → BitVec 32 := fun _ => BitVec.ofNat 32 (zeros e 2048)
def pickA (e : V2048.Idx → BitVec 32) (w : V2048.Idx → α) : V2048.Idx → α := fun j => w (ix1 (tok e (j 0)))
def rowsA (e : V2048.Idx → BitVec 32) (x : Panels.Idx → α) : Panels.Idx → α := fun j => x (ix4 (j 0) (tok e (j 1)) (j 2) (j 3))

theorem zeros_add_ones (e : V2048.Idx → BitVec 32) (n : ℕ) : zeros e n + ones e n = n := by
  unfold zeros ones
  induction n with
  | zero => simp
  | succ n ih => rw [Nat.count_succ, Nat.count_succ]; split <;> simp_all <;> omega

theorem place_of_zero (e : V2048.Idx → BitVec 32) (t : ℕ) (h : isZero e t) : place e t = zeros e (t + 1) - 1 := by
  have : zeros e (t + 1) = zeros e t + 1 := by unfold zeros; rw [Nat.count_succ, if_pos h]
  unfold place slot; rw [if_pos h, this]; rfl
theorem place_of_one (e : V2048.Idx → BitVec 32) (t : ℕ) (h : ¬ isZero e t) : place e t = zeros e 2048 + (ones e (t + 1) - 1) := by
  have h1 : ones e (t + 1) = ones e t + 1 := by unfold ones; rw [Nat.count_succ, if_pos h]
  have := zeros_add_ones e t
  unfold place slot; rw [if_neg h, h1]; unfold zeros at *; omega
theorem place_lt (e : V2048.Idx → BitVec 32) (t : ℕ) (h : t < 2048) : place e t < 2048 := slot_lt _ _ h
theorem tok_place (e : V2048.Idx → BitVec 32) (t : Fin 2048) : tok e ⟨place e t.val, place_lt e _ t.isLt⟩ = t := src_eq _ _ rfl
theorem place_tok (e : V2048.Idx → BitVec 32) (j : Fin 2048) : place e (tok e j).val = j.val := slot_src _ _ j
theorem place_inj (e : V2048.Idx → BitVec 32) {t t' : ℕ} (h : t < 2048) (h' : t' < 2048) (he : place e t = place e t') : t = t' := by
  have a := tok_place e ⟨t, h⟩
  have b := tok_place e ⟨t', h'⟩
  have : (⟨t, h⟩ : Fin 2048) = ⟨t', h'⟩ := a.symm.trans ((congrArg (tok e) (Fin.ext he)).trans b)
  exact congrArg Fin.val this
theorem zeros_le (e : V2048.Idx → BitVec 32) (n : ℕ) : zeros e n ≤ n := Nat.count_le _

end Cert.Proof.Values

end
-- ==== Proof.Setup.lean ====
/-
  The gather's launch: the program as the launch theorem sees it, the arrays, and the part of each that a tile is handed.
-/
module

public import proofs.«01_k».proof.Proof.Values
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Setup

open Cert.KernelIdeal hiding ix2
open Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL

/-! ## The arrays -/

abbrev eLoc (d : Dev nD) : Loc nD τ sig := (SparseCore.T d).loc main_v1
abbrev wLoc (d : Dev nD) : Loc nD τ sig := (SparseCore.T d).loc main_v2
abbrev xLoc (d : Dev nD) : Loc nD τ sig := (SparseCore.T d).loc main_v4
abbrev xsLoc (d : Dev nD) : Loc nD τ sig := (SparseCore.T d).loc main_v5_0
abbrev wsLoc (d : Dev nD) : Loc nD τ sig := (SparseCore.T d).loc main_v5_1
abbrev permLoc (d : Dev nD) : Loc nD τ sig := (SparseCore.T d).loc main_v5_2
abbrev cntLoc (d : Dev nD) : Loc nD τ sig := (SparseCore.T d).loc main_v5_3

abbrev eV : Memref sig .scVector .hbm S2048 .i32 := Memref.whole main_v1_scv
abbrev wV : Memref sig .scVector .hbm S2048 .f32 := Memref.whole main_v2_scv
abbrev xV : Memref sig .scVector .hbm S8x2048x2x128 .f32 := Memref.whole main_v4_scv
abbrev xsV : Memref sig .scVector .hbm S8x2048x2x128 .f32 := Memref.whole main_v5_0_scv
abbrev wsV : Memref sig .scVector .hbm S2048 .f32 := Memref.whole main_v5_1_scv
abbrev permV : Memref sig .scVector .hbm S2048 .i32 := Memref.whole main_v5_2_scv
abbrev cntV : Memref sig .scVector .hbm S16 .i32 := Memref.whole main_v5_3_scv
/-- A tile's scratch: its copies of the expert numbers and the weights, the ranks in each group, the order, the weights it
    gathers, the rows it gathers, the count. -/
abbrev tE : Memref sig .scVector .vmem S2048 .i32 := Memref.whole cc1_scratch0
abbrev tW : Memref sig .scVector .vmem S2048 .f32 := Memref.whole cc1_scratch1
abbrev tR0 : Memref sig .scVector .vmem S2048 .i32 := Memref.whole cc1_scratch2
abbrev tR1 : Memref sig .scVector .vmem S2048 .i32 := Memref.whole cc1_scratch3
abbrev tP : Memref sig .scVector .vmem S2048 .i32 := Memref.whole cc1_scratch4
abbrev tB : Memref sig .scVector .vmem S64 .f32 := Memref.whole cc1_scratch5
abbrev tX : Memref sig .scVector .vmem S8x32x2x128 .f32 := Memref.whole cc1_scratch6
abbrev tN : Memref sig .scVector .vmem S16 .i32 := Memref.whole cc1_scratch7

/-! ## A tile -/

abbrev cV (L : grid1.Coords) : Fin τ.nSC := (L 0).castLE hcore1
abbrev jV (L : grid1.Coords) : Fin τ.nSub := (L 1).castLE hsub1
abbrev tile (d : Dev nD) (L : grid1.Coords) : Thread nD τ := V d (cV L) (jV L)

theorem coord0_lt (L : grid1.Coords) : (L 0).val < 2 := (L 0).isLt
theorem coord1_lt (L : grid1.Coords) : (L 1).val < 16 := (L 1).isLt

/-- A tile's number among the 32. -/
def wid (L : grid1.Coords) : Fin 32 := ⟨2 * (L 1).val + (L 0).val, by have := coord0_lt L; have := coord1_lt L; omega⟩

end Cert.Proof.Setup

end
-- ==== Proof.Pays.lean ====
/-
  What one trip of the tile's loops computes from the sixteen words it loads, with no program state: the windows of sixteen
  lanes, the running counts, the places.
-/
module

public import proofs.«01_k».proof.Proof.Setup

@[expose] public section

noncomputable section

namespace Cert.Proof.Pays

open Idealize.ShloMosaic Cert.Proof.Values Cert.Proof.Lanes
open Cert.KernelIdeal hiding ix2
open Cert.KernelIdeal.Gen

variable {F : FTy → Type} [FloatOps F]

/-! ## Windows of sixteen lanes -/

section Windows
variable {κ : Kind} {sp : Space} {N : ℕ} {e : EltTy} {Val : EltTy → Type}

theorem emb16 {off : Fin 1 → ℕ} {inb : ∀ a, off a + S16.size a ≤ (⟨1, ![N]⟩ : Shape).size a} {b : ℕ} (h : off = ![b])
    (j : S16.Idx) (hb : b + (j 0).val < N) :
    (Rect.unit (s := ⟨1, ![N]⟩) off S16.size inb).emb j = ix1 (⟨b + (j 0).val, hb⟩ : Fin N) := by
  subst h
  refine funext fun a => ?_
  match a with
  | 0 => exact Fin.ext (by show b + 1 * (j 0).val = b + (j 0).val; omega)

theorem read16 (v : View sig κ sp ⟨1, ![N]⟩ e) (f : v.ty.Contents Val) {off : Fin 1 → ℕ}
    {inb : ∀ a, off a + S16.size a ≤ (⟨1, ![N]⟩ : Shape).size a} {b : ℕ} (h : off = ![b]) (j : S16.Idx) (hb : b + (j 0).val < N) :
    v.readAt Val (Rect.unit (s := ⟨1, ![N]⟩) off S16.size inb).toLoadRect f j = v.read Val f (ix1 (⟨b + (j 0).val, hb⟩ : Fin N)) :=
  (View.readAt_apply _ _ _).trans (congrArg (v.read Val f) (emb16 h j hb))

theorem write16_in (v : View sig κ sp ⟨1, ![N]⟩ e) (f : v.ty.Contents Val) {off : Fin 1 → ℕ}
    {inb : ∀ a, off a + S16.size a ≤ (⟨1, ![N]⟩ : Shape).size a} {b : ℕ} (h : off = ![b]) (w : S16.Idx → Val e) (t : Fin N)
    (h0 : b ≤ t.val) (h1 : t.val < b + 16) :
    v.read Val (v.writes Val f [⟨Rect.unit (s := ⟨1, ![N]⟩) off S16.size inb, w⟩]) (ix1 t) = w (lane ⟨t.val - b, by omega⟩) := by
  have e1 : (Rect.unit (s := ⟨1, ![N]⟩) off S16.size inb).emb (lane ⟨t.val - b, by omega⟩) = ix1 t := by
    refine (emb16 h _ (by show b + (t.val - b) < N; have := t.isLt; omega)).trans ?_
    exact congrArg ix1 (Fin.ext (by show b + (t.val - b) = t.val; omega))
  rw [← e1]
  exact View.read_slice_write_emb (v := v) (Rect.unit (s := ⟨1, ![N]⟩) off S16.size inb) f w (Finset.mem_univ _)

theorem write16_out (v : View sig κ sp ⟨1, ![N]⟩ e) (f : v.ty.Contents Val) {off : Fin 1 → ℕ}
    {inb : ∀ a, off a + S16.size a ≤ (⟨1, ![N]⟩ : Shape).size a} {b : ℕ} (h : off = ![b]) (w : S16.Idx → Val e) (t : Fin N)
    (h0 : t.val < b ∨ b + 16 ≤ t.val) :
    v.read Val (v.writes Val f [⟨Rect.unit (s := ⟨1, ![N]⟩) off S16.size inb, w⟩]) (ix1 t) = v.read Val f (ix1 t) := by
  refine View.read_slice_write_of_not_mem (v := v) (Rect.unit (s := ⟨1, ![N]⟩) off S16.size inb) f w _ fun hm => ?_
  obtain ⟨x, -, hx⟩ := Finset.mem_map.mp hm
  subst h
  have h3 : b + 1 * (x 0).val = t.val := congrArg Fin.val (congrFun hx 0)
  have h4 : (x 0).val < 16 := (x 0).isLt
  omega

end Windows

/-! ## The lanes of a group -/

theorem pay2_apply (v : Vec F S16 .i32) (j : S16.Idx) : k1_pay2 v j = if v j = 0#32 then 1#32 else 0#32 := by
  show (if BitVec.ofBool (decide (v j = 0#32)) = 1#1 then (1#32 : BitVec 32) else 0#32) = _
  by_cases h : v j = 0#32 <;> simp [h]

theorem pay3_apply (v : Vec F S16 .i32) (j : S16.Idx) : k1_pay3 v j = if ¬ v j = 0#32 then 1#32 else 0#32 := by
  show (1#32 : BitVec 32) - k1_pay2 v j = _
  rw [pay2_apply]
  by_cases h : v j = 0#32 <;> simp [h]

/-- The lanes hold the expert numbers of the sixteen tokens from `b`. -/
def Held (e : V2048.Idx → BitVec 32) (b : ℕ) (v : S16.Idx → BitVec 32) : Prop :=
  ∀ j : S16.Idx, ∃ h : b + (j 0).val < 2048, v j = e (ix1 ⟨b + (j 0).val, h⟩)

theorem held_zero {e : V2048.Idx → BitVec 32} {b : ℕ} {v : S16.Idx → BitVec 32} (h : Held e b v) (j : S16.Idx) :
    v j = 0#32 ↔ isZero e (b + (j 0).val) := by
  obtain ⟨hb, he⟩ := h j
  exact he ▸ (isZero_iff e ⟨_, hb⟩).symm

theorem scan_zeros {e : V2048.Idx → BitVec 32} {b : ℕ} {v : S16.Idx → BitVec 32} (h : Held e b v) (j : S16.Idx) :
    scan (w := 32) (d := ![16]) .sum (k1_pay2 (F := F) v) j = BitVec.ofNat 32 (zeros e (b + (j 0).val + 1) - zeros e b) :=
  scan_count (isZero e) b _ (fun k => (pay2_apply (F := F) v (lane k)).trans (if_congr (held_zero h (lane k)) rfl rfl)) j

theorem scan_ones {e : V2048.Idx → BitVec 32} {b : ℕ} {v : S16.Idx → BitVec 32} (h : Held e b v) (j : S16.Idx) :
    scan (w := 32) (d := ![16]) .sum (k1_pay3 (F := F) v) j = BitVec.ofNat 32 (ones e (b + (j 0).val + 1) - ones e b) :=
  scan_count (fun t => ¬ isZero e t) b _ (fun k => (pay3_apply (F := F) v (lane k)).trans (if_congr (not_congr (held_zero h (lane k))) rfl rfl)) j

theorem count_mono (p : ℕ → Prop) [DecidablePred p] {m n : ℕ} (h : m ≤ n) : BitVec.ofNat 32 (Nat.count p m) + BitVec.ofNat 32 (Nat.count p n - Nat.count p m)
    = BitVec.ofNat 32 (Nat.count p n) := by
  have := Nat.count_monotone p h
  rw [← BitVec.ofNat_add, Nat.add_sub_cancel' this]

theorem pay4_apply {e : V2048.Idx → BitVec 32} {b : ℕ} {v : S16.Idx → BitVec 32} (h : Held e b v) (j : S16.Idx) :
    k1_pay4 (F := F) (BitVec.ofNat 32 (zeros e b)) v j = BitVec.ofNat 32 (zeros e (b + (j 0).val + 1)) - 1#32 := by
  show BitVec.ofNat 32 (zeros e b) + scan (w := 32) (d := ![16]) .sum (k1_pay2 (F := F) v) j - 1#32 = _
  rw [scan_zeros h]
  exact congrArg (· - 1#32) (count_mono (isZero e) (by omega))

theorem pay5_apply {e : V2048.Idx → BitVec 32} {b : ℕ} {v : S16.Idx → BitVec 32} (h : Held e b v) (j : S16.Idx) :
    k1_pay5 (F := F) (BitVec.ofNat 32 (ones e b)) v j = BitVec.ofNat 32 (ones e (b + (j 0).val + 1)) - 1#32 := by
  show BitVec.ofNat 32 (ones e b) + scan (w := 32) (d := ![16]) .sum (k1_pay3 (F := F) v) j - 1#32 = _
  rw [scan_ones h]
  exact congrArg (· - 1#32) (count_mono (fun t => ¬ isZero e t) (by omega))

theorem carry_zeros {e : V2048.Idx → BitVec 32} {b : ℕ} {v : S16.Idx → BitVec 32} (h : Held e b v) :
    Scalar.addi (BitVec.ofNat 32 (zeros e b)) (extractAt ![15] (k1_pay6 (F := F) v) inpos_S16_p15) = BitVec.ofNat 32 (zeros e (b + 16)) := by
  refine (congrArg (BitVec.ofNat 32 (zeros e b) + ·) (scan_zeros (F := F) h (lane 15))).trans ?_
  exact count_mono (isZero e) (by show b ≤ b + 15 + 1; omega)

theorem carry_ones {e : V2048.Idx → BitVec 32} {b : ℕ} {v : S16.Idx → BitVec 32} (h : Held e b v) :
    Scalar.addi (BitVec.ofNat 32 (ones e b)) (extractAt ![15] (k1_pay7 (F := F) v) inpos_S16_p15) = BitVec.ofNat 32 (ones e (b + 16)) := by
  refine (congrArg (BitVec.ofNat 32 (ones e b) + ·) (scan_ones (F := F) h (lane 15))).trans ?_
  exact count_mono (fun t => ¬ isZero e t) (by show b ≤ b + 15 + 1; omega)

/-! ## The places -/

theorem ofNat_pred {n : ℕ} (h : 0 < n) : BitVec.ofNat 32 n - 1#32 = BitVec.ofNat 32 (n - 1) := by
  obtain ⟨m, rfl⟩ : ∃ m, n = m + 1 := ⟨n - 1, by omega⟩
  rw [BitVec.ofNat_add, BitVec.add_sub_cancel]; rfl

/-- The places of the sixteen tokens from `b`, from their ranks in the two groups and the first group's size. -/
theorem pay8_apply {e : V2048.Idx → BitVec 32} {b : ℕ} {v r0 r1 : S16.Idx → BitVec 32} (h : Held e b v)
    (h0 : ∀ j : S16.Idx, r0 j = BitVec.ofNat 32 (zeros e (b + (j 0).val + 1)) - 1#32)
    (h1 : ∀ j : S16.Idx, r1 j = BitVec.ofNat 32 (ones e (b + (j 0).val + 1)) - 1#32) (j : S16.Idx) :
    k1_pay8 (F := F) (BitVec.ofNat 32 (zeros e 2048)) v r0 r1 j = BitVec.ofNat 32 (place e (b + (j 0).val)) := by
  have hz := held_zero h j
  show (if BitVec.ofBool (decide (v j = 0#32)) = 1#1 then r0 j else BitVec.ofNat 32 (zeros e 2048) + r1 j) = _
  by_cases hv : v j = 0#32
  · have hi := hz.mp hv
    have : zeros e (b + (j 0).val + 1) = zeros e (b + (j 0).val) + 1 := by unfold zeros; rw [Nat.count_succ, if_pos hi]
    rw [if_pos (by simp [hv]), h0, ofNat_pred (by omega), place_of_zero e _ hi]
  · have hi : ¬ isZero e (b + (j 0).val) := fun hh => hv (hz.mpr hh)
    have : ones e (b + (j 0).val + 1) = ones e (b + (j 0).val) + 1 := by unfold ones; rw [Nat.count_succ, if_pos hi]
    rw [if_neg (by simp [hv]), h1, ofNat_pred (by omega), place_of_one e _ hi, BitVec.ofNat_add]

theorem pay9_apply (k : Fin k1_t2_loop.trips) (j : S16.Idx) : k1_pay9 k j = BitVec.ofNat 32 (16 * k.val + (j 0).val) := by
  have hk : k.val < 128 := k.isLt
  have hj : (j 0).val < 16 := (j 0).isLt
  show BitVec.ofNat 32 (0 * 16 + (j 0).val) + (0#32 + BitVec.ofNat 32 k.val * 1#32) * 16#32 = _
  apply BitVec.eq_of_toNat_eq
  simp only [BitVec.toNat_add, BitVec.toNat_mul, BitVec.toNat_ofNat]
  omega

/-- The words a trip's places are in range. -/
theorem places_lt {e : V2048.Idx → BitVec 32} {b : ℕ} (hb : b + 16 ≤ 2048) {v : S16.Idx → BitVec 32}
    (h : ∀ j : S16.Idx, v j = BitVec.ofNat 32 (place e (b + (j 0).val))) (j : S16.Idx) : (v j).toNat = place e (b + (j 0).val) := by
  have hj : (j 0).val < 16 := (j 0).isLt
  have := place_lt e (b + (j 0).val) (by omega)
  rw [h, BitVec.toNat_ofNat]; exact Nat.mod_eq_of_lt (by omega)

theorem chk1_places {e : V2048.Idx → BitVec 32} {b : ℕ} (hb : b + 16 ≤ 2048) {v : S16.Idx → BitVec 32}
    (h : ∀ j : S16.Idx, v j = BitVec.ofNat 32 (place e (b + (j 0).val))) : k1_chk1 v := by
  intro a j
  have hj : (j 0).val < 16 := (j 0).isLt
  match a with
  | 0 => exact (places_lt hb h j).trans_lt (place_lt e _ (by omega))

/-- The order holds the first `n` tokens at their places. -/
def PermTo (e : V2048.Idx → BitVec 32) (n : ℕ) (p : V2048.Idx → BitVec 32) : Prop :=
  ∀ t : Fin 2048, t.val < n → p (ix1 ⟨place e t.val, place_lt e _ t.isLt⟩) = BitVec.ofNat 32 t.val

theorem PermTo.step {e : V2048.Idx → BitVec 32} {b : ℕ} (hb : b + 16 ≤ 2048) {v w : S16.Idx → BitVec 32}
    (h : ∀ j : S16.Idx, v j = BitVec.ofNat 32 (place e (b + (j 0).val))) (hw : ∀ j : S16.Idx, w j = BitVec.ofNat 32 (b + (j 0).val))
    (hin : ∀ a x, ((![v] : Fin S2048.rank → IVec S16 32) a x).toNat < S2048.size a)
    {p : V2048.Idx → BitVec 32} (hp : PermTo e b p) :
    PermTo e (b + 16) (storeIdx (F := F) (s := S2048) (e := .i32) (d := ![16]) p (![v] : Fin S2048.rank → IVec S16 32) w (fun _ => 1#1) false hin) := by
  have hat : ∀ k : Fin 16, idxAt (![v] : Fin S2048.rank → IVec S16 32) hin (lane k) = ix1 ⟨place e (b + k.val), place_lt e _ (by omega)⟩ := fun k =>
    funext fun a => match a with
    | 0 => Fin.ext (places_lt hb h (lane k))
  obtain ⟨h1, h2⟩ := storeIdx_apply (F := F) (s := S2048) (e := .i32) p (![v] : Fin S2048.rank → IVec S16 32) w hin (fun k k' hkk => by
    rw [hat, hat] at hkk
    have := place_inj e (by omega) (by omega) (congrArg Fin.val (congrFun hkk 0))
    exact Fin.ext (by omega))
  intro t ht
  by_cases hbt : b ≤ t.val
  · have h3 := h1 ⟨t.val - b, by omega⟩
    rw [hat] at h3
    have h4 : b + (t.val - b) = t.val := by omega
    have h5 := hw (lane ⟨t.val - b, by omega⟩)
    simp only [h4] at h3
    exact h3.trans (h5.trans (congrArg (BitVec.ofNat 32) h4))
  · refine (h2 _ fun k hk => ?_).trans (hp t (by omega))
    rw [hat] at hk
    have := place_inj e t.isLt (by omega) (congrArg Fin.val (congrFun hk 0))
    omega

theorem permTo_all {e : V2048.Idx → BitVec 32} {p : V2048.Idx → BitVec 32} (h : PermTo e 2048 p) : p = permA e := by
  funext j
  have h1 := h (tok e (j 0)) (tok e (j 0)).isLt
  have h2 : (⟨place e (tok e (j 0)).val, place_lt e _ (tok e (j 0)).isLt⟩ : Fin 2048) = j 0 := Fin.ext (place_tok e (j 0))
  rw [h2] at h1
  rw [eq_ix1 j]
  exact h1

end Cert.Proof.Pays

end
-- ==== Proof.FfnWords.lean ====
/-
  The words of the product's tables and the offsets they give.
-/
module

public import proofs.«01_k».proof.Proof.Pays

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

theorem iv_small (k : ℕ) : Scf.iv 0#32 1#32 k = BitVec.ofNat 32 k := by
  simp [Scf.iv]

theorem trips_eq (nt : ℕ) (h : nt ≤ 9) : (k2_t1_loop (BitVec.ofNat 32 nt)).trips = nt :=
  (by decide : ∀ u : Fin 10, (k2_t1_loop (BitVec.ofNat 32 u.val)).trips = u.val) ⟨nt, by omega⟩

theorem trips2_eq (nt : ℕ) (h : nt ≤ 9) : (k2_t2_loop (BitVec.ofNat 32 nt)).trips = 0 :=
  (by decide : ∀ u : Fin 10, (k2_t2_loop (BitVec.ofNat 32 u.val)).trips = 0) ⟨nt, by omega⟩

theorem loop1_ok (nt : ℕ) (h : nt ≤ 9) : (k2_t1_loop (BitVec.ofNat 32 nt)).OK :=
  (by decide : ∀ u : Fin 10, (k2_t1_loop (BitVec.ofNat 32 u.val)).OK) ⟨nt, by omega⟩

theorem loop2_ok (nt : ℕ) (h : nt ≤ 9) : (k2_t2_loop (BitVec.ofNat 32 nt)).OK :=
  (by decide : ∀ u : Fin 10, (k2_t2_loop (BitVec.ofNat 32 u.val)).OK) ⟨nt, by omega⟩

theorem row_word (u : ℕ) (h : u ≤ 16) :
    (Scalar.muli (Scalar.minsi (BitVec.ofNat 32 u) 7#32) 256#32).toNat = min u 7 * 256 :=
  (by decide : ∀ u : Fin 17, (Scalar.muli (Scalar.minsi (BitVec.ofNat 32 u.val) 7#32) 256#32).toNat = min u.val 7 * 256) ⟨u, by omega⟩

theorem off2_eq (tb nt : ℕ) (h : tb + nt ≤ 9) (k : Fin (k2_t1_loop (BitVec.ofNat 32 nt)).trips) :
    k2_off2 (BitVec.ofNat 32 tb) (BitVec.ofNat 32 nt) k = ![tb + k.val] := by
  have hk : k.val < nt := Nat.lt_of_lt_of_eq k.isLt (trips_eq nt (by omega))
  unfold k2_off2
  dsimp only
  rw [iv_small]
  have : (Scalar.indexCast (Scalar.addi (BitVec.ofNat 32 tb) (BitVec.ofNat 32 k.val))).toNat = tb + k.val := by
    simp only [Scalar.indexCast, Scalar.addi, IntOp.addi, ← BitVec.ofNat_add, BitVec.toNat_ofNat]
    omega
  rw [this]

theorem off5_eq (tb nt : ℕ) (h : tb + nt ≤ 9) (k : Fin (k2_t1_loop (BitVec.ofNat 32 nt)).trips) :
    k2_off5 (BitVec.ofNat 32 tb) (BitVec.ofNat 32 nt) k = ![tb + k.val, 0, 0] := by
  have hk : k.val < nt := Nat.lt_of_lt_of_eq k.isLt (trips_eq nt (by omega))
  unfold k2_off5
  dsimp only
  rw [iv_small]
  have : (Scalar.indexCast (Scalar.addi (BitVec.ofNat 32 tb) (BitVec.ofNat 32 k.val))).toNat = tb + k.val := by
    simp only [Scalar.indexCast, Scalar.addi, IntOp.addi, ← BitVec.ofNat_add, BitVec.toNat_ofNat]
    omega
  rw [this]

theorem off4_eq (rs nt : ℕ) (hr : rs ≤ 7) (hn : nt ≤ 9) (k : Fin (k2_t1_loop (BitVec.ofNat 32 nt)).trips) :
    k2_off4 (BitVec.ofNat 32 rs) (BitVec.ofNat 32 nt) k = ![min (rs + k.val) 7 * 256, 0] := by
  have hk : k.val < nt := Nat.lt_of_lt_of_eq k.isLt (trips_eq nt (by omega))
  unfold k2_off4
  dsimp only
  rw [iv_small]
  have : (Scalar.indexCast (Scalar.muli (Scalar.minsi (Scalar.addi (BitVec.ofNat 32 rs) (BitVec.ofNat 32 k.val)) 7#32) 256#32)).toNat
      = min (rs + k.val) 7 * 256 := by
    rw [show Scalar.addi (BitVec.ofNat 32 rs) (BitVec.ofNat 32 k.val) = BitVec.ofNat 32 (rs + k.val) by
      simp only [Scalar.addi, IntOp.addi, BitVec.ofNat_add]]
    exact row_word _ (by omega)
  rw [this]

theorem off3_eq (rs nt : ℕ) (hr : rs ≤ 7) (hn : nt ≤ 9) (k : Fin (k2_t1_loop (BitVec.ofNat 32 nt)).trips) :
    k2_off3 (BitVec.ofNat 32 rs) (BitVec.ofNat 32 nt) k = ![min (rs + k.val) 7 * 256, 0] :=
  off4_eq rs nt hr hn k

/-- A word's side conditions hold when its tiles end within the nine and its first row tile is one of the eight. -/
theorem chk_of (tb rs nt : ℕ) (h : tb + nt ≤ 9) (hr : rs ≤ 7) :
    k2_chk1 (BitVec.ofNat 32 tb) (BitVec.ofNat 32 rs) (BitVec.ofNat 32 nt) := by
  have hn : nt ≤ 9 := by omega
  have he : ∀ k : Fin (k2_t2_loop (BitVec.ofNat 32 nt)).trips, False := fun k =>
    Nat.not_lt_zero _ (Nat.lt_of_lt_of_eq k.isLt (trips2_eq nt hn))
  refine ⟨loop1_ok nt hn, fun k => ?_, fun k => ?_, fun k => ?_, loop2_ok nt hn, fun k => (he k).elim, fun k => (he k).elim,
    fun k => (he k).elim⟩
  · have hk : k.val < nt := Nat.lt_of_lt_of_eq k.isLt (trips_eq nt hn)
    rw [off2_eq tb nt h]; intro a; fin_cases a
    show tb + k.val + 1 ≤ 9; omega
  · rw [off4_eq rs nt hr hn]; intro a; fin_cases a
    · show min (rs + k.val) 7 * 256 + 256 ≤ 2048; omega
    · show 0 + 2048 ≤ 2048; omega
  · have hk : k.val < nt := Nat.lt_of_lt_of_eq k.isLt (trips_eq nt hn)
    rw [off5_eq tb nt h]; intro a; fin_cases a
    · show tb + k.val + 1 ≤ 9; omega
    · show 0 + 256 ≤ 256; omega
    · show 0 + 1 ≤ 1; omega

theorem chk2_of (rs nt : ℕ) (v1 v19 : BitVec 32) (hr : rs ≤ 7) (hn : nt ≤ 9) (k : Fin (k2_t1_loop (BitVec.ofNat 32 nt)).trips) :
    k2_chk2 v1 (BitVec.ofNat 32 rs) (BitVec.ofNat 32 nt) k v19 := by
  intro _
  rw [off3_eq rs nt hr hn]; intro a; fin_cases a
  · show min (rs + k.val) 7 * 256 + 256 ≤ 2048; omega
  · show 0 + 2048 ≤ 2048; omega

end Cert.Proof.Setup

end
-- ==== Proof.FfnTile.lean ====
/-
  One tile of the product: the rows it reads and sets.
-/
module

public import proofs.«01_k».proof.Proof.FfnWords
public import proofs.«01_k».proof.Proof.Gen.KernelIdeal.Loops
public import Idealize.ShloMosaic.Lib.WritesUnit
public import Idealize.ShloMosaic.Lib.LaneScatter.Own

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## Rows of a panel of rows -/

/-- The 256 rows of row tile `b`. -/
def tileRows (b : Fin 8) (X : S2048x2048.Idx → Elt F .f32) : Vec F S256x2048 .f32 := fun p =>
  X (ix2 ⟨b.val * 256 + (p 0).val, by have := (p 0).isLt; have : (p 0).val < 256 := this; have := b.isLt; omega⟩ (p 1))

/-- The rows of row tile `b` set to `w`. -/
def setRows (b : Fin 8) (w : Vec F S256x2048 .f32) (O : S2048x2048.Idx → Elt F .f32) : S2048x2048.Idx → Elt F .f32 := fun y =>
  if (y 0).val / 256 = b.val then w (ix2 ⟨(y 0).val % 256, Nat.mod_lt _ (by decide)⟩ (y 1)) else O y

/-- The weights of tile `g`. -/
def tileWts (g : Fin 9) (W : S9x256x1.Idx → Elt F .f32) : Vec F S1x256x1 .f32 := fun p => W (ix3 g (p 1) (p 2))

/-- One tile's step: the rows zeroed if `z`, then the product's contribution added. -/
def tileStep (b : Fin 8) (g : Fin 9) (z : Prop) [Decidable z] (X : S2048x2048.Idx → Elt F .f32) (Wf : S1x512x2048.Idx → Elt F .f32)
    (Wp : S1x2048x512.Idx → Elt F .f32) (W : S9x256x1.Idx → Elt F .f32) (O : S2048x2048.Idx → Elt F .f32) :
    S2048x2048.Idx → Elt F .f32 :=
  let O' := if z then setRows b (k2_pay1 (F := F)) O else O
  setRows b (k2_pay2 (tileRows b X) Wf (tileWts g W) (tileRows b O') Wp) O'

/-! ## Reads and writes through the whole memref -/

theorem read_rows (M : Memref sig .tc .vmem S2048x2048 .f32) (f : M.view.ty.Contents (Elt F)) (b : Fin 8) (off : Fin 2 → ℕ)
    (inb : ∀ a, off a + S256x2048.size a ≤ S2048x2048.size a) (e : off = ![b.val * 256, 0]) :
    M.view.readAt (Elt F) (Rect.unit (s := S2048x2048) off S256x2048.size inb).toLoadRect f = tileRows b (M.view.read (Elt F) f) := by
  subst e
  funext p
  refine congrArg (M.view.read (Elt F) f) (funext fun a => Fin.ext ?_)
  fin_cases a
  · show b.val * 256 + 1 * (p 0).val = b.val * 256 + (p 0).val; omega
  · show 0 + 1 * (p 1).val = (p 1).val; omega

theorem read_tile (M : Memref sig .tc .vmem S9x256x1 .f32) (f : M.view.ty.Contents (Elt F)) (g : Fin 9) (off : Fin 3 → ℕ)
    (inb : ∀ a, off a + S1x256x1.size a ≤ S9x256x1.size a) (e : off = ![g.val, 0, 0]) :
    M.view.readAt (Elt F) (Rect.unit (s := S9x256x1) off S1x256x1.size inb).toLoadRect f = tileWts g (M.view.read (Elt F) f) := by
  subst e
  funext p
  refine congrArg (M.view.read (Elt F) f) (funext fun a => Fin.ext ?_)
  fin_cases a
  · have : (p 0).val < 1 := (p 0).isLt
    show g.val + 1 * (p 0).val = g.val; omega
  · show 0 + 1 * (p 1).val = (p 1).val; omega
  · show 0 + 1 * (p 2).val = (p 2).val; omega

theorem read_set (M : Memref sig .tc .vmem S2048x2048 .f32) (f : M.view.ty.Contents (Elt F)) (b : Fin 8) (off : Fin 2 → ℕ)
    (inb : ∀ a, off a + S256x2048.size a ≤ S2048x2048.size a) (e : off = ![b.val * 256, 0]) (w : Vec F S256x2048 .f32) (L) :
    M.view.read (Elt F) (M.view.writes (Elt F) f (⟨Rect.unit (s := S2048x2048) off S256x2048.size inb, w⟩ :: L))
      = setRows b w (M.view.read (Elt F) (M.view.writes (Elt F) f L)) := by
  funext y
  have hy : (y 0).val < 2048 := (y 0).isLt
  have hb := b.isLt
  unfold setRows
  split
  · next h =>
    exact View.read_writes_cons_rows_of_mem M.view f inb w L y _ e (by
      show (y 0).val = b.val * 256 + (y 0).val % 256; omega) rfl
  · next h =>
    exact View.read_writes_cons_rows_of_not_mem M.view f (W := 256) inb w L y e rfl (by omega)

theorem read_fc (M : Memref sig .tc .vmem S1x512x2048 .f32) (f : M.view.ty.Contents (Elt F))
    (inb : ∀ a, (![0, 0, 0] : Fin 3 → ℕ) a + S1x512x2048.size a ≤ S1x512x2048.size a) :
    M.view.readAt (Elt F) (Rect.unit (s := S1x512x2048) ![0, 0, 0] S1x512x2048.size inb).toLoadRect f = M.view.read (Elt F) f := by
  funext p
  refine congrArg (M.view.read (Elt F) f) (funext fun a => Fin.ext ?_)
  fin_cases a
  · show 0 + 1 * (p 0).val = (p 0).val; omega
  · show 0 + 1 * (p 1).val = (p 1).val; omega
  · show 0 + 1 * (p 2).val = (p 2).val; omega

theorem read_proj (M : Memref sig .tc .vmem S1x2048x512 .f32) (f : M.view.ty.Contents (Elt F))
    (inb : ∀ a, (![0, 0, 0] : Fin 3 → ℕ) a + S1x2048x512.size a ≤ S1x2048x512.size a) :
    M.view.readAt (Elt F) (Rect.unit (s := S1x2048x512) ![0, 0, 0] S1x2048x512.size inb).toLoadRect f = M.view.read (Elt F) f := by
  funext p
  refine congrArg (M.view.read (Elt F) f) (funext fun a => Fin.ext ?_)
  fin_cases a
  · show 0 + 1 * (p 0).val = (p 0).val; omega
  · show 0 + 1 * (p 1).val = (p 1).val; omega
  · show 0 + 1 * (p 2).val = (p 2).val; omega

theorem read_flag (M : Memref sig .tc .smem S9 .i32) (f : M.view.ty.Contents (Elt F)) (g : Fin 9) (off : Fin 1 → ℕ)
    (inb : ∀ a, off a + S1.size a ≤ S9.size a) (e : off = ![g.val]) (p : S1.Idx) :
    M.view.readAt (Elt F) (Rect.unit (s := S9) off S1.size inb).toLoadRect f p = M.view.read (Elt F) f (ix1 g) := by
  subst e
  refine congrArg (M.view.read (Elt F) f) (funext fun a => Fin.ext ?_)
  fin_cases a
  have : (p 0).val < 1 := (p 0).isLt
  show g.val + 1 * (p 0).val = g.val; omega

end Cert.Proof.Setup

end
-- ==== Proof.FfnTrip.lean ====
/-
  One trip of the product's loop.
-/
module

public import proofs.«01_k».proof.Proof.FfnTile

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.TcCoe

section Trip

variable (c : Dev nD) (i : grid2.Coords)
  (arg1 : Memref sig .tc .smem S32 .i32) (harg1 : arg1.IsWhole) (arg2 : Memref sig .tc .smem S32 .i32) (harg2 : arg2.IsWhole)
  (arg3 : Memref sig .tc .smem S32 .i32) (harg3 : arg3.IsWhole) (arg4 : Memref sig .tc .smem S32 .i32) (harg4 : arg4.IsWhole)
  (arg5 : Memref sig .tc .smem S32 .i32) (harg5 : arg5.IsWhole) (arg6 : Memref sig .tc .smem S9 .i32) (harg6 : arg6.IsWhole)
  (arg7 : Memref sig .tc .vmem S2048x2048 .f32) (harg7 : arg7.IsWhole) (arg8 : Memref sig .tc .vmem S1x512x2048 .f32) (harg8 : arg8.IsWhole)
  (arg9 : Memref sig .tc .vmem S1x2048x512 .f32) (harg9 : arg9.IsWhole) (arg10 : Memref sig .tc .vmem S9x256x1 .f32) (harg10 : arg10.IsWhole)
  (arg11 : Memref sig .tc .vmem S2048x2048 .f32) (harg11 : arg11.IsWhole)
  (v1 : BitVec 32) (tb rs nt : ℕ) (hw : k2_chk1 (BitVec.ofNat 32 tb) (BitVec.ofNat 32 rs) (BitVec.ofNat 32 nt))
  (init : Fin 9 → BitVec 32)

/-- A buffer held whole at raw contents. -/
abbrev heldAt {sp : Space} {sh : Shape} {e : EltTy} (M : Memref sig .tc sp sh e) (f : M.view.ty.Contents (Elt F)) : sProp 𝕄 :=
  M.view.loc (c : Thread nD τ) ↦[M.view.set]{fullShare} f

/-- A segment's inputs: the flags and the four input windows. -/
abbrev inputs (f6 : arg6.view.ty.Contents (Elt F)) (f7 : arg7.view.ty.Contents (Elt F)) (f8 : arg8.view.ty.Contents (Elt F))
    (f9 : arg9.view.ty.Contents (Elt F)) (f10 : arg10.view.ty.Contents (Elt F)) : sProp 𝕄 :=
  iprop(heldAt c arg6 f6 ∗ heldAt c arg7 f7 ∗ heldAt c arg8 f8 ∗ heldAt c arg9 f9 ∗ heldAt c arg10 f10)

/-- The row tile and the tile of trip `k`. -/
def rowT (rs k : ℕ) : Fin 8 := ⟨min (rs + k) 7, by omega⟩
def tilT (tb k : ℕ) : Fin 9 := ⟨min (tb + k) 8, by omega⟩

abbrev trip (k : Fin (k2_t1_loop (BitVec.ofNat 32 nt)).trips) : Prog (TpuEff nD τ sig (Elt F) Λ₀ .tc) Unit :=
  k2_t1_body (F := F) i arg1 harg1 arg2 harg2 arg3 harg3 arg4 harg4 arg5 harg5 arg6 harg6 arg7 harg7 arg8 harg8 arg9 harg9 arg10 harg10
    arg11 harg11 v1 (BitVec.ofNat 32 tb) (BitVec.ofNat 32 rs) (BitVec.ofNat 32 nt) hw k ()

theorem trip_run (h : tb + nt ≤ 9) (hr : rs ≤ 7) (k : Fin (k2_t1_loop (BitVec.ofNat 32 nt)).trips)
    (f6 : arg6.view.ty.Contents (Elt F)) (h6 : ∀ g : Fin 9, arg6.view.read (Elt F) f6 (ix1 g) = init g)
    (f7 : arg7.view.ty.Contents (Elt F)) (f8 : arg8.view.ty.Contents (Elt F))
    (f9 : arg9.view.ty.Contents (Elt F)) (f10 : arg10.view.ty.Contents (Elt F)) (O : S2048x2048.Idx → Elt F .f32) :
    iprop(inputs c arg6 arg7 arg8 arg9 arg10 f6 f7 f8 f9 f10 ∗ owns (c : Thread nD τ) arg11 fullShare O)
      ⊢ wp frame (wpE (defs₀ (F := F)) 𝒱₀ (c : Thread nD τ) none) Set.univ
          (trip i arg1 harg1 arg2 harg2 arg3 harg3 arg4 harg4 arg5 harg5 arg6 harg6 arg7 harg7 arg8 harg8 arg9 harg9 arg10 harg10
            arg11 harg11 v1 tb rs nt hw k)
          (fun _ => iprop(inputs c arg6 arg7 arg8 arg9 arg10 f6 f7 f8 f9 f10 ∗ owns (c : Thread nD τ) arg11 fullShare
            (tileStep (rowT rs k.val) (tilT tb k.val) (k2_cond1 v1 (init (tilT tb k.val)) = 1#1) (arg7.view.read (Elt F) f7)
              (arg8.view.read (Elt F) f8) (arg9.view.read (Elt F) f9) (arg10.view.read (Elt F) f10) O) : sProp 𝕄)) := by
  have hn : nt ≤ 9 := by omega
  have hk : k.val < nt := Nat.lt_of_lt_of_eq k.isLt (trips_eq nt hn)
  have o2 := off2_eq tb nt h k
  have o3 := off3_eq rs nt hr hn k
  have o4 := off4_eq rs nt hr hn k
  have o5 := off5_eq tb nt h k
  have hchk : ∀ v19, k2_chk2 v1 (BitVec.ofNat 32 rs) (BitVec.ofNat 32 nt) k v19 := fun v19 => chk2_of rs nt v1 v19 hr hn k
  iintro ⟨⟨H6, H7, H8, H9, H10⟩, HO⟩
  unfold owns
  icases HO with ⟨%f, %hf, HO⟩
  dsimp only [trip]
  sl_unfold [k2_t1_body]
  sl_exec
  have eb : (![min (rs + k.val) 7 * 256, 0] : Fin 2 → ℕ) = ![(rowT rs k.val).val * 256, 0] := rfl
  have et : tilT tb k.val = ⟨tb + k.val, by omega⟩ := Fin.ext (by show min (tb + k.val) 8 = tb + k.val; omega)
  have eg : (tilT tb k.val).val = tb + k.val := by rw [et]
  have hv : trip_run.sl.r arg6 tb rs nt hw k f6 = init (tilT tb k.val) := by
    rw [← h6]; exact read_flag arg6 f6 _ _ _ (by rw [o2, eg]) _
  sl_step
  isplitl [H6 H7 H8 H9 H10]
  · isplitl [H6]; · iexact H6
    isplitl [H7]; · iexact H7
    isplitl [H8]; · iexact H8
    isplitl [H9]; · iexact H9
    iexact H10
  iexists _
  isplitr
  rotate_left
  · iexact HO
  ipureintro
  rw [read_set arg11 _ (rowT rs k.val) _ _ o4]
  unfold tileStep
  dsimp only
  have hO : arg11.view.read (Elt F) (arg11.view.writes (Elt F) (if hc : k2_cond1 v1 (trip_run.sl.r arg6 tb rs nt hw k f6) = 1#1 then
        arg11.view.writes (Elt F) f
          [⟨Rect.unit (k2_off3 (BitVec.ofNat 32 rs) (BitVec.ofNat 32 nt) k) S256x2048.size (k2_off3_inb _ _ _ _ _ (hchk _) hc), k2_pay1⟩]
      else f) []) = (if k2_cond1 v1 (init (tilT tb k.val)) = 1#1 then setRows (rowT rs k.val) (k2_pay1 (F := F)) O else O) := by
    show arg11.view.read (Elt F) (if hc : _ then _ else _) = _
    rw [hv]
    split
    · next hc => rw [read_set arg11 _ (rowT rs k.val) _ _ o3]; exact congrArg _ hf
    · next hc => exact hf
  rw [hO, ← hO, read_rows arg7 f7 (rowT rs k.val) _ _ o4, read_fc, read_tile arg10 f10 (tilT tb k.val) _ _ (by rw [o5, eg]), read_proj]
  congr 2
  exact read_rows arg11 _ (rowT rs k.val) _ _ o4

/-- A segment's first `k` tiles, one after the other. -/
def segSteps (v1 : BitVec 32) (tb rs : ℕ) (init : Fin 9 → BitVec 32) (X : S2048x2048.Idx → Elt F .f32) (Wf : S1x512x2048.Idx → Elt F .f32)
    (Wp : S1x2048x512.Idx → Elt F .f32) (W : S9x256x1.Idx → Elt F .f32) (O : S2048x2048.Idx → Elt F .f32) :
    ℕ → S2048x2048.Idx → Elt F .f32
  | 0 => O
  | k + 1 => tileStep (rowT rs k) (tilT tb k) (k2_cond1 v1 (init (tilT tb k)) = 1#1) X Wf Wp W (segSteps v1 tb rs init X Wf Wp W O k)

end Trip

end Cert.Proof.Setup

end
-- ==== Proof.FfnBody.lean ====
/-
  The product's body at one segment.
-/
module

public import proofs.«01_k».proof.Proof.FfnTrip

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.TcCoe

/-- The word of a segment's table read at its place. -/
theorem read_seg (M : Memref sig .tc .smem S32 .i32) (f : M.view.ty.Contents (Elt F)) (g : Fin 32) (off : Fin 1 → ℕ)
    (inb : ∀ a, off a + S1.size a ≤ S32.size a) (e : off = ![g.val]) (p : S1.Idx) :
    M.view.readAt (Elt F) (Rect.unit (s := S32) off S1.size inb).toLoadRect f p = M.view.read (Elt F) f (ix1 g) := by
  subst e
  refine congrArg (M.view.read (Elt F) f) (funext fun a => Fin.ext ?_)
  fin_cases a
  have : (p 0).val < 1 := (p 0).isLt
  show g.val + 1 * (p 0).val = g.val; omega

section Body

variable (c : Dev nD) (i : grid2.Coords)
  (arg1 : Memref sig .tc .smem S32 .i32) (harg1 : arg1.IsWhole) (arg2 : Memref sig .tc .smem S32 .i32) (harg2 : arg2.IsWhole)
  (arg3 : Memref sig .tc .smem S32 .i32) (harg3 : arg3.IsWhole) (arg4 : Memref sig .tc .smem S32 .i32) (harg4 : arg4.IsWhole)
  (arg5 : Memref sig .tc .smem S32 .i32) (harg5 : arg5.IsWhole) (arg6 : Memref sig .tc .smem S9 .i32) (harg6 : arg6.IsWhole)
  (arg7 : Memref sig .tc .vmem S2048x2048 .f32) (harg7 : arg7.IsWhole) (arg8 : Memref sig .tc .vmem S1x512x2048 .f32) (harg8 : arg8.IsWhole)
  (arg9 : Memref sig .tc .vmem S1x2048x512 .f32) (harg9 : arg9.IsWhole) (arg10 : Memref sig .tc .vmem S9x256x1 .f32) (harg10 : arg10.IsWhole)
  (arg11 : Memref sig .tc .vmem S2048x2048 .f32) (harg11 : arg11.IsWhole)

abbrev prog : Prog (TpuEff nD τ sig (Elt F) Λ₀ .tc) PUnit :=
  cc2__ffn_body (F := F) i arg1 harg1 arg2 harg2 arg3 harg3 arg4 harg4 arg5 harg5 arg6 harg6 arg7 harg7 arg8 harg8 arg9 harg9 arg10 harg10
    arg11 harg11

theorem body_run (s : Fin 32) (hs : k2_off1 i = ![s.val]) (v1 : BitVec 32) (tb rs nt : ℕ) (init : Fin 9 → BitVec 32)
    (h : tb + nt ≤ 9) (hr : rs ≤ 7)
    (f2 : arg2.view.ty.Contents (Elt F)) (f3 : arg3.view.ty.Contents (Elt F)) (f4 : arg4.view.ty.Contents (Elt F))
    (f5 : arg5.view.ty.Contents (Elt F)) (f6 : arg6.view.ty.Contents (Elt F))
    (h2 : arg2.view.read (Elt F) f2 (ix1 s) = v1) (h3 : arg3.view.read (Elt F) f3 (ix1 s) = BitVec.ofNat 32 nt)
    (h4 : arg4.view.read (Elt F) f4 (ix1 s) = BitVec.ofNat 32 tb) (h5 : arg5.view.read (Elt F) f5 (ix1 s) = BitVec.ofNat 32 rs)
    (h6 : ∀ g : Fin 9, arg6.view.read (Elt F) f6 (ix1 g) = init g)
    (f7 : arg7.view.ty.Contents (Elt F)) (f8 : arg8.view.ty.Contents (Elt F))
    (f9 : arg9.view.ty.Contents (Elt F)) (f10 : arg10.view.ty.Contents (Elt F)) (O : S2048x2048.Idx → Elt F .f32) :
    iprop((heldAt c arg2 f2 ∗ heldAt c arg3 f3 ∗ heldAt c arg4 f4 ∗ heldAt c arg5 f5) ∗
        inputs c arg6 arg7 arg8 arg9 arg10 f6 f7 f8 f9 f10 ∗ owns (c : Thread nD τ) arg11 fullShare O)
      ⊢ wp frame (wpE (defs₀ (F := F)) 𝒱₀ (c : Thread nD τ) none) Set.univ
          (prog i arg1 harg1 arg2 harg2 arg3 harg3 arg4 harg4 arg5 harg5 arg6 harg6 arg7 harg7 arg8 harg8 arg9 harg9 arg10 harg10
            arg11 harg11)
          (fun _ => iprop((heldAt c arg2 f2 ∗ heldAt c arg3 f3 ∗ heldAt c arg4 f4 ∗ heldAt c arg5 f5) ∗
            inputs c arg6 arg7 arg8 arg9 arg10 f6 f7 f8 f9 f10 ∗ owns (c : Thread nD τ) arg11 fullShare
            (segSteps v1 tb rs init (arg7.view.read (Elt F) f7)
              (arg8.view.read (Elt F) f8) (arg9.view.read (Elt F) f9) (arg10.view.read (Elt F) f10) O nt) : sProp 𝕄)) := by
  iintro ⟨⟨H2, H3, H4, H5⟩, ⟨H6, H7, H8, H9, H10⟩, HO⟩
  dsimp only [prog]
  rw [cc2__ffn_body_eq_skeleton]
  sl_unfold [cc2__ffn_body_skel]
  sl_exec
  have e1 : body_run.sl.r i arg2 f2 = v1 := (read_seg arg2 f2 s _ _ hs _).trans h2
  have e4 : body_run.sl.r_1 i arg4 f4 = BitVec.ofNat 32 tb := (read_seg arg4 f4 s _ _ hs _).trans h4
  have e5 : body_run.sl.r_2 i arg5 f5 = BitVec.ofNat 32 rs := (read_seg arg5 f5 s _ _ hs _).trans h5
  have e3 : body_run.sl.r_3 i arg3 f3 = BitVec.ofNat 32 nt := (read_seg arg3 f3 s _ _ hs _).trans h3
  generalize body_run.sl.r i arg2 f2 = u1 at e1 ⊢
  generalize body_run.sl.r_1 i arg4 f4 = u4 at e4 ⊢
  generalize body_run.sl.r_2 i arg5 f5 = u5 at e5 ⊢
  generalize body_run.sl.r_3 i arg3 f3 = u3 at e3 ⊢
  subst e1 e4 e5 e3
  have hchk : k2_chk1 (BitVec.ofNat 32 tb) (BitVec.ofNat 32 rs) (BitVec.ofNat 32 nt) := chk_of tb rs nt h hr
  have hn : nt ≤ 9 := by omega
  have h0 := trips2_eq nt hn
  have h1 := trips_eq nt hn
  let inv : ℕ → sProp 𝕄 := fun k => iprop(inputs c arg6 arg7 arg8 arg9 arg10 f6 f7 f8 f9 f10 ∗ owns (c : Thread nD τ) arg11 fullShare
    (segSteps u1 tb rs init (arg7.view.read (Elt F) f7) (arg8.view.read (Elt F) f8) (arg9.view.read (Elt F) f9) (arg10.view.read (Elt F) f10) O k))
  sl_exec
  ihave K1 := (Scf.wp_for_bind frame (wpE (defs₀ (F := F)) 𝒱₀ (c : Thread nD τ) none) Set.univ _ _ _
      (k2_t1_ok (BitVec.ofNat 32 tb) (BitVec.ofNat 32 rs) (BitVec.ofNat 32 nt) hchk) PUnit.unit
      (k2_t1_body (F := F) i arg1 harg1 arg2 harg2 arg3 harg3
        arg4 harg4 arg5 harg5 arg6 harg6 arg7 harg7 arg8 harg8 arg9 harg9 arg10 harg10 arg11 harg11 u1 (BitVec.ofNat 32 tb) (BitVec.ofNat 32 rs) (BitVec.ofNat 32 nt) hchk)
      (fun k _ => inv k)
      (fun k _ => trip_run c i arg1 harg1 arg2 harg2 arg3 harg3
        arg4 harg4 arg5 harg5 arg6 harg6 arg7 harg7 arg8 harg8 arg9 harg9 arg10 harg10 arg11 harg11 u1 tb rs nt hchk init h hr k f6 h6 f7 f8 f9 f10 _)) $$ [H6 H7 H8 H9 H10 HO]
  · isplitr [HO]
    · isplitl [H6]; · iexact H6
      isplitl [H7]; · iexact H7
      isplitl [H8]; · iexact H8
      isplitl [H9]; · iexact H9
      iexact H10
    · iexact HO
  iapply K1
  iintro %acc HI
  ihave K2 := (Scf.wp_for_bind frame (wpE (defs₀ (F := F)) 𝒱₀ (c : Thread nD τ) none) Set.univ _ _ _
      (k2_t2_ok (BitVec.ofNat 32 tb) (BitVec.ofNat 32 rs) (BitVec.ofNat 32 nt) hchk) PUnit.unit
      (k2_t2_body (F := F) i arg1 harg1 arg2 harg2 arg3 harg3
        arg4 harg4 arg5 harg5 arg6 harg6 arg7 harg7 arg8 harg8 arg9 harg9 arg10 harg10 arg11 harg11 u1 (BitVec.ofNat 32 tb) (BitVec.ofNat 32 rs) (BitVec.ofNat 32 nt) hchk)
      (fun _ _ => inv nt)
      (fun k _ => (Nat.not_lt_zero _ (Nat.lt_of_lt_of_eq k.isLt h0)).elim)) $$ [HI]
  · rw [show (Scf.trips _ _ _ : ℕ) = nt from h1]
    iexact HI
  iapply K2
  iintro %acc2 HI
  sl_step
  isplitl [H2 H3 H4 H5]
  · isplitl [H2]; · iexact H2
    isplitl [H3]; · iexact H3
    isplitl [H4]; · iexact H4
    iexact H5
  iexact HI

end Body

end Cert.Proof.Setup

end
-- ==== Proof.FfnData.lean ====
/-
  The product's tables and the data of its pipeline.
-/
module

public import proofs.«01_k».proof.Proof.FfnBody
public import proofs.«01_k».proof.Proof.Gen.KernelIdeal.Launch
public import Idealize.ShloMosaic.Lib.Pipeline.ArrRel
public import Idealize.ShloMosaic.Lib.Pipeline.FrameBody

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.TcCoe

/-! The tables, as functions of the number of tokens of expert 0. -/

/-- How many tiles expert 0's rows take. -/
def tiles (n : ℕ) : ℕ := n / 256 + (if n % 256 = 0 then 0 else 1)

/-- Segment `s`'s number of tiles, first tile and first row tile. -/
def segN (n s : ℕ) : ℕ := if s % 2 = 0 then tiles n else 9 - tiles n
def segT (n s : ℕ) : ℕ := if s % 2 = 0 then 0 else tiles n
def segR (n s : ℕ) : ℕ := if s % 2 = 0 then 0 else min (n / 256) 7

/-- Whether a tile's rows are started from 0. -/
def segI (n g : ℕ) : BitVec 32 := if (g = tiles n ∧ n % 256 ≠ 0) ∨ 8 + (if n % 256 = 0 then 0 else 1) ≤ g then 0#32 else 1#32

/-- The six tables. -/
def tabs (n : ℕ) : pre2.Contents (Elt F)
  | 0 => fun (y : S32.Idx) => BitVec.ofNat 32 ((y 0).val % 2)
  | 1 => fun (y : S32.Idx) => BitVec.ofNat 32 ((y 0).val / 2)
  | 2 => fun (y : S32.Idx) => BitVec.ofNat 32 (segN n (y 0).val)
  | 3 => fun (y : S32.Idx) => BitVec.ofNat 32 (segT n (y 0).val)
  | 4 => fun (y : S32.Idx) => BitVec.ofNat 32 (segR n (y 0).val)
  | 5 => fun (y : S9.Idx) => segI n (y 0).val
  | ⟨_ + 6, h⟩ => absurd h (Nat.not_lt.2 (Nat.le_add_left _ _))

theorem tiles_le (n : ℕ) (h : n ≤ 2048) : tiles n ≤ 9 := by
  unfold tiles; split <;> omega

theorem seg_le (n s : ℕ) (h : n ≤ 2048) : segT n s + segN n s ≤ 9 := by
  have := tiles_le n h
  unfold segT segN; split <;> omega

theorem segR_le (n s : ℕ) : segR n s ≤ 7 := by
  unfold segR; split <;> omega

theorem coord_val : ∀ i : grid2.Coords, (Scalar.indexCast (BitVec.ofNat 32 (i 0).val) : Index).toNat = (i 0).val := fun i => by
  have h : (i 0).val < 32 := (i 0).isLt
  simp only [Scalar.indexCast, BitVec.toNat_ofNat]
  omega

theorem index1_eq (n : ℕ) (i : grid2.Coords) :
    cc2_transform_1 k2_off1_inb numel1_S1 (tabs (F := F) n) i = ![(i 0).val % 2, (i 0).val / 2, 0] := by
  have h : (i 0).val < 32 := (i 0).isLt
  have e := coord_val i
  unfold cc2_transform_1
  dsimp only
  funext a
  match a with
  | ⟨0, _⟩ =>
    show (BitVec.ofNat 32 (((Scalar.indexCast (BitVec.ofNat 32 (i 0).val) : Index).toNat + 1 * 0) % 2)).toNat = (i 0).val % 2
    rw [e, BitVec.toNat_ofNat]; omega
  | ⟨1, _⟩ =>
    show (BitVec.ofNat 32 (((Scalar.indexCast (BitVec.ofNat 32 (i 0).val) : Index).toNat + 1 * 0) / 2)).toNat = (i 0).val / 2
    rw [e, BitVec.toNat_ofNat]; omega
  | ⟨2, _⟩ => rfl

theorem index2_eq (n : ℕ) (i : grid2.Coords) :
    cc2_transform_2 k2_off1_inb numel1_S1 (tabs (F := F) n) i = ![(i 0).val % 2, 0, (i 0).val / 2] := by
  have h : (i 0).val < 32 := (i 0).isLt
  have e := coord_val i
  unfold cc2_transform_2
  dsimp only
  funext a
  match a with
  | ⟨0, _⟩ =>
    show (BitVec.ofNat 32 (((Scalar.indexCast (BitVec.ofNat 32 (i 0).val) : Index).toNat + 1 * 0) % 2)).toNat = (i 0).val % 2
    rw [e, BitVec.toNat_ofNat]; omega
  | ⟨1, _⟩ => rfl
  | ⟨2, _⟩ =>
    show (BitVec.ofNat 32 (((Scalar.indexCast (BitVec.ofNat 32 (i 0).val) : Index).toNat + 1 * 0) / 2)).toNat = (i 0).val / 2
    rw [e, BitVec.toNat_ofNat]; omega

theorem tabs_ok (n : ℕ) : ok2 (tabs (F := F) n) := by
  refine ⟨fun i => ⟨?_, Or.inl rfl⟩, fun i => ⟨?_, Or.inl rfl⟩⟩
  · have h : (i 0).val < 32 := (i 0).isLt
    rw [index1_eq]
    intro a
    match a with
    | ⟨0, _⟩ => show ((i 0).val % 2 + 1) * 1 ≤ 2; omega
    | ⟨1, _⟩ => show ((i 0).val / 2 + 1) * 512 ≤ 8192; omega
    | ⟨2, _⟩ => show (0 + 1) * 2048 ≤ 2048; omega
  · have h : (i 0).val < 32 := (i 0).isLt
    rw [index2_eq]
    intro a
    match a with
    | ⟨0, _⟩ => show ((i 0).val % 2 + 1) * 1 ≤ 2; omega
    | ⟨1, _⟩ => show (0 + 1) * 2048 ≤ 2048; omega
    | ⟨2, _⟩ => show ((i 0).val / 2 + 1) * 512 ≤ 8192; omega

/-- The product's pipeline at its tables. -/
abbrev PN (n : ℕ) : Pipeline.Cfg sig Λ₀ := cfg2 (F := F) ⟨tabs n, tabs_ok n⟩

/-- The pipelines' tables, admissible. -/
def adm (n : ℕ) : (p : Fin 2) → (pcfgs (F := F) p).Adm
  | 0 => Pipeline.Cfg.toPCfg_adm (cfg0)
  | 1 => ⟨tabs n, tabs_ok n⟩
  | ⟨_ + 2, h⟩ => absurd h (Nat.not_lt.2 (Nat.le_add_left _ _))

/-- Segment `s`'s blocks of the two weight arrays. -/
def fcBlk (s : ℕ) (Wfc : S2x8192x2048.Idx → Elt F .f32) : S1x512x2048.Idx → Elt F .f32 :=
  fun y => Wfc (ix3 ⟨s % 2, Nat.mod_lt _ (by decide)⟩ ⟨(s / 2 % 16) * 512 + (y 1).val, by have : (y 1).val < 512 := (y 1).isLt; omega⟩ (y 2))
def prBlk (s : ℕ) (Wpr : S2x2048x8192.Idx → Elt F .f32) : S1x2048x512.Idx → Elt F .f32 :=
  fun y => Wpr (ix3 ⟨s % 2, Nat.mod_lt _ (by decide)⟩ (y 1) ⟨(s / 2 % 16) * 512 + (y 2).val, by have : (y 2).val < 512 := (y 2).isLt; omega⟩)

/-- What segment `s` makes of the rows it finds. -/
def seg (n s : ℕ) (X : S2048x2048.Idx → Elt F .f32) (Wfc : S2x8192x2048.Idx → Elt F .f32) (Wpr : S2x2048x8192.Idx → Elt F .f32)
    (W : S9x256x1.Idx → Elt F .f32) (O : S2048x2048.Idx → Elt F .f32) : S2048x2048.Idx → Elt F .f32 :=
  segSteps (BitVec.ofNat 32 (s / 2)) (segT n s) (segR n s) (fun g => segI n g.val) X (fcBlk s Wfc) (prBlk s Wpr) W O (segN n s)

section Data

variable (n : ℕ) (X : S2048x2048.Idx → Elt F .f32) (Wfc : S2x8192x2048.Idx → Elt F .f32) (Wpr : S2x2048x8192.Idx → Elt F .f32)
  (W : S9x256x1.Idx → Elt F .f32) (O₀ : S2048x2048.Idx → Elt F .f32) (owed₀ : CellTallies nD τ sig (HIx 2))
  (rec₀ : Set (SemLoc sig × HIx 2)) (c : Dev nD)

/-- The product's data: the inputs as they are, the output in the segment's relation to what it finds. -/
def rd : Pipeline.RDat τ (Elt F) (HIx 2) ℕ UU ℕ (PN (F := F) n) c where
  A := fun | 0 => X | 1 => Wfc | 2 => Wpr | 3 => W | 4 => O₀ | ⟨_ + 5, h⟩ => absurd h (Nat.not_lt.2 (Nat.le_add_left _ _))
  after := fun | 0 => (fun _ Y Z => Z = Y) | 1 => (fun _ Y Z => Z = Y) | 2 => (fun _ Y Z => Z = Y) | 3 => (fun _ Y Z => Z = Y) | 4 => (fun t Y Z => Z = seg n t.val X Wfc Wpr W Y) | ⟨_ + 5, h⟩ => absurd h (Nat.not_lt.2 (Nat.le_add_left _ _))
  Φ := fun _ => iprop(Pipeline.prefHeld pre2 c (fun _ => fullShare) (tabs n) ∗ Pipeline.scopedRest spec2 c)
  q := fun _ => fullShare
  owed := fun _ => owed₀
  recorded := fun _ => rec₀

theorem point_val : ∀ t : Fin grid2.N, ((grid2.coords t) 0).val = t.val := by decide

theorem clip_none (w : Fin 5) (i) (a) : ((PN (F := F) n).win w).clip i a = none := rfl

theorem finds_input (w : Fin 5) (hw : w ≠ 4) (t : Fin grid2.N) (Y)
    (hY : (rd n X Wfc Wpr W O₀ owed₀ rec₀ c).Finds w t Y) (j) :
    ∃ d, Y j = (rd n X Wfc Wpr W O₀ owed₀ rec₀ c).fetched w t d j := by
  obtain ⟨d, hd⟩ := (rd n X Wfc Wpr W O₀ owed₀ rec₀ c).finds_in_eq_fetched w (match w, hw with | 0, _ => rfl | 1, _ => rfl | 2, _ => rfl | 3, _ => rfl | 4, h => absurd rfl h) (fun _ _ _ => rfl)
    (by
      revert hw
      match w with
      | 0 => exact fun _ _ _ _ h => h
      | 1 => exact fun _ _ _ _ h => h
      | 2 => exact fun _ _ _ _ h => h
      | 3 => exact fun _ _ _ _ h => h
      | 4 => exact fun h => absurd rfl h) t Y hY
  exact ⟨d, congrFun hd j⟩

theorem fetched_at (w : Fin 5) (t : Fin grid2.N) (d) (j) :
    ∃ hm, (rd n X Wfc Wpr W O₀ owed₀ rec₀ c).fetched w t d j = (rd n X Wfc Wpr W O₀ owed₀ rec₀ c).blockOf w t
      (fun a => ⟨(j a).val, (((PN (F := F) n).win w).moved_iff (grid2.coords t) j).mp hm a⟩) := by
  have hm : ((PN (F := F) n).win w).moved (grid2.coords t) j = true :=
    (((PN (F := F) n).win w).moved_iff _ j).mpr fun a => by
      have := (j a).isLt; unfold Pipeline.Window.xsize; rw [clip_none]; exact this
  refine ⟨hm, ?_⟩
  unfold Pipeline.RDat.fetched Pipeline.Window.fill
  rw [dif_pos hm]

theorem finds0 (t : Fin grid2.N) (Y) (hY : (rd n X Wfc Wpr W O₀ owed₀ rec₀ c).Finds 0 t Y) : Y = X := by
  refine funext fun (j : S2048x2048.Idx) => ?_
  obtain ⟨d, hd⟩ := finds_input n X Wfc Wpr W O₀ owed₀ rec₀ c 0 (by decide) t Y hY j
  obtain ⟨hm, e⟩ := fetched_at n X Wfc Wpr W O₀ owed₀ rec₀ c 0 t d j
  rw [hd, e]
  unfold Pipeline.RDat.blockOf
  rw [View.read_apply]
  show X _ = X j
  refine congrArg X (funext fun a => Fin.ext ?_)
  match a with
  | ⟨0, _⟩ => show 0 * 2048 + 1 * (j 0).val = (j 0).val; omega
  | ⟨1, _⟩ => show 0 * 2048 + 1 * (j 1).val = (j 1).val; omega

theorem finds3 (t : Fin grid2.N) (Y) (hY : (rd n X Wfc Wpr W O₀ owed₀ rec₀ c).Finds 3 t Y) : Y = W := by
  refine funext fun (j : S9x256x1.Idx) => ?_
  obtain ⟨d, hd⟩ := finds_input n X Wfc Wpr W O₀ owed₀ rec₀ c 3 (by decide) t Y hY j
  obtain ⟨hm, e⟩ := fetched_at n X Wfc Wpr W O₀ owed₀ rec₀ c 3 t d j
  rw [hd, e]
  unfold Pipeline.RDat.blockOf
  rw [View.read_apply]
  show W _ = W j
  refine congrArg W (funext fun a => Fin.ext ?_)
  match a with
  | ⟨0, _⟩ => show 0 * 9 + 1 * (j 0).val = (j 0).val; omega
  | ⟨1, _⟩ => show 0 * 256 + 1 * (j 1).val = (j 1).val; omega
  | ⟨2, _⟩ => show 0 * 1 + 1 * (j 2).val = (j 2).val; omega

theorem finds1 (t : Fin grid2.N) (Y) (hY : (rd n X Wfc Wpr W O₀ owed₀ rec₀ c).Finds 1 t Y) : Y = fcBlk t.val Wfc := by
  refine funext fun (j : S1x512x2048.Idx) => ?_
  obtain ⟨d, hd⟩ := finds_input n X Wfc Wpr W O₀ owed₀ rec₀ c 1 (by decide) t Y hY j
  obtain ⟨hm, e⟩ := fetched_at n X Wfc Wpr W O₀ owed₀ rec₀ c 1 t d j
  have ht : t.val < 32 := t.isLt
  have hp := point_val t
  have hj : (j 0).val < 1 := (j 0).isLt
  rw [hd, e]
  unfold Pipeline.RDat.blockOf
  rw [View.read_apply]
  unfold fcBlk
  show Wfc _ = Wfc _
  refine congrArg Wfc (funext fun a => Fin.ext ?_)
  match a with
  | ⟨0, _⟩ =>
    show cc2_transform_1 k2_off1_inb numel1_S1 (tabs (F := F) n) (grid2.coords t) 0 * 1 + 1 * (j 0).val = t.val % 2
    rw [index1_eq]
    show ((grid2.coords t) 0).val % 2 * 1 + 1 * (j 0).val = t.val % 2
    rw [hp]; omega
  | ⟨1, _⟩ =>
    show cc2_transform_1 k2_off1_inb numel1_S1 (tabs (F := F) n) (grid2.coords t) 1 * 512 + 1 * (j 1).val = (t.val / 2 % 16) * 512 + (j 1).val
    rw [index1_eq]
    show ((grid2.coords t) 0).val / 2 * 512 + 1 * (j 1).val = (t.val / 2 % 16) * 512 + (j 1).val
    rw [hp]; omega
  | ⟨2, _⟩ =>
    show cc2_transform_1 k2_off1_inb numel1_S1 (tabs (F := F) n) (grid2.coords t) 2 * 2048 + 1 * (j 2).val = (j 2).val
    rw [index1_eq]
    show 0 * 2048 + 1 * (j 2).val = (j 2).val
    omega

theorem finds2 (t : Fin grid2.N) (Y) (hY : (rd n X Wfc Wpr W O₀ owed₀ rec₀ c).Finds 2 t Y) : Y = prBlk t.val Wpr := by
  refine funext fun (j : S1x2048x512.Idx) => ?_
  obtain ⟨d, hd⟩ := finds_input n X Wfc Wpr W O₀ owed₀ rec₀ c 2 (by decide) t Y hY j
  obtain ⟨hm, e⟩ := fetched_at n X Wfc Wpr W O₀ owed₀ rec₀ c 2 t d j
  have ht : t.val < 32 := t.isLt
  have hp := point_val t
  have hj : (j 0).val < 1 := (j 0).isLt
  rw [hd, e]
  unfold Pipeline.RDat.blockOf
  rw [View.read_apply]
  unfold prBlk
  show Wpr _ = Wpr _
  refine congrArg Wpr (funext fun a => Fin.ext ?_)
  match a with
  | ⟨0, _⟩ =>
    show cc2_transform_2 k2_off1_inb numel1_S1 (tabs (F := F) n) (grid2.coords t) 0 * 1 + 1 * (j 0).val = t.val % 2
    rw [index2_eq]
    show ((grid2.coords t) 0).val % 2 * 1 + 1 * (j 0).val = t.val % 2
    rw [hp]; omega
  | ⟨1, _⟩ =>
    show cc2_transform_2 k2_off1_inb numel1_S1 (tabs (F := F) n) (grid2.coords t) 1 * 2048 + 1 * (j 1).val = (j 1).val
    rw [index2_eq]
    show 0 * 2048 + 1 * (j 1).val = (j 1).val
    omega
  | ⟨2, _⟩ =>
    show cc2_transform_2 k2_off1_inb numel1_S1 (tabs (F := F) n) (grid2.coords t) 2 * 512 + 1 * (j 2).val = (t.val / 2 % 16) * 512 + (j 2).val
    rw [index2_eq]
    show ((grid2.coords t) 0).val / 2 * 512 + 1 * (j 2).val = (t.val / 2 % 16) * 512 + (j 2).val
    rw [hp]; omega

end Data

end Cert.Proof.Setup

end
-- ==== Proof.FfnOblig.lean ====
/-
  The product's body at each of its pipeline's points.
-/
module

public import proofs.«01_k».proof.Proof.FfnData

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.TcCoe

theorem tables_split {M : Type} [URA M] (Φ : Fin 6 → sProp M) :
    bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

theorem seg_off (t : Fin grid2.N) : k2_off1 (grid2.coords t) = ![t.val] := by
  unfold k2_off1
  dsimp only
  rw [coord_val, point_val]

/-- The tables as the body holds them. -/
theorem tables_held (n : ℕ) (c : Dev nD) :
    (Pipeline.prefHeld pre2 c (fun _ => fullShare) (tabs (F := F) n) : sProp 𝕄) =
      iprop(heldAt c (Memref.whole main_v66) (tabs (F := F) n 0) ∗ heldAt c (Memref.whole main_v65) (tabs (F := F) n 1) ∗
        heldAt c (Memref.whole main_v70) (tabs (F := F) n 2) ∗ heldAt c (Memref.whole main_v73) (tabs (F := F) n 3) ∗
        heldAt c (Memref.whole main_v77) (tabs (F := F) n 4) ∗ heldAt c (Memref.whole main_v40) (tabs (F := F) n 5)) := by
  unfold Pipeline.prefHeld heldAt
  refine (tables_split _).trans ?_
  simp only [Memref.whole, View.set_whole]
  rfl

section Oblig

variable (n : ℕ) (X : S2048x2048.Idx → Elt F .f32) (Wfc : S2x8192x2048.Idx → Elt F .f32) (Wpr : S2x2048x8192.Idx → Elt F .f32)
  (W : S9x256x1.Idx → Elt F .f32) (O₀ : S2048x2048.Idx → Elt F .f32) (owed₀ : CellTallies nD τ sig (HIx 2))
  (rec₀ : Set (SemLoc sig × HIx 2)) (c : Dev nD)

theorem body_obligation (hn : n ≤ 2048) :
    (rd n X Wfc Wpr W O₀ owed₀ rec₀ c).BodyObligation (defs₀ (F := F)) 𝒱₀ (none : HIx 2) Set.univ := by
  intro t Y hY
  have y0 := finds0 n X Wfc Wpr W O₀ owed₀ rec₀ c t (Y 0) (hY 0)
  have y1 := finds1 n X Wfc Wpr W O₀ owed₀ rec₀ c t (Y 1) (hY 1)
  have y2 := finds2 n X Wfc Wpr W O₀ owed₀ rec₀ c t (Y 2) (hY 2)
  have y3 := finds3 n X Wfc Wpr W O₀ owed₀ rec₀ c t (Y 3) (hY 3)
  rw [show ((rd n X Wfc Wpr W O₀ owed₀ rec₀ c).Φ t.castSucc : sProp 𝕄) = _ from congrArg (fun P : sProp 𝕄 => iprop(P ∗ Pipeline.scopedRest spec2 c)) (tables_held n c),
    show ((rd n X Wfc Wpr W O₀ owed₀ rec₀ c).Φ t.succ : sProp 𝕄) = _ from congrArg (fun P : sProp 𝕄 => iprop(P ∗ Pipeline.scopedRest spec2 c)) (tables_held n c)]
  refine (show _ ⊢ _ from sep_mono .rfl (sep_mono .rfl (Entails.of_eq (bigSep_W2 _)))).trans ?_
  refine (show _ ⊢ iprop(wp frame (wpE (defs₀ (F := F)) 𝒱₀ (c : Thread nD τ) none) Set.univ _ _) from ?_)
  unfold owns
  iintro ⟨⟨⟨T0, T1, T2, T3, T4, T5⟩, HR⟩, HW, ⟨%f7, %e7, A0⟩, ⟨%f8, %e8, A1⟩, ⟨%f9, %e9, A2⟩, ⟨%f10, %e10, A3⟩, A4⟩
  iapply (wp_wand_r frame _ Set.univ)
  isplitl [T1 T2 T3 T4 T5 A0 A1 A2 A3 A4]
  · iapply (body_run c (grid2.coords t) (Memref.whole main_v66) (Memref.isWhole_whole _) (Memref.whole main_v65) (Memref.isWhole_whole _)
      (Memref.whole main_v70) (Memref.isWhole_whole _) (Memref.whole main_v73) (Memref.isWhole_whole _) (Memref.whole main_v77) (Memref.isWhole_whole _)
      (Memref.whole main_v40) (Memref.isWhole_whole _) (spec2_0.stage ((PN (F := F) n).slots t 0)) (hstage2_0 _)
      (spec2_1.stage ((PN (F := F) n).slots t 1)) (hstage2_1 _)
      (spec2_2.stage ((PN (F := F) n).slots t 2)) (hstage2_2 _)
      (spec2_3.stage ((PN (F := F) n).slots t 3)) (hstage2_3 _)
      (spec2_4.stage ((PN (F := F) n).slots t 4)) (hstage2_4 _)
      t (seg_off t) (BitVec.ofNat 32 (t.val / 2)) (segT n t.val) (segR n t.val) (segN n t.val) (fun g => segI n g.val)
      (seg_le n t.val hn) (segR_le n t.val) (tabs (F := F) n 1) (tabs (F := F) n 2) (tabs (F := F) n 3) (tabs (F := F) n 4) (tabs (F := F) n 5)
      rfl rfl rfl rfl (fun _ => rfl) f7 f8 f9 f10 (Y 4))
    isplitl [T1 T2 T3 T4]
    · isplitl [T1]; · iexact T1
      isplitl [T2]; · iexact T2
      isplitl [T3]; · iexact T3
      iexact T4
    isplitl [T5 A0 A1 A2 A3]
    · isplitl [T5]; · iexact T5
      isplitl [A0]; · iexact A0
      isplitl [A1]; · iexact A1
      isplitl [A2]; · iexact A2
      iexact A3
    unfold owns
    iexact A4
  iintro %u ⟨⟨T1, T2, T3, T4⟩, ⟨T5, A0, A1, A2, A3⟩, A4⟩
  dsimp only [owns]
  isplitl [T0 T1 T2 T3 T4 T5 HR]
  · isplitr [HR]
    rotate_left
    · iexact HR
    isplitl [T0]; · iexact T0
    isplitl [T1]; · iexact T1
    isplitl [T2]; · iexact T2
    isplitl [T3]; · iexact T3
    isplitl [T4]; · iexact T4
    iexact T5
  isplitl [HW]; · iexact HW
  iapply (Entails.of_eq (bigSep_W2 _).symm)
  isplitl [A0]
  · iexists _; isplitr; · ipureintro; rfl
    iexists f7; isplitr; · ipureintro; exact e7
    iexact A0
  isplitl [A1]
  · iexists _; isplitr; · ipureintro; rfl
    iexists f8; isplitr; · ipureintro; exact e8
    iexact A1
  isplitl [A2]
  · iexists _; isplitr; · ipureintro; rfl
    iexists f9; isplitr; · ipureintro; exact e9
    iexact A2
  isplitl [A3]
  · iexists _; isplitr; · ipureintro; rfl
    iexists f10; isplitr; · ipureintro; exact e10
    iexact A3
  iexists _
  isplitr
  rotate_left
  · iexact A4
  ipureintro
  show _ = seg n t.val X Wfc Wpr W (Y 4)
  unfold seg
  rw [← y0, ← y1, ← y2, ← y3, ← e7, ← e8, ← e9, ← e10]

end Oblig

end Cert.Proof.Setup

end
-- ==== Proof.HostOps.lean ====
/-
  The host's program as lines of operations.
-/
module

public import proofs.«01_k».proof.Proof.FfnOblig
public import Idealize.ShloMosaic.Lib.StableHlo.Run

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.StableHlo
open Idealize.ShloMosaic.TcCoe

abbrev opsA : List (HloOp τ sig (Elt F)) :=
  [ reshape main_v0_0 main_v1 (rfl : (.i32 : EltTy) = .i32) shapeCasts_S2048x1_S2048,
    reshape main_v0_1 main_v2 (rfl : (.f32 : EltTy) = .f32) shapeCasts_S2048x1_S2048,
    reshape main_arg0 main_v3 (rfl : (.f32 : EltTy) = .f32) shapeCasts_S2048x2048_S2048x8x2x128,
    unary main_v3 main_v4 ((transpose S8x2048x2x128 [1, 0, 2, 3] · transposes_S2048x8x2x128_S8x2048x2x128_1_0_2_3) : (⟨S2048x8x2x128, .f32⟩ : BufTy).Contents (Elt F) → (⟨S8x2048x2x128, .f32⟩ : BufTy).Contents (Elt F)) ]

abbrev opsAW : List (Ref sig .tc) := [main_v1, main_v2, main_v3, main_v4]

set_option maxRecDepth 8192 in
theorem opsA_sub : (opsA : List (HloOp τ sig (Elt F))).Forall fun op => op.bufs ⊆ tcRefs τ sig :=
  ⟨reshape_bufs_sub .., reshape_bufs_sub .., reshape_bufs_sub .., unary_bufs_sub ..⟩

set_option maxRecDepth 8192 in
theorem opsA_writes : (opsA : List (HloOp τ sig (Elt F))).map HloOp.writes = opsAW.map fun r => {Proc.devRef (τ := τ) .tc r} := rfl

set_option maxRecDepth 8192 in
theorem opsA_fresh : (opsA : List (HloOp τ sig (Elt F))).map HloOp.fresh = (opsA : List (HloOp τ sig (Elt F))).map fun _ => (∅ : Finset (DevRef τ sig)) := rfl

abbrev opsB0 : List (HloOp τ sig (Elt F)) :=
  [ unary main_v5_0 main_v6 ((transpose S2048x8x2x128 [1, 0, 2, 3] · transposes_S8x2048x2x128_S2048x8x2x128_1_0_2_3) : (⟨S8x2048x2x128, .f32⟩ : BufTy).Contents (Elt F) → (⟨S2048x8x2x128, .f32⟩ : BufTy).Contents (Elt F)),
    reshape main_v6 main_v7 (rfl : (.f32 : EltTy) = .f32) shapeCasts_S2048x8x2x128_S2048x2048 ]

abbrev opsB0W : List (Ref sig .tc) := [main_v6, main_v7]

set_option maxRecDepth 8192 in
theorem opsB0_sub : (opsB0 : List (HloOp τ sig (Elt F))).Forall fun op => op.bufs ⊆ tcRefs τ sig :=
  ⟨unary_bufs_sub .., reshape_bufs_sub ..⟩

set_option maxRecDepth 8192 in
theorem opsB0_writes : (opsB0 : List (HloOp τ sig (Elt F))).map HloOp.writes = opsB0W.map fun r => {Proc.devRef (τ := τ) .tc r} := rfl

set_option maxRecDepth 8192 in
theorem opsB0_fresh : (opsB0 : List (HloOp τ sig (Elt F))).map HloOp.fresh = (opsB0 : List (HloOp τ sig (Elt F))).map fun _ => (∅ : Finset (DevRef τ sig)) := rfl

abbrev opsB1 : List (HloOp τ sig (Elt F)) :=
  [ unary main_v5_3 main_v8 ((extractStridedSlice S1 ![0] · slices_S16_S1_0) : (⟨S16, .i32⟩ : BufTy).Contents (Elt F) → (⟨S1, .i32⟩ : BufTy).Contents (Elt F)),
    reshape main_v8 main_v9 (rfl : (.i32 : EltTy) = .i32) shapeCasts_S1_S_ ]

abbrev opsB1W : List (Ref sig .tc) := [main_v8, main_v9]

set_option maxRecDepth 8192 in
theorem opsB1_sub : (opsB1 : List (HloOp τ sig (Elt F))).Forall fun op => op.bufs ⊆ tcRefs τ sig :=
  ⟨unary_bufs_sub .., reshape_bufs_sub ..⟩

set_option maxRecDepth 8192 in
theorem opsB1_writes : (opsB1 : List (HloOp τ sig (Elt F))).map HloOp.writes = opsB1W.map fun r => {Proc.devRef (τ := τ) .tc r} := rfl

set_option maxRecDepth 8192 in
theorem opsB1_fresh : (opsB1 : List (HloOp τ sig (Elt F))).map HloOp.fresh = (opsB1 : List (HloOp τ sig (Elt F))).map fun _ => (∅ : Finset (DevRef τ sig)) := rfl

abbrev opsB2 : List (HloOp τ sig (Elt F)) :=
  [ nullary main_c (constantI S_ 32 256#32),
    TRef.unary (TRef.of (T := ⟨S_, .i32⟩) main_c) (TRef.of (T := ⟨S_, .i32⟩) main_call0_v0) id,
    TRef.binary (TRef.of (T := ⟨S_, .i32⟩) main_v9) (TRef.of (T := ⟨S_, .i32⟩) main_call0_v0) (TRef.of (T := ⟨S_, .i32⟩) main_call0_v1) Host.divsi,
    TRef.unary (TRef.of (T := ⟨S_, .i32⟩) main_v9) (TRef.of (T := ⟨S_, .i32⟩) main_call0_v2) signi,
    TRef.unary (TRef.of (T := ⟨S_, .i32⟩) main_call0_v0) (TRef.of (T := ⟨S_, .i32⟩) main_call0_v3) signi,
    TRef.binary (TRef.of (T := ⟨S_, .i32⟩) main_call0_v2) (TRef.of (T := ⟨S_, .i32⟩) main_call0_v3) (TRef.of (T := ⟨S_, .i1⟩) main_call0_v4) (cmpi .ne),
    TRef.binary (TRef.of (T := ⟨S_, .i32⟩) main_v9) (TRef.of (T := ⟨S_, .i32⟩) main_call0_v0) (TRef.of (T := ⟨S_, .i32⟩) main_call0_v5) Host.remsi,
    TRef.nullary (TRef.of (T := ⟨S_, .i32⟩) main_call0_c) (constantI S_ 32 0#32),
    TRef.binary (TRef.of (T := ⟨S_, .i32⟩) main_call0_v5) (TRef.of (T := ⟨S_, .i32⟩) main_call0_c) (TRef.of (T := ⟨S_, .i1⟩) main_call0_v6) (cmpi .ne),
    TRef.binary (TRef.of (T := ⟨S_, .i1⟩) main_call0_v4) (TRef.of (T := ⟨S_, .i1⟩) main_call0_v6) (TRef.of (T := ⟨S_, .i1⟩) main_call0_v7) andi,
    TRef.nullary (TRef.of (T := ⟨S_, .i32⟩) main_call0_c_0) (constantI S_ 32 1#32),
    TRef.binary (TRef.of (T := ⟨S_, .i32⟩) main_call0_v1) (TRef.of (T := ⟨S_, .i32⟩) main_call0_c_0) (TRef.of (T := ⟨S_, .i32⟩) main_call0_v8) subi,
    TRef.ternary (TRef.of (T := ⟨S_, .i1⟩) main_call0_v7) (TRef.of (T := ⟨S_, .i32⟩) main_call0_v8) (TRef.of (T := ⟨S_, .i32⟩) main_call0_v1) (TRef.of (T := ⟨S_, .i32⟩) main_v10) select ]

abbrev opsB2W : List (Ref sig .tc) := [main_c, main_call0_v0, main_call0_v1, main_call0_v2, main_call0_v3, main_call0_v4, main_call0_v5, main_call0_c, main_call0_v6, main_call0_v7, main_call0_c_0, main_call0_v8, main_v10]

set_option maxRecDepth 8192 in
theorem opsB2_sub : (opsB2 : List (HloOp τ sig (Elt F))).Forall fun op => op.bufs ⊆ tcRefs τ sig :=
  ⟨nullary_bufs_sub .., unary_bufs_sub .., binary_bufs_sub .., unary_bufs_sub .., unary_bufs_sub .., binary_bufs_sub .., binary_bufs_sub .., nullary_bufs_sub .., binary_bufs_sub .., binary_bufs_sub .., nullary_bufs_sub .., binary_bufs_sub .., ternary_bufs_sub ..⟩

set_option maxRecDepth 8192 in
theorem opsB2_writes : (opsB2 : List (HloOp τ sig (Elt F))).map HloOp.writes = opsB2W.map fun r => {Proc.devRef (τ := τ) .tc r} := rfl

set_option maxRecDepth 8192 in
theorem opsB2_fresh : (opsB2 : List (HloOp τ sig (Elt F))).map HloOp.fresh = (opsB2 : List (HloOp τ sig (Elt F))).map fun _ => (∅ : Finset (DevRef τ sig)) := rfl

abbrev opsB3 : List (HloOp τ sig (Elt F)) :=
  [ nullary main_c_0 (constantI S_ 32 256#32),
    TRef.unary (TRef.of (T := ⟨S_, .i32⟩) main_c_0) (TRef.of (T := ⟨S_, .i32⟩) main_call1_v0) id,
    TRef.nullary (TRef.of (T := ⟨S_, .i32⟩) main_call1_c) (constantI S_ 32 0#32),
    TRef.binary (TRef.of (T := ⟨S_, .i32⟩) main_call1_v0) (TRef.of (T := ⟨S_, .i32⟩) main_call1_c) (TRef.of (T := ⟨S_, .i1⟩) main_call1_v1) (cmpi .eq),
    TRef.nullary (TRef.of (T := ⟨S_, .i32⟩) main_call1_c_0) (constantI S_ 32 1#32),
    TRef.ternary (TRef.of (T := ⟨S_, .i1⟩) main_call1_v1) (TRef.of (T := ⟨S_, .i32⟩) main_call1_c_0) (TRef.of (T := ⟨S_, .i32⟩) main_call1_v0) (TRef.of (T := ⟨S_, .i32⟩) main_call1_v2) select,
    TRef.binary (TRef.of (T := ⟨S_, .i32⟩) main_v9) (TRef.of (T := ⟨S_, .i32⟩) main_call1_v2) (TRef.of (T := ⟨S_, .i32⟩) main_call1_v3) Host.remsi,
    TRef.nullary (TRef.of (T := ⟨S_, .i32⟩) main_call1_c_1) (constantI S_ 32 0#32),
    TRef.binary (TRef.of (T := ⟨S_, .i32⟩) main_call1_v3) (TRef.of (T := ⟨S_, .i32⟩) main_call1_c_1) (TRef.of (T := ⟨S_, .i1⟩) main_call1_v4) (cmpi .ne),
    TRef.nullary (TRef.of (T := ⟨S_, .i32⟩) main_call1_c_2) (constantI S_ 32 0#32),
    TRef.binary (TRef.of (T := ⟨S_, .i32⟩) main_call1_v3) (TRef.of (T := ⟨S_, .i32⟩) main_call1_c_2) (TRef.of (T := ⟨S_, .i1⟩) main_call1_v5) (cmpi .slt),
    TRef.nullary (TRef.of (T := ⟨S_, .i32⟩) main_call1_c_3) (constantI S_ 32 0#32),
    TRef.binary (TRef.of (T := ⟨S_, .i32⟩) main_call1_v2) (TRef.of (T := ⟨S_, .i32⟩) main_call1_c_3) (TRef.of (T := ⟨S_, .i1⟩) main_call1_v6) (cmpi .slt),
    TRef.binary (TRef.of (T := ⟨S_, .i1⟩) main_call1_v5) (TRef.of (T := ⟨S_, .i1⟩) main_call1_v6) (TRef.of (T := ⟨S_, .i1⟩) main_call1_v7) (cmpi .ne),
    TRef.binary (TRef.of (T := ⟨S_, .i1⟩) main_call1_v7) (TRef.of (T := ⟨S_, .i1⟩) main_call1_v4) (TRef.of (T := ⟨S_, .i1⟩) main_call1_v8) andi,
    TRef.binary (TRef.of (T := ⟨S_, .i32⟩) main_call1_v3) (TRef.of (T := ⟨S_, .i32⟩) main_call1_v2) (TRef.of (T := ⟨S_, .i32⟩) main_call1_v9) addi,
    TRef.ternary (TRef.of (T := ⟨S_, .i1⟩) main_call1_v8) (TRef.of (T := ⟨S_, .i32⟩) main_call1_v9) (TRef.of (T := ⟨S_, .i32⟩) main_call1_v3) (TRef.of (T := ⟨S_, .i32⟩) main_v11) select ]

abbrev opsB3W : List (Ref sig .tc) := [main_c_0, main_call1_v0, main_call1_c, main_call1_v1, main_call1_c_0, main_call1_v2, main_call1_v3, main_call1_c_1, main_call1_v4, main_call1_c_2, main_call1_v5, main_call1_c_3, main_call1_v6, main_call1_v7, main_call1_v8, main_call1_v9, main_v11]

set_option maxRecDepth 8192 in
theorem opsB3_sub : (opsB3 : List (HloOp τ sig (Elt F))).Forall fun op => op.bufs ⊆ tcRefs τ sig :=
  ⟨nullary_bufs_sub .., unary_bufs_sub .., nullary_bufs_sub .., binary_bufs_sub .., nullary_bufs_sub .., ternary_bufs_sub .., binary_bufs_sub .., nullary_bufs_sub .., binary_bufs_sub .., nullary_bufs_sub .., binary_bufs_sub .., nullary_bufs_sub .., binary_bufs_sub .., binary_bufs_sub .., binary_bufs_sub .., binary_bufs_sub .., ternary_bufs_sub ..⟩

set_option maxRecDepth 8192 in
theorem opsB3_writes : (opsB3 : List (HloOp τ sig (Elt F))).map HloOp.writes = opsB3W.map fun r => {Proc.devRef (τ := τ) .tc r} := rfl

set_option maxRecDepth 8192 in
theorem opsB3_fresh : (opsB3 : List (HloOp τ sig (Elt F))).map HloOp.fresh = (opsB3 : List (HloOp τ sig (Elt F))).map fun _ => (∅ : Finset (DevRef τ sig)) := rfl

abbrev opsB4 : List (HloOp τ sig (Elt F)) :=
  [ nullary main_c_1 (constantI S_ 32 0#32),
    binary main_v11 main_c_1 main_v12 (cmpi .sgt : (⟨S_, .i32⟩ : BufTy).Contents (Elt F) → (⟨S_, .i32⟩ : BufTy).Contents (Elt F) → (⟨S_, .i1⟩ : BufTy).Contents (Elt F)),
    unary main_v12 main_v13 ((extui 32 · natLt_1_32) : (⟨S_, .i1⟩ : BufTy).Contents (Elt F) → (⟨S_, .i32⟩ : BufTy).Contents (Elt F)),
    binary main_v10 main_v13 main_v14 (addi : (⟨S_, .i32⟩ : BufTy).Contents (Elt F) → (⟨S_, .i32⟩ : BufTy).Contents (Elt F) → (⟨S_, .i32⟩ : BufTy).Contents (Elt F)) ]

abbrev opsB4W : List (Ref sig .tc) := [main_c_1, main_v12, main_v13, main_v14]

set_option maxRecDepth 8192 in
theorem opsB4_sub : (opsB4 : List (HloOp τ sig (Elt F))).Forall fun op => op.bufs ⊆ tcRefs τ sig :=
  ⟨nullary_bufs_sub .., binary_bufs_sub .., unary_bufs_sub .., binary_bufs_sub ..⟩

set_option maxRecDepth 8192 in
theorem opsB4_writes : (opsB4 : List (HloOp τ sig (Elt F))).map HloOp.writes = opsB4W.map fun r => {Proc.devRef (τ := τ) .tc r} := rfl

set_option maxRecDepth 8192 in
theorem opsB4_fresh : (opsB4 : List (HloOp τ sig (Elt F))).map HloOp.fresh = (opsB4 : List (HloOp τ sig (Elt F))).map fun _ => (∅ : Finset (DevRef τ sig)) := rfl

abbrev opsB5 : List (HloOp τ sig (Elt F)) :=
  [ nullary main_v15 (iotaInDim S9 32 0),
    unary main_v14 main_v16 (broadcastInDim S9 ![] bcast_S_S9 : (⟨S_, .i32⟩ : BufTy).Contents (Elt F) → (⟨S9, .i32⟩ : BufTy).Contents (Elt F)),
    binary main_v15 main_v16 main_v17 (cmpi .slt : (⟨S9, .i32⟩ : BufTy).Contents (Elt F) → (⟨S9, .i32⟩ : BufTy).Contents (Elt F) → (⟨S9, .i1⟩ : BufTy).Contents (Elt F)),
    unary main_v14 main_v18 (broadcastInDim S9 ![] bcast_S_S9 : (⟨S_, .i32⟩ : BufTy).Contents (Elt F) → (⟨S9, .i32⟩ : BufTy).Contents (Elt F)),
    binary main_v15 main_v18 main_v19 (subi : (⟨S9, .i32⟩ : BufTy).Contents (Elt F) → (⟨S9, .i32⟩ : BufTy).Contents (Elt F) → (⟨S9, .i32⟩ : BufTy).Contents (Elt F)),
    unary main_v10 main_v20 (broadcastInDim S9 ![] bcast_S_S9 : (⟨S_, .i32⟩ : BufTy).Contents (Elt F) → (⟨S9, .i32⟩ : BufTy).Contents (Elt F)),
    binary main_v20 main_v19 main_v21 (addi : (⟨S9, .i32⟩ : BufTy).Contents (Elt F) → (⟨S9, .i32⟩ : BufTy).Contents (Elt F) → (⟨S9, .i32⟩ : BufTy).Contents (Elt F)),
    nullary main_c_2 (constantI S_ 32 7#32),
    unary main_c_2 main_v22 (broadcastInDim S9 ![] bcast_S_S9 : (⟨S_, .i32⟩ : BufTy).Contents (Elt F) → (⟨S9, .i32⟩ : BufTy).Contents (Elt F)),
    binary main_v21 main_v22 main_v23 (minsi : (⟨S9, .i32⟩ : BufTy).Contents (Elt F) → (⟨S9, .i32⟩ : BufTy).Contents (Elt F) → (⟨S9, .i32⟩ : BufTy).Contents (Elt F)),
    TRef.ternary (TRef.of (T := ⟨S9, .i1⟩) main_v17) (TRef.of (T := ⟨S9, .i32⟩) main_v15) (TRef.of (T := ⟨S9, .i32⟩) main_v23) (TRef.of (T := ⟨S9, .i32⟩) main_v24) select,
    nullary main_c_3 (constantI S_ 32 0#32),
    nullary main_c_4 (constantI S_ 32 1#32),
    TRef.unary (TRef.of (T := ⟨S_, .i32⟩) main_c_3) (TRef.of (T := ⟨S9, .i32⟩) main_call3_v0) (broadcastInDim S9 ![] bcast_S_S9),
    TRef.unary (TRef.of (T := ⟨S_, .i32⟩) main_c_4) (TRef.of (T := ⟨S9, .i32⟩) main_call3_v1) (broadcastInDim S9 ![] bcast_S_S9),
    TRef.ternary (TRef.of (T := ⟨S9, .i1⟩) main_v17) (TRef.of (T := ⟨S9, .i32⟩) main_call3_v0) (TRef.of (T := ⟨S9, .i32⟩) main_call3_v1) (TRef.of (T := ⟨S9, .i32⟩) main_v25) select ]

abbrev opsB5W : List (Ref sig .tc) := [main_v15, main_v16, main_v17, main_v18, main_v19, main_v20, main_v21, main_c_2, main_v22, main_v23, main_v24, main_c_3, main_c_4, main_call3_v0, main_call3_v1, main_v25]

set_option maxRecDepth 8192 in
theorem opsB5_sub : (opsB5 : List (HloOp τ sig (Elt F))).Forall fun op => op.bufs ⊆ tcRefs τ sig :=
  ⟨nullary_bufs_sub .., unary_bufs_sub .., binary_bufs_sub .., unary_bufs_sub .., binary_bufs_sub .., unary_bufs_sub .., binary_bufs_sub .., nullary_bufs_sub .., unary_bufs_sub .., binary_bufs_sub .., ternary_bufs_sub .., nullary_bufs_sub .., nullary_bufs_sub .., unary_bufs_sub .., unary_bufs_sub .., ternary_bufs_sub ..⟩

set_option maxRecDepth 8192 in
theorem opsB5_writes : (opsB5 : List (HloOp τ sig (Elt F))).map HloOp.writes = opsB5W.map fun r => {Proc.devRef (τ := τ) .tc r} := rfl

set_option maxRecDepth 8192 in
theorem opsB5_fresh : (opsB5 : List (HloOp τ sig (Elt F))).map HloOp.fresh = (opsB5 : List (HloOp τ sig (Elt F))).map fun _ => (∅ : Finset (DevRef τ sig)) := rfl

abbrev opsB6 : List (HloOp τ sig (Elt F)) :=
  [ unary main_v25 main_v26 (id : (⟨S9, .i32⟩ : BufTy).Contents (Elt F) → (⟨S9, .i32⟩ : BufTy).Contents (Elt F)),
    nullary main_c_5 (constantI S_ 32 0#32),
    binary main_v11 main_c_5 main_v27 (cmpi .sgt : (⟨S_, .i32⟩ : BufTy).Contents (Elt F) → (⟨S_, .i32⟩ : BufTy).Contents (Elt F) → (⟨S_, .i1⟩ : BufTy).Contents (Elt F)),
    unary main_v27 main_v28 ((extui 32 · natLt_1_32) : (⟨S_, .i1⟩ : BufTy).Contents (Elt F) → (⟨S_, .i32⟩ : BufTy).Contents (Elt F)),
    nullary main_c_6 (constantI S_ 32 8#32),
    binary main_c_6 main_v28 main_v29 (addi : (⟨S_, .i32⟩ : BufTy).Contents (Elt F) → (⟨S_, .i32⟩ : BufTy).Contents (Elt F) → (⟨S_, .i32⟩ : BufTy).Contents (Elt F)),
    unary main_v29 main_v30 (broadcastInDim S9 ![] bcast_S_S9 : (⟨S_, .i32⟩ : BufTy).Contents (Elt F) → (⟨S9, .i32⟩ : BufTy).Contents (Elt F)),
    binary main_v15 main_v30 main_v31 (cmpi .slt : (⟨S9, .i32⟩ : BufTy).Contents (Elt F) → (⟨S9, .i32⟩ : BufTy).Contents (Elt F) → (⟨S9, .i1⟩ : BufTy).Contents (Elt F)),
    unary main_v14 main_v32 (broadcastInDim S9 ![] bcast_S_S9 : (⟨S_, .i32⟩ : BufTy).Contents (Elt F) → (⟨S9, .i32⟩ : BufTy).Contents (Elt F)),
    binary main_v15 main_v32 main_v33 (cmpi .eq : (⟨S9, .i32⟩ : BufTy).Contents (Elt F) → (⟨S9, .i32⟩ : BufTy).Contents (Elt F) → (⟨S9, .i1⟩ : BufTy).Contents (Elt F)),
    nullary main_c_7 (constantI S_ 32 0#32),
    binary main_v11 main_c_7 main_v34 (cmpi .sgt : (⟨S_, .i32⟩ : BufTy).Contents (Elt F) → (⟨S_, .i32⟩ : BufTy).Contents (Elt F) → (⟨S_, .i1⟩ : BufTy).Contents (Elt F)),
    unary main_v34 main_v35 (broadcastInDim S9 ![] bcast_S_S9 : (⟨S_, .i1⟩ : BufTy).Contents (Elt F) → (⟨S9, .i1⟩ : BufTy).Contents (Elt F)),
    binary main_v33 main_v35 main_v36 (andi : (⟨S9, .i1⟩ : BufTy).Contents (Elt F) → (⟨S9, .i1⟩ : BufTy).Contents (Elt F) → (⟨S9, .i1⟩ : BufTy).Contents (Elt F)),
    unary main_v31 main_v37 (noti : (⟨S9, .i1⟩ : BufTy).Contents (Elt F) → (⟨S9, .i1⟩ : BufTy).Contents (Elt F)),
    binary main_v36 main_v37 main_v38 (ori : (⟨S9, .i1⟩ : BufTy).Contents (Elt F) → (⟨S9, .i1⟩ : BufTy).Contents (Elt F) → (⟨S9, .i1⟩ : BufTy).Contents (Elt F)),
    nullary main_c_8 (constantI S_ 32 0#32),
    nullary main_c_9 (constantI S_ 32 1#32),
    TRef.unary (TRef.of (T := ⟨S_, .i32⟩) main_c_8) (TRef.of (T := ⟨S9, .i32⟩) main_call4_v0) (broadcastInDim S9 ![] bcast_S_S9),
    TRef.unary (TRef.of (T := ⟨S_, .i32⟩) main_c_9) (TRef.of (T := ⟨S9, .i32⟩) main_call4_v1) (broadcastInDim S9 ![] bcast_S_S9),
    TRef.ternary (TRef.of (T := ⟨S9, .i1⟩) main_v38) (TRef.of (T := ⟨S9, .i32⟩) main_call4_v0) (TRef.of (T := ⟨S9, .i32⟩) main_call4_v1) (TRef.of (T := ⟨S9, .i32⟩) main_v39) select,
    unary main_v39 main_v40 (id : (⟨S9, .i32⟩ : BufTy).Contents (Elt F) → (⟨S9, .i32⟩ : BufTy).Contents (Elt F)) ]

abbrev opsB6W : List (Ref sig .tc) := [main_v26, main_c_5, main_v27, main_v28, main_c_6, main_v29, main_v30, main_v31, main_v32, main_v33, main_c_7, main_v34, main_v35, main_v36, main_v37, main_v38, main_c_8, main_c_9, main_call4_v0, main_call4_v1, main_v39, main_v40]

set_option maxRecDepth 8192 in
theorem opsB6_sub : (opsB6 : List (HloOp τ sig (Elt F))).Forall fun op => op.bufs ⊆ tcRefs τ sig :=
  ⟨unary_bufs_sub .., nullary_bufs_sub .., binary_bufs_sub .., unary_bufs_sub .., nullary_bufs_sub .., binary_bufs_sub .., unary_bufs_sub .., binary_bufs_sub .., unary_bufs_sub .., binary_bufs_sub .., nullary_bufs_sub .., binary_bufs_sub .., unary_bufs_sub .., binary_bufs_sub .., unary_bufs_sub .., binary_bufs_sub .., nullary_bufs_sub .., nullary_bufs_sub .., unary_bufs_sub .., unary_bufs_sub .., ternary_bufs_sub .., unary_bufs_sub ..⟩

set_option maxRecDepth 8192 in
theorem opsB6_writes : (opsB6 : List (HloOp τ sig (Elt F))).map HloOp.writes = opsB6W.map fun r => {Proc.devRef (τ := τ) .tc r} := rfl

set_option maxRecDepth 8192 in
theorem opsB6_fresh : (opsB6 : List (HloOp τ sig (Elt F))).map HloOp.fresh = (opsB6 : List (HloOp τ sig (Elt F))).map fun _ => (∅ : Finset (DevRef τ sig)) := rfl

abbrev opsB7 : List (HloOp τ sig (Elt F)) :=
  [ unary main_v24 main_v41 (broadcastInDim S9x1 ![0] bcast_S9_S9x1_0 : (⟨S9, .i32⟩ : BufTy).Contents (Elt F) → (⟨S9x1, .i32⟩ : BufTy).Contents (Elt F)),
    nullary main_c_10 (constantI S_ 32 256#32),
    unary main_c_10 main_v42 (broadcastInDim S9x1 ![] bcast_S_S9x1 : (⟨S_, .i32⟩ : BufTy).Contents (Elt F) → (⟨S9x1, .i32⟩ : BufTy).Contents (Elt F)),
    binary main_v41 main_v42 main_v43 (muli : (⟨S9x1, .i32⟩ : BufTy).Contents (Elt F) → (⟨S9x1, .i32⟩ : BufTy).Contents (Elt F) → (⟨S9x1, .i32⟩ : BufTy).Contents (Elt F)),
    nullary main_v44 (iotaInDim S256 32 0),
    unary main_v44 main_v45 (broadcastInDim S1x256 ![1] bcast_S256_S1x256_1 : (⟨S256, .i32⟩ : BufTy).Contents (Elt F) → (⟨S1x256, .i32⟩ : BufTy).Contents (Elt F)),
    unary main_v43 main_v46 (broadcastInDim S9x256 ![0, 1] bcast_S9x1_S9x256_0_1 : (⟨S9x1, .i32⟩ : BufTy).Contents (Elt F) → (⟨S9x256, .i32⟩ : BufTy).Contents (Elt F)),
    unary main_v45 main_v47 (broadcastInDim S9x256 ![0, 1] bcast_S1x256_S9x256_0_1 : (⟨S1x256, .i32⟩ : BufTy).Contents (Elt F) → (⟨S9x256, .i32⟩ : BufTy).Contents (Elt F)),
    binary main_v46 main_v47 main_v48 (addi : (⟨S9x256, .i32⟩ : BufTy).Contents (Elt F) → (⟨S9x256, .i32⟩ : BufTy).Contents (Elt F) → (⟨S9x256, .i32⟩ : BufTy).Contents (Elt F)),
    reshape main_v48 main_v49 (rfl : (.i32 : EltTy) = .i32) shapeCasts_S9x256_S2304 ]

abbrev opsB7W : List (Ref sig .tc) := [main_v41, main_c_10, main_v42, main_v43, main_v44, main_v45, main_v46, main_v47, main_v48, main_v49]

set_option maxRecDepth 8192 in
theorem opsB7_sub : (opsB7 : List (HloOp τ sig (Elt F))).Forall fun op => op.bufs ⊆ tcRefs τ sig :=
  ⟨unary_bufs_sub .., nullary_bufs_sub .., unary_bufs_sub .., binary_bufs_sub .., nullary_bufs_sub .., unary_bufs_sub .., unary_bufs_sub .., unary_bufs_sub .., binary_bufs_sub .., reshape_bufs_sub ..⟩

set_option maxRecDepth 8192 in
theorem opsB7_writes : (opsB7 : List (HloOp τ sig (Elt F))).map HloOp.writes = opsB7W.map fun r => {Proc.devRef (τ := τ) .tc r} := rfl

set_option maxRecDepth 8192 in
theorem opsB7_fresh : (opsB7 : List (HloOp τ sig (Elt F))).map HloOp.fresh = (opsB7 : List (HloOp τ sig (Elt F))).map fun _ => (∅ : Finset (DevRef τ sig)) := rfl

abbrev opsB8 : List (HloOp τ sig (Elt F)) :=
  [ TRef.nullary (TRef.of (T := ⟨S_, .i32⟩) main_call5_c) (constantI S_ 32 0#32),
    TRef.unary (TRef.of (T := ⟨S_, .i32⟩) main_call5_c) (TRef.of (T := ⟨S2304, .i32⟩) main_call5_v0) (broadcastInDim S2304 ![] bcast_S_S2304),
    TRef.binary (TRef.of (T := ⟨S2304, .i32⟩) main_v49) (TRef.of (T := ⟨S2304, .i32⟩) main_call5_v0) (TRef.of (T := ⟨S2304, .i1⟩) main_call5_v1) (cmpi .slt),
    TRef.nullary (TRef.of (T := ⟨S_, .i32⟩) main_call5_c_0) (constantI S_ 32 2048#32),
    TRef.unary (TRef.of (T := ⟨S_, .i32⟩) main_call5_c_0) (TRef.of (T := ⟨S2304, .i32⟩) main_call5_v2) (broadcastInDim S2304 ![] bcast_S_S2304),
    TRef.binary (TRef.of (T := ⟨S2304, .i32⟩) main_v49) (TRef.of (T := ⟨S2304, .i32⟩) main_call5_v2) (TRef.of (T := ⟨S2304, .i32⟩) main_call5_v3) addi,
    TRef.ternary (TRef.of (T := ⟨S2304, .i1⟩) main_call5_v1) (TRef.of (T := ⟨S2304, .i32⟩) main_call5_v3) (TRef.of (T := ⟨S2304, .i32⟩) main_v49) (TRef.of (T := ⟨S2304, .i32⟩) main_call5_v4) select,
    TRef.unary (TRef.of (T := ⟨S2304, .i32⟩) main_call5_v4) (TRef.of (T := ⟨S2304x1, .i32⟩) main_call5_v5) (broadcastInDim S2304x1 ![0] bcast_S2304_S2304x1_0),
    TRef.nullary (TRef.of (T := ⟨S1, .i32⟩) main_call5_c_1) (constantI S1 32 2047#32),
    TRef.nullary (TRef.of (T := ⟨S_, .i32⟩) main_call5_c_2) (constantI S_ 32 0#32),
    TRef.unary (TRef.of (T := ⟨S_, .i32⟩) main_call5_c_2) (TRef.of (T := ⟨S2304x1, .i32⟩) main_call5_v6) (broadcastInDim S2304x1 ![] bcast_S_S2304x1),
    TRef.binary (TRef.of (T := ⟨S2304x1, .i32⟩) main_call5_v5) (TRef.of (T := ⟨S2304x1, .i32⟩) main_call5_v6) (TRef.of (T := ⟨S2304x1, .i1⟩) main_call5_v7) (cmpi .sge),
    TRef.unary (TRef.of (T := ⟨S1, .i32⟩) main_call5_c_1) (TRef.of (T := ⟨S1x1, .i32⟩) main_call5_v8) (broadcastInDim S1x1 ![1] bcast_S1_S1x1_1),
    TRef.unary (TRef.of (T := ⟨S1x1, .i32⟩) main_call5_v8) (TRef.of (T := ⟨S2304x1, .i32⟩) main_call5_v9) (broadcastInDim S2304x1 ![0, 1] bcast_S1x1_S2304x1_0_1),
    TRef.binary (TRef.of (T := ⟨S2304x1, .i32⟩) main_call5_v5) (TRef.of (T := ⟨S2304x1, .i32⟩) main_call5_v9) (TRef.of (T := ⟨S2304x1, .i1⟩) main_call5_v10) (cmpi .sle),
    TRef.binary (TRef.of (T := ⟨S2304x1, .i1⟩) main_call5_v7) (TRef.of (T := ⟨S2304x1, .i1⟩) main_call5_v10) (TRef.of (T := ⟨S2304x1, .i1⟩) main_call5_v11) andi,
    TRef.nullary (TRef.of (T := ⟨S_, .i1⟩) main_call5_c_3) (constantI S_ 1 1#1),
    TRef.binary (TRef.of (T := ⟨S2304x1, .i1⟩) main_call5_v11) (TRef.of (T := ⟨S_, .i1⟩) main_call5_c_3) (TRef.of (T := ⟨S2304, .i1⟩) main_call5_v12) (fun x v => Host.reduce IntOp.andi x v reducesTo_S2304x1_S2304_d1 h_S_),
    TRef.binary (TRef.of (T := ⟨S2048, .f32⟩) main_v5_1) (TRef.of (T := ⟨S2304x1, .i32⟩) main_call5_v5) (TRef.of (T := ⟨S2304, .f32⟩) main_call5_v13) (fun x i => Host.gather gather_S2048_S2304x1_S2304_n_0_n_n_0_1_1 x i),
    TRef.nullary (TRef.of (T := ⟨S_, .f32⟩) main_call5_cst) (constant S_ .f32 0x7FC00000#32),
    TRef.unary (TRef.of (T := ⟨S_, .f32⟩) main_call5_cst) (TRef.of (T := ⟨S2304, .f32⟩) main_call5_v14) (broadcastInDim S2304 ![] bcast_S_S2304),
    TRef.ternary (TRef.of (T := ⟨S2304, .i1⟩) main_call5_v12) (TRef.of (T := ⟨S2304, .f32⟩) main_call5_v13) (TRef.of (T := ⟨S2304, .f32⟩) main_call5_v14) (TRef.of (T := ⟨S2304, .f32⟩) main_v50) select ]

abbrev opsB8W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_cst, main_call5_v14, main_v50]

set_option maxRecDepth 8192 in
theorem opsB8_sub : (opsB8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

set_option maxRecDepth 8192 in
theorem opsB8_writes : (opsB8 : List (HloOp τ sig (Elt F))).map HloOp.writes = opsB8W.map fun r => {Proc.devRef (τ := τ) .tc r} := rfl

set_option maxRecDepth 8192 in
theorem opsB8_fresh : (opsB8 : List (HloOp τ sig (Elt F))).map HloOp.fresh = (opsB8 : List (HloOp τ sig (Elt F))).map fun _ => (∅ : Finset (DevRef τ sig)) := rfl

abbrev opsB9 : List (HloOp τ sig (Elt F)) :=
  [ reshape main_v50 main_v51 (rfl : (.f32 : EltTy) = .f32) shapeCasts_S2304_S9x256,
    unary main_v17 main_v52 (broadcastInDim S9x1 ![0] bcast_S9_S9x1_0 : (⟨S9, .i1⟩ : BufTy).Contents (Elt F) → (⟨S9x1, .i1⟩ : BufTy).Contents (Elt F)),
    unary main_v9 main_v53 (broadcastInDim S9x256 ![] bcast_S_S9x256 : (⟨S_, .i32⟩ : BufTy).Contents (Elt F) → (⟨S9x256, .i32⟩ : BufTy).Contents (Elt F)),
    binary main_v48 main_v53 main_v54 (cmpi .slt : (⟨S9x256, .i32⟩ : BufTy).Contents (Elt F) → (⟨S9x256, .i32⟩ : BufTy).Contents (Elt F) → (⟨S9x256, .i1⟩ : BufTy).Contents (Elt F)),
    unary main_v9 main_v55 (broadcastInDim S9x256 ![] bcast_S_S9x256 : (⟨S_, .i32⟩ : BufTy).Contents (Elt F) → (⟨S9x256, .i32⟩ : BufTy).Contents (Elt F)),
    binary main_v48 main_v55 main_v56 (cmpi .sge : (⟨S9x256, .i32⟩ : BufTy).Contents (Elt F) → (⟨S9x256, .i32⟩ : BufTy).Contents (Elt F) → (⟨S9x256, .i1⟩ : BufTy).Contents (Elt F)),
    TRef.unary (TRef.of (T := ⟨S9x1, .i1⟩) main_v52) (TRef.of (T := ⟨S9x256, .i1⟩) main_call6_v0) (broadcastInDim S9x256 ![0, 1] bcast_S9x1_S9x256_0_1),
    TRef.ternary (TRef.of (T := ⟨S9x256, .i1⟩) main_call6_v0) (TRef.of (T := ⟨S9x256, .i1⟩) main_v54) (TRef.of (T := ⟨S9x256, .i1⟩) main_v56) (TRef.of (T := ⟨S9x256, .i1⟩) main_v57) select,
    unary main_v31 main_v58 (broadcastInDim S9x1 ![0] bcast_S9_S9x1_0 : (⟨S9, .i1⟩ : BufTy).Contents (Elt F) → (⟨S9x1, .i1⟩ : BufTy).Contents (Elt F)),
    unary main_v58 main_v59 (broadcastInDim S9x256 ![0, 1] bcast_S9x1_S9x256_0_1 : (⟨S9x1, .i1⟩ : BufTy).Contents (Elt F) → (⟨S9x256, .i1⟩ : BufTy).Contents (Elt F)),
    binary main_v57 main_v59 main_v60 (andi : (⟨S9x256, .i1⟩ : BufTy).Contents (Elt F) → (⟨S9x256, .i1⟩ : BufTy).Contents (Elt F) → (⟨S9x256, .i1⟩ : BufTy).Contents (Elt F)),
    unary main_v60 main_v61 (uitofp .f32 : (⟨S9x256, .i1⟩ : BufTy).Contents (Elt F) → (⟨S9x256, .f32⟩ : BufTy).Contents (Elt F)),
    binary main_v51 main_v61 main_v62 (mulf : (⟨S9x256, .f32⟩ : BufTy).Contents (Elt F) → (⟨S9x256, .f32⟩ : BufTy).Contents (Elt F) → (⟨S9x256, .f32⟩ : BufTy).Contents (Elt F)),
    reshape main_v62 main_v63 (rfl : (.f32 : EltTy) = .f32) shapeCasts_S9x256_S9x256x1 ]

abbrev opsB9W : List (Ref sig .tc) := [main_v51, main_v52, main_v53, main_v54, main_v55, main_v56, main_call6_v0, main_v57, main_v58, main_v59, main_v60, main_v61, main_v62, main_v63]

set_option maxRecDepth 8192 in
theorem opsB9_sub : (opsB9 : List (HloOp τ sig (Elt F))).Forall fun op => op.bufs ⊆ tcRefs τ sig :=
  ⟨reshape_bufs_sub .., unary_bufs_sub .., unary_bufs_sub .., binary_bufs_sub .., unary_bufs_sub .., binary_bufs_sub .., unary_bufs_sub .., ternary_bufs_sub .., unary_bufs_sub .., unary_bufs_sub .., binary_bufs_sub .., unary_bufs_sub .., binary_bufs_sub .., reshape_bufs_sub ..⟩

set_option maxRecDepth 8192 in
theorem opsB9_writes : (opsB9 : List (HloOp τ sig (Elt F))).map HloOp.writes = opsB9W.map fun r => {Proc.devRef (τ := τ) .tc r} := rfl

set_option maxRecDepth 8192 in
theorem opsB9_fresh : (opsB9 : List (HloOp τ sig (Elt F))).map HloOp.fresh = (opsB9 : List (HloOp τ sig (Elt F))).map fun _ => (∅ : Finset (DevRef τ sig)) := rfl

abbrev opsB10 : List (HloOp τ sig (Elt F)) :=
  [ nullary main_v64 (iotaInDim S32 32 0),
    nullary main_c_11 (constantI S_ 32 2#32),
    TRef.unary (TRef.of (T := ⟨S_, .i32⟩) main_c_11) (TRef.of (T := ⟨S_, .i32⟩) main_call7_v0) id,
    TRef.unary (TRef.of (T := ⟨S_, .i32⟩) main_call7_v0) (TRef.of (T := ⟨S32, .i32⟩) main_call7_v1) (broadcastInDim S32 ![] bcast_S_S32),
    TRef.binary (TRef.of (T := ⟨S32, .i32⟩) main_v64) (TRef.of (T := ⟨S32, .i32⟩) main_call7_v1) (TRef.of (T := ⟨S32, .i32⟩) main_call7_v2) Host.divsi,
    TRef.unary (TRef.of (T := ⟨S32, .i32⟩) main_v64) (TRef.of (T := ⟨S32, .i32⟩) main_call7_v3) signi,
    TRef.unary (TRef.of (T := ⟨S_, .i32⟩) main_call7_v0) (TRef.of (T := ⟨S_, .i32⟩) main_call7_v4) signi,
    TRef.unary (TRef.of (T := ⟨S_, .i32⟩) main_call7_v4) (TRef.of (T := ⟨S32, .i32⟩) main_call7_v5) (broadcastInDim S32 ![] bcast_S_S32),
    TRef.binary (TRef.of (T := ⟨S32, .i32⟩) main_call7_v3) (TRef.of (T := ⟨S32, .i32⟩) main_call7_v5) (TRef.of (T := ⟨S32, .i1⟩) main_call7_v6) (cmpi .ne),
    TRef.unary (TRef.of (T := ⟨S_, .i32⟩) main_call7_v0) (TRef.of (T := ⟨S32, .i32⟩) main_call7_v7) (broadcastInDim S32 ![] bcast_S_S32),
    TRef.binary (TRef.of (T := ⟨S32, .i32⟩) main_v64) (TRef.of (T := ⟨S32, .i32⟩) main_call7_v7) (TRef.of (T := ⟨S32, .i32⟩) main_call7_v8) Host.remsi,
    TRef.nullary (TRef.of (T := ⟨S_, .i32⟩) main_call7_c) (constantI S_ 32 0#32),
    TRef.unary (TRef.of (T := ⟨S_, .i32⟩) main_call7_c) (TRef.of (T := ⟨S32, .i32⟩) main_call7_v9) (broadcastInDim S32 ![] bcast_S_S32),
    TRef.binary (TRef.of (T := ⟨S32, .i32⟩) main_call7_v8) (TRef.of (T := ⟨S32, .i32⟩) main_call7_v9) (TRef.of (T := ⟨S32, .i1⟩) main_call7_v10) (cmpi .ne),
    TRef.binary (TRef.of (T := ⟨S32, .i1⟩) main_call7_v6) (TRef.of (T := ⟨S32, .i1⟩) main_call7_v10) (TRef.of (T := ⟨S32, .i1⟩) main_call7_v11) andi,
    TRef.nullary (TRef.of (T := ⟨S_, .i32⟩) main_call7_c_0) (constantI S_ 32 1#32),
    TRef.unary (TRef.of (T := ⟨S_, .i32⟩) main_call7_c_0) (TRef.of (T := ⟨S32, .i32⟩) main_call7_v12) (broadcastInDim S32 ![] bcast_S_S32),
    TRef.binary (TRef.of (T := ⟨S32, .i32⟩) main_call7_v2) (TRef.of (T := ⟨S32, .i32⟩) main_call7_v12) (TRef.of (T := ⟨S32, .i32⟩) main_call7_v13) subi,
    TRef.ternary (TRef.of (T := ⟨S32, .i1⟩) main_call7_v11) (TRef.of (T := ⟨S32, .i32⟩) main_call7_v13) (TRef.of (T := ⟨S32, .i32⟩) main_call7_v2) (TRef.of (T := ⟨S32, .i32⟩) main_v65) select ]

abbrev opsB10W : List (Ref sig .tc) := [main_v64, main_c_11, main_call7_v0, main_call7_v1, main_call7_v2, main_call7_v3, main_call7_v4, main_call7_v5, main_call7_v6, main_call7_v7, main_call7_v8, main_call7_c, main_call7_v9, main_call7_v10, main_call7_v11, main_call7_c_0, main_call7_v12, main_call7_v13, main_v65]

set_option maxRecDepth 8192 in
theorem opsB10_sub : (opsB10 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

set_option maxRecDepth 8192 in
theorem opsB10_writes : (opsB10 : List (HloOp τ sig (Elt F))).map HloOp.writes = opsB10W.map fun r => {Proc.devRef (τ := τ) .tc r} := rfl

set_option maxRecDepth 8192 in
theorem opsB10_fresh : (opsB10 : List (HloOp τ sig (Elt F))).map HloOp.fresh = (opsB10 : List (HloOp τ sig (Elt F))).map fun _ => (∅ : Finset (DevRef τ sig)) := rfl

abbrev opsB11 : List (HloOp τ sig (Elt F)) :=
  [ nullary main_c_12 (constantI S_ 32 2#32),
    TRef.unary (TRef.of (T := ⟨S_, .i32⟩) main_c_12) (TRef.of (T := ⟨S_, .i32⟩) main_call8_v0) id,
    TRef.nullary (TRef.of (T := ⟨S_, .i32⟩) main_call8_c) (constantI S_ 32 0#32),
    TRef.binary (TRef.of (T := ⟨S_, .i32⟩) main_call8_v0) (TRef.of (T := ⟨S_, .i32⟩) main_call8_c) (TRef.of (T := ⟨S_, .i1⟩) main_call8_v1) (cmpi .eq),
    TRef.nullary (TRef.of (T := ⟨S_, .i32⟩) main_call8_c_0) (constantI S_ 32 1#32),
    TRef.ternary (TRef.of (T := ⟨S_, .i1⟩) main_call8_v1) (TRef.of (T := ⟨S_, .i32⟩) main_call8_c_0) (TRef.of (T := ⟨S_, .i32⟩) main_call8_v0) (TRef.of (T := ⟨S_, .i32⟩) main_call8_v2) select,
    TRef.unary (TRef.of (T := ⟨S_, .i32⟩) main_call8_v2) (TRef.of (T := ⟨S32, .i32⟩) main_call8_v3) (broadcastInDim S32 ![] bcast_S_S32),
    TRef.binary (TRef.of (T := ⟨S32, .i32⟩) main_v64) (TRef.of (T := ⟨S32, .i32⟩) main_call8_v3) (TRef.of (T := ⟨S32, .i32⟩) main_call8_v4) Host.remsi,
    TRef.nullary (TRef.of (T := ⟨S_, .i32⟩) main_call8_c_1) (constantI S_ 32 0#32),
    TRef.unary (TRef.of (T := ⟨S_, .i32⟩) main_call8_c_1) (TRef.of (T := ⟨S32, .i32⟩) main_call8_v5) (broadcastInDim S32 ![] bcast_S_S32),
    TRef.binary (TRef.of (T := ⟨S32, .i32⟩) main_call8_v4) (TRef.of (T := ⟨S32, .i32⟩) main_call8_v5) (TRef.of (T := ⟨S32, .i1⟩) main_call8_v6) (cmpi .ne),
    TRef.nullary (TRef.of (T := ⟨S_, .i32⟩) main_call8_c_2) (constantI S_ 32 0#32),
    TRef.unary (TRef.of (T := ⟨S_, .i32⟩) main_call8_c_2) (TRef.of (T := ⟨S32, .i32⟩) main_call8_v7) (broadcastInDim S32 ![] bcast_S_S32),
    TRef.binary (TRef.of (T := ⟨S32, .i32⟩) main_call8_v4) (TRef.of (T := ⟨S32, .i32⟩) main_call8_v7) (TRef.of (T := ⟨S32, .i1⟩) main_call8_v8) (cmpi .slt),
    TRef.nullary (TRef.of (T := ⟨S_, .i32⟩) main_call8_c_3) (constantI S_ 32 0#32),
    TRef.binary (TRef.of (T := ⟨S_, .i32⟩) main_call8_v2) (TRef.of (T := ⟨S_, .i32⟩) main_call8_c_3) (TRef.of (T := ⟨S_, .i1⟩) main_call8_v9) (cmpi .slt),
    TRef.unary (TRef.of (T := ⟨S_, .i1⟩) main_call8_v9) (TRef.of (T := ⟨S32, .i1⟩) main_call8_v10) (broadcastInDim S32 ![] bcast_S_S32),
    TRef.binary (TRef.of (T := ⟨S32, .i1⟩) main_call8_v8) (TRef.of (T := ⟨S32, .i1⟩) main_call8_v10) (TRef.of (T := ⟨S32, .i1⟩) main_call8_v11) (cmpi .ne),
    TRef.binary (TRef.of (T := ⟨S32, .i1⟩) main_call8_v11) (TRef.of (T := ⟨S32, .i1⟩) main_call8_v6) (TRef.of (T := ⟨S32, .i1⟩) main_call8_v12) andi,
    TRef.unary (TRef.of (T := ⟨S_, .i32⟩) main_call8_v2) (TRef.of (T := ⟨S32, .i32⟩) main_call8_v13) (broadcastInDim S32 ![] bcast_S_S32),
    TRef.binary (TRef.of (T := ⟨S32, .i32⟩) main_call8_v4) (TRef.of (T := ⟨S32, .i32⟩) main_call8_v13) (TRef.of (T := ⟨S32, .i32⟩) main_call8_v14) addi,
    TRef.ternary (TRef.of (T := ⟨S32, .i1⟩) main_call8_v12) (TRef.of (T := ⟨S32, .i32⟩) main_call8_v14) (TRef.of (T := ⟨S32, .i32⟩) main_call8_v4) (TRef.of (T := ⟨S32, .i32⟩) main_v66) select ]

abbrev opsB11W : List (Ref sig .tc) := [main_c_12, main_call8_v0, main_call8_c, main_call8_v1, main_call8_c_0, main_call8_v2, main_call8_v3, main_call8_v4, main_call8_c_1, main_call8_v5, main_call8_v6, main_call8_c_2, main_call8_v7, main_call8_v8, main_call8_c_3, main_call8_v9, main_call8_v10, main_call8_v11, main_call8_v12, main_call8_v13, main_call8_v14, main_v66]

set_option maxRecDepth 8192 in
theorem opsB11_sub : (opsB11 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

set_option maxRecDepth 8192 in
theorem opsB11_writes : (opsB11 : List (HloOp τ sig (Elt F))).map HloOp.writes = opsB11W.map fun r => {Proc.devRef (τ := τ) .tc r} := rfl

set_option maxRecDepth 8192 in
theorem opsB11_fresh : (opsB11 : List (HloOp τ sig (Elt F))).map HloOp.fresh = (opsB11 : List (HloOp τ sig (Elt F))).map fun _ => (∅ : Finset (DevRef τ sig)) := rfl

abbrev opsB12 : List (HloOp τ sig (Elt F)) :=
  [ nullary main_c_13 (constantI S_ 32 0#32),
    unary main_c_13 main_v67 (broadcastInDim S32 ![] bcast_S_S32 : (⟨S_, .i32⟩ : BufTy).Contents (Elt F) → (⟨S32, .i32⟩ : BufTy).Contents (Elt F)),
    binary main_v66 main_v67 main_v68 (cmpi .eq : (⟨S32, .i32⟩ : BufTy).Contents (Elt F) → (⟨S32, .i32⟩ : BufTy).Contents (Elt F) → (⟨S32, .i1⟩ : BufTy).Contents (Elt F)),
    nullary main_c_14 (constantI S_ 32 9#32),
    binary main_c_14 main_v14 main_v69 (subi : (⟨S_, .i32⟩ : BufTy).Contents (Elt F) → (⟨S_, .i32⟩ : BufTy).Contents (Elt F) → (⟨S_, .i32⟩ : BufTy).Contents (Elt F)),
    TRef.unary (TRef.of (T := ⟨S_, .i32⟩) main_v14) (TRef.of (T := ⟨S32, .i32⟩) main_call9_v0) (broadcastInDim S32 ![] bcast_S_S32),
    TRef.unary (TRef.of (T := ⟨S_, .i32⟩) main_v69) (TRef.of (T := ⟨S32, .i32⟩) main_call9_v1) (broadcastInDim S32 ![] bcast_S_S32),
    TRef.ternary (TRef.of (T := ⟨S32, .i1⟩) main_v68) (TRef.of (T := ⟨S32, .i32⟩) main_call9_v0) (TRef.of (T := ⟨S32, .i32⟩) main_call9_v1) (TRef.of (T := ⟨S32, .i32⟩) main_v70) select ]

abbrev opsB12W : List (Ref sig .tc) := [main_c_13, main_v67, main_v68, main_c_14, main_v69, main_call9_v0, main_call9_v1, main_v70]

set_option maxRecDepth 8192 in
theorem opsB12_sub : (opsB12 : List (HloOp τ sig (Elt F))).Forall fun op => op.bufs ⊆ tcRefs τ sig :=
  ⟨nullary_bufs_sub .., unary_bufs_sub .., binary_bufs_sub .., nullary_bufs_sub .., binary_bufs_sub .., unary_bufs_sub .., unary_bufs_sub .., ternary_bufs_sub ..⟩

set_option maxRecDepth 8192 in
theorem opsB12_writes : (opsB12 : List (HloOp τ sig (Elt F))).map HloOp.writes = opsB12W.map fun r => {Proc.devRef (τ := τ) .tc r} := rfl

set_option maxRecDepth 8192 in
theorem opsB12_fresh : (opsB12 : List (HloOp τ sig (Elt F))).map HloOp.fresh = (opsB12 : List (HloOp τ sig (Elt F))).map fun _ => (∅ : Finset (DevRef τ sig)) := rfl

abbrev opsB13 : List (HloOp τ sig (Elt F)) :=
  [ nullary main_c_15 (constantI S_ 32 0#32),
    unary main_c_15 main_v71 (broadcastInDim S32 ![] bcast_S_S32 : (⟨S_, .i32⟩ : BufTy).Contents (Elt F) → (⟨S32, .i32⟩ : BufTy).Contents (Elt F)),
    binary main_v66 main_v71 main_v72 (cmpi .eq : (⟨S32, .i32⟩ : BufTy).Contents (Elt F) → (⟨S32, .i32⟩ : BufTy).Contents (Elt F) → (⟨S32, .i1⟩ : BufTy).Contents (Elt F)),
    nullary main_c_16 (constantI S_ 32 0#32),
    TRef.unary (TRef.of (T := ⟨S_, .i32⟩) main_c_16) (TRef.of (T := ⟨S_, .i32⟩) main_call10_v0) id,
    TRef.unary (TRef.of (T := ⟨S_, .i32⟩) main_call10_v0) (TRef.of (T := ⟨S32, .i32⟩) main_call10_v1) (broadcastInDim S32 ![] bcast_S_S32),
    TRef.unary (TRef.of (T := ⟨S_, .i32⟩) main_v14) (TRef.of (T := ⟨S32, .i32⟩) main_call10_v2) (broadcastInDim S32 ![] bcast_S_S32),
    TRef.ternary (TRef.of (T := ⟨S32, .i1⟩) main_v72) (TRef.of (T := ⟨S32, .i32⟩) main_call10_v1) (TRef.of (T := ⟨S32, .i32⟩) main_call10_v2) (TRef.of (T := ⟨S32, .i32⟩) main_v73) select,
    nullary main_c_17 (constantI S_ 32 0#32),
    unary main_c_17 main_v74 (broadcastInDim S32 ![] bcast_S_S32 : (⟨S_, .i32⟩ : BufTy).Contents (Elt F) → (⟨S32, .i32⟩ : BufTy).Contents (Elt F)),
    binary main_v66 main_v74 main_v75 (cmpi .eq : (⟨S32, .i32⟩ : BufTy).Contents (Elt F) → (⟨S32, .i32⟩ : BufTy).Contents (Elt F) → (⟨S32, .i1⟩ : BufTy).Contents (Elt F)),
    nullary main_c_18 (constantI S_ 32 7#32),
    binary main_v10 main_c_18 main_v76 (minsi : (⟨S_, .i32⟩ : BufTy).Contents (Elt F) → (⟨S_, .i32⟩ : BufTy).Contents (Elt F) → (⟨S_, .i32⟩ : BufTy).Contents (Elt F)),
    nullary main_c_19 (constantI S_ 32 0#32),
    TRef.unary (TRef.of (T := ⟨S_, .i32⟩) main_c_19) (TRef.of (T := ⟨S_, .i32⟩) main_call11_v0) id,
    TRef.unary (TRef.of (T := ⟨S_, .i32⟩) main_call11_v0) (TRef.of (T := ⟨S32, .i32⟩) main_call11_v1) (broadcastInDim S32 ![] bcast_S_S32),
    TRef.unary (TRef.of (T := ⟨S_, .i32⟩) main_v76) (TRef.of (T := ⟨S32, .i32⟩) main_call11_v2) (broadcastInDim S32 ![] bcast_S_S32),
    TRef.ternary (TRef.of (T := ⟨S32, .i1⟩) main_v75) (TRef.of (T := ⟨S32, .i32⟩) main_call11_v1) (TRef.of (T := ⟨S32, .i32⟩) main_call11_v2) (TRef.of (T := ⟨S32, .i32⟩) main_v77) select ]

abbrev opsB13W : List (Ref sig .tc) := [main_c_15, main_v71, main_v72, main_c_16, main_call10_v0, main_call10_v1, main_call10_v2, main_v73, main_c_17, main_v74, main_v75, main_c_18, main_v76, main_c_19, main_call11_v0, main_call11_v1, main_call11_v2, main_v77]

set_option maxRecDepth 8192 in
theorem opsB13_sub : (opsB13 : List (HloOp τ sig (Elt F))).Forall fun op => op.bufs ⊆ tcRefs τ sig :=
  ⟨nullary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., binary_bufs_sub .., nullary_bufs_sub .., unary_bufs_sub .., unary_bufs_sub .., unary_bufs_sub .., ternary_bufs_sub ..⟩

set_option maxRecDepth 8192 in
theorem opsB13_writes : (opsB13 : List (HloOp τ sig (Elt F))).map HloOp.writes = opsB13W.map fun r => {Proc.devRef (τ := τ) .tc r} := rfl

set_option maxRecDepth 8192 in
theorem opsB13_fresh : (opsB13 : List (HloOp τ sig (Elt F))).map HloOp.fresh = (opsB13 : List (HloOp τ sig (Elt F))).map fun _ => (∅ : Finset (DevRef τ sig)) := rfl

abbrev opsC : List (HloOp τ sig (Elt F)) :=
  [ reshape main_v78 main_v79 (rfl : (.f32 : EltTy) = .f32) shapeCasts_S2048x2048_S2048x8x2x128,
    unary main_v79 main_v80 ((transpose S8x2048x2x128 [1, 0, 2, 3] · transposes_S2048x8x2x128_S8x2048x2x128_1_0_2_3) : (⟨S2048x8x2x128, .f32⟩ : BufTy).Contents (Elt F) → (⟨S8x2048x2x128, .f32⟩ : BufTy).Contents (Elt F)),
    reshape main_v5_2 main_v81 (rfl : (.i32 : EltTy) = .i32) shapeCasts_S2048_S32x2x32 ]

abbrev opsCW : List (Ref sig .tc) := [main_v79, main_v80, main_v81]

set_option maxRecDepth 8192 in
theorem opsC_sub : (opsC : List (HloOp τ sig (Elt F))).Forall fun op => op.bufs ⊆ tcRefs τ sig :=
  ⟨reshape_bufs_sub .., unary_bufs_sub .., reshape_bufs_sub ..⟩

set_option maxRecDepth 8192 in
theorem opsC_writes : (opsC : List (HloOp τ sig (Elt F))).map HloOp.writes = opsCW.map fun r => {Proc.devRef (τ := τ) .tc r} := rfl

set_option maxRecDepth 8192 in
theorem opsC_fresh : (opsC : List (HloOp τ sig (Elt F))).map HloOp.fresh = (opsC : List (HloOp τ sig (Elt F))).map fun _ => (∅ : Finset (DevRef τ sig)) := rfl

abbrev opsD : List (HloOp τ sig (Elt F)) :=
  [ unary main_v82 main_v83 ((transpose S2048x8x2x128 [1, 0, 2, 3] · transposes_S8x2048x2x128_S2048x8x2x128_1_0_2_3) : (⟨S8x2048x2x128, .f32⟩ : BufTy).Contents (Elt F) → (⟨S2048x8x2x128, .f32⟩ : BufTy).Contents (Elt F)),
    reshape main_v83 main_v84 (rfl : (.f32 : EltTy) = .f32) shapeCasts_S2048x8x2x128_S2048x2048 ]

abbrev opsDW : List (Ref sig .tc) := [main_v83, main_v84]

set_option maxRecDepth 8192 in
theorem opsD_sub : (opsD : List (HloOp τ sig (Elt F))).Forall fun op => op.bufs ⊆ tcRefs τ sig :=
  ⟨unary_bufs_sub .., reshape_bufs_sub ..⟩

set_option maxRecDepth 8192 in
theorem opsD_writes : (opsD : List (HloOp τ sig (Elt F))).map HloOp.writes = opsDW.map fun r => {Proc.devRef (τ := τ) .tc r} := rfl

set_option maxRecDepth 8192 in
theorem opsD_fresh : (opsD : List (HloOp τ sig (Elt F))).map HloOp.fresh = (opsD : List (HloOp τ sig (Elt F))).map fun _ => (∅ : Finset (DevRef τ sig)) := rfl

set_option maxRecDepth 65536 in
set_option maxHeartbeats 4000000 in
/-- The host's program: the router, then its lines of operations with the two calls and the product between them. -/
theorem main_lines (d : Dev nD) : main (F := F) d
    = (Prog.lift (.customCall (SparseCore.inner (Pipeline.entry 0)) ()) >>= fun _ => seq opsA >>= fun _ => sc.run d 0 >>= fun _ => seq opsB0 >>= fun _ => seq opsB1 >>= fun _ => seq opsB2 >>= fun _ => seq opsB3 >>= fun _ => seq opsB4 >>= fun _ => seq opsB5 >>= fun _ => seq opsB6 >>= fun _ => seq opsB7 >>= fun _ => seq opsB8 >>= fun _ => seq opsB9 >>= fun _ => seq opsB10 >>= fun _ => seq opsB11 >>= fun _ => seq opsB12 >>= fun _ => seq opsB13 >>= fun _ =>
        Prog.lift (.customCall (SparseCore.inner (Pipeline.entry 1)) ()) >>= fun _ => seq opsC >>= fun _ => sc.run d 1 >>= fun _ => seq opsD) := rfl

end Cert.Proof.Setup

end
-- ==== Proof.HostVals.lean ====
/-
  What each line of the host's operations computes.
-/
module

public import proofs.«01_k».proof.Proof.HostOps

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.StableHlo
open Idealize.ShloMosaic.TcCoe

def val_v1 (a_main_arg2 : (⟨S2048x2048, .f32⟩ : BufTy).Contents (Elt F)) : (⟨S8x2048x2x128, .f32⟩ : BufTy).Contents (Elt F) :=
  let a_main_v0 : (⟨S2048x8x2x128, .f32⟩ : BufTy).Contents (Elt F) := ((fun x => shapeCast S2048x8x2x128 x shapeCasts_S2048x2048_S2048x8x2x128) : (⟨S2048x2048, .f32⟩ : BufTy).Contents (Elt F) → (⟨S2048x8x2x128, .f32⟩ : BufTy).Contents (Elt F)) a_main_arg2
  let a_main_v1 : (⟨S8x2048x2x128, .f32⟩ : BufTy).Contents (Elt F) := (((transpose S8x2048x2x128 [1, 0, 2, 3] · transposes_S2048x8x2x128_S8x2048x2x128_1_0_2_3) : (⟨S2048x8x2x128, .f32⟩ : BufTy).Contents (Elt F) → (⟨S8x2048x2x128, .f32⟩ : BufTy).Contents (Elt F)) : (⟨S2048x8x2x128, .f32⟩ : BufTy).Contents (Elt F) → (⟨S8x2048x2x128, .f32⟩ : BufTy).Contents (Elt F)) a_main_v0
  a_main_v1

set_option maxRecDepth 8192 in
set_option maxHeartbeats 2000000 in
theorem after_v1 (V : Valuation τ sig (Elt F)) : after opsA V (Proc.devRef .tc main_v4) = val_v1 (V (Proc.devRef .tc main_arg0)) := by
  simp only [opsA, TRef.binary, TRef.nullary, TRef.ternary, TRef.unary, TRef.toBuf, TRef.ofBuf, cast_eq]; after_results_simp <;> rfl

set_option maxRecDepth 8192 in
set_option maxHeartbeats 2000000 in
theorem after_e (V : Valuation τ sig (Elt F)) : after opsA V (Proc.devRef .tc main_v1)
    = ((fun x => shapeCast S2048 x shapeCasts_S2048x1_S2048) : (⟨S2048x1, .i32⟩ : BufTy).Contents (Elt F) → (⟨S2048, .i32⟩ : BufTy).Contents (Elt F)) (V (Proc.devRef .tc main_v0_0)) := by
  simp only [opsA, TRef.binary, TRef.nullary, TRef.ternary, TRef.unary, TRef.toBuf, TRef.ofBuf, cast_eq]; after_results_simp <;> rfl

set_option maxRecDepth 8192 in
set_option maxHeartbeats 2000000 in
theorem after_w (V : Valuation τ sig (Elt F)) : after opsA V (Proc.devRef .tc main_v2)
    = ((fun x => shapeCast S2048 x shapeCasts_S2048x1_S2048) : (⟨S2048x1, .f32⟩ : BufTy).Contents (Elt F) → (⟨S2048, .f32⟩ : BufTy).Contents (Elt F)) (V (Proc.devRef .tc main_v0_1)) := by
  simp only [opsA, TRef.binary, TRef.nullary, TRef.ternary, TRef.unary, TRef.toBuf, TRef.ofBuf, cast_eq]; after_results_simp <;> rfl

def val_v4 (a_main_v2_0 : (⟨S8x2048x2x128, .f32⟩ : BufTy).Contents (Elt F)) : (⟨S2048x2048, .f32⟩ : BufTy).Contents (Elt F) :=
  let a_main_v3 : (⟨S2048x8x2x128, .f32⟩ : BufTy).Contents (Elt F) := (((transpose S2048x8x2x128 [1, 0, 2, 3] · transposes_S8x2048x2x128_S2048x8x2x128_1_0_2_3) : (⟨S8x2048x2x128, .f32⟩ : BufTy).Contents (Elt F) → (⟨S2048x8x2x128, .f32⟩ : BufTy).Contents (Elt F)) : (⟨S8x2048x2x128, .f32⟩ : BufTy).Contents (Elt F) → (⟨S2048x8x2x128, .f32⟩ : BufTy).Contents (Elt F)) a_main_v2_0
  let a_main_v4 : (⟨S2048x2048, .f32⟩ : BufTy).Contents (Elt F) := ((fun x => shapeCast S2048x2048 x shapeCasts_S2048x8x2x128_S2048x2048) : (⟨S2048x8x2x128, .f32⟩ : BufTy).Contents (Elt F) → (⟨S2048x2048, .f32⟩ : BufTy).Contents (Elt F)) a_main_v3
  a_main_v4

set_option maxRecDepth 8192 in
set_option maxHeartbeats 2000000 in
theorem after_v4 (V : Valuation τ sig (Elt F)) : after opsB0 V (Proc.devRef .tc main_v7) = val_v4 (V (Proc.devRef .tc main_v5_0)) := by
  simp only [opsB0, TRef.binary, TRef.nullary, TRef.ternary, TRef.unary, TRef.toBuf, TRef.ofBuf, cast_eq]; after_results_simp <;> rfl

def val_v6 (a_main_v2_3 : (⟨S16, .i32⟩ : BufTy).Contents (Elt F)) : (⟨S_, .i32⟩ : BufTy).Contents (Elt F) :=
  let a_main_v5 : (⟨S1, .i32⟩ : BufTy).Contents (Elt F) := (((extractStridedSlice S1 ![0] · slices_S16_S1_0) : (⟨S16, .i32⟩ : BufTy).Contents (Elt F) → (⟨S1, .i32⟩ : BufTy).Contents (Elt F)) : (⟨S16, .i32⟩ : BufTy).Contents (Elt F) → (⟨S1, .i32⟩ : BufTy).Contents (Elt F)) a_main_v2_3
  let a_main_v6 : (⟨S_, .i32⟩ : BufTy).Contents (Elt F) := ((fun x => shapeCast S_ x shapeCasts_S1_S_) : (⟨S1, .i32⟩ : BufTy).Contents (Elt F) → (⟨S_, .i32⟩ : BufTy).Contents (Elt F)) a_main_v5
  a_main_v6

set_option maxRecDepth 8192 in
set_option maxHeartbeats 2000000 in
theorem after_v6 (V : Valuation τ sig (Elt F)) : after opsB1 V (Proc.devRef .tc main_v9) = val_v6 (V (Proc.devRef .tc main_v5_3)) := by
  simp only [opsB1, TRef.binary, TRef.nullary, TRef.ternary, TRef.unary, TRef.toBuf, TRef.ofBuf, cast_eq]; after_results_simp <;> rfl

def val_v7 (a_main_v6 : (⟨S_, .i32⟩ : BufTy).Contents (Elt F)) : (⟨S_, .i32⟩ : BufTy).Contents (Elt F) :=
  let a_main_call0_v2 : (⟨S_, .i32⟩ : BufTy).Contents (Elt F) := ((signi) : (⟨S_, .i32⟩ : BufTy).Contents (Elt F) → (⟨S_, .i32⟩ : BufTy).Contents (Elt F)) a_main_v6
  let a_main_c : (⟨S_, .i32⟩ : BufTy).Contents (Elt F) := (constantI S_ 32 256#32)
  let a_main_call0_v0 : (⟨S_, .i32⟩ : BufTy).Contents (Elt F) := ((id) : (⟨S_, .i32⟩ : BufTy).Contents (Elt F) → (⟨S_, .i32⟩ : BufTy).Contents (Elt F)) a_main_c
  let a_main_call0_v3 : (⟨S_, .i32⟩ : BufTy).Contents (Elt F) := ((signi) : (⟨S_, .i32⟩ : BufTy).Contents (Elt F) → (⟨S_, .i32⟩ : BufTy).Contents (Elt F)) a_main_call0_v0
  let a_main_call0_v4 : (⟨S_, .i1⟩ : BufTy).Contents (Elt F) := ((cmpi .ne) : (⟨S_, .i32⟩ : BufTy).Contents (Elt F) → (⟨S_, .i32⟩ : BufTy).Contents (Elt F) → (⟨S_, .i1⟩ : BufTy).Contents (Elt F)) a_main_call0_v2 a_main_call0_v3
  let a_main_call0_v5 : (⟨S_, .i32⟩ : BufTy).Contents (Elt F) := ((Host.remsi) : (⟨S_, .i32⟩ : BufTy).Contents (Elt F) → (⟨S_, .i32⟩ : BufTy).Contents (Elt F) → (⟨S_, .i32⟩ : BufTy).Contents (Elt F)) a_main_v6 a_main_call0_v0
  let a_main_call0_c : (⟨S_, .i32⟩ : BufTy).Contents (Elt F) := (constantI S_ 32 0#32)
  let a_main_call0_v6 : (⟨S_, .i1⟩ : BufTy).Contents (Elt F) := ((cmpi .ne) : (⟨S_, .i32⟩ : BufTy).Contents (Elt F) → (⟨S_, .i32⟩ : BufTy).Contents (Elt F) → (⟨S_, .i1⟩ : BufTy).Contents (Elt F)) a_main_call0_v5 a_main_call0_c
  let a_main_call0_v7 : (⟨S_, .i1⟩ : BufTy).Contents (Elt F) := ((andi) : (⟨S_, .i1⟩ : BufTy).Contents (Elt F) → (⟨S_, .i1⟩ : BufTy).Contents (Elt F) → (⟨S_, .i1⟩ : BufTy).Contents (Elt F)) a_main_call0_v4 a_main_call0_v6
  let a_main_call0_v1 : (⟨S_, .i32⟩ : BufTy).Contents (Elt F) := ((Host.divsi) : (⟨S_, .i32⟩ : BufTy).Contents (Elt F) → (⟨S_, .i32⟩ : BufTy).Contents (Elt F) → (⟨S_, .i32⟩ : BufTy).Contents (Elt F)) a_main_v6 a_main_call0_v0
  let a_main_call0_c_0 : (⟨S_, .i32⟩ : BufTy).Contents (Elt F) := (constantI S_ 32 1#32)
  let a_main_call0_v8 : (⟨S_, .i32⟩ : BufTy).Contents (Elt F) := ((subi) : (⟨S_, .i32⟩ : BufTy).Contents (Elt F) → (⟨S_, .i32⟩ : BufTy).Contents (Elt F) → (⟨S_, .i32⟩ : BufTy).Contents (Elt F)) a_main_call0_v1 a_main_call0_c_0
  let a_main_v7 : (⟨S_, .i32⟩ : BufTy).Contents (Elt F) := ((select) : (⟨S_, .i1⟩ : BufTy).Contents (Elt F) → (⟨S_, .i32⟩ : BufTy).Contents (Elt F) → (⟨S_, .i32⟩ : BufTy).Contents (Elt F) → (⟨S_, .i32⟩ : BufTy).Contents (Elt F)) a_main_call0_v7 a_main_call0_v8 a_main_call0_v1
  a_main_v7

set_option maxRecDepth 8192 in
set_option maxHeartbeats 2000000 in
theorem after_v7 (V : Valuation τ sig (Elt F)) : after opsB2 V (Proc.devRef .tc main_v10) = val_v7 (V (Proc.devRef .tc main_v9)) := by
  simp only [opsB2, TRef.binary, TRef.nullary, TRef.ternary, TRef.unary, TRef.toBuf, TRef.ofBuf, cast_eq]; after_results_simp <;> rfl

def val_v8 (a_main_v6 : (⟨S_, .i32⟩ : BufTy).Contents (Elt F)) : (⟨S_, .i32⟩ : BufTy).Contents (Elt F) :=
  let a_main_c_0 : (⟨S_, .i32⟩ : BufTy).Contents (Elt F) := (constantI S_ 32 256#32)
  let a_main_call1_v0 : (⟨S_, .i32⟩ : BufTy).Contents (Elt F) := ((id) : (⟨S_, .i32⟩ : BufTy).Contents (Elt F) → (⟨S_, .i32⟩ : BufTy).Contents (Elt F)) a_main_c_0
  let a_main_call1_c : (⟨S_, .i32⟩ : BufTy).Contents (Elt F) := (constantI S_ 32 0#32)
  let a_main_call1_v1 : (⟨S_, .i1⟩ : BufTy).Contents (Elt F) := ((cmpi .eq) : (⟨S_, .i32⟩ : BufTy).Contents (Elt F) → (⟨S_, .i32⟩ : BufTy).Contents (Elt F) → (⟨S_, .i1⟩ : BufTy).Contents (Elt F)) a_main_call1_v0 a_main_call1_c
  let a_main_call1_c_0 : (⟨S_, .i32⟩ : BufTy).Contents (Elt F) := (constantI S_ 32 1#32)
  let a_main_call1_v2 : (⟨S_, .i32⟩ : BufTy).Contents (Elt F) := ((select) : (⟨S_, .i1⟩ : BufTy).Contents (Elt F) → (⟨S_, .i32⟩ : BufTy).Contents (Elt F) → (⟨S_, .i32⟩ : BufTy).Contents (Elt F) → (⟨S_, .i32⟩ : BufTy).Contents (Elt F)) a_main_call1_v1 a_main_call1_c_0 a_main_call1_v0
  let a_main_call1_v3 : (⟨S_, .i32⟩ : BufTy).Contents (Elt F) := ((Host.remsi) : (⟨S_, .i32⟩ : BufTy).Contents (Elt F) → (⟨S_, .i32⟩ : BufTy).Contents (Elt F) → (⟨S_, .i32⟩ : BufTy).Contents (Elt F)) a_main_v6 a_main_call1_v2
  let a_main_call1_c_2 : (⟨S_, .i32⟩ : BufTy).Contents (Elt F) := (constantI S_ 32 0#32)
  let a_main_call1_v5 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) a_main_call1_v3 a_main_call1_c_2
  let a_main_call1_c_3 : (⟨S_, .i32⟩ : BufTy).Contents (Elt F) := (constantI S_ 32 0#32)
  let a_main_call1_v6 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) a_main_call1_v2 a_main_call1_c_3
  let a_main_call1_v7 : (⟨S_, .i1⟩ : BufTy).Contents (Elt F) := ((cmpi .ne) : (⟨S_, .i1⟩ : BufTy).Contents (Elt F) → (⟨S_, .i1⟩ : BufTy).Contents (Elt F) → (⟨S_, .i1⟩ : BufTy).Contents (Elt F)) a_main_call1_v5 a_main_call1_v6
  let a_main_call1_c_1 : (⟨S_, .i32⟩ : BufTy).Contents (Elt F) := (constantI S_ 32 0#32)
  let a_main_call1_v4 : (⟨S_, .i1⟩ : BufTy).Contents (Elt F) := ((cmpi .ne) : (⟨S_, .i32⟩ : BufTy).Contents (Elt F) → (⟨S_, .i32⟩ : BufTy).Contents (Elt F) → (⟨S_, .i1⟩ : BufTy).Contents (Elt F)) a_main_call1_v3 a_main_call1_c_1
  let a_main_call1_v8 : (⟨S_, .i1⟩ : BufTy).Contents (Elt F) := ((andi) : (⟨S_, .i1⟩ : BufTy).Contents (Elt F) → (⟨S_, .i1⟩ : BufTy).Contents (Elt F) → (⟨S_, .i1⟩ : BufTy).Contents (Elt F)) a_main_call1_v7 a_main_call1_v4
  let a_main_call1_v9 : (⟨S_, .i32⟩ : BufTy).Contents (Elt F) := ((addi) : (⟨S_, .i32⟩ : BufTy).Contents (Elt F) → (⟨S_, .i32⟩ : BufTy).Contents (Elt F) → (⟨S_, .i32⟩ : BufTy).Contents (Elt F)) a_main_call1_v3 a_main_call1_v2
  let a_main_v8 : (⟨S_, .i32⟩ : BufTy).Contents (Elt F) := ((select) : (⟨S_, .i1⟩ : BufTy).Contents (Elt F) → (⟨S_, .i32⟩ : BufTy).Contents (Elt F) → (⟨S_, .i32⟩ : BufTy).Contents (Elt F) → (⟨S_, .i32⟩ : BufTy).Contents (Elt F)) a_main_call1_v8 a_main_call1_v9 a_main_call1_v3
  a_main_v8

set_option maxRecDepth 8192 in
set_option maxHeartbeats 2000000 in
theorem after_v8 (V : Valuation τ sig (Elt F)) : after opsB3 V (Proc.devRef .tc main_v11) = val_v8 (V (Proc.devRef .tc main_v9)) := by
  simp only [opsB3, TRef.binary, TRef.nullary, TRef.ternary, TRef.unary, TRef.toBuf, TRef.ofBuf, cast_eq]; after_results_simp <;> rfl

def val_v11 (a_main_v7 : (⟨S_, .i32⟩ : BufTy).Contents (Elt F)) (a_main_v8 : (⟨S_, .i32⟩ : BufTy).Contents (Elt F)) : (⟨S_, .i32⟩ : BufTy).Contents (Elt F) :=
  let a_main_c_1 : (⟨S_, .i32⟩ : BufTy).Contents (Elt F) := (constantI S_ 32 0#32)
  let a_main_v9 : (⟨S_, .i1⟩ : BufTy).Contents (Elt F) := ((cmpi .sgt : (⟨S_, .i32⟩ : BufTy).Contents (Elt F) → (⟨S_, .i32⟩ : BufTy).Contents (Elt F) → (⟨S_, .i1⟩ : BufTy).Contents (Elt F)) : (⟨S_, .i32⟩ : BufTy).Contents (Elt F) → (⟨S_, .i32⟩ : BufTy).Contents (Elt F) → (⟨S_, .i1⟩ : BufTy).Contents (Elt F)) a_main_v8 a_main_c_1
  let a_main_v10 : (⟨S_, .i32⟩ : BufTy).Contents (Elt F) := (((extui 32 · natLt_1_32) : (⟨S_, .i1⟩ : BufTy).Contents (Elt F) → (⟨S_, .i32⟩ : BufTy).Contents (Elt F)) : (⟨S_, .i1⟩ : BufTy).Contents (Elt F) → (⟨S_, .i32⟩ : BufTy).Contents (Elt F)) a_main_v9
  let a_main_v11 : (⟨S_, .i32⟩ : BufTy).Contents (Elt F) := ((addi : (⟨S_, .i32⟩ : BufTy).Contents (Elt F) → (⟨S_, .i32⟩ : BufTy).Contents (Elt F) → (⟨S_, .i32⟩ : BufTy).Contents (Elt F)) : (⟨S_, .i32⟩ : BufTy).Contents (Elt F) → (⟨S_, .i32⟩ : BufTy).Contents (Elt F) → (⟨S_, .i32⟩ : BufTy).Contents (Elt F)) a_main_v7 a_main_v10
  a_main_v11

set_option maxRecDepth 8192 in
set_option maxHeartbeats 2000000 in
theorem after_v11 (V : Valuation τ sig (Elt F)) : after opsB4 V (Proc.devRef .tc main_v14) = val_v11 (V (Proc.devRef .tc main_v10)) (V (Proc.devRef .tc main_v11)) := by
  simp only [opsB4, TRef.binary, TRef.nullary, TRef.ternary, TRef.unary, TRef.toBuf, TRef.ofBuf, cast_eq]; after_results_simp <;> rfl

def val_v12  : (⟨S9, .i32⟩ : BufTy).Contents (Elt F) :=
  let a_main_v12 : (⟨S9, .i32⟩ : BufTy).Contents (Elt F) := (iotaInDim S9 32 0)
  a_main_v12

set_option maxRecDepth 8192 in
set_option maxHeartbeats 2000000 in
theorem after_v12 (V : Valuation τ sig (Elt F)) : after opsB5 V (Proc.devRef .tc main_v15) = val_v12  := by
  simp only [opsB5, TRef.binary, TRef.nullary, TRef.ternary, TRef.unary, TRef.toBuf, TRef.ofBuf, cast_eq]; after_results_simp <;> rfl

def val_v14 (a_main_v11 : (⟨S_, .i32⟩ : BufTy).Contents (Elt F)) : (⟨S9, .i1⟩ : BufTy).Contents (Elt F) :=
  let a_main_v12 : (⟨S9, .i32⟩ : BufTy).Contents (Elt F) := (iotaInDim S9 32 0)
  let a_main_v13 : (⟨S9, .i32⟩ : BufTy).Contents (Elt F) := ((broadcastInDim S9 ![] bcast_S_S9 : (⟨S_, .i32⟩ : BufTy).Contents (Elt F) → (⟨S9, .i32⟩ : BufTy).Contents (Elt F)) : (⟨S_, .i32⟩ : BufTy).Contents (Elt F) → (⟨S9, .i32⟩ : BufTy).Contents (Elt F)) a_main_v11
  let a_main_v14 : (⟨S9, .i1⟩ : BufTy).Contents (Elt F) := ((cmpi .slt : (⟨S9, .i32⟩ : BufTy).Contents (Elt F) → (⟨S9, .i32⟩ : BufTy).Contents (Elt F) → (⟨S9, .i1⟩ : BufTy).Contents (Elt F)) : (⟨S9, .i32⟩ : BufTy).Contents (Elt F) → (⟨S9, .i32⟩ : BufTy).Contents (Elt F) → (⟨S9, .i1⟩ : BufTy).Contents (Elt F)) a_main_v12 a_main_v13
  a_main_v14

set_option maxRecDepth 8192 in
set_option maxHeartbeats 2000000 in
theorem after_v14 (V : Valuation τ sig (Elt F)) : after opsB5 V (Proc.devRef .tc main_v17) = val_v14 (V (Proc.devRef .tc main_v14)) := by
  simp only [opsB5, TRef.binary, TRef.nullary, TRef.ternary, TRef.unary, TRef.toBuf, TRef.ofBuf, cast_eq]; after_results_simp <;> rfl

def val_v21 (a_main_v11 : (⟨S_, .i32⟩ : BufTy).Contents (Elt F)) (a_main_v7 : (⟨S_, .i32⟩ : BufTy).Contents (Elt F)) : (⟨S9, .i32⟩ : BufTy).Contents (Elt F) :=
  let a_main_v12 : (⟨S9, .i32⟩ : BufTy).Contents (Elt F) := (iotaInDim S9 32 0)
  let a_main_v13 : (⟨S9, .i32⟩ : BufTy).Contents (Elt F) := ((broadcastInDim S9 ![] bcast_S_S9 : (⟨S_, .i32⟩ : BufTy).Contents (Elt F) → (⟨S9, .i32⟩ : BufTy).Contents (Elt F)) : (⟨S_, .i32⟩ : BufTy).Contents (Elt F) → (⟨S9, .i32⟩ : BufTy).Contents (Elt F)) a_main_v11
  let a_main_v14 : (⟨S9, .i1⟩ : BufTy).Contents (Elt F) := ((cmpi .slt : (⟨S9, .i32⟩ : BufTy).Contents (Elt F) → (⟨S9, .i32⟩ : BufTy).Contents (Elt F) → (⟨S9, .i1⟩ : BufTy).Contents (Elt F)) : (⟨S9, .i32⟩ : BufTy).Contents (Elt F) → (⟨S9, .i32⟩ : BufTy).Contents (Elt F) → (⟨S9, .i1⟩ : BufTy).Contents (Elt F)) a_main_v12 a_main_v13
  let a_main_v17 : (⟨S9, .i32⟩ : BufTy).Contents (Elt F) := ((broadcastInDim S9 ![] bcast_S_S9 : (⟨S_, .i32⟩ : BufTy).Contents (Elt F) → (⟨S9, .i32⟩ : BufTy).Contents (Elt F)) : (⟨S_, .i32⟩ : BufTy).Contents (Elt F) → (⟨S9, .i32⟩ : BufTy).Contents (Elt F)) a_main_v7
  let a_main_v15 : (⟨S9, .i32⟩ : BufTy).Contents (Elt F) := ((broadcastInDim S9 ![] bcast_S_S9 : (⟨S_, .i32⟩ : BufTy).Contents (Elt F) → (⟨S9, .i32⟩ : BufTy).Contents (Elt F)) : (⟨S_, .i32⟩ : BufTy).Contents (Elt F) → (⟨S9, .i32⟩ : BufTy).Contents (Elt F)) a_main_v11
  let a_main_v16 : (⟨S9, .i32⟩ : BufTy).Contents (Elt F) := ((subi : (⟨S9, .i32⟩ : BufTy).Contents (Elt F) → (⟨S9, .i32⟩ : BufTy).Contents (Elt F) → (⟨S9, .i32⟩ : BufTy).Contents (Elt F)) : (⟨S9, .i32⟩ : BufTy).Contents (Elt F) → (⟨S9, .i32⟩ : BufTy).Contents (Elt F) → (⟨S9, .i32⟩ : BufTy).Contents (Elt F)) a_main_v12 a_main_v15
  let a_main_v18 : (⟨S9, .i32⟩ : BufTy).Contents (Elt F) := ((addi : (⟨S9, .i32⟩ : BufTy).Contents (Elt F) → (⟨S9, .i32⟩ : BufTy).Contents (Elt F) → (⟨S9, .i32⟩ : BufTy).Contents (Elt F)) : (⟨S9, .i32⟩ : BufTy).Contents (Elt F) → (⟨S9, .i32⟩ : BufTy).Contents (Elt F) → (⟨S9, .i32⟩ : BufTy).Contents (Elt F)) a_main_v17 a_main_v16
  let a_main_c_2 : (⟨S_, .i32⟩ : BufTy).Contents (Elt F) := (constantI S_ 32 7#32)
  let a_main_v19 : (⟨S9, .i32⟩ : BufTy).Contents (Elt F) := ((broadcastInDim S9 ![] bcast_S_S9 : (⟨S_, .i32⟩ : BufTy).Contents (Elt F) → (⟨S9, .i32⟩ : BufTy).Contents (Elt F)) : (⟨S_, .i32⟩ : BufTy).Contents (Elt F) → (⟨S9, .i32⟩ : BufTy).Contents (Elt F)) a_main_c_2
  let a_main_v20 : (⟨S9, .i32⟩ : BufTy).Contents (Elt F) := ((minsi : (⟨S9, .i32⟩ : BufTy).Contents (Elt F) → (⟨S9, .i32⟩ : BufTy).Contents (Elt F) → (⟨S9, .i32⟩ : BufTy).Contents (Elt F)) : (⟨S9, .i32⟩ : BufTy).Contents (Elt F) → (⟨S9, .i32⟩ : BufTy).Contents (Elt F) → (⟨S9, .i32⟩ : BufTy).Contents (Elt F)) a_main_v18 a_main_v19
  let a_main_v21 : (⟨S9, .i32⟩ : BufTy).Contents (Elt F) := ((select) : (⟨S9, .i1⟩ : BufTy).Contents (Elt F) → (⟨S9, .i32⟩ : BufTy).Contents (Elt F) → (⟨S9, .i32⟩ : BufTy).Contents (Elt F) → (⟨S9, .i32⟩ : BufTy).Contents (Elt F)) a_main_v14 a_main_v12 a_main_v20
  a_main_v21

set_option maxRecDepth 8192 in
set_option maxHeartbeats 2000000 in
theorem after_v21 (V : Valuation τ sig (Elt F)) : after opsB5 V (Proc.devRef .tc main_v24) = val_v21 (V (Proc.devRef .tc main_v14)) (V (Proc.devRef .tc main_v10)) := by
  simp only [opsB5, TRef.binary, TRef.nullary, TRef.ternary, TRef.unary, TRef.toBuf, TRef.ofBuf, cast_eq]; after_results_simp <;> rfl

def val_v28 (a_main_v12 : (⟨S9, .i32⟩ : BufTy).Contents (Elt F)) (a_main_v8 : (⟨S_, .i32⟩ : BufTy).Contents (Elt F)) : (⟨S9, .i1⟩ : BufTy).Contents (Elt F) :=
  let a_main_c_6 : (⟨S_, .i32⟩ : BufTy).Contents (Elt F) := (constantI S_ 32 8#32)
  let a_main_c_5 : (⟨S_, .i32⟩ : BufTy).Contents (Elt F) := (constantI S_ 32 0#32)
  let a_main_v24 : (⟨S_, .i1⟩ : BufTy).Contents (Elt F) := ((cmpi .sgt : (⟨S_, .i32⟩ : BufTy).Contents (Elt F) → (⟨S_, .i32⟩ : BufTy).Contents (Elt F) → (⟨S_, .i1⟩ : BufTy).Contents (Elt F)) : (⟨S_, .i32⟩ : BufTy).Contents (Elt F) → (⟨S_, .i32⟩ : BufTy).Contents (Elt F) → (⟨S_, .i1⟩ : BufTy).Contents (Elt F)) a_main_v8 a_main_c_5
  let a_main_v25 : (⟨S_, .i32⟩ : BufTy).Contents (Elt F) := (((extui 32 · natLt_1_32) : (⟨S_, .i1⟩ : BufTy).Contents (Elt F) → (⟨S_, .i32⟩ : BufTy).Contents (Elt F)) : (⟨S_, .i1⟩ : BufTy).Contents (Elt F) → (⟨S_, .i32⟩ : BufTy).Contents (Elt F)) a_main_v24
  let a_main_v26 : (⟨S_, .i32⟩ : BufTy).Contents (Elt F) := ((addi : (⟨S_, .i32⟩ : BufTy).Contents (Elt F) → (⟨S_, .i32⟩ : BufTy).Contents (Elt F) → (⟨S_, .i32⟩ : BufTy).Contents (Elt F)) : (⟨S_, .i32⟩ : BufTy).Contents (Elt F) → (⟨S_, .i32⟩ : BufTy).Contents (Elt F) → (⟨S_, .i32⟩ : BufTy).Contents (Elt F)) a_main_c_6 a_main_v25
  let a_main_v27 : (⟨S9, .i32⟩ : BufTy).Contents (Elt F) := ((broadcastInDim S9 ![] bcast_S_S9 : (⟨S_, .i32⟩ : BufTy).Contents (Elt F) → (⟨S9, .i32⟩ : BufTy).Contents (Elt F)) : (⟨S_, .i32⟩ : BufTy).Contents (Elt F) → (⟨S9, .i32⟩ : BufTy).Contents (Elt F)) a_main_v26
  let a_main_v28 : (⟨S9, .i1⟩ : BufTy).Contents (Elt F) := ((cmpi .slt : (⟨S9, .i32⟩ : BufTy).Contents (Elt F) → (⟨S9, .i32⟩ : BufTy).Contents (Elt F) → (⟨S9, .i1⟩ : BufTy).Contents (Elt F)) : (⟨S9, .i32⟩ : BufTy).Contents (Elt F) → (⟨S9, .i32⟩ : BufTy).Contents (Elt F) → (⟨S9, .i1⟩ : BufTy).Contents (Elt F)) a_main_v12 a_main_v27
  a_main_v28

set_option maxRecDepth 8192 in
set_option maxHeartbeats 2000000 in
theorem after_v28 (V : Valuation τ sig (Elt F)) : after opsB6 V (Proc.devRef .tc main_v31) = val_v28 (V (Proc.devRef .tc main_v15)) (V (Proc.devRef .tc main_v11)) := by
  simp only [opsB6, TRef.binary, TRef.nullary, TRef.ternary, TRef.unary, TRef.toBuf, TRef.ofBuf, cast_eq]; after_results_simp <;> rfl

def val_v37 (a_main_v12 : (⟨S9, .i32⟩ : BufTy).Contents (Elt F)) (a_main_v11 : (⟨S_, .i32⟩ : BufTy).Contents (Elt F)) (a_main_v8 : (⟨S_, .i32⟩ : BufTy).Contents (Elt F)) : (⟨S9, .i32⟩ : BufTy).Contents (Elt F) :=
  let a_main_v29 : (⟨S9, .i32⟩ : BufTy).Contents (Elt F) := ((broadcastInDim S9 ![] bcast_S_S9 : (⟨S_, .i32⟩ : BufTy).Contents (Elt F) → (⟨S9, .i32⟩ : BufTy).Contents (Elt F)) : (⟨S_, .i32⟩ : BufTy).Contents (Elt F) → (⟨S9, .i32⟩ : BufTy).Contents (Elt F)) a_main_v11
  let a_main_v30 : (⟨S9, .i1⟩ : BufTy).Contents (Elt F) := ((cmpi .eq : (⟨S9, .i32⟩ : BufTy).Contents (Elt F) → (⟨S9, .i32⟩ : BufTy).Contents (Elt F) → (⟨S9, .i1⟩ : BufTy).Contents (Elt F)) : (⟨S9, .i32⟩ : BufTy).Contents (Elt F) → (⟨S9, .i32⟩ : BufTy).Contents (Elt F) → (⟨S9, .i1⟩ : BufTy).Contents (Elt F)) a_main_v12 a_main_v29
  let a_main_c_7 : (⟨S_, .i32⟩ : BufTy).Contents (Elt F) := (constantI S_ 32 0#32)
  let a_main_v31 : (⟨S_, .i1⟩ : BufTy).Contents (Elt F) := ((cmpi .sgt : (⟨S_, .i32⟩ : BufTy).Contents (Elt F) → (⟨S_, .i32⟩ : BufTy).Contents (Elt F) → (⟨S_, .i1⟩ : BufTy).Contents (Elt F)) : (⟨S_, .i32⟩ : BufTy).Contents (Elt F) → (⟨S_, .i32⟩ : BufTy).Contents (Elt F) → (⟨S_, .i1⟩ : BufTy).Contents (Elt F)) a_main_v8 a_main_c_7
  let a_main_v32 : (⟨S9, .i1⟩ : BufTy).Contents (Elt F) := ((broadcastInDim S9 ![] bcast_S_S9 : (⟨S_, .i1⟩ : BufTy).Contents (Elt F) → (⟨S9, .i1⟩ : BufTy).Contents (Elt F)) : (⟨S_, .i1⟩ : BufTy).Contents (Elt F) → (⟨S9, .i1⟩ : BufTy).Contents (Elt F)) a_main_v31
  let a_main_v33 : (⟨S9, .i1⟩ : BufTy).Contents (Elt F) := ((andi : (⟨S9, .i1⟩ : BufTy).Contents (Elt F) → (⟨S9, .i1⟩ : BufTy).Contents (Elt F) → (⟨S9, .i1⟩ : BufTy).Contents (Elt F)) : (⟨S9, .i1⟩ : BufTy).Contents (Elt F) → (⟨S9, .i1⟩ : BufTy).Contents (Elt F) → (⟨S9, .i1⟩ : BufTy).Contents (Elt F)) a_main_v30 a_main_v32
  let a_main_c_6 : (⟨S_, .i32⟩ : BufTy).Contents (Elt F) := (constantI S_ 32 8#32)
  let a_main_c_5 : (⟨S_, .i32⟩ : BufTy).Contents (Elt F) := (constantI S_ 32 0#32)
  let a_main_v24 : (⟨S_, .i1⟩ : BufTy).Contents (Elt F) := ((cmpi .sgt : (⟨S_, .i32⟩ : BufTy).Contents (Elt F) → (⟨S_, .i32⟩ : BufTy).Contents (Elt F) → (⟨S_, .i1⟩ : BufTy).Contents (Elt F)) : (⟨S_, .i32⟩ : BufTy).Contents (Elt F) → (⟨S_, .i32⟩ : BufTy).Contents (Elt F) → (⟨S_, .i1⟩ : BufTy).Contents (Elt F)) a_main_v8 a_main_c_5
  let a_main_v25 : (⟨S_, .i32⟩ : BufTy).Contents (Elt F) := (((extui 32 · natLt_1_32) : (⟨S_, .i1⟩ : BufTy).Contents (Elt F) → (⟨S_, .i32⟩ : BufTy).Contents (Elt F)) : (⟨S_, .i1⟩ : BufTy).Contents (Elt F) → (⟨S_, .i32⟩ : BufTy).Contents (Elt F)) a_main_v24
  let a_main_v26 : (⟨S_, .i32⟩ : BufTy).Contents (Elt F) := ((addi : (⟨S_, .i32⟩ : BufTy).Contents (Elt F) → (⟨S_, .i32⟩ : BufTy).Contents (Elt F) → (⟨S_, .i32⟩ : BufTy).Contents (Elt F)) : (⟨S_, .i32⟩ : BufTy).Contents (Elt F) → (⟨S_, .i32⟩ : BufTy).Contents (Elt F) → (⟨S_, .i32⟩ : BufTy).Contents (Elt F)) a_main_c_6 a_main_v25
  let a_main_v27 : (⟨S9, .i32⟩ : BufTy).Contents (Elt F) := ((broadcastInDim S9 ![] bcast_S_S9 : (⟨S_, .i32⟩ : BufTy).Contents (Elt F) → (⟨S9, .i32⟩ : BufTy).Contents (Elt F)) : (⟨S_, .i32⟩ : BufTy).Contents (Elt F) → (⟨S9, .i32⟩ : BufTy).Contents (Elt F)) a_main_v26
  let a_main_v28 : (⟨S9, .i1⟩ : BufTy).Contents (Elt F) := ((cmpi .slt : (⟨S9, .i32⟩ : BufTy).Contents (Elt F) → (⟨S9, .i32⟩ : BufTy).Contents (Elt F) → (⟨S9, .i1⟩ : BufTy).Contents (Elt F)) : (⟨S9, .i32⟩ : BufTy).Contents (Elt F) → (⟨S9, .i32⟩ : BufTy).Contents (Elt F) → (⟨S9, .i1⟩ : BufTy).Contents (Elt F)) a_main_v12 a_main_v27
  let a_main_v34 : (⟨S9, .i1⟩ : BufTy).Contents (Elt F) := ((noti : (⟨S9, .i1⟩ : BufTy).Contents (Elt F) → (⟨S9, .i1⟩ : BufTy).Contents (Elt F)) : (⟨S9, .i1⟩ : BufTy).Contents (Elt F) → (⟨S9, .i1⟩ : BufTy).Contents (Elt F)) a_main_v28
  let a_main_v35 : (⟨S9, .i1⟩ : BufTy).Contents (Elt F) := ((ori : (⟨S9, .i1⟩ : BufTy).Contents (Elt F) → (⟨S9, .i1⟩ : BufTy).Contents (Elt F) → (⟨S9, .i1⟩ : BufTy).Contents (Elt F)) : (⟨S9, .i1⟩ : BufTy).Contents (Elt F) → (⟨S9, .i1⟩ : BufTy).Contents (Elt F) → (⟨S9, .i1⟩ : BufTy).Contents (Elt F)) a_main_v33 a_main_v34
  let a_main_c_8 : (⟨S_, .i32⟩ : BufTy).Contents (Elt F) := (constantI S_ 32 0#32)
  let a_main_call4_v0 : (⟨S9, .i32⟩ : BufTy).Contents (Elt F) := ((broadcastInDim S9 ![] bcast_S_S9) : (⟨S_, .i32⟩ : BufTy).Contents (Elt F) → (⟨S9, .i32⟩ : BufTy).Contents (Elt F)) a_main_c_8
  let a_main_c_9 : (⟨S_, .i32⟩ : BufTy).Contents (Elt F) := (constantI S_ 32 1#32)
  let a_main_call4_v1 : (⟨S9, .i32⟩ : BufTy).Contents (Elt F) := ((broadcastInDim S9 ![] bcast_S_S9) : (⟨S_, .i32⟩ : BufTy).Contents (Elt F) → (⟨S9, .i32⟩ : BufTy).Contents (Elt F)) a_main_c_9
  let a_main_v36 : (⟨S9, .i32⟩ : BufTy).Contents (Elt F) := ((select) : (⟨S9, .i1⟩ : BufTy).Contents (Elt F) → (⟨S9, .i32⟩ : BufTy).Contents (Elt F) → (⟨S9, .i32⟩ : BufTy).Contents (Elt F) → (⟨S9, .i32⟩ : BufTy).Contents (Elt F)) a_main_v35 a_main_call4_v0 a_main_call4_v1
  let a_main_v37 : (⟨S9, .i32⟩ : BufTy).Contents (Elt F) := ((id : (⟨S9, .i32⟩ : BufTy).Contents (Elt F) → (⟨S9, .i32⟩ : BufTy).Contents (Elt F)) : (⟨S9, .i32⟩ : BufTy).Contents (Elt F) → (⟨S9, .i32⟩ : BufTy).Contents (Elt F)) a_main_v36
  a_main_v37

set_option maxRecDepth 8192 in
set_option maxHeartbeats 2000000 in
theorem after_v37 (V : Valuation τ sig (Elt F)) : after opsB6 V (Proc.devRef .tc main_v40) = val_v37 (V (Proc.devRef .tc main_v15)) (V (Proc.devRef .tc main_v14)) (V (Proc.devRef .tc main_v11)) := by
  simp only [opsB6, TRef.binary, TRef.nullary, TRef.ternary, TRef.unary, TRef.toBuf, TRef.ofBuf, cast_eq]; after_results_simp <;> rfl

def val_v45 (a_main_v21 : (⟨S9, .i32⟩ : BufTy).Contents (Elt F)) : (⟨S9x256, .i32⟩ : BufTy).Contents (Elt F) :=
  let a_main_v38 : (⟨S9x1, .i32⟩ : BufTy).Contents (Elt F) := ((broadcastInDim S9x1 ![0] bcast_S9_S9x1_0 : (⟨S9, .i32⟩ : BufTy).Contents (Elt F) → (⟨S9x1, .i32⟩ : BufTy).Contents (Elt F)) : (⟨S9, .i32⟩ : BufTy).Contents (Elt F) → (⟨S9x1, .i32⟩ : BufTy).Contents (Elt F)) a_main_v21
  let a_main_c_10 : (⟨S_, .i32⟩ : BufTy).Contents (Elt F) := (constantI S_ 32 256#32)
  let a_main_v39 : (⟨S9x1, .i32⟩ : BufTy).Contents (Elt F) := ((broadcastInDim S9x1 ![] bcast_S_S9x1 : (⟨S_, .i32⟩ : BufTy).Contents (Elt F) → (⟨S9x1, .i32⟩ : BufTy).Contents (Elt F)) : (⟨S_, .i32⟩ : BufTy).Contents (Elt F) → (⟨S9x1, .i32⟩ : BufTy).Contents (Elt F)) a_main_c_10
  let a_main_v40 : (⟨S9x1, .i32⟩ : BufTy).Contents (Elt F) := ((muli : (⟨S9x1, .i32⟩ : BufTy).Contents (Elt F) → (⟨S9x1, .i32⟩ : BufTy).Contents (Elt F) → (⟨S9x1, .i32⟩ : BufTy).Contents (Elt F)) : (⟨S9x1, .i32⟩ : BufTy).Contents (Elt F) → (⟨S9x1, .i32⟩ : BufTy).Contents (Elt F) → (⟨S9x1, .i32⟩ : BufTy).Contents (Elt F)) a_main_v38 a_main_v39
  let a_main_v43 : (⟨S9x256, .i32⟩ : BufTy).Contents (Elt F) := ((broadcastInDim S9x256 ![0, 1] bcast_S9x1_S9x256_0_1 : (⟨S9x1, .i32⟩ : BufTy).Contents (Elt F) → (⟨S9x256, .i32⟩ : BufTy).Contents (Elt F)) : (⟨S9x1, .i32⟩ : BufTy).Contents (Elt F) → (⟨S9x256, .i32⟩ : BufTy).Contents (Elt F)) a_main_v40
  let a_main_v41 : (⟨S256, .i32⟩ : BufTy).Contents (Elt F) := (iotaInDim S256 32 0)
  let a_main_v42 : (⟨S1x256, .i32⟩ : BufTy).Contents (Elt F) := ((broadcastInDim S1x256 ![1] bcast_S256_S1x256_1 : (⟨S256, .i32⟩ : BufTy).Contents (Elt F) → (⟨S1x256, .i32⟩ : BufTy).Contents (Elt F)) : (⟨S256, .i32⟩ : BufTy).Contents (Elt F) → (⟨S1x256, .i32⟩ : BufTy).Contents (Elt F)) a_main_v41
  let a_main_v44 : (⟨S9x256, .i32⟩ : BufTy).Contents (Elt F) := ((broadcastInDim S9x256 ![0, 1] bcast_S1x256_S9x256_0_1 : (⟨S1x256, .i32⟩ : BufTy).Contents (Elt F) → (⟨S9x256, .i32⟩ : BufTy).Contents (Elt F)) : (⟨S1x256, .i32⟩ : BufTy).Contents (Elt F) → (⟨S9x256, .i32⟩ : BufTy).Contents (Elt F)) a_main_v42
  let a_main_v45 : (⟨S9x256, .i32⟩ : BufTy).Contents (Elt F) := ((addi : (⟨S9x256, .i32⟩ : BufTy).Contents (Elt F) → (⟨S9x256, .i32⟩ : BufTy).Contents (Elt F) → (⟨S9x256, .i32⟩ : BufTy).Contents (Elt F)) : (⟨S9x256, .i32⟩ : BufTy).Contents (Elt F) → (⟨S9x256, .i32⟩ : BufTy).Contents (Elt F) → (⟨S9x256, .i32⟩ : BufTy).Contents (Elt F)) a_main_v43 a_main_v44
  a_main_v45

set_option maxRecDepth 8192 in
set_option maxHeartbeats 2000000 in
theorem after_v45 (V : Valuation τ sig (Elt F)) : after opsB7 V (Proc.devRef .tc main_v48) = val_v45 (V (Proc.devRef .tc main_v24)) := by
  simp only [opsB7, TRef.binary, TRef.nullary, TRef.ternary, TRef.unary, TRef.toBuf, TRef.ofBuf, cast_eq]; after_results_simp <;> rfl

def val_v46 (a_main_v21 : (⟨S9, .i32⟩ : BufTy).Contents (Elt F)) : (⟨S2304, .i32⟩ : BufTy).Contents (Elt F) :=
  let a_main_v38 : (⟨S9x1, .i32⟩ : BufTy).Contents (Elt F) := ((broadcastInDim S9x1 ![0] bcast_S9_S9x1_0 : (⟨S9, .i32⟩ : BufTy).Contents (Elt F) → (⟨S9x1, .i32⟩ : BufTy).Contents (Elt F)) : (⟨S9, .i32⟩ : BufTy).Contents (Elt F) → (⟨S9x1, .i32⟩ : BufTy).Contents (Elt F)) a_main_v21
  let a_main_c_10 : (⟨S_, .i32⟩ : BufTy).Contents (Elt F) := (constantI S_ 32 256#32)
  let a_main_v39 : (⟨S9x1, .i32⟩ : BufTy).Contents (Elt F) := ((broadcastInDim S9x1 ![] bcast_S_S9x1 : (⟨S_, .i32⟩ : BufTy).Contents (Elt F) → (⟨S9x1, .i32⟩ : BufTy).Contents (Elt F)) : (⟨S_, .i32⟩ : BufTy).Contents (Elt F) → (⟨S9x1, .i32⟩ : BufTy).Contents (Elt F)) a_main_c_10
  let a_main_v40 : (⟨S9x1, .i32⟩ : BufTy).Contents (Elt F) := ((muli : (⟨S9x1, .i32⟩ : BufTy).Contents (Elt F) → (⟨S9x1, .i32⟩ : BufTy).Contents (Elt F) → (⟨S9x1, .i32⟩ : BufTy).Contents (Elt F)) : (⟨S9x1, .i32⟩ : BufTy).Contents (Elt F) → (⟨S9x1, .i32⟩ : BufTy).Contents (Elt F) → (⟨S9x1, .i32⟩ : BufTy).Contents (Elt F)) a_main_v38 a_main_v39
  let a_main_v43 : (⟨S9x256, .i32⟩ : BufTy).Contents (Elt F) := ((broadcastInDim S9x256 ![0, 1] bcast_S9x1_S9x256_0_1 : (⟨S9x1, .i32⟩ : BufTy).Contents (Elt F) → (⟨S9x256, .i32⟩ : BufTy).Contents (Elt F)) : (⟨S9x1, .i32⟩ : BufTy).Contents (Elt F) → (⟨S9x256, .i32⟩ : BufTy).Contents (Elt F)) a_main_v40
  let a_main_v41 : (⟨S256, .i32⟩ : BufTy).Contents (Elt F) := (iotaInDim S256 32 0)
  let a_main_v42 : (⟨S1x256, .i32⟩ : BufTy).Contents (Elt F) := ((broadcastInDim S1x256 ![1] bcast_S256_S1x256_1 : (⟨S256, .i32⟩ : BufTy).Contents (Elt F) → (⟨S1x256, .i32⟩ : BufTy).Contents (Elt F)) : (⟨S256, .i32⟩ : BufTy).Contents (Elt F) → (⟨S1x256, .i32⟩ : BufTy).Contents (Elt F)) a_main_v41
  let a_main_v44 : (⟨S9x256, .i32⟩ : BufTy).Contents (Elt F) := ((broadcastInDim S9x256 ![0, 1] bcast_S1x256_S9x256_0_1 : (⟨S1x256, .i32⟩ : BufTy).Contents (Elt F) → (⟨S9x256, .i32⟩ : BufTy).Contents (Elt F)) : (⟨S1x256, .i32⟩ : BufTy).Contents (Elt F) → (⟨S9x256, .i32⟩ : BufTy).Contents (Elt F)) a_main_v42
  let a_main_v45 : (⟨S9x256, .i32⟩ : BufTy).Contents (Elt F) := ((addi : (⟨S9x256, .i32⟩ : BufTy).Contents (Elt F) → (⟨S9x256, .i32⟩ : BufTy).Contents (Elt F) → (⟨S9x256, .i32⟩ : BufTy).Contents (Elt F)) : (⟨S9x256, .i32⟩ : BufTy).Contents (Elt F) → (⟨S9x256, .i32⟩ : BufTy).Contents (Elt F) → (⟨S9x256, .i32⟩ : BufTy).Contents (Elt F)) a_main_v43 a_main_v44
  let a_main_v46 : (⟨S2304, .i32⟩ : BufTy).Contents (Elt F) := ((fun x => shapeCast S2304 x shapeCasts_S9x256_S2304) : (⟨S9x256, .i32⟩ : BufTy).Contents (Elt F) → (⟨S2304, .i32⟩ : BufTy).Contents (Elt F)) a_main_v45
  a_main_v46

set_option maxRecDepth 8192 in
set_option maxHeartbeats 2000000 in
theorem after_v46 (V : Valuation τ sig (Elt F)) : after opsB7 V (Proc.devRef .tc main_v49) = val_v46 (V (Proc.devRef .tc main_v24)) := by
  simp only [opsB7, TRef.binary, TRef.nullary, TRef.ternary, TRef.unary, TRef.toBuf, TRef.ofBuf, cast_eq]; after_results_simp <;> rfl

def val_v47 (a_main_v46 : (⟨S2304, .i32⟩ : BufTy).Contents (Elt F)) (a_main_v2_1 : (⟨S2048, .f32⟩ : BufTy).Contents (Elt F)) : (⟨S2304, .f32⟩ : BufTy).Contents (Elt F) :=
  let a_main_call5_c : (⟨S_, .i32⟩ : BufTy).Contents (Elt F) := (constantI S_ 32 0#32)
  let a_main_call5_v0 : (⟨S2304, .i32⟩ : BufTy).Contents (Elt F) := ((broadcastInDim S2304 ![] bcast_S_S2304) : (⟨S_, .i32⟩ : BufTy).Contents (Elt F) → (⟨S2304, .i32⟩ : BufTy).Contents (Elt F)) a_main_call5_c
  let a_main_call5_v1 : (⟨S2304, .i1⟩ : BufTy).Contents (Elt F) := ((cmpi .slt) : (⟨S2304, .i32⟩ : BufTy).Contents (Elt F) → (⟨S2304, .i32⟩ : BufTy).Contents (Elt F) → (⟨S2304, .i1⟩ : BufTy).Contents (Elt F)) a_main_v46 a_main_call5_v0
  let a_main_call5_c_0 : (⟨S_, .i32⟩ : BufTy).Contents (Elt F) := (constantI S_ 32 2048#32)
  let a_main_call5_v2 : (⟨S2304, .i32⟩ : BufTy).Contents (Elt F) := ((broadcastInDim S2304 ![] bcast_S_S2304) : (⟨S_, .i32⟩ : BufTy).Contents (Elt F) → (⟨S2304, .i32⟩ : BufTy).Contents (Elt F)) a_main_call5_c_0
  let a_main_call5_v3 : (⟨S2304, .i32⟩ : BufTy).Contents (Elt F) := ((addi) : (⟨S2304, .i32⟩ : BufTy).Contents (Elt F) → (⟨S2304, .i32⟩ : BufTy).Contents (Elt F) → (⟨S2304, .i32⟩ : BufTy).Contents (Elt F)) a_main_v46 a_main_call5_v2
  let a_main_call5_v4 : (⟨S2304, .i32⟩ : BufTy).Contents (Elt F) := ((select) : (⟨S2304, .i1⟩ : BufTy).Contents (Elt F) → (⟨S2304, .i32⟩ : BufTy).Contents (Elt F) → (⟨S2304, .i32⟩ : BufTy).Contents (Elt F) → (⟨S2304, .i32⟩ : BufTy).Contents (Elt F)) a_main_call5_v1 a_main_call5_v3 a_main_v46
  let a_main_call5_v5 : (⟨S2304x1, .i32⟩ : BufTy).Contents (Elt F) := ((broadcastInDim S2304x1 ![0] bcast_S2304_S2304x1_0) : (⟨S2304, .i32⟩ : BufTy).Contents (Elt F) → (⟨S2304x1, .i32⟩ : BufTy).Contents (Elt F)) a_main_call5_v4
  let a_main_call5_c_2 : (⟨S_, .i32⟩ : BufTy).Contents (Elt F) := (constantI S_ 32 0#32)
  let a_main_call5_v6 : (⟨S2304x1, .i32⟩ : BufTy).Contents (Elt F) := ((broadcastInDim S2304x1 ![] bcast_S_S2304x1) : (⟨S_, .i32⟩ : BufTy).Contents (Elt F) → (⟨S2304x1, .i32⟩ : BufTy).Contents (Elt F)) a_main_call5_c_2
  let a_main_call5_v7 : (⟨S2304x1, .i1⟩ : BufTy).Contents (Elt F) := ((cmpi .sge) : (⟨S2304x1, .i32⟩ : BufTy).Contents (Elt F) → (⟨S2304x1, .i32⟩ : BufTy).Contents (Elt F) → (⟨S2304x1, .i1⟩ : BufTy).Contents (Elt F)) a_main_call5_v5 a_main_call5_v6
  let a_main_call5_c_1 : (⟨S1, .i32⟩ : BufTy).Contents (Elt F) := (constantI S1 32 2047#32)
  let a_main_call5_v8 : (⟨S1x1, .i32⟩ : BufTy).Contents (Elt F) := ((broadcastInDim S1x1 ![1] bcast_S1_S1x1_1) : (⟨S1, .i32⟩ : BufTy).Contents (Elt F) → (⟨S1x1, .i32⟩ : BufTy).Contents (Elt F)) a_main_call5_c_1
  let a_main_call5_v9 : (⟨S2304x1, .i32⟩ : BufTy).Contents (Elt F) := ((broadcastInDim S2304x1 ![0, 1] bcast_S1x1_S2304x1_0_1) : (⟨S1x1, .i32⟩ : BufTy).Contents (Elt F) → (⟨S2304x1, .i32⟩ : BufTy).Contents (Elt F)) a_main_call5_v8
  let a_main_call5_v10 : (⟨S2304x1, .i1⟩ : BufTy).Contents (Elt F) := ((cmpi .sle) : (⟨S2304x1, .i32⟩ : BufTy).Contents (Elt F) → (⟨S2304x1, .i32⟩ : BufTy).Contents (Elt F) → (⟨S2304x1, .i1⟩ : BufTy).Contents (Elt F)) a_main_call5_v5 a_main_call5_v9
  let a_main_call5_v11 : (⟨S2304x1, .i1⟩ : BufTy).Contents (Elt F) := ((andi) : (⟨S2304x1, .i1⟩ : BufTy).Contents (Elt F) → (⟨S2304x1, .i1⟩ : BufTy).Contents (Elt F) → (⟨S2304x1, .i1⟩ : BufTy).Contents (Elt F)) a_main_call5_v7 a_main_call5_v10
  let a_main_call5_c_3 : (⟨S_, .i1⟩ : BufTy).Contents (Elt F) := (constantI S_ 1 1#1)
  let a_main_call5_v12 : (⟨S2304, .i1⟩ : BufTy).Contents (Elt F) := ((fun x v => Host.reduce IntOp.andi x v reducesTo_S2304x1_S2304_d1 h_S_) : (⟨S2304x1, .i1⟩ : BufTy).Contents (Elt F) → (⟨S_, .i1⟩ : BufTy).Contents (Elt F) → (⟨S2304, .i1⟩ : BufTy).Contents (Elt F)) a_main_call5_v11 a_main_call5_c_3
  let a_main_call5_v13 : (⟨S2304, .f32⟩ : BufTy).Contents (Elt F) := ((fun x i => Host.gather gather_S2048_S2304x1_S2304_n_0_n_n_0_1_1 x i) : (⟨S2048, .f32⟩ : BufTy).Contents (Elt F) → (⟨S2304x1, .i32⟩ : BufTy).Contents (Elt F) → (⟨S2304, .f32⟩ : BufTy).Contents (Elt F)) a_main_v2_1 a_main_call5_v5
  let a_main_call5_cst : (⟨S_, .f32⟩ : BufTy).Contents (Elt F) := (constant S_ .f32 0x7FC00000#32)
  let a_main_call5_v14 : (⟨S2304, .f32⟩ : BufTy).Contents (Elt F) := ((broadcastInDim S2304 ![] bcast_S_S2304) : (⟨S_, .f32⟩ : BufTy).Contents (Elt F) → (⟨S2304, .f32⟩ : BufTy).Contents (Elt F)) a_main_call5_cst
  let a_main_v47 : (⟨S2304, .f32⟩ : BufTy).Contents (Elt F) := ((select) : (⟨S2304, .i1⟩ : BufTy).Contents (Elt F) → (⟨S2304, .f32⟩ : BufTy).Contents (Elt F) → (⟨S2304, .f32⟩ : BufTy).Contents (Elt F) → (⟨S2304, .f32⟩ : BufTy).Contents (Elt F)) a_main_call5_v12 a_main_call5_v13 a_main_call5_v14
  a_main_v47

set_option maxRecDepth 8192 in
set_option maxHeartbeats 2000000 in
theorem after_v47 (V : Valuation τ sig (Elt F)) : after opsB8 V (Proc.devRef .tc main_v50) = val_v47 (V (Proc.devRef .tc main_v49)) (V (Proc.devRef .tc main_v5_1)) := by
  simp only [opsB8, TRef.binary, TRef.nullary, TRef.ternary, TRef.unary, TRef.toBuf, TRef.ofBuf, cast_eq]; after_results_simp <;> rfl

def val_v60 (a_main_v47 : (⟨S2304, .f32⟩ : BufTy).Contents (Elt F)) (a_main_v14 : (⟨S9, .i1⟩ : BufTy).Contents (Elt F)) (a_main_v45 : (⟨S9x256, .i32⟩ : BufTy).Contents (Elt F)) (a_main_v6 : (⟨S_, .i32⟩ : BufTy).Contents (Elt F)) (a_main_v28 : (⟨S9, .i1⟩ : BufTy).Contents (Elt F)) : (⟨S9x256x1, .f32⟩ : BufTy).Contents (Elt F) :=
  let a_main_v48 : (⟨S9x256, .f32⟩ : BufTy).Contents (Elt F) := ((fun x => shapeCast S9x256 x shapeCasts_S2304_S9x256) : (⟨S2304, .f32⟩ : BufTy).Contents (Elt F) → (⟨S9x256, .f32⟩ : BufTy).Contents (Elt F)) a_main_v47
  let a_main_v49 : (⟨S9x1, .i1⟩ : BufTy).Contents (Elt F) := ((broadcastInDim S9x1 ![0] bcast_S9_S9x1_0 : (⟨S9, .i1⟩ : BufTy).Contents (Elt F) → (⟨S9x1, .i1⟩ : BufTy).Contents (Elt F)) : (⟨S9, .i1⟩ : BufTy).Contents (Elt F) → (⟨S9x1, .i1⟩ : BufTy).Contents (Elt F)) a_main_v14
  let a_main_call6_v0 : (⟨S9x256, .i1⟩ : BufTy).Contents (Elt F) := ((broadcastInDim S9x256 ![0, 1] bcast_S9x1_S9x256_0_1) : (⟨S9x1, .i1⟩ : BufTy).Contents (Elt F) → (⟨S9x256, .i1⟩ : BufTy).Contents (Elt F)) a_main_v49
  let a_main_v50 : (⟨S9x256, .i32⟩ : BufTy).Contents (Elt F) := ((broadcastInDim S9x256 ![] bcast_S_S9x256 : (⟨S_, .i32⟩ : BufTy).Contents (Elt F) → (⟨S9x256, .i32⟩ : BufTy).Contents (Elt F)) : (⟨S_, .i32⟩ : BufTy).Contents (Elt F) → (⟨S9x256, .i32⟩ : BufTy).Contents (Elt F)) a_main_v6
  let a_main_v51 : (⟨S9x256, .i1⟩ : BufTy).Contents (Elt F) := ((cmpi .slt : (⟨S9x256, .i32⟩ : BufTy).Contents (Elt F) → (⟨S9x256, .i32⟩ : BufTy).Contents (Elt F) → (⟨S9x256, .i1⟩ : BufTy).Contents (Elt F)) : (⟨S9x256, .i32⟩ : BufTy).Contents (Elt F) → (⟨S9x256, .i32⟩ : BufTy).Contents (Elt F) → (⟨S9x256, .i1⟩ : BufTy).Contents (Elt F)) a_main_v45 a_main_v50
  let a_main_v52 : (⟨S9x256, .i32⟩ : BufTy).Contents (Elt F) := ((broadcastInDim S9x256 ![] bcast_S_S9x256 : (⟨S_, .i32⟩ : BufTy).Contents (Elt F) → (⟨S9x256, .i32⟩ : BufTy).Contents (Elt F)) : (⟨S_, .i32⟩ : BufTy).Contents (Elt F) → (⟨S9x256, .i32⟩ : BufTy).Contents (Elt F)) a_main_v6
  let a_main_v53 : (⟨S9x256, .i1⟩ : BufTy).Contents (Elt F) := ((cmpi .sge : (⟨S9x256, .i32⟩ : BufTy).Contents (Elt F) → (⟨S9x256, .i32⟩ : BufTy).Contents (Elt F) → (⟨S9x256, .i1⟩ : BufTy).Contents (Elt F)) : (⟨S9x256, .i32⟩ : BufTy).Contents (Elt F) → (⟨S9x256, .i32⟩ : BufTy).Contents (Elt F) → (⟨S9x256, .i1⟩ : BufTy).Contents (Elt F)) a_main_v45 a_main_v52
  let a_main_v54 : (⟨S9x256, .i1⟩ : BufTy).Contents (Elt F) := ((select) : (⟨S9x256, .i1⟩ : BufTy).Contents (Elt F) → (⟨S9x256, .i1⟩ : BufTy).Contents (Elt F) → (⟨S9x256, .i1⟩ : BufTy).Contents (Elt F) → (⟨S9x256, .i1⟩ : BufTy).Contents (Elt F)) a_main_call6_v0 a_main_v51 a_main_v53
  let a_main_v55 : (⟨S9x1, .i1⟩ : BufTy).Contents (Elt F) := ((broadcastInDim S9x1 ![0] bcast_S9_S9x1_0 : (⟨S9, .i1⟩ : BufTy).Contents (Elt F) → (⟨S9x1, .i1⟩ : BufTy).Contents (Elt F)) : (⟨S9, .i1⟩ : BufTy).Contents (Elt F) → (⟨S9x1, .i1⟩ : BufTy).Contents (Elt F)) a_main_v28
  let a_main_v56 : (⟨S9x256, .i1⟩ : BufTy).Contents (Elt F) := ((broadcastInDim S9x256 ![0, 1] bcast_S9x1_S9x256_0_1 : (⟨S9x1, .i1⟩ : BufTy).Contents (Elt F) → (⟨S9x256, .i1⟩ : BufTy).Contents (Elt F)) : (⟨S9x1, .i1⟩ : BufTy).Contents (Elt F) → (⟨S9x256, .i1⟩ : BufTy).Contents (Elt F)) a_main_v55
  let a_main_v57 : (⟨S9x256, .i1⟩ : BufTy).Contents (Elt F) := ((andi : (⟨S9x256, .i1⟩ : BufTy).Contents (Elt F) → (⟨S9x256, .i1⟩ : BufTy).Contents (Elt F) → (⟨S9x256, .i1⟩ : BufTy).Contents (Elt F)) : (⟨S9x256, .i1⟩ : BufTy).Contents (Elt F) → (⟨S9x256, .i1⟩ : BufTy).Contents (Elt F) → (⟨S9x256, .i1⟩ : BufTy).Contents (Elt F)) a_main_v54 a_main_v56
  let a_main_v58 : (⟨S9x256, .f32⟩ : BufTy).Contents (Elt F) := ((uitofp .f32 : (⟨S9x256, .i1⟩ : BufTy).Contents (Elt F) → (⟨S9x256, .f32⟩ : BufTy).Contents (Elt F)) : (⟨S9x256, .i1⟩ : BufTy).Contents (Elt F) → (⟨S9x256, .f32⟩ : BufTy).Contents (Elt F)) a_main_v57
  let a_main_v59 : (⟨S9x256, .f32⟩ : BufTy).Contents (Elt F) := ((mulf : (⟨S9x256, .f32⟩ : BufTy).Contents (Elt F) → (⟨S9x256, .f32⟩ : BufTy).Contents (Elt F) → (⟨S9x256, .f32⟩ : BufTy).Contents (Elt F)) : (⟨S9x256, .f32⟩ : BufTy).Contents (Elt F) → (⟨S9x256, .f32⟩ : BufTy).Contents (Elt F) → (⟨S9x256, .f32⟩ : BufTy).Contents (Elt F)) a_main_v48 a_main_v58
  let a_main_v60 : (⟨S9x256x1, .f32⟩ : BufTy).Contents (Elt F) := ((fun x => shapeCast S9x256x1 x shapeCasts_S9x256_S9x256x1) : (⟨S9x256, .f32⟩ : BufTy).Contents (Elt F) → (⟨S9x256x1, .f32⟩ : BufTy).Contents (Elt F)) a_main_v59
  a_main_v60

set_option maxRecDepth 8192 in
set_option maxHeartbeats 2000000 in
theorem after_v60 (V : Valuation τ sig (Elt F)) : after opsB9 V (Proc.devRef .tc main_v63) = val_v60 (V (Proc.devRef .tc main_v50)) (V (Proc.devRef .tc main_v17)) (V (Proc.devRef .tc main_v48)) (V (Proc.devRef .tc main_v9)) (V (Proc.devRef .tc main_v31)) := by
  simp only [opsB9, TRef.binary, TRef.nullary, TRef.ternary, TRef.unary, TRef.toBuf, TRef.ofBuf, cast_eq]; after_results_simp <;> rfl

def val_v61  : (⟨S32, .i32⟩ : BufTy).Contents (Elt F) :=
  let a_main_v61 : (⟨S32, .i32⟩ : BufTy).Contents (Elt F) := (iotaInDim S32 32 0)
  a_main_v61

set_option maxRecDepth 8192 in
set_option maxHeartbeats 2000000 in
theorem after_v61 (V : Valuation τ sig (Elt F)) : after opsB10 V (Proc.devRef .tc main_v64) = val_v61  := by
  simp only [opsB10, TRef.binary, TRef.nullary, TRef.ternary, TRef.unary, TRef.toBuf, TRef.ofBuf, cast_eq]; after_results_simp <;> rfl

def val_v62  : (⟨S32, .i32⟩ : BufTy).Contents (Elt F) :=
  let a_main_v61 : (⟨S32, .i32⟩ : BufTy).Contents (Elt F) := (iotaInDim S32 32 0)
  let a_main_call7_v3 : (⟨S32, .i32⟩ : BufTy).Contents (Elt F) := ((signi) : (⟨S32, .i32⟩ : BufTy).Contents (Elt F) → (⟨S32, .i32⟩ : BufTy).Contents (Elt F)) a_main_v61
  let a_main_c_11 : (⟨S_, .i32⟩ : BufTy).Contents (Elt F) := (constantI S_ 32 2#32)
  let a_main_call7_v0 : (⟨S_, .i32⟩ : BufTy).Contents (Elt F) := ((id) : (⟨S_, .i32⟩ : BufTy).Contents (Elt F) → (⟨S_, .i32⟩ : BufTy).Contents (Elt F)) a_main_c_11
  let a_main_call7_v4 : (⟨S_, .i32⟩ : BufTy).Contents (Elt F) := ((signi) : (⟨S_, .i32⟩ : BufTy).Contents (Elt F) → (⟨S_, .i32⟩ : BufTy).Contents (Elt F)) a_main_call7_v0
  let a_main_call7_v5 : (⟨S32, .i32⟩ : BufTy).Contents (Elt F) := ((broadcastInDim S32 ![] bcast_S_S32) : (⟨S_, .i32⟩ : BufTy).Contents (Elt F) → (⟨S32, .i32⟩ : BufTy).Contents (Elt F)) a_main_call7_v4
  let a_main_call7_v6 : (⟨S32, .i1⟩ : BufTy).Contents (Elt F) := ((cmpi .ne) : (⟨S32, .i32⟩ : BufTy).Contents (Elt F) → (⟨S32, .i32⟩ : BufTy).Contents (Elt F) → (⟨S32, .i1⟩ : BufTy).Contents (Elt F)) a_main_call7_v3 a_main_call7_v5
  let a_main_call7_v7 : (⟨S32, .i32⟩ : BufTy).Contents (Elt F) := ((broadcastInDim S32 ![] bcast_S_S32) : (⟨S_, .i32⟩ : BufTy).Contents (Elt F) → (⟨S32, .i32⟩ : BufTy).Contents (Elt F)) a_main_call7_v0
  let a_main_call7_v8 : (⟨S32, .i32⟩ : BufTy).Contents (Elt F) := ((Host.remsi) : (⟨S32, .i32⟩ : BufTy).Contents (Elt F) → (⟨S32, .i32⟩ : BufTy).Contents (Elt F) → (⟨S32, .i32⟩ : BufTy).Contents (Elt F)) a_main_v61 a_main_call7_v7
  let a_main_call7_c : (⟨S_, .i32⟩ : BufTy).Contents (Elt F) := (constantI S_ 32 0#32)
  let a_main_call7_v9 : (⟨S32, .i32⟩ : BufTy).Contents (Elt F) := ((broadcastInDim S32 ![] bcast_S_S32) : (⟨S_, .i32⟩ : BufTy).Contents (Elt F) → (⟨S32, .i32⟩ : BufTy).Contents (Elt F)) a_main_call7_c
  let a_main_call7_v10 : (⟨S32, .i1⟩ : BufTy).Contents (Elt F) := ((cmpi .ne) : (⟨S32, .i32⟩ : BufTy).Contents (Elt F) → (⟨S32, .i32⟩ : BufTy).Contents (Elt F) → (⟨S32, .i1⟩ : BufTy).Contents (Elt F)) a_main_call7_v8 a_main_call7_v9
  let a_main_call7_v11 : (⟨S32, .i1⟩ : BufTy).Contents (Elt F) := ((andi) : (⟨S32, .i1⟩ : BufTy).Contents (Elt F) → (⟨S32, .i1⟩ : BufTy).Contents (Elt F) → (⟨S32, .i1⟩ : BufTy).Contents (Elt F)) a_main_call7_v6 a_main_call7_v10
  let a_main_call7_v1 : (⟨S32, .i32⟩ : BufTy).Contents (Elt F) := ((broadcastInDim S32 ![] bcast_S_S32) : (⟨S_, .i32⟩ : BufTy).Contents (Elt F) → (⟨S32, .i32⟩ : BufTy).Contents (Elt F)) a_main_call7_v0
  let a_main_call7_v2 : (⟨S32, .i32⟩ : BufTy).Contents (Elt F) := ((Host.divsi) : (⟨S32, .i32⟩ : BufTy).Contents (Elt F) → (⟨S32, .i32⟩ : BufTy).Contents (Elt F) → (⟨S32, .i32⟩ : BufTy).Contents (Elt F)) a_main_v61 a_main_call7_v1
  let a_main_call7_c_0 : (⟨S_, .i32⟩ : BufTy).Contents (Elt F) := (constantI S_ 32 1#32)
  let a_main_call7_v12 : (⟨S32, .i32⟩ : BufTy).Contents (Elt F) := ((broadcastInDim S32 ![] bcast_S_S32) : (⟨S_, .i32⟩ : BufTy).Contents (Elt F) → (⟨S32, .i32⟩ : BufTy).Contents (Elt F)) a_main_call7_c_0
  let a_main_call7_v13 : (⟨S32, .i32⟩ : BufTy).Contents (Elt F) := ((subi) : (⟨S32, .i32⟩ : BufTy).Contents (Elt F) → (⟨S32, .i32⟩ : BufTy).Contents (Elt F) → (⟨S32, .i32⟩ : BufTy).Contents (Elt F)) a_main_call7_v2 a_main_call7_v12
  let a_main_v62 : (⟨S32, .i32⟩ : BufTy).Contents (Elt F) := ((select) : (⟨S32, .i1⟩ : BufTy).Contents (Elt F) → (⟨S32, .i32⟩ : BufTy).Contents (Elt F) → (⟨S32, .i32⟩ : BufTy).Contents (Elt F) → (⟨S32, .i32⟩ : BufTy).Contents (Elt F)) a_main_call7_v11 a_main_call7_v13 a_main_call7_v2
  a_main_v62

set_option maxRecDepth 8192 in
set_option maxHeartbeats 2000000 in
theorem after_v62 (V : Valuation τ sig (Elt F)) : after opsB10 V (Proc.devRef .tc main_v65) = val_v62  := by
  simp only [opsB10, TRef.binary, TRef.nullary, TRef.ternary, TRef.unary, TRef.toBuf, TRef.ofBuf, cast_eq]; after_results_simp <;> rfl

def val_v63 (a_main_v61 : (⟨S32, .i32⟩ : BufTy).Contents (Elt F)) : (⟨S32, .i32⟩ : BufTy).Contents (Elt F) :=
  let a_main_c_12 : (⟨S_, .i32⟩ : BufTy).Contents (Elt F) := (constantI S_ 32 2#32)
  let a_main_call8_v0 : (⟨S_, .i32⟩ : BufTy).Contents (Elt F) := ((id) : (⟨S_, .i32⟩ : BufTy).Contents (Elt F) → (⟨S_, .i32⟩ : BufTy).Contents (Elt F)) a_main_c_12
  let a_main_call8_c : (⟨S_, .i32⟩ : BufTy).Contents (Elt F) := (constantI S_ 32 0#32)
  let a_main_call8_v1 : (⟨S_, .i1⟩ : BufTy).Contents (Elt F) := ((cmpi .eq) : (⟨S_, .i32⟩ : BufTy).Contents (Elt F) → (⟨S_, .i32⟩ : BufTy).Contents (Elt F) → (⟨S_, .i1⟩ : BufTy).Contents (Elt F)) a_main_call8_v0 a_main_call8_c
  let a_main_call8_c_0 : (⟨S_, .i32⟩ : BufTy).Contents (Elt F) := (constantI S_ 32 1#32)
  let a_main_call8_v2 : (⟨S_, .i32⟩ : BufTy).Contents (Elt F) := ((select) : (⟨S_, .i1⟩ : BufTy).Contents (Elt F) → (⟨S_, .i32⟩ : BufTy).Contents (Elt F) → (⟨S_, .i32⟩ : BufTy).Contents (Elt F) → (⟨S_, .i32⟩ : BufTy).Contents (Elt F)) a_main_call8_v1 a_main_call8_c_0 a_main_call8_v0
  let a_main_call8_v3 : (⟨S32, .i32⟩ : BufTy).Contents (Elt F) := ((broadcastInDim S32 ![] bcast_S_S32) : (⟨S_, .i32⟩ : BufTy).Contents (Elt F) → (⟨S32, .i32⟩ : BufTy).Contents (Elt F)) a_main_call8_v2
  let a_main_call8_v4 : (⟨S32, .i32⟩ : BufTy).Contents (Elt F) := ((Host.remsi) : (⟨S32, .i32⟩ : BufTy).Contents (Elt F) → (⟨S32, .i32⟩ : BufTy).Contents (Elt F) → (⟨S32, .i32⟩ : BufTy).Contents (Elt F)) a_main_v61 a_main_call8_v3
  let a_main_call8_c_2 : (⟨S_, .i32⟩ : BufTy).Contents (Elt F) := (constantI S_ 32 0#32)
  let a_main_call8_v7 : (⟨S32, .i32⟩ : BufTy).Contents (Elt F) := ((broadcastInDim S32 ![] bcast_S_S32) : (⟨S_, .i32⟩ : BufTy).Contents (Elt F) → (⟨S32, .i32⟩ : BufTy).Contents (Elt F)) a_main_call8_c_2
  let a_main_call8_v8 : (⟨S32, .i1⟩ : BufTy).Contents (Elt F) := ((cmpi .slt) : (⟨S32, .i32⟩ : BufTy).Contents (Elt F) → (⟨S32, .i32⟩ : BufTy).Contents (Elt F) → (⟨S32, .i1⟩ : BufTy).Contents (Elt F)) a_main_call8_v4 a_main_call8_v7
  let a_main_call8_c_3 : (⟨S_, .i32⟩ : BufTy).Contents (Elt F) := (constantI S_ 32 0#32)
  let a_main_call8_v9 : (⟨S_, .i1⟩ : BufTy).Contents (Elt F) := ((cmpi .slt) : (⟨S_, .i32⟩ : BufTy).Contents (Elt F) → (⟨S_, .i32⟩ : BufTy).Contents (Elt F) → (⟨S_, .i1⟩ : BufTy).Contents (Elt F)) a_main_call8_v2 a_main_call8_c_3
  let a_main_call8_v10 : (⟨S32, .i1⟩ : BufTy).Contents (Elt F) := ((broadcastInDim S32 ![] bcast_S_S32) : (⟨S_, .i1⟩ : BufTy).Contents (Elt F) → (⟨S32, .i1⟩ : BufTy).Contents (Elt F)) a_main_call8_v9
  let a_main_call8_v11 : (⟨S32, .i1⟩ : BufTy).Contents (Elt F) := ((cmpi .ne) : (⟨S32, .i1⟩ : BufTy).Contents (Elt F) → (⟨S32, .i1⟩ : BufTy).Contents (Elt F) → (⟨S32, .i1⟩ : BufTy).Contents (Elt F)) a_main_call8_v8 a_main_call8_v10
  let a_main_call8_c_1 : (⟨S_, .i32⟩ : BufTy).Contents (Elt F) := (constantI S_ 32 0#32)
  let a_main_call8_v5 : (⟨S32, .i32⟩ : BufTy).Contents (Elt F) := ((broadcastInDim S32 ![] bcast_S_S32) : (⟨S_, .i32⟩ : BufTy).Contents (Elt F) → (⟨S32, .i32⟩ : BufTy).Contents (Elt F)) a_main_call8_c_1
  let a_main_call8_v6 : (⟨S32, .i1⟩ : BufTy).Contents (Elt F) := ((cmpi .ne) : (⟨S32, .i32⟩ : BufTy).Contents (Elt F) → (⟨S32, .i32⟩ : BufTy).Contents (Elt F) → (⟨S32, .i1⟩ : BufTy).Contents (Elt F)) a_main_call8_v4 a_main_call8_v5
  let a_main_call8_v12 : (⟨S32, .i1⟩ : BufTy).Contents (Elt F) := ((andi) : (⟨S32, .i1⟩ : BufTy).Contents (Elt F) → (⟨S32, .i1⟩ : BufTy).Contents (Elt F) → (⟨S32, .i1⟩ : BufTy).Contents (Elt F)) a_main_call8_v11 a_main_call8_v6
  let a_main_call8_v13 : (⟨S32, .i32⟩ : BufTy).Contents (Elt F) := ((broadcastInDim S32 ![] bcast_S_S32) : (⟨S_, .i32⟩ : BufTy).Contents (Elt F) → (⟨S32, .i32⟩ : BufTy).Contents (Elt F)) a_main_call8_v2
  let a_main_call8_v14 : (⟨S32, .i32⟩ : BufTy).Contents (Elt F) := ((addi) : (⟨S32, .i32⟩ : BufTy).Contents (Elt F) → (⟨S32, .i32⟩ : BufTy).Contents (Elt F) → (⟨S32, .i32⟩ : BufTy).Contents (Elt F)) a_main_call8_v4 a_main_call8_v13
  let a_main_v63 : (⟨S32, .i32⟩ : BufTy).Contents (Elt F) := ((select) : (⟨S32, .i1⟩ : BufTy).Contents (Elt F) → (⟨S32, .i32⟩ : BufTy).Contents (Elt F) → (⟨S32, .i32⟩ : BufTy).Contents (Elt F) → (⟨S32, .i32⟩ : BufTy).Contents (Elt F)) a_main_call8_v12 a_main_call8_v14 a_main_call8_v4
  a_main_v63

set_option maxRecDepth 8192 in
set_option maxHeartbeats 2000000 in
theorem after_v63 (V : Valuation τ sig (Elt F)) : after opsB11 V (Proc.devRef .tc main_v66) = val_v63 (V (Proc.devRef .tc main_v64)) := by
  simp only [opsB11, TRef.binary, TRef.nullary, TRef.ternary, TRef.unary, TRef.toBuf, TRef.ofBuf, cast_eq]; after_results_simp <;> rfl

def val_v67 (a_main_v63 : (⟨S32, .i32⟩ : BufTy).Contents (Elt F)) (a_main_v11 : (⟨S_, .i32⟩ : BufTy).Contents (Elt F)) : (⟨S32, .i32⟩ : BufTy).Contents (Elt F) :=
  let a_main_c_13 : (⟨S_, .i32⟩ : BufTy).Contents (Elt F) := (constantI S_ 32 0#32)
  let a_main_v64 : (⟨S32, .i32⟩ : BufTy).Contents (Elt F) := ((broadcastInDim S32 ![] bcast_S_S32 : (⟨S_, .i32⟩ : BufTy).Contents (Elt F) → (⟨S32, .i32⟩ : BufTy).Contents (Elt F)) : (⟨S_, .i32⟩ : BufTy).Contents (Elt F) → (⟨S32, .i32⟩ : BufTy).Contents (Elt F)) a_main_c_13
  let a_main_v65 : (⟨S32, .i1⟩ : BufTy).Contents (Elt F) := ((cmpi .eq : (⟨S32, .i32⟩ : BufTy).Contents (Elt F) → (⟨S32, .i32⟩ : BufTy).Contents (Elt F) → (⟨S32, .i1⟩ : BufTy).Contents (Elt F)) : (⟨S32, .i32⟩ : BufTy).Contents (Elt F) → (⟨S32, .i32⟩ : BufTy).Contents (Elt F) → (⟨S32, .i1⟩ : BufTy).Contents (Elt F)) a_main_v63 a_main_v64
  let a_main_call9_v0 : (⟨S32, .i32⟩ : BufTy).Contents (Elt F) := ((broadcastInDim S32 ![] bcast_S_S32) : (⟨S_, .i32⟩ : BufTy).Contents (Elt F) → (⟨S32, .i32⟩ : BufTy).Contents (Elt F)) a_main_v11
  let a_main_c_14 : (⟨S_, .i32⟩ : BufTy).Contents (Elt F) := (constantI S_ 32 9#32)
  let a_main_v66 : (⟨S_, .i32⟩ : BufTy).Contents (Elt F) := ((subi : (⟨S_, .i32⟩ : BufTy).Contents (Elt F) → (⟨S_, .i32⟩ : BufTy).Contents (Elt F) → (⟨S_, .i32⟩ : BufTy).Contents (Elt F)) : (⟨S_, .i32⟩ : BufTy).Contents (Elt F) → (⟨S_, .i32⟩ : BufTy).Contents (Elt F) → (⟨S_, .i32⟩ : BufTy).Contents (Elt F)) a_main_c_14 a_main_v11
  let a_main_call9_v1 : (⟨S32, .i32⟩ : BufTy).Contents (Elt F) := ((broadcastInDim S32 ![] bcast_S_S32) : (⟨S_, .i32⟩ : BufTy).Contents (Elt F) → (⟨S32, .i32⟩ : BufTy).Contents (Elt F)) a_main_v66
  let a_main_v67 : (⟨S32, .i32⟩ : BufTy).Contents (Elt F) := ((select) : (⟨S32, .i1⟩ : BufTy).Contents (Elt F) → (⟨S32, .i32⟩ : BufTy).Contents (Elt F) → (⟨S32, .i32⟩ : BufTy).Contents (Elt F) → (⟨S32, .i32⟩ : BufTy).Contents (Elt F)) a_main_v65 a_main_call9_v0 a_main_call9_v1
  a_main_v67

set_option maxRecDepth 8192 in
set_option maxHeartbeats 2000000 in
theorem after_v67 (V : Valuation τ sig (Elt F)) : after opsB12 V (Proc.devRef .tc main_v70) = val_v67 (V (Proc.devRef .tc main_v66)) (V (Proc.devRef .tc main_v14)) := by
  simp only [opsB12, TRef.binary, TRef.nullary, TRef.ternary, TRef.unary, TRef.toBuf, TRef.ofBuf, cast_eq]; after_results_simp <;> rfl

def val_v70 (a_main_v63 : (⟨S32, .i32⟩ : BufTy).Contents (Elt F)) (a_main_v11 : (⟨S_, .i32⟩ : BufTy).Contents (Elt F)) : (⟨S32, .i32⟩ : BufTy).Contents (Elt F) :=
  let a_main_c_15 : (⟨S_, .i32⟩ : BufTy).Contents (Elt F) := (constantI S_ 32 0#32)
  let a_main_v68 : (⟨S32, .i32⟩ : BufTy).Contents (Elt F) := ((broadcastInDim S32 ![] bcast_S_S32 : (⟨S_, .i32⟩ : BufTy).Contents (Elt F) → (⟨S32, .i32⟩ : BufTy).Contents (Elt F)) : (⟨S_, .i32⟩ : BufTy).Contents (Elt F) → (⟨S32, .i32⟩ : BufTy).Contents (Elt F)) a_main_c_15
  let a_main_v69 : (⟨S32, .i1⟩ : BufTy).Contents (Elt F) := ((cmpi .eq : (⟨S32, .i32⟩ : BufTy).Contents (Elt F) → (⟨S32, .i32⟩ : BufTy).Contents (Elt F) → (⟨S32, .i1⟩ : BufTy).Contents (Elt F)) : (⟨S32, .i32⟩ : BufTy).Contents (Elt F) → (⟨S32, .i32⟩ : BufTy).Contents (Elt F) → (⟨S32, .i1⟩ : BufTy).Contents (Elt F)) a_main_v63 a_main_v68
  let a_main_c_16 : (⟨S_, .i32⟩ : BufTy).Contents (Elt F) := (constantI S_ 32 0#32)
  let a_main_call10_v0 : (⟨S_, .i32⟩ : BufTy).Contents (Elt F) := ((id) : (⟨S_, .i32⟩ : BufTy).Contents (Elt F) → (⟨S_, .i32⟩ : BufTy).Contents (Elt F)) a_main_c_16
  let a_main_call10_v1 : (⟨S32, .i32⟩ : BufTy).Contents (Elt F) := ((broadcastInDim S32 ![] bcast_S_S32) : (⟨S_, .i32⟩ : BufTy).Contents (Elt F) → (⟨S32, .i32⟩ : BufTy).Contents (Elt F)) a_main_call10_v0
  let a_main_call10_v2 : (⟨S32, .i32⟩ : BufTy).Contents (Elt F) := ((broadcastInDim S32 ![] bcast_S_S32) : (⟨S_, .i32⟩ : BufTy).Contents (Elt F) → (⟨S32, .i32⟩ : BufTy).Contents (Elt F)) a_main_v11
  let a_main_v70 : (⟨S32, .i32⟩ : BufTy).Contents (Elt F) := ((select) : (⟨S32, .i1⟩ : BufTy).Contents (Elt F) → (⟨S32, .i32⟩ : BufTy).Contents (Elt F) → (⟨S32, .i32⟩ : BufTy).Contents (Elt F) → (⟨S32, .i32⟩ : BufTy).Contents (Elt F)) a_main_v69 a_main_call10_v1 a_main_call10_v2
  a_main_v70

set_option maxRecDepth 8192 in
set_option maxHeartbeats 2000000 in
theorem after_v70 (V : Valuation τ sig (Elt F)) : after opsB13 V (Proc.devRef .tc main_v73) = val_v70 (V (Proc.devRef .tc main_v66)) (V (Proc.devRef .tc main_v14)) := by
  simp only [opsB13, TRef.binary, TRef.nullary, TRef.ternary, TRef.unary, TRef.toBuf, TRef.ofBuf, cast_eq]; after_results_simp <;> rfl

def val_v74 (a_main_v63 : (⟨S32, .i32⟩ : BufTy).Contents (Elt F)) (a_main_v7 : (⟨S_, .i32⟩ : BufTy).Contents (Elt F)) : (⟨S32, .i32⟩ : BufTy).Contents (Elt F) :=
  let a_main_c_17 : (⟨S_, .i32⟩ : BufTy).Contents (Elt F) := (constantI S_ 32 0#32)
  let a_main_v71 : (⟨S32, .i32⟩ : BufTy).Contents (Elt F) := ((broadcastInDim S32 ![] bcast_S_S32 : (⟨S_, .i32⟩ : BufTy).Contents (Elt F) → (⟨S32, .i32⟩ : BufTy).Contents (Elt F)) : (⟨S_, .i32⟩ : BufTy).Contents (Elt F) → (⟨S32, .i32⟩ : BufTy).Contents (Elt F)) a_main_c_17
  let a_main_v72 : (⟨S32, .i1⟩ : BufTy).Contents (Elt F) := ((cmpi .eq : (⟨S32, .i32⟩ : BufTy).Contents (Elt F) → (⟨S32, .i32⟩ : BufTy).Contents (Elt F) → (⟨S32, .i1⟩ : BufTy).Contents (Elt F)) : (⟨S32, .i32⟩ : BufTy).Contents (Elt F) → (⟨S32, .i32⟩ : BufTy).Contents (Elt F) → (⟨S32, .i1⟩ : BufTy).Contents (Elt F)) a_main_v63 a_main_v71
  let a_main_c_19 : (⟨S_, .i32⟩ : BufTy).Contents (Elt F) := (constantI S_ 32 0#32)
  let a_main_call11_v0 : (⟨S_, .i32⟩ : BufTy).Contents (Elt F) := ((id) : (⟨S_, .i32⟩ : BufTy).Contents (Elt F) → (⟨S_, .i32⟩ : BufTy).Contents (Elt F)) a_main_c_19
  let a_main_call11_v1 : (⟨S32, .i32⟩ : BufTy).Contents (Elt F) := ((broadcastInDim S32 ![] bcast_S_S32) : (⟨S_, .i32⟩ : BufTy).Contents (Elt F) → (⟨S32, .i32⟩ : BufTy).Contents (Elt F)) a_main_call11_v0
  let a_main_c_18 : (⟨S_, .i32⟩ : BufTy).Contents (Elt F) := (constantI S_ 32 7#32)
  let a_main_v73 : (⟨S_, .i32⟩ : BufTy).Contents (Elt F) := ((minsi : (⟨S_, .i32⟩ : BufTy).Contents (Elt F) → (⟨S_, .i32⟩ : BufTy).Contents (Elt F) → (⟨S_, .i32⟩ : BufTy).Contents (Elt F)) : (⟨S_, .i32⟩ : BufTy).Contents (Elt F) → (⟨S_, .i32⟩ : BufTy).Contents (Elt F) → (⟨S_, .i32⟩ : BufTy).Contents (Elt F)) a_main_v7 a_main_c_18
  let a_main_call11_v2 : (⟨S32, .i32⟩ : BufTy).Contents (Elt F) := ((broadcastInDim S32 ![] bcast_S_S32) : (⟨S_, .i32⟩ : BufTy).Contents (Elt F) → (⟨S32, .i32⟩ : BufTy).Contents (Elt F)) a_main_v73
  let a_main_v74 : (⟨S32, .i32⟩ : BufTy).Contents (Elt F) := ((select) : (⟨S32, .i1⟩ : BufTy).Contents (Elt F) → (⟨S32, .i32⟩ : BufTy).Contents (Elt F) → (⟨S32, .i32⟩ : BufTy).Contents (Elt F) → (⟨S32, .i32⟩ : BufTy).Contents (Elt F)) a_main_v72 a_main_call11_v1 a_main_call11_v2
  a_main_v74

set_option maxRecDepth 8192 in
set_option maxHeartbeats 2000000 in
theorem after_v74 (V : Valuation τ sig (Elt F)) : after opsB13 V (Proc.devRef .tc main_v77) = val_v74 (V (Proc.devRef .tc main_v66)) (V (Proc.devRef .tc main_v10)) := by
  simp only [opsB13, TRef.binary, TRef.nullary, TRef.ternary, TRef.unary, TRef.toBuf, TRef.ofBuf, cast_eq]; after_results_simp <;> rfl

def val_v77 (a_main_v75 : (⟨S2048x2048, .f32⟩ : BufTy).Contents (Elt F)) : (⟨S8x2048x2x128, .f32⟩ : BufTy).Contents (Elt F) :=
  let a_main_v76 : (⟨S2048x8x2x128, .f32⟩ : BufTy).Contents (Elt F) := ((fun x => shapeCast S2048x8x2x128 x shapeCasts_S2048x2048_S2048x8x2x128) : (⟨S2048x2048, .f32⟩ : BufTy).Contents (Elt F) → (⟨S2048x8x2x128, .f32⟩ : BufTy).Contents (Elt F)) a_main_v75
  let a_main_v77 : (⟨S8x2048x2x128, .f32⟩ : BufTy).Contents (Elt F) := (((transpose S8x2048x2x128 [1, 0, 2, 3] · transposes_S2048x8x2x128_S8x2048x2x128_1_0_2_3) : (⟨S2048x8x2x128, .f32⟩ : BufTy).Contents (Elt F) → (⟨S8x2048x2x128, .f32⟩ : BufTy).Contents (Elt F)) : (⟨S2048x8x2x128, .f32⟩ : BufTy).Contents (Elt F) → (⟨S8x2048x2x128, .f32⟩ : BufTy).Contents (Elt F)) a_main_v76
  a_main_v77

set_option maxRecDepth 8192 in
set_option maxHeartbeats 2000000 in
theorem after_v77 (V : Valuation τ sig (Elt F)) : after opsC V (Proc.devRef .tc main_v80) = val_v77 (V (Proc.devRef .tc main_v78)) := by
  simp only [opsC, TRef.binary, TRef.nullary, TRef.ternary, TRef.unary, TRef.toBuf, TRef.ofBuf, cast_eq]; after_results_simp <;> rfl

def val_v78 (a_main_v2_2 : (⟨S2048, .i32⟩ : BufTy).Contents (Elt F)) : (⟨S32x2x32, .i32⟩ : BufTy).Contents (Elt F) :=
  let a_main_v78 : (⟨S32x2x32, .i32⟩ : BufTy).Contents (Elt F) := ((fun x => shapeCast S32x2x32 x shapeCasts_S2048_S32x2x32) : (⟨S2048, .i32⟩ : BufTy).Contents (Elt F) → (⟨S32x2x32, .i32⟩ : BufTy).Contents (Elt F)) a_main_v2_2
  a_main_v78

set_option maxRecDepth 8192 in
set_option maxHeartbeats 2000000 in
theorem after_v78 (V : Valuation τ sig (Elt F)) : after opsC V (Proc.devRef .tc main_v81) = val_v78 (V (Proc.devRef .tc main_v5_2)) := by
  simp only [opsC, TRef.binary, TRef.nullary, TRef.ternary, TRef.unary, TRef.toBuf, TRef.ofBuf, cast_eq]; after_results_simp <;> rfl

def val_v81 (a_main_v79 : (⟨S8x2048x2x128, .f32⟩ : BufTy).Contents (Elt F)) : (⟨S2048x2048, .f32⟩ : BufTy).Contents (Elt F) :=
  let a_main_v80 : (⟨S2048x8x2x128, .f32⟩ : BufTy).Contents (Elt F) := (((transpose S2048x8x2x128 [1, 0, 2, 3] · transposes_S8x2048x2x128_S2048x8x2x128_1_0_2_3) : (⟨S8x2048x2x128, .f32⟩ : BufTy).Contents (Elt F) → (⟨S2048x8x2x128, .f32⟩ : BufTy).Contents (Elt F)) : (⟨S8x2048x2x128, .f32⟩ : BufTy).Contents (Elt F) → (⟨S2048x8x2x128, .f32⟩ : BufTy).Contents (Elt F)) a_main_v79
  let a_main_v81 : (⟨S2048x2048, .f32⟩ : BufTy).Contents (Elt F) := ((fun x => shapeCast S2048x2048 x shapeCasts_S2048x8x2x128_S2048x2048) : (⟨S2048x8x2x128, .f32⟩ : BufTy).Contents (Elt F) → (⟨S2048x2048, .f32⟩ : BufTy).Contents (Elt F)) a_main_v80
  a_main_v81

set_option maxRecDepth 8192 in
set_option maxHeartbeats 2000000 in
theorem after_v81 (V : Valuation τ sig (Elt F)) : after opsD V (Proc.devRef .tc main_v84) = val_v81 (V (Proc.devRef .tc main_v82)) := by
  simp only [opsD, TRef.binary, TRef.nullary, TRef.ternary, TRef.unary, TRef.toBuf, TRef.ofBuf, cast_eq]; after_results_simp <;> rfl

end Cert.Proof.Setup

end
-- ==== Proof.HostNums.lean ====
/-
  The words the host computes for the product's tables.
-/
module

public import proofs.«01_k».proof.Proof.HostVals
public import Idealize.ShloMosaic.PureOps.Ideal

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.StableHlo
open Idealize.ShloMosaic.TcCoe

/-! The lines' words, from the number of tokens of expert 0. -/

set_option maxRecDepth 100000 in
theorem quo_all : ∀ k : Fin 2049, val_v7 (F := Ideal) (fun _ => BitVec.ofNat 32 k.val) (fun a => a.elim0) = BitVec.ofNat 32 (k.val / 256) := by
  decide +kernel

set_option maxRecDepth 100000 in
theorem rem_all : ∀ k : Fin 2049, val_v8 (F := Ideal) (fun _ => BitVec.ofNat 32 k.val) (fun a => a.elim0) = BitVec.ofNat 32 (k.val % 256) := by
  decide +kernel

theorem point_eq (y : S_.Idx) : y = fun a => a.elim0 := funext fun a => a.elim0

theorem v7_num (n : ℕ) (h : n ≤ 2048) : val_v7 (F := F) (fun _ => BitVec.ofNat 32 n) = fun _ => BitVec.ofNat 32 (n / 256) :=
  funext fun y => (congrArg (val_v7 (F := F) (fun _ => BitVec.ofNat 32 n)) (point_eq y)).trans (quo_all ⟨n, by omega⟩)

theorem v8_num (n : ℕ) (h : n ≤ 2048) : val_v8 (F := F) (fun _ => BitVec.ofNat 32 n) = fun _ => BitVec.ofNat 32 (n % 256) :=
  funext fun y => (congrArg (val_v8 (F := F) (fun _ => BitVec.ofNat 32 n)) (point_eq y)).trans (rem_all ⟨n, by omega⟩)

/-- Whether a last, partly filled tile of expert 0 is there. -/
def spare (n : ℕ) : ℕ := if n % 256 = 0 then 0 else 1

set_option maxRecDepth 100000 in
theorem tiles_all : ∀ (q : Fin 9) (r : Fin 256), val_v11 (F := Ideal) (fun _ => BitVec.ofNat 32 q.val) (fun _ => BitVec.ofNat 32 r.val) (fun a => a.elim0)
    = BitVec.ofNat 32 (q.val + if r.val = 0 then 0 else 1) := by decide +kernel

theorem v11_num (n : ℕ) (h : n ≤ 2048) : val_v11 (F := F) (fun _ => BitVec.ofNat 32 (n / 256)) (fun _ => BitVec.ofNat 32 (n % 256))
    = fun _ => BitVec.ofNat 32 (tiles n) :=
  funext fun y => (congrArg (val_v11 (F := F) _ _) (point_eq y)).trans (tiles_all ⟨n / 256, by omega⟩ ⟨n % 256, by omega⟩)

/-- The row tile of tile `g`. -/
def rowAt (n g : ℕ) : ℕ := if g < tiles n then g else min (n / 256 + (g - tiles n)) 7

theorem tiles_le' (n : ℕ) (h : n ≤ 2048) : tiles n ≤ 8 := by unfold tiles; split <;> omega

theorem v12_num : val_v12 (F := F) = fun (y : S9.Idx) => BitVec.ofNat 32 (y 0).val := rfl

set_option maxRecDepth 100000 in
theorem first_all : ∀ (t g : Fin 9), val_v14 (F := Ideal) (fun _ => BitVec.ofNat 32 t.val) (ix1 g) = if g.val < t.val then 1#1 else 0#1 := by decide +kernel

theorem v14_num (t : ℕ) (h : t ≤ 8) : val_v14 (F := F) (fun _ => BitVec.ofNat 32 t) = fun (y : S9.Idx) => if (y 0).val < t then 1#1 else 0#1 :=
  funext fun (y : S9.Idx) => (congrArg (val_v14 (F := F) _) (eq_ix1 y)).trans (first_all ⟨t, by omega⟩ (y 0))

set_option maxRecDepth 100000 in
theorem row_all : ∀ (t q g : Fin 9), val_v21 (F := Ideal) (fun _ => BitVec.ofNat 32 t.val) (fun _ => BitVec.ofNat 32 q.val) (ix1 g)
    = if g.val < t.val then BitVec.ofNat 32 g.val else BitVec.ofNat 32 (min (q.val + (g.val - t.val)) 7) := by decide +kernel

theorem v21_num (n : ℕ) (h : n ≤ 2048) : val_v21 (F := F) (fun _ => BitVec.ofNat 32 (tiles n)) (fun _ => BitVec.ofNat 32 (n / 256))
    = fun (y : S9.Idx) => BitVec.ofNat 32 (rowAt n (y 0).val) :=
  funext fun (y : S9.Idx) => (congrArg (val_v21 (F := F) _ _) (eq_ix1 y)).trans
    ((row_all ⟨tiles n, Nat.lt_succ_of_le (tiles_le' n h)⟩ ⟨n / 256, by omega⟩ (y 0)).trans (by unfold rowAt; split <;> rfl))

set_option maxRecDepth 100000 in
theorem valid_all : ∀ (r : Fin 256) (g : Fin 9), val_v28 (F := Ideal) (val_v12 (F := Ideal)) (fun _ => BitVec.ofNat 32 r.val) (ix1 g)
    = if g.val < 8 + (if r.val = 0 then 0 else 1) then 1#1 else 0#1 := by decide +kernel

theorem v28_num (n : ℕ) : val_v28 (F := F) (val_v12 (F := F)) (fun _ => BitVec.ofNat 32 (n % 256))
    = fun (y : S9.Idx) => if (y 0).val < 8 + spare n then 1#1 else 0#1 :=
  funext fun (y : S9.Idx) => (congrArg (val_v28 (F := F) _ _) (eq_ix1 y)).trans (valid_all ⟨n % 256, by omega⟩ (y 0))

set_option maxRecDepth 100000 in
theorem init_all : ∀ (r : Fin 256) (t g : Fin 9), val_v37 (F := Ideal) (val_v12 (F := Ideal)) (fun _ => BitVec.ofNat 32 t.val) (fun _ => BitVec.ofNat 32 r.val) (ix1 g)
    = if (g.val = t.val ∧ r.val ≠ 0) ∨ 8 + (if r.val = 0 then 0 else 1) ≤ g.val then 0#32 else 1#32 := by decide +kernel

theorem v37_num (n : ℕ) (h : n ≤ 2048) : val_v37 (F := F) (val_v12 (F := F)) (fun _ => BitVec.ofNat 32 (tiles n)) (fun _ => BitVec.ofNat 32 (n % 256))
    = fun (y : S9.Idx) => segI n (y 0).val :=
  funext fun (y : S9.Idx) => (congrArg (val_v37 (F := F) _ _ _) (eq_ix1 y)).trans (init_all ⟨n % 256, by omega⟩ ⟨tiles n, Nat.lt_succ_of_le (tiles_le' n h)⟩ (y 0))

/-! The segments' tables. -/

set_option maxRecDepth 100000 in
theorem half_all : ∀ s : Fin 32, val_v62 (F := Ideal) (ix1 s) = BitVec.ofNat 32 (s.val / 2) := by decide +kernel
set_option maxRecDepth 100000 in
theorem parity_all : ∀ s : Fin 32, val_v63 (F := Ideal) (val_v61 (F := Ideal)) (ix1 s) = BitVec.ofNat 32 (s.val % 2) := by decide +kernel

theorem v62_num : val_v62 (F := F) = fun (y : S32.Idx) => BitVec.ofNat 32 ((y 0).val / 2) :=
  funext fun (y : S32.Idx) => (congrArg (val_v62 (F := F)) (eq_ix1 y)).trans (half_all (y 0))
theorem v63_num : val_v63 (F := F) (val_v61 (F := F)) = fun (y : S32.Idx) => BitVec.ofNat 32 ((y 0).val % 2) :=
  funext fun (y : S32.Idx) => (congrArg (val_v63 (F := F) _) (eq_ix1 y)).trans (parity_all (y 0))

set_option maxRecDepth 100000 in
theorem count_all : ∀ (t : Fin 9) (s : Fin 32), val_v67 (F := Ideal) (fun (y : S32.Idx) => BitVec.ofNat 32 ((y 0).val % 2)) (fun _ => BitVec.ofNat 32 t.val) (ix1 s)
    = BitVec.ofNat 32 (if s.val % 2 = 0 then t.val else 9 - t.val) := by decide +kernel
set_option maxRecDepth 100000 in
theorem base_all : ∀ (t : Fin 9) (s : Fin 32), val_v70 (F := Ideal) (fun (y : S32.Idx) => BitVec.ofNat 32 ((y 0).val % 2)) (fun _ => BitVec.ofNat 32 t.val) (ix1 s)
    = BitVec.ofNat 32 (if s.val % 2 = 0 then 0 else t.val) := by decide +kernel
set_option maxRecDepth 100000 in
theorem start_all : ∀ (q : Fin 9) (s : Fin 32), val_v74 (F := Ideal) (fun (y : S32.Idx) => BitVec.ofNat 32 ((y 0).val % 2)) (fun _ => BitVec.ofNat 32 q.val) (ix1 s)
    = BitVec.ofNat 32 (if s.val % 2 = 0 then 0 else min q.val 7) := by decide +kernel

theorem v67_num (n : ℕ) (h : n ≤ 2048) : val_v67 (F := F) (fun (y : S32.Idx) => BitVec.ofNat 32 ((y 0).val % 2)) (fun _ => BitVec.ofNat 32 (tiles n))
    = fun (y : S32.Idx) => BitVec.ofNat 32 (segN n (y 0).val) :=
  funext fun (y : S32.Idx) => (congrArg (val_v67 (F := F) _ _) (eq_ix1 y)).trans (count_all ⟨tiles n, Nat.lt_succ_of_le (tiles_le' n h)⟩ (y 0))
theorem v70_num (n : ℕ) (h : n ≤ 2048) : val_v70 (F := F) (fun (y : S32.Idx) => BitVec.ofNat 32 ((y 0).val % 2)) (fun _ => BitVec.ofNat 32 (tiles n))
    = fun (y : S32.Idx) => BitVec.ofNat 32 (segT n (y 0).val) :=
  funext fun (y : S32.Idx) => (congrArg (val_v70 (F := F) _ _) (eq_ix1 y)).trans (base_all ⟨tiles n, Nat.lt_succ_of_le (tiles_le' n h)⟩ (y 0))
theorem v74_num (n : ℕ) (h : n ≤ 2048) : val_v74 (F := F) (fun (y : S32.Idx) => BitVec.ofNat 32 ((y 0).val % 2)) (fun _ => BitVec.ofNat 32 (n / 256))
    = fun (y : S32.Idx) => BitVec.ofNat 32 (segR n (y 0).val) :=
  funext fun (y : S32.Idx) => (congrArg (val_v74 (F := F) _ _) (eq_ix1 y)).trans (start_all ⟨n / 256, by omega⟩ (y 0))

end Cert.Proof.Setup

end
-- ==== Proof.RtData.lean ====
/-
  The router's pipeline: what its body leaves in each block, and the data of the pipeline.
-/
module

public import proofs.«01_k».proof.Proof.FfnData
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.ArrRel
public import Idealize.ShloMosaic.Lib.Pipeline.FrameBody

@[expose] public section

set_option maxRecDepth 16384

noncomputable section

namespace Cert.Proof.Setup.Rt

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.TcCoe
open Idealize.ShloMosaic.Pipeline (Dat Cfg Window BodyObligation cellOf)

variable {F : FTy → Type} [FloatOps F]

local notation "𝕄" => MT nD τ sig (HIx 2) (Elt F) ℕ UU ℕ

variable (m : (ℓ : Loc nD τ sig) → Buf (Elt F) ℓ)

/-- The arrays as launched. -/
abbrev at0 (c : Dev nD) (b : Ref sig .tc) : Buf (Elt F) ((c : Thread nD τ).loc b) := m ((c : Thread nD τ).loc b)

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (at0 m c (Pipeline.arrRef spec0 w))

theorem before0_0_of {c : Dev nD} (dat : Dat τ (Elt F) (HIx 2) ℕ UU ℕ cfg0 c) (hA : dat.A 0 = at0 m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) (HIx 2) ℕ UU ℕ cfg0 c) (hA : dat.A 1 = at0 m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves -/

abbrev r0_0 : Rect S256x2048 := Rect.unit (s := S256x2048) ![0, 0] S256x2048.size inb_S256x2048_S256x2048_0_0
abbrev r0_1 : Rect S2x2048 := Rect.unit (s := S2x2048) ![0, 0] S2x2048.size inb_S2x2048_S2x2048_0_0
abbrev r0_2 : Rect S256x1 := Rect.unit (s := S256x1) ![0, 0] S256x1.size inb_S256x1_S256x1_0_0

def out0_2 (x0 : Vec F S256x2048 .f32) (x1 : Vec F S2x2048 .f32) : Vec F S256x1 .i32 :=
  View.canon [⟨r0_2, k0_pay2 (View.ld x0 r0_0) (View.ld x1 r0_1)⟩]

theorem cover0_2 (p0 : Vec F S256x1 .i32) (y : S256x1.Idx) :
    ∃ pc ∈ ([⟨r0_2, p0⟩] : List (View.Piece (Elt F) S256x1 .i32)), y ∈ pc.1.set :=
  View.cover_of_tiled [⟨r0_2, p0⟩] S256x1.size (by rfl) y

def out0_3 (x0 : Vec F S256x2048 .f32) (x1 : Vec F S2x2048 .f32) : Vec F S256x1 .f32 :=
  View.canon [⟨r0_2, k0_pay3 (View.ld x0 r0_0) (View.ld x1 r0_1)⟩]

theorem cover0_3 (p0 : Vec F S256x1 .f32) (y : S256x1.Idx) :
    ∃ pc ∈ ([⟨r0_2, p0⟩] : List (View.Piece (Elt F) S256x1 .f32)), y ∈ pc.1.set :=
  View.cover_of_tiled [⟨r0_2, p0⟩] S256x1.size (by rfl) y

set_option maxHeartbeats 1000000 in
/-- The body: it leaves its two inputs as they were and each output at what it computes of them. -/
theorem sound_kernel (c : Dev nD) (E : Set ℕ) (i : grid0.Coords) (arg1 : Memref sig .tc .vmem S256x2048 .f32) (harg1 : arg1.IsWhole) (arg2 : Memref sig .tc .vmem S2x2048 .f32) (harg2 : arg2.IsWhole) (arg3 : Memref sig .tc .vmem S256x1 .i32) (harg3 : arg3.IsWhole) (arg4 : Memref sig .tc .vmem S256x1 .f32) (harg4 : arg4.IsWhole)
    (x0 : Vec F S256x2048 .f32) (x1 : Vec F S2x2048 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__router_body i arg1 harg1 arg2 harg2 arg3 harg3 arg4 harg4) K := by
  simp only [cc0__router_body_eq_skeleton]; unfold cc0__router_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The data -/

/-- The router's data: the arrays as launched, each input left as it was, each output at what the body computes. -/
def dat0 (c : Dev nD) : Dat τ (Elt F) (HIx 2) ℕ UU ℕ cfg0 c where
  A w := at0 m c (Pipeline.arrRef spec0 w)
  after w t := match w with
    | ⟨0, _⟩ => iblk m c 0 t
    | ⟨1, _⟩ => iblk m c 1 t
    | ⟨2, _⟩ => out0_2 (iblk m c 0 t) (iblk m c 1 t)
    | ⟨3, _⟩ => out0_3 (iblk m c 0 t) (iblk m c 1 t)
  Φ _ := Pipeline.scopedRest spec0 c
  q _ := fullShare
  owed _ := (K (F := F)).Otc c 0
  recorded _ := fun p => (K (F := F)).lev ((c.tc : Thread nD τ), p.1) p.2 ≤ 0

theorem A_eq (c : Dev nD) (w : Fin cfg0.W) : (dat0 m c).A w = at0 m c (Pipeline.arrRef spec0 w) := by
  dsimp only [dat0]

theorem after0_0 (c : Dev nD) (t : Fin cfg0.N) : (dat0 m c).after 0 t = iblk m c 0 t := by dsimp only [dat0]
theorem after0_1 (c : Dev nD) (t : Fin cfg0.N) : (dat0 m c).after 1 t = iblk m c 1 t := by dsimp only [dat0]
theorem after0_2 (c : Dev nD) (t : Fin cfg0.N) : (dat0 m c).after 2 t = out0_2 (iblk m c 0 t) (iblk m c 1 t) := by dsimp only [dat0]
theorem after0_3 (c : Dev nD) (t : Fin cfg0.N) : (dat0 m c).after 3 t = out0_3 (iblk m c 0 t) (iblk m c 1 t) := by dsimp only [dat0]
theorem before0_0 (c : Dev nD) (t : Fin cfg0.N) (d) : (dat0 m c).before 0 t d = iblk m c 0 t :=
  before0_0_of m (dat0 m c) (A_eq m c 0) (after0_0 m c) t d
theorem before0_1 (c : Dev nD) (t : Fin cfg0.N) (d) : (dat0 m c).before 1 t d = iblk m c 1 t :=
  before0_1_of m (dat0 m c) (A_eq m c 1) (after0_1 m c) t d

/-! ## The body at a point -/

def bodyPre (c : Dev nD) (t : Fin cfg0.N) : sProp 𝕄 :=
  iprop((dat0 m c).Φ t.castSucc ∗ (dat0 m c).owesAt (none : HIx 2) t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d))
    ∗ (∃ d, owns (c : Thread nD τ) (st0_3 t) fullShare ((dat0 m c).before 3 t d)))

def bodyPost (c : Dev nD) (t : Fin cfg0.N) : sProp 𝕄 :=
  iprop((dat0 m c).Φ t.succ ∗ (dat0 m c).owesAt (none : HIx 2) t.succ
    ∗ owns (c : Thread nD τ) (st0_0 t) fullShare ((dat0 m c).after 0 t)
    ∗ owns (c : Thread nD τ) (st0_1 t) fullShare ((dat0 m c).after 1 t)
    ∗ owns (c : Thread nD τ) (st0_2 t) fullShare ((dat0 m c).after 2 t)
    ∗ owns (c : Thread nD τ) (st0_3 t) fullShare ((dat0 m c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dat0 m c).Φ t.succ = (dat0 m c).Φ t.castSucc from rfl,
    show (dat0 m c).owesAt (none : HIx 2) t.succ = (dat0 m c).owesAt (none : HIx 2) t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_row (t : Fin cfg0.N) : defs₀ (F := F) .tc cfg0.body (cfg0.bodyArgs t (cfg0.slots t)) = bodyAt0 t := rfl

theorem body_obligation (c : Dev nD) : BodyObligation (dat0 (F := F) m c) (defs₀ (F := F)) Variants.none (none : HIx 2) Set.univ := fun t => by
  rw [bigSep_W0, bigSep_W0, body_row]
  exact triple_restated (sound_body m c t) rfl .rfl fun _ => .rfl

end Cert.Proof.Setup.Rt

end
-- ==== Proof.Ranks.lean ====
/-
  The tile's first loop: the running counts of each group, 16 tokens at a time.
-/
module

public import proofs.«01_k».proof.Proof.Pays

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The count before token `t + 1`, less one: the rank of `t` in its group. -/
def RanksTo (c : ℕ → ℕ) (n : ℕ) (r : V2048.Idx → BitVec 32) : Prop :=
  ∀ t : Fin 2048, t.val < n → r (ix1 t) = BitVec.ofNat 32 (c (t.val + 1)) - 1#32

theorem held_tile (e : V2048.Idx → BitVec 32) {off : Fin 1 → ℕ} {inb : ∀ a, off a + S16.size a ≤ S2048.size a} {b : ℕ} (h : off = ![b])
    (hb : b + 16 ≤ 2048) : Held e b (tE.view.readAt (Elt F) (Rect.unit (s := S2048) off S16.size inb).toLoadRect e) := fun j =>
  have hj : (j 0).val < 16 := (j 0).isLt
  ⟨by omega, read16 (Val := Elt F) tE.view e h j (by omega)⟩

/-- One trip's store of the ranks: done up to `b`, the sixteen of the window, done up to `b + 16`. -/
theorem RanksTo.step {c : ℕ → ℕ} {b : ℕ} (v : View sig .scVector .vmem S2048 .i32) (r : v.ty.Contents (Elt F)) {off : Fin 1 → ℕ}
    {inb : ∀ a, off a + S16.size a ≤ S2048.size a} (h : off = ![b]) (w : S16.Idx → BitVec 32)
    (hr : RanksTo c b (v.read (Elt F) r)) (hw : ∀ j : S16.Idx, w j = BitVec.ofNat 32 (c (b + (j 0).val + 1)) - 1#32) :
    RanksTo c (b + 16) (v.read (Elt F) (v.writes (Elt F) r [⟨Rect.unit (s := S2048) off S16.size inb, w⟩])) := by
  intro t ht
  by_cases h0 : b ≤ t.val
  · refine (write16_in v r h w t h0 ht).trans ((hw _).trans ?_)
    show BitVec.ofNat 32 (c (b + (t.val - b) + 1)) - 1#32 = _
    rw [Nat.add_sub_cancel' h0]
  · exact (write16_out v r h w t (by omega)).trans (hr t (by omega))

/-- Before trip `k` of the first loop: both rank arrays done up to token `16 k`, the counts carried. -/
def ranksInv (d : Dev nD) (L : grid1.Coords) (e : V2048.Idx → BitVec 32) (k : Nat) (acc : BitVec 32 × BitVec 32) : sProp 𝕄 :=
  iprop(⌜acc = (BitVec.ofNat 32 (zeros e (16 * k)), BitVec.ofNat 32 (ones e (16 * k)))⌝
    ∗ (tE.view.loc (tile d L) ↦{fullShare} e)
    ∗ (∃ r, ⌜RanksTo (zeros e) (16 * k) r⌝ ∗ tR0.view.loc (tile d L) ↦{fullShare} r)
    ∗ (∃ r, ⌜RanksTo (ones e) (16 * k) r⌝ ∗ tR1.view.loc (tile d L) ↦{fullShare} r))

theorem ranks_trip (d : Dev nD) (L : grid1.Coords) (e : V2048.Idx → BitVec 32) (k : Fin k1_t1_loop.trips) (acc : BitVec 32 × BitVec 32) :
    (ranksInv (F := F) d L e k.val acc)
      ⊢ wp frame (wpE (defs₀ (F := F)) 𝒱₀ (tile d L) none) Set.univ
          (k1_t1_body (F := F) L eV (Memref.isWhole_whole _) wV (Memref.isWhole_whole _) xV (Memref.isWhole_whole _) xsV (Memref.isWhole_whole _)
            wsV (Memref.isWhole_whole _) permV (Memref.isWhole_whole _) cntV (Memref.isWhole_whole _) tE (Memref.isWhole_whole _) tW (Memref.isWhole_whole _)
            tR0 (Memref.isWhole_whole _) tR1 (Memref.isWhole_whole _) tP (Memref.isWhole_whole _) tB (Memref.isWhole_whole _) tX (Memref.isWhole_whole _)
            tN (Memref.isWhole_whole _) cc1_scratch8 cc1_scoped0 cc1_scoped1 cc1_scoped2 cc1_scoped3 cc1_scoped4 cc1_scoped5 cc1_scoped6 k acc)
          (fun acc' => ranksInv d L e (k.val + 1) acc') := by
  unfold ranksInv k1_t1_body
  iintro ⟨%ha, He, ⟨%r0, %h0, Hr0⟩, ⟨%r1, %h1, Hr1⟩⟩
  subst ha
  have hk : 16 * k.val + 16 ≤ 2048 := by have : k.val < 128 := k.isLt; omega
  sl_exec
  sl_step
  isplitr
  · ipureintro
    exact Prod.ext (carry_zeros (F := F) (held_tile e (k1_off1_eq k) hk)) (carry_ones (F := F) (held_tile e (k1_off1_eq k) hk))
  isplitl [He]; · iexact He
  isplitl [Hr0]
  · iexists _; isplitr
    swap; · iexact Hr0
    ipureintro
    exact RanksTo.step (F := F) tR0.view r0 (k1_off1_eq k) _ h0 (fun j => pay4_apply (F := F) (held_tile e (k1_off1_eq k) hk) j)
  · iexists _; isplitr
    swap; · iexact Hr1
    ipureintro
    exact RanksTo.step (F := F) tR1.view r1 (k1_off1_eq k) _ h1 (fun j => pay5_apply (F := F) (held_tile e (k1_off1_eq k) hk) j)

end Cert.Proof.Setup

end
-- ==== Proof.Order.lean ====
/-
  The tile's second loop: the order, 16 tokens put at their places at a time.
-/
module

public import proofs.«01_k».proof.Proof.Ranks

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

theorem ranks_read (c : ℕ → ℕ) (v : View sig .scVector .vmem S2048 .i32) {r : v.ty.Contents (Elt F)} (h : RanksTo c 2048 (v.read (Elt F) r)) {off : Fin 1 → ℕ}
    {inb : ∀ a, off a + S16.size a ≤ S2048.size a} {b : ℕ} (ho : off = ![b]) (hb : b + 16 ≤ 2048) (j : S16.Idx) :
    v.readAt (Elt F) (Rect.unit (s := S2048) off S16.size inb).toLoadRect r j = BitVec.ofNat 32 (c (b + (j 0).val + 1)) - 1#32 := by
  have hj : (j 0).val < 16 := (j 0).isLt
  exact (read16 (Val := Elt F) v r ho j (by omega)).trans (h _ (by show b + (j 0).val < 2048; omega))

theorem whole_emb {s : Shape} (j : s.Idx) : (Rect.whole s).emb j = j :=
  funext fun a => Fin.ext (by show 0 + 1 * (j a).val = (j a).val; omega)

theorem read_tP (p : V2048.Idx → BitVec 32) : (tP.access (.whole S2048)).read (Elt F) p = p := funext fun j => congrArg p (whole_emb j)
theorem write_tP (p w : V2048.Idx → BitVec 32) : (tP.access (.whole S2048)).write (Elt F) p w Finset.univ = w :=
  (read_tP (F := F) _).symm.trans (View.read_write_univ (v := tP.access (.whole S2048)) (Val := Elt F) p w)

theorem pts_tP (d : Dev nD) (L : grid1.Coords) (p : V2048.Idx → BitVec 32) :
    ((tP.access (.whole S2048)).loc (tile d L) ↦[(tP.access (.whole S2048)).set]{fullShare} p : sProp 𝕄)
      = (tP.view.loc (tile d L) ↦{fullShare} p) := by
  rw [show (tP.access (.whole S2048)).set = Finset.univ from Memref.set_access_whole (cc1_scratch4 : Ref sig .scVector)]

/-- Before trip `k` of the second loop: the first `16 k` tokens at their places. -/
def orderInv (d : Dev nD) (L : grid1.Coords) (e : V2048.Idx → BitVec 32) (k : Nat) (_ : BitVec 32) : sProp 𝕄 :=
  iprop((tE.view.loc (tile d L) ↦{fullShare} e)
    ∗ (∃ r, ⌜RanksTo (zeros e) 2048 r⌝ ∗ tR0.view.loc (tile d L) ↦{fullShare} r)
    ∗ (∃ r, ⌜RanksTo (ones e) 2048 r⌝ ∗ tR1.view.loc (tile d L) ↦{fullShare} r)
    ∗ (∃ p, ⌜PermTo e (16 * k) p⌝ ∗ tP.view.loc (tile d L) ↦{fullShare} p))

theorem order_trip (d : Dev nD) (L : grid1.Coords) (e : V2048.Idx → BitVec 32) (k : Fin k1_t2_loop.trips) (acc : BitVec 32) :
    (orderInv (F := F) d L e k.val acc)
      ⊢ wp frame (wpE (defs₀ (F := F)) 𝒱₀ (tile d L) none) Set.univ
          (k1_t2_body (F := F) L eV (Memref.isWhole_whole _) wV (Memref.isWhole_whole _) xV (Memref.isWhole_whole _) xsV (Memref.isWhole_whole _)
            wsV (Memref.isWhole_whole _) permV (Memref.isWhole_whole _) cntV (Memref.isWhole_whole _) tE (Memref.isWhole_whole _) tW (Memref.isWhole_whole _)
            tR0 (Memref.isWhole_whole _) tR1 (Memref.isWhole_whole _) tP (Memref.isWhole_whole _) tB (Memref.isWhole_whole _) tX (Memref.isWhole_whole _)
            tN (Memref.isWhole_whole _) cc1_scratch8 cc1_scoped0 cc1_scoped1 cc1_scoped2 cc1_scoped3 cc1_scoped4 cc1_scoped5 cc1_scoped6
            (BitVec.ofNat 32 (zeros e 2048)) k acc)
          (fun acc' => orderInv d L e (k.val + 1) acc') := by
  have hk : 16 * k.val + 16 ≤ 2048 := by have : k.val < 128 := k.isLt; omega
  unfold orderInv k1_t2_body
  iintro ⟨He, ⟨%r0, %h0, Hr0⟩, ⟨%r1, %h1, Hr1⟩, ⟨%p, %hp, Hp⟩⟩
  have hv : ∀ j : S16.Idx, k1_pay8 (F := F) (BitVec.ofNat 32 (zeros e 2048))
      (tE.view.readAt (Elt F) (Rect.unit (s := S2048) (k1_off2 k) S16.size (k1_off2_inb k)).toLoadRect e)
      (tR0.view.readAt (Elt F) (Rect.unit (s := S2048) (k1_off2 k) S16.size (k1_off2_inb k)).toLoadRect r0)
      (tR1.view.readAt (Elt F) (Rect.unit (s := S2048) (k1_off2 k) S16.size (k1_off2_inb k)).toLoadRect r1) j
      = BitVec.ofNat 32 (place e (16 * k.val + (j 0).val)) := fun j =>
    pay8_apply (F := F) (held_tile (F := F) e (k1_off2_eq k) hk) (ranks_read (F := F) (zeros e) tR0.view h0 (k1_off2_eq k) hk) (ranks_read (F := F) (ones e) tR1.view h1 (k1_off2_eq k) hk) j
  have hchk := chk1_places hk hv
  sl_exec
  ihave Hp' := (Entails.of_eq (pts_tP (F := F) d L p).symm) $$ Hp
  iapply (SparseCore.wp_vectorStoreIdx 𝒱₀ (tile d L) none Set.univ (base := tP)) $$ Hp'; iintro Hp
  ihave Hp' := (Entails.of_eq (pts_tP (F := F) d L _)) $$ Hp
  sl_step
  isplitl [He]; · iexact He
  isplitl [Hr0]; · iexists r0; isplitr; · ipureintro; exact h0
                   iexact Hr0
  isplitl [Hr1]; · iexists r1; isplitr; · ipureintro; exact h1
                   iexact Hr1
  iexists _
  isplitr
  swap; · iexact Hp'
  ipureintro
  rw [write_tP, read_tP]
  exact PermTo.step (F := F) hk hv (fun j => pay9_apply k j) (k1_idx1_inb _ hchk) hp

end Cert.Proof.Setup

end
-- ==== Proof.Pick.lean ====
/-
  The tile's third loop: the weights of its 64 places, 16 at a time.
-/
module

public import proofs.«01_k».proof.Proof.Order

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

theorem tok_word (e : V2048.Idx → BitVec 32) (j : V2048.Idx) : (permA e j).toNat = (tok e (j 0)).val := by
  have := (tok e (j 0)).isLt
  exact Nat.mod_eq_of_lt (by omega)

/-- The first place of a tile's share of the order. -/
theorem base_le (L : grid1.Coords) : 128 * (L 1).val + 64 * (L 0).val + 64 ≤ 2048 := by
  have := coord0_lt L; have := coord1_lt L; omega
/-- Place `n` of a tile's 64. -/
def atTile (L : grid1.Coords) (n : ℕ) (h : n < 64) : Fin 2048 := ⟨128 * (L 1).val + 64 * (L 0).val + n, by have := base_le L; omega⟩

/-- The tile's weights are those of its first `n` places. -/
def PickTo {α : Type} (e : V2048.Idx → BitVec 32) (w : V2048.Idx → α) (L : grid1.Coords) (n : ℕ) (b : S64.Idx → α) : Prop :=
  ∀ t : Fin 64, t.val < n → b (ix1 t) = w (ix1 (tok e (atTile L t.val t.isLt)))

theorem read_tW (w : V2048.Idx → F .f32) : (tW.access (.whole S2048)).read (Elt F) w = w := funext fun j => congrArg w (whole_emb j)
theorem pts_tW (d : Dev nD) (L : grid1.Coords) (w : V2048.Idx → F .f32) :
    (((tW.access (.whole S2048)).loc (tile d L) ↦{fullShare} w : sProp 𝕄)) = (tW.view.loc (tile d L) ↦{fullShare} w) := rfl

/-- Before trip `k` of the third loop: the weights of the tile's first `16 k` places. -/
def pickInv (d : Dev nD) (L : grid1.Coords) (e : V2048.Idx → BitVec 32) (w : V2048.Idx → F .f32) (k : Nat) (_ : BitVec 32) : sProp 𝕄 :=
  iprop((tP.view.loc (tile d L) ↦{fullShare} permA e)
    ∗ (tW.view.loc (tile d L) ↦{fullShare} w)
    ∗ (∃ b, ⌜PickTo e w L (16 * k) b⌝ ∗ tB.view.loc (tile d L) ↦{fullShare} b))

theorem pick_trip (d : Dev nD) (L : grid1.Coords) (e : V2048.Idx → BitVec 32) (w : V2048.Idx → F .f32) (k : Fin k1_t3_loop.trips) (acc : BitVec 32) :
    (pickInv (F := F) d L e w k.val acc)
      ⊢ wp frame (wpE (defs₀ (F := F)) 𝒱₀ (tile d L) none) Set.univ
          (k1_t3_body (F := F) L eV (Memref.isWhole_whole _) wV (Memref.isWhole_whole _) xV (Memref.isWhole_whole _) xsV (Memref.isWhole_whole _)
            wsV (Memref.isWhole_whole _) permV (Memref.isWhole_whole _) cntV (Memref.isWhole_whole _) tE (Memref.isWhole_whole _) tW (Memref.isWhole_whole _)
            tR0 (Memref.isWhole_whole _) tR1 (Memref.isWhole_whole _) tP (Memref.isWhole_whole _) tB (Memref.isWhole_whole _) tX (Memref.isWhole_whole _)
            tN (Memref.isWhole_whole _) cc1_scratch8 cc1_scoped0 cc1_scoped1 cc1_scoped2 cc1_scoped3 cc1_scoped4 cc1_scoped5 cc1_scoped6 k acc)
          (fun acc' => pickInv d L e w (k.val + 1) acc') := by
  have hk : k.val < 4 := k.isLt
  have hb := base_le L
  have hread : ∀ j : S16.Idx, tP.view.readAt (Elt F) (Rect.unit (s := S2048) (k1_off3 L k) S16.size (k1_off3_inb L k)).toLoadRect (permA e) j
      = permA e (ix1 (atTile L (16 * k.val + (j 0).val) (by have : (j 0).val < 16 := (j 0).isLt; omega))) := fun j => by
    have hj : (j 0).val < 16 := (j 0).isLt
    refine (read16 (Val := Elt F) tP.view (permA e) (k1_off3_eq L k) j (by omega)).trans ?_
    exact congrArg (fun n => permA e (ix1 n)) (Fin.ext (by show 128 * (L 1).val + 64 * (L 0).val + 16 * k.val + (j 0).val = 128 * (L 1).val + 64 * (L 0).val + (16 * k.val + (j 0).val); omega))
  have hchk : k1_chk2 (tP.view.readAt (Elt F) (Rect.unit (s := S2048) (k1_off3 L k) S16.size (k1_off3_inb L k)).toLoadRect (permA e)) := by
    intro a j
    match a with
    | 0 => exact ((congrArg BitVec.toNat (hread j)).trans (tok_word e _)).trans_lt (tok e _).isLt
  unfold pickInv k1_t3_body
  iintro ⟨Hp, Hw, ⟨%b, %hbt, Hb⟩⟩
  sl_exec
  ihave Hw' := (Entails.of_eq (pts_tW (F := F) d L w).symm) $$ Hw
  iapply (SparseCore.wp_vectorLoadIdx 𝒱₀ (tile d L) none Set.univ (base := tW) (S := Finset.univ) (q := fullShare) (Finset.subset_univ _)) $$ Hw'; iintro Hw'
  ihave Hw := (Entails.of_eq (pts_tW (F := F) d L w)) $$ Hw'
  sl_exec
  sl_step
  isplitl [Hp]; · iexact Hp
  isplitl [Hw]; · iexact Hw
  iexists _
  isplitr
  swap; · iexact Hb
  ipureintro
  intro t ht
  by_cases h0 : 16 * k.val ≤ t.val
  · refine (write16_in (Val := Elt F) tB.view b (k1_off4_eq k) _ t h0 (by omega)).trans ?_
    rw [read_tW]
    refine congrArg w (funext fun a => ?_)
    match a with
    | 0 =>
      refine Fin.ext (((congrArg BitVec.toNat (hread _)).trans (tok_word e _)).trans ?_)
      refine congrArg (fun n => (tok e n).val) (Fin.ext ?_)
      show 128 * (L 1).val + 64 * (L 0).val + (16 * k.val + (t.val - 16 * k.val)) = 128 * (L 1).val + 64 * (L 0).val + t.val
      omega
  · exact (write16_out (Val := Elt F) tB.view b (k1_off4_eq k) _ t (by omega)).trans (hbt t (by omega))

end Cert.Proof.Setup

end
-- ==== Proof.Fetch.lean ====
/-
  The tile's two loops of row gathers: one panel of 32 rows a trip.
-/
module

public import proofs.«01_k».proof.Proof.Pick
public import Idealize.ShloMosaic.Lib.Routing.Ops

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The tile's rows are those of its places from `o`, in the first `n` panels. -/
def FetchTo {α : Type} (e : V2048.Idx → BitVec 32) (x : Panels.Idx → α) (L : grid1.Coords) (o : ℕ) (ho : o ≤ 32) (n : ℕ) (g : S8x32x2x128.Idx → α) : Prop :=
  ∀ j : S8x32x2x128.Idx, (j 0).val < n →
    g j = x (ix4 (j 0) (tok e (atTile L (o + (j 1).val) (by have : (j 1).val < 32 := (j 1).isLt; omega))) (j 2) (j 3))

section Panels
variable {κ : Kind} {sp : Space} {N : ℕ} {el : EltTy}

/-- An element of panel `k` seen as a table of rows, in the panels. -/
theorem emb_panel (m : Memref sig κ sp ⟨4, ![8, N, 2, 128]⟩ el) {off : Fin 4 → ℕ} {k : Fin 8} (h : off = ![k.val, 0, 0, 0])
    (inb : ∀ a, off a + (⟨4, ![1, N, 2, 128]⟩ : Shape).size a ≤ (⟨4, ![8, N, 2, 128]⟩ : Shape).size a) (hr)
    (hq : (⟨4, ![1, N, 2, 128]⟩ : Shape).Squeezes ⟨3, ![N, 2, 128]⟩) (y : (⟨3, ![N, 2, 128]⟩ : Shape).Idx) :
    ((m.slice (Rect.unit (s := ⟨4, ![8, N, 2, 128]⟩) off (⟨4, ![1, N, 2, 128]⟩ : Shape).size inb) hr).squeeze ⟨3, ![N, 2, 128]⟩ hq).view.emb y
      = m.view.emb (ix4 k (y 0) (y 1) (y 2)) := by
  have h1 : ((m.slice (Rect.unit (s := ⟨4, ![8, N, 2, 128]⟩) off (⟨4, ![1, N, 2, 128]⟩ : Shape).size inb) hr).squeeze ⟨3, ![N, 2, 128]⟩ hq).view.emb y
      = m.view.emb ((Rect.unit (s := ⟨4, ![8, N, 2, 128]⟩) off (⟨4, ![1, N, 2, 128]⟩ : Shape).size inb).emb (Shape.reshapeEquiv hq.numel_eq y)) := rfl
  rw [h1, Shape.reshapeEquiv_cons_one]
  refine congrArg m.view.emb (funext fun a => Fin.ext ?_)
  subst h
  rw [Rect.emb_apply]
  match a with
  | 0 => show k.val + 1 * 0 = k.val; omega
  | 1 => show 0 + 1 * (y 0).val = (y 0).val; omega
  | 2 => show 0 + 1 * (y 1).val = (y 1).val; omega
  | 3 => show 0 + 1 * (y 2).val = (y 2).val; omega

end Panels

/-- Before trip `k` of a loop of row gathers. -/
def fetchInv (d : Dev nD) (L : grid1.Coords) (e : V2048.Idx → BitVec 32) (q : PosShare TreeShare) (x : Panels.Idx → F .f32) (o : ℕ) (ho : o ≤ 32)
    (O : CellTallies nD τ sig (HIx 2)) (W : Waits sig (HIx 2)) (k : Nat) (_ : PUnit) : sProp 𝕄 :=
  iprop((tP.view.loc (tile d L) ↦{fullShare} permA e)
    ∗ (xV.view.loc (tile d L) ↦{q} x)
    ∗ (∃ g, ⌜FetchTo e x L o ho k g⌝ ∗ tX.view.loc (tile d L) ↦{fullShare} g)
    ∗ semVal (tile d L, SemLoc.dma cc1_scratch8.sem) 0
    ∗ Transfers.MayWaits (tile d L) (default : HIx 2) O
    ∗ (∃ W', ⌜∀ p ∈ W', p ∈ W ∨ p.2 = none⌝ ∗ owes (tile d L) O W'))

/-- One trip's gather: panel `k` is written with the rows the tile's order names. -/
theorem FetchTo.step {e : V2048.Idx → BitVec 32} {x : Panels.Idx → F .f32} {L : grid1.Coords} {o : ℕ} {ho : o ≤ 32} (k : Fin 8) {g : S8x32x2x128.Idx → F .f32}
    (hg : FetchTo e x L o ho k.val g) {off : Fin 4 → ℕ} (h : off = ![k.val, 0, 0, 0]) (inb : ∀ a, off a + S1x32x2x128.size a ≤ S8x32x2x128.size a) (hr)
    (w : S32x2x128.Idx → F .f32)
    (hw : ∀ y : S32x2x128.Idx, w y = x (ix4 k (tok e (atTile L (o + (y 0).val) (by have : (y 0).val < 32 := (y 0).isLt; omega))) (y 1) (y 2))) :
    FetchTo e x L o ho (k.val + 1)
      (((tX.slice (Rect.unit (s := S8x32x2x128) off S1x32x2x128.size inb) hr).squeeze S32x2x128 squeezes_S1x32x2x128_S32x2x128).view.write (Elt F) g w Finset.univ) := by
  intro j hj
  by_cases hk : j 0 = k
  · have h1 := congrFun (View.read_write_univ (v := ((tX.slice (Rect.unit (s := S8x32x2x128) off S1x32x2x128.size inb) hr).squeeze S32x2x128 squeezes_S1x32x2x128_S32x2x128).view) (Val := Elt F) g w)
      (ix3 (j 1) (j 2) (j 3))
    have h2 : ((tX.slice (Rect.unit (s := S8x32x2x128) off S1x32x2x128.size inb) hr).squeeze S32x2x128 squeezes_S1x32x2x128_S32x2x128).view.emb (ix3 (j 1) (j 2) (j 3)) = j :=
      (emb_panel tX h inb hr squeezes_S1x32x2x128_S32x2x128 (ix3 (j 1) (j 2) (j 3))).trans (by subst hk; exact (eq_ix4 j).symm)
    rw [View.read_apply, h2] at h1
    refine (show _ = w (ix3 (j 1) (j 2) (j 3)) from h1).trans ((hw _).trans ?_)
    subst hk
    rfl
  · have h3 : (j 0).val ≠ k.val := fun hh => hk (Fin.ext hh)
    refine (View.write_of_not_mem _ _ _ fun hm => ?_).trans (hg j (by omega))
    obtain ⟨y, -, hy⟩ := Finset.mem_map.mp hm
    have h4 := (emb_panel tX h inb hr squeezes_S1x32x2x128_S32x2x128 y).symm.trans hy
    exact hk (congrFun h4 0).symm

/-- The words of the order a tile's gather reads, from place `o` of its own. -/
theorem list_word (e : V2048.Idx → BitVec 32) (L : grid1.Coords) {o : ℕ} (ho : o ≤ 32) {off : Fin 1 → ℕ} (h : off = ![128 * (L 1).val + 64 * (L 0).val + o])
    (inb : ∀ a, off a + S32.size a ≤ S2048.size a) (hr) (y : S32.Idx) :
    (((tP.slice (Rect.unit (s := S2048) off S32.size inb) hr).view.read (Elt F) (permA e)) y).toNat
      = (tok e (atTile L (o + (y 0).val) (by have : (y 0).val < 32 := (y 0).isLt; omega))).val := by
  have hy : (y 0).val < 32 := (y 0).isLt
  subst h
  refine (tok_word e ((Rect.unit (s := S2048) ![128 * (L 1).val + 64 * (L 0).val + o] S32.size inb).emb y)).trans ?_
  refine congrArg (fun n => (tok e n).val) (Fin.ext ?_)
  show 128 * (L 1).val + 64 * (L 0).val + o + 1 * (y 0).val = 128 * (L 1).val + 64 * (L 0).val + (o + (y 0).val)
  omega

/-- What a trip's gather delivers at an element: the table's row the order names. -/
theorem gathered (e : V2048.Idx → BitVec 32) (x : Panels.Idx → F .f32) (L : grid1.Coords) {o : ℕ} (ho : o ≤ 32) {off : Fin 1 → ℕ}
    (h : off = ![128 * (L 1).val + 64 * (L 0).val + o]) (inb : ∀ a, off a + S32.size a ≤ S2048.size a) (hr) {off' : Fin 4 → ℕ} {k : Fin 8}
    (h' : off' = ![k.val, 0, 0, 0]) (inb' : ∀ a, off' a + S1x2048x2x128.size a ≤ S8x2048x2x128.size a) (hr') (hr'') (hn)
    (hin : ∀ y, (((tP.slice (Rect.unit (s := S2048) off S32.size inb) hr).view.read (Elt F) (permA e)) y).toNat < 2048) (y : S32x2x128.Idx) :
    SparseCore.gatherPayload gathers_S2048x2x128_S32x2x128
      (View.read (Elt F) (((xV.slice (Rect.unit (s := S8x2048x2x128) off' S1x2048x2x128.size inb') hr').squeeze S2048x2x128 squeezes_S1x2048x2x128_S2048x2x128).slice
            (Rect.unit (s := S2048x2x128) ![0, 0, 0] S2048x2x128.size inb_S2048x2x128_S2048x2x128_0_0_0) hr'').view x)
      (SparseCore.rows (View.read (Elt F) (tP.slice (Rect.unit (s := S2048) off S32.size inb) hr).view (permA e)) hn hin) y
      = x (ix4 k (tok e (atTile L (o + (y 0).val) (by have : (y 0).val < 32 := (y 0).isLt; omega))) (y 1) (y 2)) := by
  let v := (xV.slice (Rect.unit (s := S8x2048x2x128) off' S1x2048x2x128.size inb') hr').squeeze S2048x2x128 squeezes_S1x2048x2x128_S2048x2x128
  let z := gathers_S2048x2x128_S32x2x128.idx (SparseCore.rows (View.read (Elt F) (tP.slice (Rect.unit (s := S2048) off S32.size inb) hr).view (permA e)) hn hin) y
  let z' := (Rect.unit (s := S2048x2x128) ![0, 0, 0] S2048x2x128.size inb_S2048x2x128_S2048x2x128_0_0_0).emb z
  show x (v.view.emb z') = _
  refine congrArg x ((emb_panel xV h' inb' hr' squeezes_S1x2048x2x128_S2048x2x128 z').trans ?_)
  show ix4 k (z' 0) (z' 1) (z' 2) = _
  have e0 : z' 0 = tok e (atTile L (o + (y 0).val) (by have : (y 0).val < 32 := (y 0).isLt; omega)) := Fin.ext (by
    show 0 + 1 * (z 0).val = _
    have : (z 0).val = ((tP.slice (Rect.unit (s := S2048) off S32.size inb) hr).view.read (Elt F) (permA e) (S32.rowMajor.symm ((y 0).cast hn.symm))).toNat := rfl
    rw [this, list_word e L ho h inb hr, Routing.symm1]
    simp only [Nat.zero_add, Nat.one_mul]
    rfl)
  have e1 : z' 1 = y 1 := Fin.ext (by show 0 + 1 * (z 1).val = _; have : (z 1).val = (y 1).val := rfl; omega)
  have e2 : z' 2 = y 2 := Fin.ext (by show 0 + 1 * (z 2).val = _; have : (z 2).val = (y 2).val := rfl; omega)
  rw [e0, e1, e2]; rfl

theorem fetch1_trip (d : Dev nD) (L : grid1.Coords) (e : V2048.Idx → BitVec 32) (q : PosShare TreeShare) (x : Panels.Idx → F .f32)
    (O : CellTallies nD τ sig (HIx 2)) (W : Waits sig (HIx 2)) (k : Fin k1_t4_loop.trips) (acc : PUnit) :
    (fetchInv (F := F) d L e q x 0 (by omega) O W k.val acc)
      ⊢ wp frame (wpE (defs₀ (F := F)) 𝒱₀ (tile d L) none) Set.univ
          (k1_t4_body (F := F) L eV (Memref.isWhole_whole _) wV (Memref.isWhole_whole _) xV (Memref.isWhole_whole _) xsV (Memref.isWhole_whole _)
            wsV (Memref.isWhole_whole _) permV (Memref.isWhole_whole _) cntV (Memref.isWhole_whole _) tE (Memref.isWhole_whole _) tW (Memref.isWhole_whole _)
            tR0 (Memref.isWhole_whole _) tR1 (Memref.isWhole_whole _) tP (Memref.isWhole_whole _) tB (Memref.isWhole_whole _) tX (Memref.isWhole_whole _)
            tN (Memref.isWhole_whole _) cc1_scratch8 cc1_scoped0 cc1_scoped1 cc1_scoped2 cc1_scoped3 cc1_scoped4 cc1_scoped5 cc1_scoped6 k acc)
          (fun acc' => fetchInv d L e q x 0 (by omega) O W (k.val + 1) acc') := by
  have hin : ∀ y, (((tP.slice (Rect.unit (s := S2048) (k1_off7 L) S32.size (k1_off7_inb L)) (fun _ => rfl)).view.read (Elt F) (permA e)) y).toNat < 2048 := fun y =>
    (list_word (F := F) e L (o := 0) (by omega) (k1_off7_eq L) (k1_off7_inb L) (fun _ => rfl) y).trans_lt (tok e _).isLt
  unfold fetchInv k1_t4_body
  iintro ⟨Hp, Hx, ⟨%g, %hg, Hg⟩, Hsem, #Hmw, ⟨%W', %hW, HO⟩⟩
  sl_exec
  sl_step
  isplitl [Hp]; · iexact Hp
  isplitl [Hx]; · iexact Hx
  isplitl [Hg]
  · iexists _
    isplitr
    swap; · iexact Hg
    ipureintro
    refine FetchTo.step (F := F) k hg (k1_off6_eq k) _ _ _ fun y => ?_
    exact gathered (F := F) e x L (o := 0) (by omega) (k1_off7_eq L) (k1_off7_inb L) _ (k1_off8_eq k) _ _ _ _ hin y
  isplitl [Hsem]; · iexact Hsem
  isplitr; · iexact Hmw
  iexists _; isplitr
  swap; · iexact HO
  ipureintro
  intro p hp
  rcases Finset.mem_insert.mp hp with hp | hp
  · exact Or.inr (congrArg Prod.snd hp)
  · exact hW p hp

theorem fetch2_trip (d : Dev nD) (L : grid1.Coords) (e : V2048.Idx → BitVec 32) (q : PosShare TreeShare) (x : Panels.Idx → F .f32)
    (O : CellTallies nD τ sig (HIx 2)) (W : Waits sig (HIx 2)) (k : Fin k1_t5_loop.trips) (acc : PUnit) :
    (fetchInv (F := F) d L e q x 32 (by omega) O W k.val acc)
      ⊢ wp frame (wpE (defs₀ (F := F)) 𝒱₀ (tile d L) none) Set.univ
          (k1_t5_body (F := F) L eV (Memref.isWhole_whole _) wV (Memref.isWhole_whole _) xV (Memref.isWhole_whole _) xsV (Memref.isWhole_whole _)
            wsV (Memref.isWhole_whole _) permV (Memref.isWhole_whole _) cntV (Memref.isWhole_whole _) tE (Memref.isWhole_whole _) tW (Memref.isWhole_whole _)
            tR0 (Memref.isWhole_whole _) tR1 (Memref.isWhole_whole _) tP (Memref.isWhole_whole _) tB (Memref.isWhole_whole _) tX (Memref.isWhole_whole _)
            tN (Memref.isWhole_whole _) cc1_scratch8 cc1_scoped0 cc1_scoped1 cc1_scoped2 cc1_scoped3 cc1_scoped4 cc1_scoped5 cc1_scoped6 k acc)
          (fun acc' => fetchInv d L e q x 32 (by omega) O W (k.val + 1) acc') := by
  have hin : ∀ y, (((tP.slice (Rect.unit (s := S2048) (k1_off11 L) S32.size (k1_off11_inb L)) (fun _ => rfl)).view.read (Elt F) (permA e)) y).toNat < 2048 := fun y =>
    (list_word (F := F) e L (o := 32) (by omega) (k1_off11_eq L) (k1_off11_inb L) (fun _ => rfl) y).trans_lt (tok e _).isLt
  unfold fetchInv k1_t5_body
  iintro ⟨Hp, Hx, ⟨%g, %hg, Hg⟩, Hsem, #Hmw, ⟨%W', %hW, HO⟩⟩
  sl_exec
  sl_step
  isplitl [Hp]; · iexact Hp
  isplitl [Hx]; · iexact Hx
  isplitl [Hg]
  · iexists _
    isplitr
    swap; · iexact Hg
    ipureintro
    refine FetchTo.step (F := F) k hg (k1_off10_eq k) _ _ _ fun y => ?_
    exact gathered (F := F) e x L (o := 32) (by omega) (k1_off11_eq L) (k1_off11_inb L) _ (k1_off12_eq k) _ _ _ _ hin y
  isplitl [Hsem]; · iexact Hsem
  isplitr; · iexact Hmw
  iexists _; isplitr
  swap; · iexact HO
  ipureintro
  intro p hp
  rcases Finset.mem_insert.mp hp with hp | hp
  · exact Or.inr (congrArg Prod.snd hp)
  · exact hW p hp

end Cert.Proof.Setup

end
-- ==== Proof.Deal.lean ====
/-
  What a tile is handed at its start and hands back: shares of the arrays it reads, its rows of the arrays it writes.
-/
module

public import proofs.«01_k».proof.Proof.Fetch

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## Shares -/

theorem half_lt {n : ℕ} (i : Fin (2 ^ (n + 1))) : i.val / 2 < 2 ^ n := by
  have h := i.isLt
  have e : 2 ^ (n + 1) = 2 ^ n * 2 := Nat.pow_succ 2 n
  omega
theorem twice_lt {n : ℕ} (i : Fin (2 ^ n)) : 2 * i.val < 2 ^ (n + 1) := by
  have h := i.isLt
  have e : 2 ^ (n + 1) = 2 ^ n * 2 := Nat.pow_succ 2 n
  omega
theorem twice_succ_lt {n : ℕ} (i : Fin (2 ^ n)) : 2 * i.val + 1 < 2 ^ (n + 1) := by
  have h := i.isLt
  have e : 2 ^ (n + 1) = 2 ^ n * 2 := Nat.pow_succ 2 n
  omega

/-- Part `i` of a share halved `n` times. -/
def part : (n : ℕ) → PosShare TreeShare → Fin (2 ^ n) → PosShare TreeShare
  | 0, q, _ => q
  | n + 1, q, i => if i.val % 2 = 0 then part n q.left ⟨i.val / 2, half_lt i⟩
      else part n q.right ⟨i.val / 2, half_lt i⟩

/-- The parts in order: an even and an odd one from each half's. -/
def evenOdd (n : ℕ) : Fin (2 ^ n) ⊕ Fin (2 ^ n) ≃ Fin (2 ^ (n + 1)) where
  toFun := Sum.elim (fun i => ⟨2 * i.val, twice_lt i⟩) (fun i => ⟨2 * i.val + 1, twice_succ_lt i⟩)
  invFun i := if i.val % 2 = 0 then .inl ⟨i.val / 2, half_lt i⟩
    else .inr ⟨i.val / 2, half_lt i⟩
  left_inv i := by
    rcases i with i | i
    · simp
    · simp only [Sum.elim_inr, Nat.mul_add_mod, Nat.one_mod, one_ne_zero, ↓reduceIte, Sum.inr.injEq]; exact Fin.ext (by show (2 * i.val + 1) / 2 = i.val; omega)
  right_inv i := by
    by_cases h : i.val % 2 = 0
    · simp only [h, ↓reduceIte, Sum.elim_inl]; exact Fin.ext (by show 2 * (i.val / 2) = i.val; omega)
    · simp only [h, ↓reduceIte, Sum.elim_inr]; exact Fin.ext (by show 2 * (i.val / 2) + 1 = i.val; omega)

theorem part_even (n : ℕ) (q : PosShare TreeShare) (i : Fin (2 ^ n)) : part (n + 1) q (evenOdd n (.inl i)) = part n q.left i := by
  have h : (evenOdd n (.inl i)).val = 2 * i.val := rfl
  rw [part, if_pos (by omega)]
  exact congrArg _ (Fin.ext (by show (evenOdd n (.inl i)).val / 2 = _; omega))
theorem part_odd (n : ℕ) (q : PosShare TreeShare) (i : Fin (2 ^ n)) : part (n + 1) q (evenOdd n (.inr i)) = part n q.right i := by
  have h : (evenOdd n (.inr i)).val = 2 * i.val + 1 := rfl
  rw [part, if_neg (by omega)]
  exact congrArg _ (Fin.ext (by show (evenOdd n (.inr i)).val / 2 = _; omega))

/-- An array held at a share is held at the share's parts. -/
theorem pointsTo_parts {ℓ : Loc nD τ sig} (f : Buf (Elt F) ℓ) (n : ℕ) : ∀ q : PosShare TreeShare,
    (ℓ ↦{q} f : sProp 𝕄) = bigSep Finset.univ fun i : Fin (2 ^ n) => ℓ ↦{part n q i} f := by
  induction n with
  | zero => exact fun q => (bigSep_univ_of_subsingleton (0 : Fin 1) (Φ := fun i : Fin (2 ^ 0) => (ℓ ↦{part 0 q i} f : sProp 𝕄))).symm
  | succ n ih =>
    intro q
    have hs := PosShare.mem_left_op_right q
    refine (BI.Entails.antisymm (pointsTo_share hs).1 (pointsTo_share hs).2).trans ?_
    rw [ih q.left, ih q.right, bigSep_univ_equiv (evenOdd n) (fun i : Fin (2 ^ (n + 1)) => (ℓ ↦{part (n + 1) q i} f : sProp 𝕄)), bigSep_univ_sum]
    simp only [part_even, part_odd]
    rfl

abbrev shareOf (i : Fin 32) : PosShare TreeShare := part 5 fullShare i

/-! ## Rows -/

theorem xs_div : 64 ∣ S8x2048x2x128.size 1 := ⟨32, rfl⟩
theorem ws_div : 32 ∣ S2048.size 0 := ⟨64, rfl⟩
/-- Block `i` of 32 rows, in all panels; block `i` of 64 weights. -/
abbrev xsRect (i : Fin 64) : Rect S8x2048x2x128 := Rect.part (s := S8x2048x2x128) (a₀ := 1) xs_div i
abbrev wsRect (i : Fin 32) : Rect S2048 := Rect.part (s := S2048) (a₀ := 0) ws_div i
abbrev xsSet (i : Fin 64) : Finset S8x2048x2x128.Idx := (xsRect i).set
abbrev wsSet (i : Fin 32) : Finset S2048.Idx := (wsRect i).set

/-- A tile's first and second block of rows. -/
def blk (L : grid1.Coords) (h : Fin 2) : Fin 64 := ⟨2 * (wid L).val + h.val, by have := (wid L).isLt; omega⟩

abbrev xsK0 (L : grid1.Coords) : Rect S8x2048x2x128 := Rect.unit (s := S8x2048x2x128) (k1_off9 L 0#32) S8x32x2x128.size (k1_off9_inb L 0)
abbrev xsK1 (L : grid1.Coords) : Rect S8x2048x2x128 := Rect.unit (s := S8x2048x2x128) (k1_off9 L 32#32) S8x32x2x128.size (k1_off9_inb L 1)
abbrev wsK (L : grid1.Coords) : Rect S2048 := Rect.unit (s := S2048) (k1_off5 L) S64.size (k1_off5_inb L)

theorem off9_0 (L : grid1.Coords) : k1_off9 L 0#32 = ![0, 128 * (L 1).val + 64 * (L 0).val + 0, 0, 0] := k1_off9_eq L 0
theorem off9_1 (L : grid1.Coords) : k1_off9 L 32#32 = ![0, 128 * (L 1).val + 64 * (L 0).val + 32, 0, 0] := k1_off9_eq L 1

theorem xsK0_eq (L : grid1.Coords) : xsK0 L = xsRect (blk L 0) := by
  unfold xsK0 xsRect Rect.part Rect.block
  congr 1 <;> funext a
  · rw [off9_0]
    match a with
    | 0 => simp [Shape.partIx, Shape.partSize]
    | 1 => simp [Shape.partIx, Shape.partSize, blk, wid]; omega
    | 2 => simp [Shape.partIx, Shape.partSize]
    | 3 => simp [Shape.partIx, Shape.partSize]
  · match a with
    | 0 | 1 | 2 | 3 => simp [Shape.partSize]
theorem xsK1_eq (L : grid1.Coords) : xsK1 L = xsRect (blk L 1) := by
  unfold xsK1 xsRect Rect.part Rect.block
  congr 1 <;> funext a
  · rw [off9_1]
    match a with
    | 0 => simp [Shape.partIx, Shape.partSize]
    | 1 => simp [Shape.partIx, Shape.partSize, blk, wid]; omega
    | 2 => simp [Shape.partIx, Shape.partSize]
    | 3 => simp [Shape.partIx, Shape.partSize]
  · match a with
    | 0 | 1 | 2 | 3 => simp [Shape.partSize]
theorem wsK_eq (L : grid1.Coords) : wsK L = wsRect (wid L) := by
  unfold wsK wsRect Rect.part Rect.block
  congr 1 <;> funext a
  · rw [k1_off5_eq]
    match a with
    | 0 => simp [Shape.partIx, Shape.partSize, wid]; omega
  · match a with
    | 0 => simp [Shape.partSize]

abbrev xsM0 (L : grid1.Coords) : Memref sig .scVector .hbm S8x32x2x128 .f32 := xsV.slice (xsK0 L) (fun _ => rfl)
abbrev xsM1 (L : grid1.Coords) : Memref sig .scVector .hbm S8x32x2x128 .f32 := xsV.slice (xsK1 L) (fun _ => rfl)
abbrev wsM (L : grid1.Coords) : Memref sig .scVector .hbm S64 .f32 := wsV.slice (wsK L) (fun _ => rfl)

theorem set_xsM0 (L : grid1.Coords) : (xsM0 L).view.set = xsSet (blk L 0) :=
  (View.set_slice_whole (main_v5_0_scv : Ref sig .scVector) (xsK0 L)).trans (xsK0_eq L ▸ rfl)
theorem set_xsM1 (L : grid1.Coords) : (xsM1 L).view.set = xsSet (blk L 1) :=
  (View.set_slice_whole (main_v5_0_scv : Ref sig .scVector) (xsK1 L)).trans (xsK1_eq L ▸ rfl)
theorem set_wsM (L : grid1.Coords) : (wsM L).view.set = wsSet (wid L) :=
  (View.set_slice_whole (main_v5_1_scv : Ref sig .scVector) (wsK L)).trans (wsK_eq L ▸ rfl)

/-! ## What a tile is handed and hands back -/

abbrev Words : Type := S2048.Idx → BitVec 32
abbrev Weights (F : FTy → Type) : Type := S2048.Idx → F .f32
abbrev Table (F : FTy → Type) : Type := S8x2048x2x128.Idx → F .f32

/-- Tile `i` starts with a share of the arguments, its rows of the results at anything, and, if it is the first, the order and the count. -/
def goRes (d : Dev nD) (e : Words) (w : Weights F) (x : Table F) (L : grid1.Coords) : sProp 𝕄 :=
  iprop((eLoc d ↦{shareOf (wid L)} e) ∗ (wLoc d ↦{shareOf (wid L)} w) ∗ (xLoc d ↦{shareOf (wid L)} x)
    ∗ (∃ f, xsLoc d ↦[xsSet (blk L 0)]{fullShare} f) ∗ (∃ f, xsLoc d ↦[xsSet (blk L 1)]{fullShare} f)
    ∗ (∃ f, wsLoc d ↦[wsSet (wid L)]{fullShare} f)
    ∗ (if (wid L).val = 0 then iprop((∃ f, permLoc d ↦{fullShare} f) ∗ ∃ f, cntLoc d ↦{fullShare} f) else iprop(emp)))

/-- It ends with the same, its rows of the results written. -/
def tdRes (d : Dev nD) (e : Words) (w : Weights F) (x : Table F) (L : grid1.Coords) : sProp 𝕄 :=
  iprop((eLoc d ↦{shareOf (wid L)} e) ∗ (wLoc d ↦{shareOf (wid L)} w) ∗ (xLoc d ↦{shareOf (wid L)} x)
    ∗ (xsLoc d ↦[xsSet (blk L 0)]{fullShare} (rowsA e x : Table F)) ∗ (xsLoc d ↦[xsSet (blk L 1)]{fullShare} (rowsA e x : Table F))
    ∗ (wsLoc d ↦[wsSet (wid L)]{fullShare} (pickA e w : Weights F))
    ∗ (if (wid L).val = 0 then iprop((permLoc d ↦{fullShare} (permA e : Words)) ∗ cntLoc d ↦{fullShare} (countA e : S16.Idx → BitVec 32)) else iprop(emp)))

instance goRes_storable (d : Dev nD) (e : Words) (w : Weights F) (x : Table F) (L : grid1.Coords) :
    BI.Storable (upEmb : UEmb _ 𝕄) (goRes d e w x L) := by
  unfold goRes; split <;> infer_instance
instance tdRes_storable (d : Dev nD) (e : Words) (w : Weights F) (x : Table F) (L : grid1.Coords) :
    BI.Storable (upEmb : UEmb _ 𝕄) (tdRes d e w x L) := by
  unfold tdRes; split <;> infer_instance

end Cert.Proof.Setup

end
-- ==== Proof.Split.lean ====
/-
  The arrays dealt to the 32 tiles and taken back.
-/
module

public import proofs.«01_k».proof.Proof.Deal

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The tiles in order -/

/-- Core `c`'s subcore `s` is tile `2s + c`. -/
def pairs : Fin 2 × Fin 16 ≃ Fin 32 where
  toFun p := ⟨2 * p.2.val + p.1.val, by have := p.1.isLt; have := p.2.isLt; omega⟩
  invFun i := (⟨i.val % 2, Nat.mod_lt _ (by omega)⟩, ⟨i.val / 2, by have := i.isLt; omega⟩)
  left_inv p := by
    have h := p.1.isLt
    exact Prod.ext (Fin.ext (by show (2 * p.2.val + p.1.val) % 2 = p.1.val; omega)) (Fin.ext (by show (2 * p.2.val + p.1.val) / 2 = p.2.val; omega))
  right_inv i := Fin.ext (by show 2 * (i.val / 2) + i.val % 2 = i.val; omega)

theorem tiles_eq (Φ : Fin 32 → sProp 𝕄) :
    bigSep Finset.univ Φ = bigSep Finset.univ fun c : Fin 2 => bigSep Finset.univ fun s : Fin 16 => Φ (pairs (c, s)) := by
  rw [bigSep_univ_equiv pairs Φ, bigSep_univ_prod]

def coordsV (c : Fin (grid1.bound 0)) (s : Fin (grid1.bound 1)) : grid1.Coords :=
  fun | 0 => c | 1 => s | ⟨_ + 2, h⟩ => absurd h (Nat.not_lt.2 (Nat.le_add_left _ _))

theorem wid_coordsV (c : Fin 2) (s : Fin 16) : wid (coordsV c s) = pairs (c, s) := rfl

/-- The two blocks of rows of tile `i`. -/
def blkAt (i : Fin 32) (h : Fin 2) : Fin 64 := ⟨2 * i.val + h.val, by have := i.isLt; omega⟩

theorem blk_eq (L : grid1.Coords) (h : Fin 2) : blk L h = blkAt (wid L) h := rfl

theorem evenOdd_inl (i : Fin 32) : evenOdd 5 (.inl i) = blkAt i 0 := rfl
theorem evenOdd_inr (i : Fin 32) : evenOdd 5 (.inr i) = blkAt i 1 := rfl

/-! ## The arrays by tiles -/

theorem xs_pieces (d : Dev nD) (a : Table F) :
    (xsLoc d ↦{fullShare} a : sProp 𝕄) = bigSep Finset.univ fun i : Fin 64 => xsLoc d ↦[xsSet i]{fullShare} a := by
  have hd : ∀ i ∈ (Finset.univ : Finset (Fin 64)), ∀ j ∈ (Finset.univ : Finset (Fin 64)), i ≠ j → Disjoint (xsSet i) (xsSet j) :=
    fun i _ j _ h => Rect.part_disjoint xs_div h
  have hc : (Finset.univ : Finset (Fin 64)).biUnion xsSet = Finset.univ := Rect.biUnion_part xs_div
  rw [← pointsTo_biUnion Finset.univ (ℓ := xsLoc d) xsSet hd, hc]

theorem ws_pieces (d : Dev nD) (b : Weights F) :
    (wsLoc d ↦{fullShare} b : sProp 𝕄) = bigSep Finset.univ fun i : Fin 32 => wsLoc d ↦[wsSet i]{fullShare} b := by
  have hd : ∀ i ∈ (Finset.univ : Finset (Fin 32)), ∀ j ∈ (Finset.univ : Finset (Fin 32)), i ≠ j → Disjoint (wsSet i) (wsSet j) :=
    fun i _ j _ h => Rect.part_disjoint ws_div h
  have hc : (Finset.univ : Finset (Fin 32)).biUnion wsSet = Finset.univ := Rect.biUnion_part ws_div
  rw [← pointsTo_biUnion Finset.univ (ℓ := wsLoc d) wsSet hd, hc]

theorem xs_tiles (d : Dev nD) (a : Table F) :
    (xsLoc d ↦{fullShare} a : sProp 𝕄)
      = bigSep Finset.univ fun i : Fin 32 => iprop((xsLoc d ↦[xsSet (blkAt i 0)]{fullShare} a) ∗ xsLoc d ↦[xsSet (blkAt i 1)]{fullShare} a) := by
  rw [xs_pieces, bigSep_univ_equiv (evenOdd 5) (fun i : Fin 64 => (xsLoc d ↦[xsSet i]{fullShare} a : sProp 𝕄)), bigSep_univ_sum]
  exact (bigSep_sep _ _ _).symm

/-- What only the first tile holds. -/
theorem first_tile (A : sProp 𝕄) : A = bigSep Finset.univ fun i : Fin 32 => if i.val = 0 then A else iprop(emp) := by
  have h : (bigSep (Finset.univ.erase (0 : Fin 32)) fun i : Fin 32 => if i.val = 0 then A else iprop(emp)) = iprop(emp) :=
    (bigSep_congr (s := Finset.univ.erase (0 : Fin 32)) (Ψ := fun _ => (iprop(emp) : sProp 𝕄))
      (fun i hi => if_neg fun h => Finset.ne_of_mem_erase hi (Fin.ext h))).trans (bigSep_emp_const _)
  rw [bigSep_univ_split (0 : Fin 32), h]
  exact (equiv_iff.mp sep_emp).symm

theorem parts_tiles {ℓ : Loc nD τ sig} (f : Buf (Elt F) ℓ) :
    (ℓ ↦{fullShare} f : sProp 𝕄) = bigSep Finset.univ fun i : Fin 32 => ℓ ↦{shareOf i} f := pointsTo_parts f 5 fullShare

theorem sep_tiles (A B C D E G : Fin 32 → sProp 𝕄) :
    (bigSep Finset.univ fun i => iprop(A i ∗ B i ∗ C i ∗ D i ∗ E i ∗ G i))
      = iprop(bigSep Finset.univ A ∗ bigSep Finset.univ B ∗ bigSep Finset.univ C ∗ bigSep Finset.univ D ∗ bigSep Finset.univ E ∗ bigSep Finset.univ G) := by
  have h (X Y : Fin 32 → sProp 𝕄) : (bigSep Finset.univ fun i => iprop(X i ∗ Y i)) = iprop(bigSep Finset.univ X ∗ bigSep Finset.univ Y) := bigSep_sep _ X Y
  rw [h, h, h, h, h]

theorem split_tiles (d : Dev nD) (e : Words) (w : Weights F) (x a : Table F) (b : Weights F) (A : sProp 𝕄) :
    (iprop((eLoc d ↦{fullShare} e) ∗ (wLoc d ↦{fullShare} w) ∗ (xLoc d ↦{fullShare} x) ∗ (xsLoc d ↦{fullShare} a) ∗ (wsLoc d ↦{fullShare} b) ∗ A) : sProp 𝕄)
      = bigSep Finset.univ fun i : Fin 32 => iprop((eLoc d ↦{shareOf i} e) ∗ (wLoc d ↦{shareOf i} w) ∗ (xLoc d ↦{shareOf i} x)
          ∗ ((xsLoc d ↦[xsSet (blkAt i 0)]{fullShare} a) ∗ xsLoc d ↦[xsSet (blkAt i 1)]{fullShare} a)
          ∗ (wsLoc d ↦[wsSet i]{fullShare} b) ∗ if i.val = 0 then A else iprop(emp)) := by
  rw [sep_tiles, ← parts_tiles (ℓ := eLoc d) e, ← parts_tiles (ℓ := wLoc d) w, ← parts_tiles (ℓ := xLoc d) x, ← xs_tiles d a, ← ws_pieces d b,
    ← first_tile]

/-! ## The deal and its return -/

/-- All the arrays, the results at anything. -/
def goAll (d : Dev nD) (e : Words) (w : Weights F) (x : Table F) : sProp 𝕄 :=
  bigSep Finset.univ fun c : Fin 2 => bigSep Finset.univ fun s : Fin 16 => goRes d e w x (coordsV c s)
def tdAll (d : Dev nD) (e : Words) (w : Weights F) (x : Table F) : sProp 𝕄 :=
  bigSep Finset.univ fun c : Fin 2 => bigSep Finset.univ fun s : Fin 16 => tdRes d e w x (coordsV c s)

theorem first_mono {p : Prop} [Decidable p] {A B : sProp 𝕄} (h : A ⊢ B) : (if p then A else iprop(emp)) ⊢ if p then B else iprop(emp) := by
  split
  · exact h
  · exact .rfl

theorem deal_one (d : Dev nD) (e : Words) (w : Weights F) (x a : Table F) (b : Weights F) (p : Words) (n : S16.Idx → BitVec 32) (L : grid1.Coords) :
    (iprop((eLoc d ↦{shareOf (wid L)} e) ∗ (wLoc d ↦{shareOf (wid L)} w) ∗ (xLoc d ↦{shareOf (wid L)} x)
          ∗ ((xsLoc d ↦[xsSet (blkAt (wid L) 0)]{fullShare} a) ∗ xsLoc d ↦[xsSet (blkAt (wid L) 1)]{fullShare} a)
          ∗ (wsLoc d ↦[wsSet (wid L)]{fullShare} b)
          ∗ if (wid L).val = 0 then iprop((permLoc d ↦{fullShare} p) ∗ cntLoc d ↦{fullShare} n) else iprop(emp)) : sProp 𝕄) ⊢ goRes d e w x L := by
  unfold goRes
  simp only [blk_eq]
  iintro ⟨He, Hw, Hx, ⟨H0, H1⟩, Hb, HA⟩
  isplitl [He]; · iexact He
  isplitl [Hw]; · iexact Hw
  isplitl [Hx]; · iexact Hx
  isplitl [H0]; · iexists _; iexact H0
  isplitl [H1]; · iexists _; iexact H1
  isplitl [Hb]; · iexists _; iexact Hb
  iapply (first_mono (by
    iintro ⟨Hp, Hn⟩
    isplitl [Hp]
    · iexists _; iexact Hp
    · iexists _; iexact Hn : (iprop((permLoc d ↦{fullShare} p) ∗ cntLoc d ↦{fullShare} n) : sProp 𝕄)
      ⊢ iprop((∃ f, permLoc d ↦{fullShare} f) ∗ ∃ f, cntLoc d ↦{fullShare} f)))
  iexact HA

theorem undeal_one (d : Dev nD) (e : Words) (w : Weights F) (x : Table F) (L : grid1.Coords) :
    tdRes d e w x L ⊢ (iprop((eLoc d ↦{shareOf (wid L)} e) ∗ (wLoc d ↦{shareOf (wid L)} w) ∗ (xLoc d ↦{shareOf (wid L)} x)
          ∗ ((xsLoc d ↦[xsSet (blkAt (wid L) 0)]{fullShare} (rowsA e x : Table F)) ∗ xsLoc d ↦[xsSet (blkAt (wid L) 1)]{fullShare} (rowsA e x : Table F))
          ∗ (wsLoc d ↦[wsSet (wid L)]{fullShare} (pickA e w : Weights F))
          ∗ if (wid L).val = 0 then iprop((permLoc d ↦{fullShare} (permA e : Words)) ∗ cntLoc d ↦{fullShare} (countA e : S16.Idx → BitVec 32)) else iprop(emp)) : sProp 𝕄) := by
  unfold tdRes
  simp only [blk_eq]
  iintro ⟨He, Hw, Hx, H0, H1, Hb, HA⟩
  isplitl [He]; · iexact He
  isplitl [Hw]; · iexact Hw
  isplitl [Hx]; · iexact Hx
  isplitl [H0 H1]
  · isplitl [H0]; · iexact H0
    iexact H1
  isplitl [Hb]; · iexact Hb
  iexact HA

theorem deal (d : Dev nD) (e : Words) (w : Weights F) (x a : Table F) (b : Weights F) (p : Words) (n : S16.Idx → BitVec 32) :
    (iprop((eLoc d ↦{fullShare} e) ∗ (wLoc d ↦{fullShare} w) ∗ (xLoc d ↦{fullShare} x) ∗ (xsLoc d ↦{fullShare} a) ∗ (wsLoc d ↦{fullShare} b)
      ∗ (permLoc d ↦{fullShare} p) ∗ cntLoc d ↦{fullShare} n) : sProp 𝕄) ⊢ goAll d e w x := by
  unfold goAll
  rw [split_tiles d e w x a b, tiles_eq]
  refine bigSep_mono fun c _ => bigSep_mono fun s _ => ?_
  rw [← wid_coordsV]
  exact deal_one d e w x a b p n (coordsV c s)

theorem undeal (d : Dev nD) (e : Words) (w : Weights F) (x : Table F) :
    tdAll d e w x ⊢ (iprop((eLoc d ↦{fullShare} e) ∗ (wLoc d ↦{fullShare} w) ∗ (xLoc d ↦{fullShare} x) ∗ (xsLoc d ↦{fullShare} (rowsA e x : Table F))
      ∗ (wsLoc d ↦{fullShare} (pickA e w : Weights F)) ∗ (permLoc d ↦{fullShare} (permA e : Words)) ∗ cntLoc d ↦{fullShare} (countA e : S16.Idx → BitVec 32)) : sProp 𝕄) := by
  unfold tdAll
  rw [split_tiles d e w x, tiles_eq]
  refine bigSep_mono fun c _ => bigSep_mono fun s _ => ?_
  rw [← wid_coordsV]
  exact undeal_one d e w x (coordsV c s)

end Cert.Proof.Setup

end
-- ==== Proof.Spread.lean ====
/-
  The rows put back at their tokens' places: one panel of 32 rows a trip.
-/
module

public import proofs.«01_k».proof.Proof.Fetch
public import Idealize.ShloMosaic.Lib.SparseCore.Scatter

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The arrays -/

abbrev yLoc (d : Dev nD) : Loc nD τ sig := (SparseCore.T d).loc main_v80
abbrev lLoc (d : Dev nD) : Loc nD τ sig := (SparseCore.T d).loc main_v81
abbrev oLoc (d : Dev nD) : Loc nD τ sig := (SparseCore.T d).loc main_v82

abbrev yV : Memref sig .scVector .hbm S8x2048x2x128 .f32 := Memref.whole main_v80_scv
abbrev lV : Memref sig .scVector .hbm S32x2x32 .i32 := Memref.whole main_v81_scv
abbrev oV : Memref sig .scVector .hbm S8x2048x2x128 .f32 := Memref.whole main_v82_scv
/-- A tile's scratch: its two lists of places, the rows of one of them. -/
abbrev tI : Memref sig .scVector .vmem S2x32 .i32 := Memref.whole cc3_scratch0
abbrev tY : Memref sig .scVector .vmem S8x32x2x128 .f32 := Memref.whole cc3_scratch1

/-! ## What the rows are -/

/-- The row of token `t` among rows that lie in the order. -/
def backA {α : Type} (e : V2048.Idx → BitVec 32) (y : Panels.Idx → α) : Panels.Idx → α :=
  fun j => y (ix4 (j 0) ⟨place e (j 1).val, place_lt e _ (j 1).isLt⟩ (j 2) (j 3))
/-- The order as 32 tiles' two lists. -/
def listsA (e : V2048.Idx → BitVec 32) : S32x2x32.Idx → BitVec 32 :=
  fun j => BitVec.ofNat 32 (tok e ⟨64 * (j 0).val + 32 * (j 1).val + (j 2).val, by
    have h0 : (j 0).val < 32 := (j 0).isLt
    have h1 : (j 1).val < 2 := (j 1).isLt
    have h2 : (j 2).val < 32 := (j 2).isLt
    omega⟩).val
/-- A tile's two lists, and the rows of one. -/
def listA (e : V2048.Idx → BitVec 32) (L : grid1.Coords) : S2x32.Idx → BitVec 32 :=
  fun j => BitVec.ofNat 32 (tok e (atTile L (32 * (j 0).val + (j 1).val) (by
    have h0 : (j 0).val < 2 := (j 0).isLt
    have h1 : (j 1).val < 32 := (j 1).isLt
    omega))).val
def blockA {α : Type} (y : Panels.Idx → α) (L : grid1.Coords) (o : ℕ) (ho : o ≤ 32) : S8x32x2x128.Idx → α :=
  fun j => y (ix4 (j 0) (atTile L (o + (j 1).val) (by have : (j 1).val < 32 := (j 1).isLt; omega)) (j 2) (j 3))

/-- Row `t` belongs to the tile whose part of the order it lies in. -/
def mine (e : V2048.Idx → BitVec 32) (i : Fin 32) (t : ℕ) : Prop := place e t / 64 = i.val
instance (e : V2048.Idx → BitVec 32) (i : Fin 32) : DecidablePred (mine e i) := fun t => inferInstanceAs (Decidable (place e t / 64 = i.val))
def rowsOf (e : V2048.Idx → BitVec 32) (i : Fin 32) : Finset S8x2048x2x128.Idx := Finset.univ.filter fun j => mine e i (j 1).val

/-- The tile's rows written so far: those of its places before `o`, and those of the next 32 in the first `n` panels. -/
def Spread {α : Type} (e : V2048.Idx → BitVec 32) (y : Panels.Idx → α) (i : Fin 32) (o n : ℕ) (g : Panels.Idx → α) : Prop :=
  ∀ j : Panels.Idx, mine e i (j 1).val → (place e (j 1).val % 64 < o ∨ (j 0).val < n ∧ place e (j 1).val % 64 < o + 32) → g j = backA e y j

/-! ## A panel of the result as rows -/

section Panel
variable {off : Fin 4 → ℕ} {k : Fin 8} (h : off = ![k.val, 0, 0, 0]) (inb : ∀ a, off a + S1x2048x2x128.size a ≤ S8x2048x2x128.size a)

abbrev panelO (off : Fin 4 → ℕ) (inb : ∀ a, off a + S1x2048x2x128.size a ≤ S8x2048x2x128.size a) : Memref sig .scVector .hbm S2048x2x128 .f32 :=
  ((oV.slice (Rect.unit (s := S8x2048x2x128) off S1x2048x2x128.size inb) (fun _ => rfl)).squeeze S2048x2x128 squeezes_S1x2048x2x128_S2048x2x128).slice
    (Rect.unit (s := S2048x2x128) ![0, 0, 0] S2048x2x128.size inb_S2048x2x128_S2048x2x128_0_0_0) (fun _ => rfl)

abbrev axO : Fin S2048x2x128.rank := gathers_S2048x2x128_S32x2x128.axis

/-- An element's own coordinates in its panel. -/
def flatten (j : S8x2048x2x128.Idx) : S2048x2x128.Idx := ix3 (j 1) (j 2) (j 3)

include h in
theorem emb_panelO (z : S2048x2x128.Idx) : (panelO off inb).view.emb z = (ix4 k (z 0) (z 1) (z 2) : S8x2048x2x128.Idx) := by
  let z' := (Rect.unit (s := S2048x2x128) ![0, 0, 0] S2048x2x128.size inb_S2048x2x128_S2048x2x128_0_0_0).emb z
  have e0 : z' 0 = z 0 := Fin.ext (by show 0 + 1 * (z 0).val = _; omega)
  have e1 : z' 1 = z 1 := Fin.ext (by show 0 + 1 * (z 1).val = _; omega)
  have e2 : z' 2 = z 2 := Fin.ext (by show 0 + 1 * (z 2).val = _; omega)
  refine (emb_panel oV h inb (fun _ => rfl) squeezes_S1x2048x2x128_S2048x2x128 z').trans ?_
  show ix4 k (z' 0) (z' 1) (z' 2) = _
  rw [e0, e1, e2]
  rfl

include h in
/-- Row `t` of the panel, as elements of the array. -/
theorem mem_rowO (t : Fin 2048) (j : S8x2048x2x128.Idx) :
    j ∈ ((panelO off inb).view.slice (S2048x2x128.rowRect axO t)).set ↔ j 0 = k ∧ j 1 = t := by
  constructor
  · intro hj
    obtain ⟨z, -, rfl⟩ := Finset.mem_map.mp hj
    have e1 : ((panelO off inb).view.slice (S2048x2x128.rowRect axO t)).emb z = (panelO off inb).view.emb ((S2048x2x128.rowRect axO t).emb z) := rfl
    rw [e1, emb_panelO h]
    exact ⟨rfl, Shape.rowRect_emb_axis axO t z⟩
  · rintro ⟨h0, h1⟩
    have e1 : (S2048x2x128.rowRect axO t).emb (S2048x2x128.rowProj axO (flatten j)) = flatten j := by
      subst h1
      exact Shape.rowRect_emb_rowProj axO (flatten j)
    refine Finset.mem_map.mpr ⟨S2048x2x128.rowProj axO (flatten j), Finset.mem_univ _, ?_⟩
    refine (congrArg (panelO off inb).view.emb e1).trans ((emb_panelO h inb (flatten j)).trans ?_)
    subst h0
    exact (eq_ix4 j).symm

include h in
theorem mem_mineO (e : V2048.Idx → BitVec 32) (i : Fin 32) (j : S8x2048x2x128.Idx) :
    j ∈ SparseCore.rowsWhere (panelO off inb).view axO (mine e i) ↔ j 0 = k ∧ mine e i (j 1).val := by
  rw [SparseCore.mem_rowsWhere]
  constructor
  · rintro ⟨t, ht, hj⟩
    obtain ⟨h0, h1⟩ := (mem_rowO h inb t j).mp hj
    exact ⟨h0, by rw [h1]; exact ht⟩
  · rintro ⟨h0, h1⟩
    exact ⟨j 1, h1, (mem_rowO h inb (j 1) j).mpr ⟨h0, rfl⟩⟩

include h in
theorem mineO_subset (e : V2048.Idx → BitVec 32) (i : Fin 32) : SparseCore.rowsWhere (panelO off inb).view axO (mine e i) ⊆ rowsOf e i :=
  fun j hj => Finset.mem_filter.mpr ⟨Finset.mem_univ _, ((mem_mineO h inb e i j).mp hj).2⟩

end Panel

/-! ## A list's words -/

abbrev wordsM (c : Fin 2) (inb : ∀ a, ![c.val, 0] a + S1x32.size a ≤ S2x32.size a) : Memref sig .scVector .vmem S32 .i32 :=
  (tI.slice (Rect.unit (s := S2x32) ![c.val, 0] S1x32.size inb) (fun _ => rfl)).squeeze S32 squeezes_S1x32_S32

theorem list_at (e : V2048.Idx → BitVec 32) (L : grid1.Coords) (c : Fin 2) (inb : ∀ a, ![c.val, 0] a + S1x32.size a ≤ S2x32.size a) (x : S32.Idx) :
    ((wordsM c inb).view.read (Elt F) (listA e L) x).toNat
      = (tok e (atTile L (32 * c.val + (x 0).val) (by have : (x 0).val < 32 := (x 0).isLt; omega))).val := by
  have hx : (x 0).val < 32 := (x 0).isLt
  have h1 : (wordsM c inb).view.emb x = (Rect.unit (s := S2x32) ![c.val, 0] S1x32.size inb).emb (Shape.reshapeEquiv squeezes_S1x32_S32.numel_eq x) := rfl
  have h2 : (wordsM c inb).view.emb x = (ix2 c (x 0) : S2x32.Idx) := by
    rw [h1, Shape.reshapeEquiv_cons_one]
    refine funext fun a => Fin.ext ?_
    rw [Rect.emb_apply]
    match a with
    | 0 => show c.val + 1 * 0 = c.val; omega
    | 1 => show 0 + 1 * (x 0).val = (x 0).val; omega
  rw [View.read_apply, h2]
  have := (tok e (atTile L (32 * c.val + (x 0).val) (by omega))).isLt
  exact Nat.mod_eq_of_lt (by show (tok e (atTile L (32 * c.val + (x 0).val) _)).val < 2 ^ 32; omega)

theorem list_inj (e : V2048.Idx → BitVec 32) (L : grid1.Coords) (c : Fin 2) (inb : ∀ a, ![c.val, 0] a + S1x32.size a ≤ S2x32.size a) :
    Function.Injective fun x => ((wordsM c inb).view.read (Elt F) (listA e L) x).toNat := by
  intro x y hxy
  have h : (tok e _).val = (tok e _).val := (list_at (F := F) e L c inb x).symm.trans (hxy.trans (list_at (F := F) e L c inb y))
  have h2 := congrArg (place e) h
  rw [place_tok, place_tok] at h2
  have h3 : 128 * (L 1).val + 64 * (L 0).val + (32 * c.val + (x 0).val) = 128 * (L 1).val + 64 * (L 0).val + (32 * c.val + (y 0).val) := h2
  rw [eq_ix1 x, eq_ix1 y]
  exact congrArg ix1 (Fin.ext (by omega))

theorem list_mine (e : V2048.Idx → BitVec 32) (L : grid1.Coords) (c : Fin 2) (inb : ∀ a, ![c.val, 0] a + S1x32.size a ≤ S2x32.size a) (x : S32.Idx) :
    mine e (wid L) ((wordsM c inb).view.read (Elt F) (listA e L) x).toNat := by
  have hx : (x 0).val < 32 := (x 0).isLt
  rw [list_at (F := F) e L c inb x]
  unfold mine
  rw [place_tok]
  show (128 * (L 1).val + 64 * (L 0).val + (32 * c.val + (x 0).val)) / 64 = 2 * (L 1).val + (L 0).val
  omega

/-! ## One trip's rows -/

abbrev rowM (off : Fin 4 → ℕ) (inb : ∀ a, off a + S1x32x2x128.size a ≤ S8x32x2x128.size a) : Memref sig .scVector .vmem S32x2x128 .f32 :=
  (tY.slice (Rect.unit (s := S8x32x2x128) off S1x32x2x128.size inb) (fun _ => rfl)).squeeze S32x2x128 squeezes_S1x32x2x128_S32x2x128

/-- What a trip's row `i` carries. -/
theorem row_carried (d : Dev nD) (y : Panels.Idx → F .f32) (L : grid1.Coords) (o : ℕ) (ho : o ≤ 32) {off : Fin 4 → ℕ} {k : Fin 8} (h : off = ![k.val, 0, 0, 0])
    (inb : ∀ a, off a + S1x32x2x128.size a ≤ S8x32x2x128.size a) (i : Fin 32) (z : (S2048x2x128.rowShape axO).Idx) (a : Fin 2) (b : Fin 128)
    (ha : (z (1 : Fin 3)).val = a.val) (hb : (z (2 : Fin 3)).val = b.val) :
    SparseCore.scatterRowPayload (F := F) (tile d L) (rowM off inb) gathers_S2048x2x128_S32x2x128 (blockA y L o ho) i z
      = y (ix4 k (atTile L (o + i.val) (by omega)) a b) := by
  let z' : S32x2x128.Idx := (S32x2x128.rowRect gathers_S2048x2x128_S32x2x128.axis' i).emb ((Shape.idxEquiv (gathers_S2048x2x128_S32x2x128.rowShape_eq)).symm z)
  have e0 : z' 0 = i := Shape.rowRect_emb_axis gathers_S2048x2x128_S32x2x128.axis' i _
  have e1 : z' 1 = a := Fin.ext ((Shape.rowRect_emb_of_ne gathers_S2048x2x128_S32x2x128.axis' i _ (show (1 : Fin 3) ≠ 0 by decide)).trans ((Shape.idxEquiv_symm_apply_val _ z _).trans ha))
  have e2 : z' 2 = b := Fin.ext ((Shape.rowRect_emb_of_ne gathers_S2048x2x128_S32x2x128.axis' i _ (show (2 : Fin 3) ≠ 0 by decide)).trans ((Shape.idxEquiv_symm_apply_val _ z _).trans hb))
  show blockA y L o ho ((rowM off inb).view.emb z') = _
  rw [emb_panel tY h inb (fun _ => rfl) squeezes_S1x32x2x128_S32x2x128 z', e0, e1, e2]
  rfl

theorem write_at {κ : Kind} {sp : Space} {s : Shape} {el : EltTy} (v : View sig κ sp s el) (f : v.ty.Contents (Elt F)) (w : s.Idx → Elt F el) (x : s.Idx) (j : v.ty.Idx) (h : v.emb x = j) :
    v.write (Elt F) f w Finset.univ j = _root_.cast (congrArg (Elt F) v.elt_eq.symm) (w x) := by
  subst h; exact View.write_emb_of_mem f w (Finset.mem_univ x)

/-- What lies in a row the list names. -/
theorem row_hit (d : Dev nD) (L : grid1.Coords) {off : Fin 4 → ℕ} {k : Fin 8} (h : off = ![k.val, 0, 0, 0]) (inb : ∀ a, off a + S1x2048x2x128.size a ≤ S8x2048x2x128.size a)
    (r : Fin 32 → Fin 2048) (hinj : Function.Injective r) (w : Fin 32 → (S2048x2x128.rowShape axO).Idx → F .f32) (g : Panels.Idx → F .f32)
    (i : Fin 32) (j : Panels.Idx) (h0 : j 0 = k) (h1 : j 1 = r i) (v : F .f32)
    (hw : ∀ z : (S2048x2x128.rowShape axO).Idx, (z (1 : Fin 3)).val = (j 2).val → (z (2 : Fin 3)).val = (j 3).val → w i z = v) :
    SparseCore.scatterBuf (F := F) (tile d L) (panelO off inb).view axO r w g j = v := by
  have hmem : j ∈ ((panelO off inb).view.slice (S2048x2x128.rowRect axO (r i))).set := (mem_rowO h inb (r i) j).mpr ⟨h0, h1⟩
  refine (SparseCore.scatterBuf_of_mem (F := F) (tile d L) (panelO off inb).view axO r hinj w g hmem).trans ?_
  obtain ⟨z, -, hz⟩ := Finset.mem_map.mp hmem
  have hz' := (emb_panelO h inb ((S2048x2x128.rowRect axO (r i)).emb z)).symm.trans hz
  have ha : (z (1 : Fin 3)).val = (j 2).val := (Shape.rowRect_emb_of_ne axO (r i) z (show (1 : Fin 3) ≠ 0 by decide)).symm.trans (congrArg (fun q : S8x2048x2x128.Idx => (q 2).val) hz')
  have hb : (z (2 : Fin 3)).val = (j 3).val := (Shape.rowRect_emb_of_ne axO (r i) z (show (2 : Fin 3) ≠ 0 by decide)).symm.trans (congrArg (fun q : S8x2048x2x128.Idx => (q 3).val) hz')
  exact (write_at ((panelO off inb).view.slice (S2048x2x128.rowRect axO (r i))) g (w i) z j hz).trans ((cast_eq _ _).trans (hw z ha hb))

/-- One trip writes, in its panel, the rows its list names. -/
theorem Spread.step (d : Dev nD) {e : V2048.Idx → BitVec 32} {y : Panels.Idx → F .f32} {L : grid1.Coords} (c : Fin 2) (ho : 32 * c.val ≤ 32) (k : Fin 8)
    {g : Panels.Idx → F .f32} (hg : Spread e y (wid L) (32 * c.val) k.val g)
    {off : Fin 4 → ℕ} (h : off = ![k.val, 0, 0, 0]) (inb : ∀ a, off a + S1x2048x2x128.size a ≤ S8x2048x2x128.size a)
    {off' : Fin 4 → ℕ} (h' : off' = ![k.val, 0, 0, 0]) (inb' : ∀ a, off' a + S1x32x2x128.size a ≤ S8x32x2x128.size a)
    (inbw : ∀ a, ![c.val, 0] a + S1x32.size a ≤ S2x32.size a) (hn)
    (hin : ∀ x, ((wordsM c inbw).view.read (Elt F) (listA e L) x).toNat < 2048) :
    Spread e y (wid L) (32 * c.val) (k.val + 1)
      ((SparseCore.rowsWhere (panelO off inb).view axO (mine e (wid L))).piecewise
        (SparseCore.scatterBuf (F := F) (tile d L) (panelO off inb).view axO (SparseCore.rows ((wordsM c inbw).view.read (Elt F) (listA e L)) hn hin)
          (SparseCore.scatterRowPayload (F := F) (tile d L) (rowM off' inb') gathers_S2048x2x128_S32x2x128 (blockA y L (32 * c.val) ho)) g) g) := by
  let r := SparseCore.rows ((wordsM c inbw).view.read (Elt F) (listA e L)) hn hin
  have hr : ∀ i : Fin 32, (r i).val = (tok e (atTile L (32 * c.val + i.val) (by omega))).val := fun i => by
    refine (list_at (F := F) e L c inbw (S32.rowMajor.symm (i.cast hn.symm))).trans ?_
    refine congrArg (fun n => (tok e n).val) (Fin.ext ?_)
    show 128 * (L 1).val + 64 * (L 0).val + (32 * c.val + (S32.rowMajor.symm (i.cast hn.symm) 0).val) = 128 * (L 1).val + 64 * (L 0).val + (32 * c.val + i.val)
    rw [Routing.symm1]; rfl
  have hinj : Function.Injective r := SparseCore.rows_injective (list_inj (F := F) e L c inbw)
  have hp : ∀ i : Fin 32, place e (r i).val = 128 * (L 1).val + 64 * (L 0).val + (32 * c.val + i.val) := fun i => by
    rw [hr i, place_tok]; rfl
  intro j hm hj
  have hw : (wid L).val = 2 * (L 1).val + (L 0).val := rfl
  by_cases hk : j 0 = k
  · rw [Finset.piecewise_eq_of_mem _ _ _ ((mem_mineO h inb e (wid L) j).mpr ⟨hk, hm⟩)]
    by_cases hlo : 32 * c.val ≤ place e (j 1).val % 64 ∧ place e (j 1).val % 64 < 32 * c.val + 32
    · let i : Fin 32 := ⟨place e (j 1).val % 64 - 32 * c.val, by omega⟩
      have hi : r i = j 1 := Fin.ext (place_inj e (r i).isLt (j 1).isLt (by
        rw [hp i]
        have := hm
        unfold mine at this
        show 128 * (L 1).val + 64 * (L 0).val + (32 * c.val + (place e (j 1).val % 64 - 32 * c.val)) = _
        omega))
      refine row_hit (F := F) d L h inb r hinj _ g i j hk hi.symm _ fun z ha hb =>
        (row_carried (F := F) d y L (32 * c.val) ho h' inb' i z (j 2) (j 3) ha hb).trans ?_
      unfold backA
      refine congrArg y ?_
      rw [hk]
      congr 1
      refine Fin.ext ?_
      show 128 * (L 1).val + 64 * (L 0).val + (32 * c.val + i.val) = place e (j 1).val
      rw [← hp i, hi]
    · refine (SparseCore.scatterBuf_of_not_mem (F := F) (tile d L) (panelO off inb).view axO r _ g fun hmem => hlo ?_).trans (hg j hm ?_)
      · obtain ⟨i, -, hi⟩ := Finset.mem_biUnion.mp hmem
        have h1 := (mem_rowO h inb (r i) j).mp hi
        have h2 := hp i
        rw [← h1.2] at h2
        rw [h2]
        have := i.isLt
        have hc := c.isLt
        omega
      · rcases hj with hj | hj
        · exact Or.inl hj
        · exact Or.inl (by omega)
  · rw [Finset.piecewise_eq_of_notMem _ _ _ (fun hx => hk ((mem_mineO h inb e (wid L) j).mp hx).1)]
    refine hg j hm ?_
    have hne : (j 0).val ≠ k.val := fun hh => hk (Fin.ext hh)
    rcases hj with hj | hj
    · exact Or.inl hj
    · exact Or.inr ⟨by omega, hj.2⟩

/-! ## The loops -/

/-- Before trip `n` of the loop over the panels of the tile's places from `o`. -/
def spreadInv (d : Dev nD) (L : grid1.Coords) (e : V2048.Idx → BitVec 32) (y : Panels.Idx → F .f32) (o : ℕ) (ho : o ≤ 32)
    (O : CellTallies nD τ sig (HIx 2)) (W : Waits sig (HIx 2)) (n : Nat) (_ : PUnit) : sProp 𝕄 :=
  iprop((tI.view.loc (tile d L) ↦{fullShare} listA e L)
    ∗ (tY.view.loc (tile d L) ↦{fullShare} blockA y L o ho)
    ∗ (∃ g, ⌜Spread e y (wid L) o n g⌝ ∗ oLoc d ↦[rowsOf e (wid L)]{fullShare} g)
    ∗ semVal (tile d L, SemLoc.dma cc3_scratch2.sem) 0
    ∗ Transfers.MayWaits (tile d L) (default : HIx 2) O
    ∗ (∃ W', ⌜∀ p ∈ W', p ∈ W ∨ p.2 = none⌝ ∗ owes (tile d L) O W'))

theorem spread1_trip (d : Dev nD) (L : grid1.Coords) (e : V2048.Idx → BitVec 32) (y : Panels.Idx → F .f32)
    (O : CellTallies nD τ sig (HIx 2)) (W : Waits sig (HIx 2)) (k : Fin k3_t1_loop.trips) (acc : PUnit) :
    (spreadInv (F := F) d L e y 0 (by omega) O W k.val acc)
      ⊢ wp frame (wpE (defs₀ (F := F)) 𝒱₀ (tile d L) none) Set.univ
          (k3_t1_body (F := F) L yV (Memref.isWhole_whole _) lV (Memref.isWhole_whole _) oV (Memref.isWhole_whole _) tI (Memref.isWhole_whole _)
            tY (Memref.isWhole_whole _) cc3_scratch2 cc3_scoped0 cc3_scoped1 cc3_scoped2 k acc)
          (fun acc' => spreadInv d L e y 0 (by omega) O W (k.val + 1) acc') := by
  have hin : ∀ x, (((tI.slice (Rect.unit (s := S2x32) ![0, 0] S1x32.size inb_S2x32_S1x32_0_0) (fun _ => rfl)).squeeze S32 squeezes_S1x32_S32).view.read (Elt F) (listA e L) x).toNat < 2048 := fun x =>
    (list_at (F := F) e L 0 inb_S2x32_S1x32_0_0 x).trans_lt (tok e _).isLt
  have hinj : Function.Injective fun x => (((tI.slice (Rect.unit (s := S2x32) ![0, 0] S1x32.size inb_S2x32_S1x32_0_0) (fun _ => rfl)).squeeze S32 squeezes_S1x32_S32).view.read (Elt F) (listA e L) x).toNat :=
    list_inj (F := F) e L 0 inb_S2x32_S1x32_0_0
  have hown : ∀ x, mine e (wid L) (((tI.slice (Rect.unit (s := S2x32) ![0, 0] S1x32.size inb_S2x32_S1x32_0_0) (fun _ => rfl)).squeeze S32 squeezes_S1x32_S32).view.read (Elt F) (listA e L) x).toNat :=
    list_mine (F := F) e L 0 inb_S2x32_S1x32_0_0
  unfold spreadInv k3_t1_body
  iintro ⟨Hl, Hy, ⟨%g, %hg, Hg⟩, Hsem, #Hmw, ⟨%W', %hW, HO⟩⟩
  ihave Hg := (pointsTo_split_subset (mineO_subset (k3_off4_eq k) (k3_off4_inb k) e (wid L))).1 $$ Hg
  icases Hg with ⟨Hp, Hrest⟩
  ihave Hp := (Entails.of_eq (show (oLoc d ↦[SparseCore.rowsWhere (panelO (k3_off4 k) (k3_off4_inb k)).view axO (mine e (wid L))]{fullShare} g : sProp 𝕄)
    = (panelO (k3_off4 k) (k3_off4_inb k)).view.loc (tile d L) ↦[SparseCore.rowsWhere (panelO (k3_off4 k) (k3_off4_inb k)).view axO (mine e (wid L))]{fullShare} g from rfl)) $$ Hp
  unfold panelO
  sl_exec
  sl_step
  isplitl [Hl]; · iexact Hl
  isplitl [Hy]; · iexact Hy
  isplitl [Hp Hrest]
  · iexists _
    isplitr
    swap
    · iapply (pointsTo_join_subset (mineO_subset (k3_off4_eq k) (k3_off4_inb k) e (wid L)))
      isplitl [Hp]
      · iexact Hp
      · iexact Hrest
    ipureintro
    exact Spread.step (F := F) d 0 (by decide) k hg (k3_off4_eq k) (k3_off4_inb k) (k3_off3_eq k) (k3_off3_inb k) inb_S2x32_S1x32_0_0 rfl hin
  isplitl [Hsem]; · iexact Hsem
  isplitr; · iexact Hmw
  iexists _; isplitr
  swap; · iexact HO
  ipureintro
  intro p hp
  rcases Finset.mem_insert.mp hp with hp | hp
  · exact Or.inr (congrArg Prod.snd hp)
  · exact hW p hp

theorem spread2_trip (d : Dev nD) (L : grid1.Coords) (e : V2048.Idx → BitVec 32) (y : Panels.Idx → F .f32)
    (O : CellTallies nD τ sig (HIx 2)) (W : Waits sig (HIx 2)) (k : Fin k3_t2_loop.trips) (acc : PUnit) :
    (spreadInv (F := F) d L e y 32 (by omega) O W k.val acc)
      ⊢ wp frame (wpE (defs₀ (F := F)) 𝒱₀ (tile d L) none) Set.univ
          (k3_t2_body (F := F) L yV (Memref.isWhole_whole _) lV (Memref.isWhole_whole _) oV (Memref.isWhole_whole _) tI (Memref.isWhole_whole _)
            tY (Memref.isWhole_whole _) cc3_scratch2 cc3_scoped0 cc3_scoped1 cc3_scoped2 k acc)
          (fun acc' => spreadInv d L e y 32 (by omega) O W (k.val + 1) acc') := by
  have hin : ∀ x, (((tI.slice (Rect.unit (s := S2x32) ![1, 0] S1x32.size inb_S2x32_S1x32_1_0) (fun _ => rfl)).squeeze S32 squeezes_S1x32_S32).view.read (Elt F) (listA e L) x).toNat < 2048 := fun x =>
    (list_at (F := F) e L 1 inb_S2x32_S1x32_1_0 x).trans_lt (tok e _).isLt
  have hinj : Function.Injective fun x => (((tI.slice (Rect.unit (s := S2x32) ![1, 0] S1x32.size inb_S2x32_S1x32_1_0) (fun _ => rfl)).squeeze S32 squeezes_S1x32_S32).view.read (Elt F) (listA e L) x).toNat :=
    list_inj (F := F) e L 1 inb_S2x32_S1x32_1_0
  have hown : ∀ x, mine e (wid L) (((tI.slice (Rect.unit (s := S2x32) ![1, 0] S1x32.size inb_S2x32_S1x32_1_0) (fun _ => rfl)).squeeze S32 squeezes_S1x32_S32).view.read (Elt F) (listA e L) x).toNat :=
    list_mine (F := F) e L 1 inb_S2x32_S1x32_1_0
  unfold spreadInv k3_t2_body
  iintro ⟨Hl, Hy, ⟨%g, %hg, Hg⟩, Hsem, #Hmw, ⟨%W', %hW, HO⟩⟩
  ihave Hg := (pointsTo_split_subset (mineO_subset (k3_off6_eq k) (k3_off6_inb k) e (wid L))).1 $$ Hg
  icases Hg with ⟨Hp, Hrest⟩
  ihave Hp := (Entails.of_eq (show (oLoc d ↦[SparseCore.rowsWhere (panelO (k3_off6 k) (k3_off6_inb k)).view axO (mine e (wid L))]{fullShare} g : sProp 𝕄)
    = (panelO (k3_off6 k) (k3_off6_inb k)).view.loc (tile d L) ↦[SparseCore.rowsWhere (panelO (k3_off6 k) (k3_off6_inb k)).view axO (mine e (wid L))]{fullShare} g from rfl)) $$ Hp
  unfold panelO
  sl_exec
  sl_step
  isplitl [Hl]; · iexact Hl
  isplitl [Hy]; · iexact Hy
  isplitl [Hp Hrest]
  · iexists _
    isplitr
    swap
    · iapply (pointsTo_join_subset (mineO_subset (k3_off6_eq k) (k3_off6_inb k) e (wid L)))
      isplitl [Hp]
      · iexact Hp
      · iexact Hrest
    ipureintro
    exact Spread.step (F := F) d 1 (by decide) k hg (k3_off6_eq k) (k3_off6_inb k) (k3_off5_eq k) (k3_off5_inb k) inb_S2x32_S1x32_1_0 rfl hin
  isplitl [Hsem]; · iexact Hsem
  isplitr; · iexact Hmw
  iexists _; isplitr
  swap; · iexact HO
  ipureintro
  intro p hp
  rcases Finset.mem_insert.mp hp with hp | hp
  · exact Or.inr (congrArg Prod.snd hp)
  · exact hW p hp

end Cert.Proof.Setup

end
-- ==== Proof.Own.lean ====
/-
  A tile's own buffers and semaphores, named.
-/
module

public import proofs.«01_k».proof.Proof.Deal

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

abbrev cell (d : Dev nD) (L : grid1.Coords) (s : DmaSem sig) : GSem nD τ sig := (tile d L, .dma s)
abbrev own (L : grid1.Coords) (r : Ref sig .scVector) : DevRef τ sig := (Proc.scVector (cV L) (jV L)).devRef r

theorem own_ne (L : grid1.Coords) {r r' : Ref sig .scVector} (h : r ≠ r') : own L r ≠ own L r' := fun e => h (Proc.devRef_injective _ e)
theorem cell_ne (d : Dev nD) (L : grid1.Coords) {s s' : DmaSem sig} (h : (SemLoc.dma s : SemLoc sig) ≠ .dma s') : cell d L s ≠ cell d L s' :=
  fun e => h (congrArg Prod.snd e)

theorem ownSems0_V (d : Dev nD) (L : grid1.Coords) :
    (ownSems0 (tile d L) : sProp 𝕄)
      = iprop(semVal (cell d L cc1_scratch8.sem) 0 ∗ semVal (cell d L cc1_scoped0.sem) 0 ∗ semVal (cell d L cc1_scoped1.sem) 0 ∗ semVal (cell d L cc1_scoped2.sem) 0 ∗ semVal (cell d L cc1_scoped3.sem) 0 ∗ semVal (cell d L cc1_scoped4.sem) 0 ∗ semVal (cell d L cc1_scoped5.sem) 0 ∗ semVal (cell d L cc1_scoped6.sem) 0
          ∗ bigSep (((((((((ownCells (tile d L)).erase (cell d L cc1_scratch8.sem)).erase (cell d L cc1_scoped0.sem)).erase (cell d L cc1_scoped1.sem)).erase (cell d L cc1_scoped2.sem)).erase (cell d L cc1_scoped3.sem)).erase (cell d L cc1_scoped4.sem)).erase (cell d L cc1_scoped5.sem)).erase (cell d L cc1_scoped6.sem)) fun g => semVal g 0) := by
  unfold ownSems0
  rw [SparseCore.bigSep_erase' (i := (cell d L cc1_scratch8.sem)) (by
    repeat refine Finset.mem_erase.mpr ⟨cell_ne d L (by decide), ?_⟩
    exact mem_ownCells.mpr ⟨rfl, by show (SemLoc.dma cc1_scratch8.sem : SemLoc sig).isScoped .scVector = true; decide⟩)]
  rw [SparseCore.bigSep_erase' (i := (cell d L cc1_scoped0.sem)) (by
    repeat refine Finset.mem_erase.mpr ⟨cell_ne d L (by decide), ?_⟩
    exact mem_ownCells.mpr ⟨rfl, by show (SemLoc.dma cc1_scoped0.sem : SemLoc sig).isScoped .scVector = true; decide⟩)]
  rw [SparseCore.bigSep_erase' (i := (cell d L cc1_scoped1.sem)) (by
    repeat refine Finset.mem_erase.mpr ⟨cell_ne d L (by decide), ?_⟩
    exact mem_ownCells.mpr ⟨rfl, by show (SemLoc.dma cc1_scoped1.sem : SemLoc sig).isScoped .scVector = true; decide⟩)]
  rw [SparseCore.bigSep_erase' (i := (cell d L cc1_scoped2.sem)) (by
    repeat refine Finset.mem_erase.mpr ⟨cell_ne d L (by decide), ?_⟩
    exact mem_ownCells.mpr ⟨rfl, by show (SemLoc.dma cc1_scoped2.sem : SemLoc sig).isScoped .scVector = true; decide⟩)]
  rw [SparseCore.bigSep_erase' (i := (cell d L cc1_scoped3.sem)) (by
    repeat refine Finset.mem_erase.mpr ⟨cell_ne d L (by decide), ?_⟩
    exact mem_ownCells.mpr ⟨rfl, by show (SemLoc.dma cc1_scoped3.sem : SemLoc sig).isScoped .scVector = true; decide⟩)]
  rw [SparseCore.bigSep_erase' (i := (cell d L cc1_scoped4.sem)) (by
    repeat refine Finset.mem_erase.mpr ⟨cell_ne d L (by decide), ?_⟩
    exact mem_ownCells.mpr ⟨rfl, by show (SemLoc.dma cc1_scoped4.sem : SemLoc sig).isScoped .scVector = true; decide⟩)]
  rw [SparseCore.bigSep_erase' (i := (cell d L cc1_scoped5.sem)) (by
    repeat refine Finset.mem_erase.mpr ⟨cell_ne d L (by decide), ?_⟩
    exact mem_ownCells.mpr ⟨rfl, by show (SemLoc.dma cc1_scoped5.sem : SemLoc sig).isScoped .scVector = true; decide⟩)]
  rw [SparseCore.bigSep_erase' (i := (cell d L cc1_scoped6.sem)) (by
    repeat refine Finset.mem_erase.mpr ⟨cell_ne d L (by decide), ?_⟩
    exact mem_ownCells.mpr ⟨rfl, by show (SemLoc.dma cc1_scoped6.sem : SemLoc sig).isScoped .scVector = true; decide⟩)]

set_option maxHeartbeats 1000000 in
theorem ownBufs_V (d : Dev nD) (L : grid1.Coords) :
    (ownBufs (tile d L) : sProp 𝕄)
      = iprop((∃ f, tE.view.loc (tile d L) ↦{fullShare} f) ∗ (∃ f, tW.view.loc (tile d L) ↦{fullShare} f) ∗ (∃ f, tR0.view.loc (tile d L) ↦{fullShare} f) ∗ (∃ f, tR1.view.loc (tile d L) ↦{fullShare} f) ∗ (∃ f, tP.view.loc (tile d L) ↦{fullShare} f) ∗ (∃ f, tB.view.loc (tile d L) ↦{fullShare} f) ∗ (∃ f, tX.view.loc (tile d L) ↦{fullShare} f) ∗ (∃ f, tN.view.loc (tile d L) ↦{fullShare} f)
          ∗ bigSep (((((((((ownRefs (τ := τ) (.scVector (cV L) (jV L))).erase (own L cc1_scratch0)).erase (own L cc1_scratch1)).erase (own L cc1_scratch2)).erase (own L cc1_scratch3)).erase (own L cc1_scratch4)).erase (own L cc1_scratch5)).erase (own L cc1_scratch6)).erase (own L cc1_scratch7))
              fun b => iprop(∃ f, ((d, b) : Loc nD τ sig) ↦{fullShare} f)) := by
  unfold ownBufs
  refine (SparseCore.bigSep_erase' (i := (own L cc1_scratch0)) (by
    repeat refine Finset.mem_erase.mpr ⟨own_ne L (by decide), ?_⟩
    exact SparseCore.Cfg.mem_ownRefs_of_owner (p := Proc.scVector (cV L) (jV L)) rfl)).trans ?_
  rw [SparseCore.bigSep_erase' (i := (own L cc1_scratch1)) (by
    repeat refine Finset.mem_erase.mpr ⟨own_ne L (by decide), ?_⟩
    exact SparseCore.Cfg.mem_ownRefs_of_owner (p := Proc.scVector (cV L) (jV L)) rfl)]
  rw [SparseCore.bigSep_erase' (i := (own L cc1_scratch2)) (by
    repeat refine Finset.mem_erase.mpr ⟨own_ne L (by decide), ?_⟩
    exact SparseCore.Cfg.mem_ownRefs_of_owner (p := Proc.scVector (cV L) (jV L)) rfl)]
  rw [SparseCore.bigSep_erase' (i := (own L cc1_scratch3)) (by
    repeat refine Finset.mem_erase.mpr ⟨own_ne L (by decide), ?_⟩
    exact SparseCore.Cfg.mem_ownRefs_of_owner (p := Proc.scVector (cV L) (jV L)) rfl)]
  rw [SparseCore.bigSep_erase' (i := (own L cc1_scratch4)) (by
    repeat refine Finset.mem_erase.mpr ⟨own_ne L (by decide), ?_⟩
    exact SparseCore.Cfg.mem_ownRefs_of_owner (p := Proc.scVector (cV L) (jV L)) rfl)]
  rw [SparseCore.bigSep_erase' (i := (own L cc1_scratch5)) (by
    repeat refine Finset.mem_erase.mpr ⟨own_ne L (by decide), ?_⟩
    exact SparseCore.Cfg.mem_ownRefs_of_owner (p := Proc.scVector (cV L) (jV L)) rfl)]
  rw [SparseCore.bigSep_erase' (i := (own L cc1_scratch6)) (by
    repeat refine Finset.mem_erase.mpr ⟨own_ne L (by decide), ?_⟩
    exact SparseCore.Cfg.mem_ownRefs_of_owner (p := Proc.scVector (cV L) (jV L)) rfl)]
  rw [SparseCore.bigSep_erase' (i := (own L cc1_scratch7)) (by
    repeat refine Finset.mem_erase.mpr ⟨own_ne L (by decide), ?_⟩
    exact SparseCore.Cfg.mem_ownRefs_of_owner (p := Proc.scVector (cV L) (jV L)) rfl)]

end Cert.Proof.Setup

end
-- ==== Proof.Put.lean ====
/-
  A tile's run of the second call: its rows of the order put back at their tokens' places.
-/
module

public import proofs.«01_k».proof.Proof.Spread
public import proofs.«01_k».proof.Proof.Own
public import Idealize.ShloMosaic.Lib.VecWindow

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.SparseCore.Cfg (tileRest ownBufs ownSems0 ownCells ownRefs mem_ownCells mem_ownRefs)

/-! ## A tile's own buffers and semaphores -/

theorem ownSems0_put (d : Dev nD) (L : grid1.Coords) :
    (ownSems0 (tile d L) : sProp 𝕄)
      = iprop(semVal (cell d L cc3_scratch2.sem) 0 ∗ semVal (cell d L cc3_scoped0.sem) 0 ∗ semVal (cell d L cc3_scoped1.sem) 0 ∗ semVal (cell d L cc3_scoped2.sem) 0
          ∗ bigSep (((((ownCells (tile d L)).erase (cell d L cc3_scratch2.sem)).erase (cell d L cc3_scoped0.sem)).erase (cell d L cc3_scoped1.sem)).erase (cell d L cc3_scoped2.sem)) fun g => semVal g 0) := by
  unfold ownSems0
  rw [SparseCore.bigSep_erase' (i := (cell d L cc3_scratch2.sem)) (by
    repeat refine Finset.mem_erase.mpr ⟨cell_ne d L (by decide), ?_⟩
    exact mem_ownCells.mpr ⟨rfl, by show (SemLoc.dma cc3_scratch2.sem : SemLoc sig).isScoped .scVector = true; decide⟩)]
  rw [SparseCore.bigSep_erase' (i := (cell d L cc3_scoped0.sem)) (by
    repeat refine Finset.mem_erase.mpr ⟨cell_ne d L (by decide), ?_⟩
    exact mem_ownCells.mpr ⟨rfl, by show (SemLoc.dma cc3_scoped0.sem : SemLoc sig).isScoped .scVector = true; decide⟩)]
  rw [SparseCore.bigSep_erase' (i := (cell d L cc3_scoped1.sem)) (by
    repeat refine Finset.mem_erase.mpr ⟨cell_ne d L (by decide), ?_⟩
    exact mem_ownCells.mpr ⟨rfl, by show (SemLoc.dma cc3_scoped1.sem : SemLoc sig).isScoped .scVector = true; decide⟩)]
  rw [SparseCore.bigSep_erase' (i := (cell d L cc3_scoped2.sem)) (by
    repeat refine Finset.mem_erase.mpr ⟨cell_ne d L (by decide), ?_⟩
    exact mem_ownCells.mpr ⟨rfl, by show (SemLoc.dma cc3_scoped2.sem : SemLoc sig).isScoped .scVector = true; decide⟩)]

theorem ownBufs_put (d : Dev nD) (L : grid1.Coords) :
    (ownBufs (tile d L) : sProp 𝕄)
      = iprop((∃ f, tI.view.loc (tile d L) ↦{fullShare} f) ∗ (∃ f, tY.view.loc (tile d L) ↦{fullShare} f)
          ∗ bigSep (((ownRefs (τ := τ) (.scVector (cV L) (jV L))).erase (own L cc3_scratch0)).erase (own L cc3_scratch1))
              fun b => iprop(∃ f, ((d, b) : Loc nD τ sig) ↦{fullShare} f)) := by
  unfold ownBufs
  refine (SparseCore.bigSep_erase' (i := (own L cc3_scratch0)) (by
    exact SparseCore.Cfg.mem_ownRefs_of_owner (p := Proc.scVector (cV L) (jV L)) rfl)).trans ?_
  rw [SparseCore.bigSep_erase' (i := (own L cc3_scratch1)) (by
    repeat refine Finset.mem_erase.mpr ⟨own_ne L (by decide), ?_⟩
    exact SparseCore.Cfg.mem_ownRefs_of_owner (p := Proc.scVector (cV L) (jV L)) rfl)]

/-! ## What it reads -/

abbrev listK (L : grid1.Coords) : Memref sig .scVector .hbm S2x32 .i32 :=
  (lV.slice (Rect.unit (s := S32x2x32) (k3_off1 L) S1x2x32.size (k3_off1_inb L)) (fun _ => rfl)).squeeze S2x32 squeezes_S1x2x32_S2x32
theorem list_row (e : Words) (L : grid1.Coords) : (listK L).view.read (Elt F) (listsA e) = listA e L := by
  funext z
  have hz0 : (z 0).val < 2 := (z 0).isLt
  have hz1 : (z 1).val < 32 := (z 1).isLt
  have h1 : (listK L).view.emb z = (Rect.unit (s := S32x2x32) (k3_off1 L) S1x2x32.size (k3_off1_inb L)).emb (Shape.reshapeEquiv squeezes_S1x2x32_S2x32.numel_eq z) := rfl
  have h2 : (listK L).view.emb z = (ix3 (wid L) (z 0) (z 1) : S32x2x32.Idx) := by
    rw [h1, Shape.reshapeEquiv_cons_one]
    refine funext fun a => Fin.ext ?_
    rw [Rect.emb_apply]
    match a with
    | 0 => show k3_off1 L 0 + 1 * 0 = 2 * (L 1).val + (L 0).val; rw [k3_off1_eq]; rfl
    | 1 => show k3_off1 L 1 + 1 * (z 0).val = (z 0).val; rw [k3_off1_eq]; show 0 + 1 * (z 0).val = _; omega
    | 2 => show k3_off1 L 2 + 1 * (z 1).val = (z 1).val; rw [k3_off1_eq]; show 0 + 1 * (z 1).val = _; omega
  rw [View.read_apply, h2]
  show BitVec.ofNat 32 (tok e _).val = BitVec.ofNat 32 (tok e _).val
  congr 3
  refine Fin.ext ?_
  show 64 * (2 * (L 1).val + (L 0).val) + 32 * (z 0).val + (z 1).val = 128 * (L 1).val + 64 * (L 0).val + (32 * (z 0).val + (z 1).val)
  omega

abbrev blockK0 (L : grid1.Coords) : Memref sig .scVector .hbm S8x32x2x128 .f32 :=
  yV.slice (Rect.unit (s := S8x2048x2x128) (k3_off2 L 0#32) S8x32x2x128.size (k3_off2_inb L 0)) (fun _ => rfl)
abbrev blockK1 (L : grid1.Coords) : Memref sig .scVector .hbm S8x32x2x128 .f32 :=
  yV.slice (Rect.unit (s := S8x2048x2x128) (k3_off2 L 32#32) S8x32x2x128.size (k3_off2_inb L 1)) (fun _ => rfl)
theorem off2_0 (L : grid1.Coords) : k3_off2 L 0#32 = ![0, 128 * (L 1).val + 64 * (L 0).val + 0, 0, 0] := k3_off2_eq L 0
theorem off2_1 (L : grid1.Coords) : k3_off2 L 32#32 = ![0, 128 * (L 1).val + 64 * (L 0).val + 32, 0, 0] := k3_off2_eq L 1
theorem block0_read (y : Table F) (L : grid1.Coords) : (blockK0 L).view.read (Elt F) y = blockA y L 0 (by omega) := by
  funext z
  rw [View.read_apply]
  refine congrArg y ((eq_ix4 _).trans ?_)
  congr 1
  · exact Fin.ext (by show k3_off2 L 0#32 0 + 1 * (z 0).val = _; rw [off2_0]; show 0 + 1 * (z 0).val = _; omega)
  · exact Fin.ext (by show k3_off2 L 0#32 1 + 1 * (z 1).val = 128 * (L 1).val + 64 * (L 0).val + (0 + (z 1).val); rw [off2_0]; show (128 * (L 1).val + 64 * (L 0).val + 0) + 1 * (z 1).val = _; omega)
  · exact Fin.ext (by show k3_off2 L 0#32 2 + 1 * (z 2).val = _; rw [off2_0]; show 0 + 1 * (z 2).val = _; omega)
  · exact Fin.ext (by show k3_off2 L 0#32 3 + 1 * (z 3).val = _; rw [off2_0]; show 0 + 1 * (z 3).val = _; omega)
theorem block1_read (y : Table F) (L : grid1.Coords) : (blockK1 L).view.read (Elt F) y = blockA y L 32 (by omega) := by
  funext z
  rw [View.read_apply]
  refine congrArg y ((eq_ix4 _).trans ?_)
  congr 1
  · exact Fin.ext (by show k3_off2 L 32#32 0 + 1 * (z 0).val = _; rw [off2_1]; show 0 + 1 * (z 0).val = _; omega)
  · exact Fin.ext (by show k3_off2 L 32#32 1 + 1 * (z 1).val = 128 * (L 1).val + 64 * (L 0).val + (32 + (z 1).val); rw [off2_1]; show (128 * (L 1).val + 64 * (L 0).val + 32) + 1 * (z 1).val = _; omega)
  · exact Fin.ext (by show k3_off2 L 32#32 2 + 1 * (z 2).val = _; rw [off2_1]; show 0 + 1 * (z 2).val = _; omega)
  · exact Fin.ext (by show k3_off2 L 32#32 3 + 1 * (z 3).val = _; rw [off2_1]; show 0 + 1 * (z 3).val = _; omega)

theorem lists_copied (d : Dev nD) (L : grid1.Coords) (f : S2x32.Idx → BitVec 32) {g : S2x32.Idx → BitVec 32} {e : Words} (h : g = listA e L) :
    (tI.view.loc (tile d L) ↦{fullShare} View.write (Elt F) tI.view f g Finset.univ : sProp 𝕄) = tI.view.loc (tile d L) ↦{fullShare} listA e L := by
  subst h; exact congrArg _ (View.write_whole_univ (Val := Elt F) (cc3_scratch0 : Ref sig .scVector) f _)
theorem block_copied (d : Dev nD) (L : grid1.Coords) (f : S8x32x2x128.Idx → F .f32) {g b : S8x32x2x128.Idx → F .f32} (h : g = b) :
    (tY.view.loc (tile d L) ↦{fullShare} View.write (Elt F) tY.view f g Finset.univ : sProp 𝕄) = tY.view.loc (tile d L) ↦{fullShare} b := by
  subst h; exact congrArg _ (View.write_whole_univ (Val := Elt F) (cc3_scratch1 : Ref sig .scVector) f g)

/-! ## What it is handed and hands back -/

def putGo (d : Dev nD) (e : Words) (y : Table F) (L : grid1.Coords) : sProp 𝕄 :=
  iprop((lLoc d ↦{shareOf (wid L)} listsA e) ∗ (yLoc d ↦{shareOf (wid L)} y) ∗ ∃ f, oLoc d ↦[rowsOf e (wid L)]{fullShare} f)
def putDone (d : Dev nD) (e : Words) (y : Table F) (L : grid1.Coords) : sProp 𝕄 :=
  iprop((lLoc d ↦{shareOf (wid L)} listsA e) ∗ (yLoc d ↦{shareOf (wid L)} y) ∗ oLoc d ↦[rowsOf e (wid L)]{fullShare} (backA e y : Table F))

instance putGo_storable (d : Dev nD) (e : Words) (y : Table F) (L : grid1.Coords) : BI.Storable (upEmb : UEmb _ 𝕄) (putGo d e y L) := by
  unfold putGo; infer_instance
instance putDone_storable (d : Dev nD) (e : Words) (y : Table F) (L : grid1.Coords) : BI.Storable (upEmb : UEmb _ 𝕄) (putDone d e y L) := by
  unfold putDone; infer_instance

theorem spread_none {α : Type} (e : Words) (y : Panels.Idx → α) (i : Fin 32) (g : Panels.Idx → α) : Spread e y i 0 0 g := fun j _ h => by omega
theorem spread_half {α : Type} {e : Words} {y : Panels.Idx → α} {i : Fin 32} {g : Panels.Idx → α} (h : Spread e y i 0 8 g) : Spread e y i 32 0 g := fun j hm hj => by
  have : (j 0).val < 8 := (j 0).isLt
  exact h j hm (.inr ⟨this, by omega⟩)
theorem spread_all (d : Dev nD) {e : Words} {y : Table F} {i : Fin 32} {g : Table F} (h : Spread e y i 32 8 g) :
    (oLoc d ↦[rowsOf e i]{fullShare} g : sProp 𝕄) = oLoc d ↦[rowsOf e i]{fullShare} (backA e y : Table F) :=
  pointsTo_congr fun j hj => by
    have : (j 0).val < 8 := (j 0).isLt
    exact h j (Finset.mem_filter.mp hj).2 (.inr ⟨this, by omega⟩)

theorem put_body (d : Dev nD) (L : grid1.Coords) (e : Words) (y : Table F) (hF : (K (F := F)).Facts)
    (O : CellTallies nD τ sig (HIx 2)) (W : Waits sig (HIx 2)) (hO : ∀ g, O g none = 0) :
    iprop(levAts (K (F := F)).L (K (F := F)).lev ∗ emp ∗ putGo d e y L
        ∗ scopedBufs (tile d L) ∗ scopedSems0 (tile d L) ∗ owes (tile d L) O W)
      ⊢ wp frame (wpE (defs₀ (F := F)) 𝒱₀ (tile d L) none) Set.univ
          (cc3__sc_scatter_body (F := F) L yV (Memref.isWhole_whole _) lV (Memref.isWhole_whole _) oV (Memref.isWhole_whole _) tI (Memref.isWhole_whole _) tY (Memref.isWhole_whole _) cc3_scratch2 cc3_scoped0 cc3_scoped1 cc3_scoped2)
          fun _ => iprop(putDone d e y L ∗ scopedBufs (tile d L) ∗ scopedSems0 (tile d L)
            ∗ ∃ W', ⌜∀ p ∈ W', p ∈ W ∨ p.2 = none⌝ ∗ owes (tile d L) O W') := by
  rw [cc3__sc_scatter_body_eq_skeleton]; unfold cc3__sc_scatter_body_skel; rw [k3_part1_eq_skeleton]; unfold k3_part1_skel; rw [wp_bind]
  rw [(K (F := F)).scopedBufs_V hF d (cV L) (jV L), SparseCore.Cfg.scopedSems0_V (Val := Elt F) d (cV L) (jV L), ownSems0_put, ownBufs_put]
  unfold putGo
  iintro ⟨#Hlv, -, ⟨Hl, Hy, ⟨%g0, Hg⟩⟩, ⟨⟨%fI, HI⟩, ⟨%fY, HY⟩, Hbufs⟩, ⟨Hs, HsA, HsB, HsC, Hsems⟩, HO⟩
  ihave #Hmw := (show levAts (K (F := F)).L (K (F := F)).lev ⊢ Transfers.MayWaits (tile d L) (default : HIx 2) O from
    (K (F := F)).mayWaits_none (thr := tile d L) hO) $$ Hlv
  ihave Hl := (Entails.of_eq (show (lLoc d ↦{shareOf (wid L)} listsA e : sProp 𝕄) = lV.view.loc (tile d L) ↦{shareOf (wid L)} listsA e from rfl)) $$ Hl
  ihave Hy := (Entails.of_eq (show (yLoc d ↦{shareOf (wid L)} y : sProp 𝕄) = yV.view.loc (tile d L) ↦{shareOf (wid L)} y from rfl)) $$ Hy
  sl_exec
  ihave HI := (Entails.of_eq (lists_copied (F := F) d L fI (g := put_body.sl.dma0 L e) (e := e) (by unfold put_body.sl.dma0; exact list_row (F := F) e L))) $$ HI
  ihave HY := (Entails.of_eq (block_copied (F := F) d L fY (g := put_body.sl.dma0_1 L y) (block0_read (F := F) y L))) $$ HY
  sl_for (spreadInv d L e y 0 (by omega) O W) $$ [HI HY Hg Hs HO]
  case region => intro k acc; exact spread1_trip d L e y O W k acc
  · unfold spreadInv
    isplitl [HI]; · iexact HI
    isplitl [HY]; · iexact HY
    isplitl [Hg]; · iexists _; isplitr; swap; · iexact Hg
                    ipureintro; exact spread_none e y (wid L) g0
    isplitl [Hs]; · iexact Hs
    isplitr; · iexact Hmw
    iexists _; isplitr; swap; · iexact HO
    ipureintro; intro p hp
    simp only [Finset.mem_insert] at hp
    rcases hp with rfl | rfl | hp
    · exact .inr rfl
    · exact .inr rfl
    · exact .inl hp
  iintro %acc H
  unfold spreadInv
  icases H with ⟨HI, HY, ⟨%g1, %hg1, Hg⟩, Hs, -, ⟨%W1, %hW1, HO⟩⟩
  sl_exec
  ihave HY := (Entails.of_eq (block_copied (F := F) d L _ (g := put_body.sl.dma0_2 L y) (block1_read (F := F) y L))) $$ HY
  sl_for (spreadInv d L e y 32 (by omega) O W) $$ [HI HY Hg Hs HO]
  case region => intro k acc; exact spread2_trip d L e y O W k acc
  · unfold spreadInv
    isplitl [HI]; · iexact HI
    isplitl [HY]; · iexact HY
    isplitl [Hg]; · iexists _; isplitr; swap; · iexact Hg
                    ipureintro; exact spread_half hg1
    isplitl [Hs]; · iexact Hs
    isplitr; · iexact Hmw
    iexists _; isplitr; swap; · iexact HO
    ipureintro; intro p hp
    simp only [Finset.mem_insert] at hp
    rcases hp with rfl | hp
    · exact .inr rfl
    · exact hW1 p hp
  iintro %acc2 H
  unfold spreadInv
  icases H with ⟨HI, HY, ⟨%g2, %hg2, Hg⟩, Hs, -, ⟨%W2, %hW2, HO⟩⟩
  sl_step
  ihave Hg := (Entails.of_eq (spread_all (F := F) d hg2)) $$ Hg
  unfold putDone
  isplitl [Hl Hy Hg]
  · isplitl [Hl]; · iexact Hl
    isplitl [Hy]; · iexact Hy
    iexact Hg
  isplitl [HI HY Hbufs]
  · isplitl [HI]; · iexists _; iexact HI
    isplitl [HY]; · iexists _; iexact HY
    iexact Hbufs
  isplitl [Hs HsA HsB HsC Hsems]
  · isplitl [Hs]; · iexact Hs
    isplitl [HsA]; · iexact HsA
    isplitl [HsB]; · iexact HsB
    isplitl [HsC]; · iexact HsC
    iexact Hsems
  iexists _; isplitr; swap; · iexact HO
  ipureintro; exact hW2

end Cert.Proof.Setup

end
-- ==== Proof.Back.lean ====
/-
  The second call's arrays dealt to the tiles and brought together again.
-/
module

public import proofs.«01_k».proof.Proof.Split
public import proofs.«01_k».proof.Proof.Put

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

theorem rowsOf_disjoint (e : Words) {i j : Fin 32} (h : i ≠ j) : Disjoint (rowsOf e i) (rowsOf e j) :=
  Finset.disjoint_left.mpr fun _ hi hj => h (Fin.ext ((Finset.mem_filter.mp hi).2.symm.trans (Finset.mem_filter.mp hj).2))
theorem rowsOf_all (e : Words) : (Finset.univ : Finset (Fin 32)).biUnion (rowsOf e) = Finset.univ :=
  Finset.eq_univ_iff_forall.mpr fun j => Finset.mem_biUnion.mpr
    ⟨⟨place e (j 1).val / 64, by have := place_lt e _ (j 1).isLt; omega⟩, Finset.mem_univ _, Finset.mem_filter.mpr ⟨Finset.mem_univ _, rfl⟩⟩

theorem o_tiles (d : Dev nD) (e : Words) (a : Table F) :
    (oLoc d ↦{fullShare} a : sProp 𝕄) = bigSep Finset.univ fun i : Fin 32 => oLoc d ↦[rowsOf e i]{fullShare} a := by
  rw [← pointsTo_biUnion Finset.univ (ℓ := oLoc d) (rowsOf e) (fun i _ j _ h => rowsOf_disjoint e h), rowsOf_all]

theorem three_tiles (A B C : Fin 32 → sProp 𝕄) :
    (bigSep Finset.univ fun i => iprop(A i ∗ B i ∗ C i)) = iprop(bigSep Finset.univ A ∗ bigSep Finset.univ B ∗ bigSep Finset.univ C) := by
  have h (X Y : Fin 32 → sProp 𝕄) : (bigSep Finset.univ fun i => iprop(X i ∗ Y i)) = iprop(bigSep Finset.univ X ∗ bigSep Finset.univ Y) := bigSep_sep _ X Y
  rw [h, h]

theorem put_tiles (d : Dev nD) (e : Words) (l : S32x2x32.Idx → BitVec 32) (y a : Table F) :
    (iprop((lLoc d ↦{fullShare} l) ∗ (yLoc d ↦{fullShare} y) ∗ oLoc d ↦{fullShare} a) : sProp 𝕄)
      = bigSep Finset.univ fun i : Fin 32 => iprop((lLoc d ↦{shareOf i} l) ∗ (yLoc d ↦{shareOf i} y) ∗ oLoc d ↦[rowsOf e i]{fullShare} a) := by
  rw [three_tiles, ← parts_tiles (ℓ := lLoc d) l, ← parts_tiles (ℓ := yLoc d) y, ← o_tiles d e a]

def putGoAll (d : Dev nD) (e : Words) (y : Table F) : sProp 𝕄 :=
  bigSep Finset.univ fun c : Fin 2 => bigSep Finset.univ fun s : Fin 16 => putGo d e y (coordsV c s)
def putDoneAll (d : Dev nD) (e : Words) (y : Table F) : sProp 𝕄 :=
  bigSep Finset.univ fun c : Fin 2 => bigSep Finset.univ fun s : Fin 16 => putDone d e y (coordsV c s)

theorem put_deal_one (d : Dev nD) (e : Words) (y a : Table F) (L : grid1.Coords) :
    (iprop((lLoc d ↦{shareOf (wid L)} listsA e) ∗ (yLoc d ↦{shareOf (wid L)} y) ∗ oLoc d ↦[rowsOf e (wid L)]{fullShare} a) : sProp 𝕄) ⊢ putGo d e y L := by
  unfold putGo
  iintro ⟨Hl, Hy, Ho⟩
  isplitl [Hl]; · iexact Hl
  isplitl [Hy]; · iexact Hy
  iexists _; iexact Ho

theorem put_undeal_one (d : Dev nD) (e : Words) (y : Table F) (L : grid1.Coords) :
    putDone d e y L ⊢ (iprop((lLoc d ↦{shareOf (wid L)} listsA e) ∗ (yLoc d ↦{shareOf (wid L)} y) ∗ oLoc d ↦[rowsOf e (wid L)]{fullShare} (backA e y : Table F)) : sProp 𝕄) := by
  unfold putDone
  iintro ⟨Hl, Hy, Ho⟩
  isplitl [Hl]; · iexact Hl
  isplitl [Hy]; · iexact Hy
  iexact Ho

theorem put_deal (d : Dev nD) (e : Words) (y a : Table F) :
    (iprop((lLoc d ↦{fullShare} listsA e) ∗ (yLoc d ↦{fullShare} y) ∗ oLoc d ↦{fullShare} a) : sProp 𝕄) ⊢ putGoAll d e y := by
  unfold putGoAll
  rw [put_tiles d e, tiles_eq]
  refine bigSep_mono fun c _ => bigSep_mono fun s _ => ?_
  rw [← wid_coordsV]
  exact put_deal_one d e y a (coordsV c s)

theorem put_undeal (d : Dev nD) (e : Words) (y : Table F) :
    putDoneAll d e y ⊢ (iprop((lLoc d ↦{fullShare} listsA e) ∗ (yLoc d ↦{fullShare} y) ∗ oLoc d ↦{fullShare} (backA e y : Table F)) : sProp 𝕄) := by
  unfold putDoneAll
  rw [put_tiles d e, tiles_eq]
  refine bigSep_mono fun c _ => bigSep_mono fun s _ => ?_
  rw [← wid_coordsV]
  exact put_undeal_one d e y (coordsV c s)

end Cert.Proof.Setup

end
-- ==== Proof.HostStates.lean ====
/-
  What each array holds after each line of the host's program.
-/
module

public import proofs.«01_k».proof.Proof.HostNums
public import proofs.«01_k».proof.Proof.RtData
public import proofs.«01_k».proof.Proof.Back

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.StableHlo
open Idealize.ShloMosaic.TcCoe

variable (m : (ℓ : Loc nD τ sig) → Buf (Elt F) ℓ)

/-! ## The arrays the program computes -/

/-- What the router leaves: each token's expert and its weight, as columns. -/
def eC (d : Dev nD) : (⟨S2048x1, .i32⟩ : BufTy).Contents (Elt F) := (Rt.dat0 m d).arrAt 2 cfg0.N
def wC (d : Dev nD) : (⟨S2048x1, .f32⟩ : BufTy).Contents (Elt F) := (Rt.dat0 m d).arrAt 3 cfg0.N
def eA (d : Dev nD) : Words := ((fun x => shapeCast S2048 x shapeCasts_S2048x1_S2048) : (⟨S2048x1, .i32⟩ : BufTy).Contents (Elt F) → (⟨S2048, .i32⟩ : BufTy).Contents (Elt F)) (eC m d)
def wA (d : Dev nD) : Weights F := ((fun x => shapeCast S2048 x shapeCasts_S2048x1_S2048) : (⟨S2048x1, .f32⟩ : BufTy).Contents (Elt F) → (⟨S2048, .f32⟩ : BufTy).Contents (Elt F)) (wC m d)
/-- The tokens' rows cut into panels. -/
def xA (d : Dev nD) : Table F := val_v1 (m ((SparseCore.T d).loc main_arg0))
/-- How many tokens go to expert 0. -/
def nA (d : Dev nD) : ℕ := zeros (eA m d) 2048

theorem nA_le (d : Dev nD) : nA m d ≤ 2048 := zeros_le _ _

/-- The rows in order of expert. -/
def XA (d : Dev nD) : S2048x2048.Idx → Elt F .f32 := val_v4 (rowsA (eA m d) (xA m d) : Table F)

/-- The tiles' weights, from the weights in order. -/
def wtiles (n : ℕ) (ws : S2048.Idx → Elt F .f32) : S9x256x1.Idx → Elt F .f32 :=
  val_v60 (val_v47 (val_v46 (F := F) (fun (y : S9.Idx) => BitVec.ofNat 32 (rowAt n (y 0).val))) ws) (fun (y : S9.Idx) => if (y 0).val < tiles n then 1#1 else 0#1)
    (val_v45 (F := F) (fun (y : S9.Idx) => BitVec.ofNat 32 (rowAt n (y 0).val))) (fun _ => BitVec.ofNat 32 n) (fun (y : S9.Idx) => if (y 0).val < 8 + spare n then 1#1 else 0#1)

def WtA (d : Dev nD) : S9x256x1.Idx → Elt F .f32 := wtiles (nA m d) (pickA (eA m d) (wA m d) : Weights F)

/-- The first `k` segments' work on rows that held `O`. -/
def segs (n : ℕ) (X : S2048x2048.Idx → Elt F .f32) (Wfc : S2x8192x2048.Idx → Elt F .f32) (Wpr : S2x2048x8192.Idx → Elt F .f32)
    (W : S9x256x1.Idx → Elt F .f32) (O : S2048x2048.Idx → Elt F .f32) : ℕ → S2048x2048.Idx → Elt F .f32
  | 0 => O
  | k + 1 => seg n k X Wfc Wpr W (segs n X Wfc Wpr W O k)

/-- The experts' rows, in order of expert. -/
def ysA (d : Dev nD) : S2048x2048.Idx → Elt F .f32 :=
  segs (nA m d) (XA m d) (m ((SparseCore.T d).loc main_arg2)) (m ((SparseCore.T d).loc main_arg3)) (WtA m d) (m ((SparseCore.T d).loc main_v78)) 32

/-- The rows the second call puts back. -/
def yA (d : Dev nD) : Table F := val_v77 (ysA m d)

/-! ## What the arrays hold, line by line -/

def V0 (d : Dev nD) : Valuation τ sig (Elt F) := fun b => m (d, b)
/-- After the router. -/
def VK (d : Dev nD) : Valuation τ sig (Elt F) :=
  Function.update (Function.update (V0 m d) (Proc.devRef .tc main_v0_0) (eC m d)) (Proc.devRef .tc main_v0_1) (wC m d)
def VA (d : Dev nD) : Valuation τ sig (Elt F) := after opsA (VK m d)
def V1 (d : Dev nD) : Valuation τ sig (Elt F) :=
  Function.update (Function.update (Function.update (Function.update (VA m d) (Proc.devRef .tc main_v5_0) (rowsA (eA m d) (xA m d) : Table F))
    (Proc.devRef .tc main_v5_1) (pickA (eA m d) (wA m d) : Weights F)) (Proc.devRef .tc main_v5_2) (permA (eA m d) : Words)) (Proc.devRef .tc main_v5_3) (countA (eA m d) : S16.Idx → BitVec 32)
def VB0 (d : Dev nD) : Valuation τ sig (Elt F) := after opsB0 (V1 m d)
def VB1 (d : Dev nD) : Valuation τ sig (Elt F) := after opsB1 (VB0 m d)
def VB2 (d : Dev nD) : Valuation τ sig (Elt F) := after opsB2 (VB1 m d)
def VB3 (d : Dev nD) : Valuation τ sig (Elt F) := after opsB3 (VB2 m d)
def VB4 (d : Dev nD) : Valuation τ sig (Elt F) := after opsB4 (VB3 m d)
def VB5 (d : Dev nD) : Valuation τ sig (Elt F) := after opsB5 (VB4 m d)
def VB6 (d : Dev nD) : Valuation τ sig (Elt F) := after opsB6 (VB5 m d)
def VB7 (d : Dev nD) : Valuation τ sig (Elt F) := after opsB7 (VB6 m d)
def VB8 (d : Dev nD) : Valuation τ sig (Elt F) := after opsB8 (VB7 m d)
def VB9 (d : Dev nD) : Valuation τ sig (Elt F) := after opsB9 (VB8 m d)
def VB10 (d : Dev nD) : Valuation τ sig (Elt F) := after opsB10 (VB9 m d)
def VB11 (d : Dev nD) : Valuation τ sig (Elt F) := after opsB11 (VB10 m d)
def VB12 (d : Dev nD) : Valuation τ sig (Elt F) := after opsB12 (VB11 m d)
def VB13 (d : Dev nD) : Valuation τ sig (Elt F) := after opsB13 (VB12 m d)
def VR (d : Dev nD) : Valuation τ sig (Elt F) := Function.update (VB13 m d) (Proc.devRef .tc main_v78) (ysA m d)
def VC (d : Dev nD) : Valuation τ sig (Elt F) := after opsC (VR m d)
def VS (d : Dev nD) : Valuation τ sig (Elt F) := Function.update (VC m d) (Proc.devRef .tc main_v82) (backA (eA m d) (yA m d) : Table F)
def VD (d : Dev nD) : Valuation τ sig (Elt F) := after opsD (VS m d)

/-! ## What a line leaves as it was -/

theorem keepVK (d : Dev nD) (r : Ref sig .tc) (h : r ∉ ([main_v0_0, main_v0_1] : List (Ref sig .tc))) : VK m d (Proc.devRef .tc r) = V0 m d (Proc.devRef .tc r) := by
  have ne : ∀ r' ∈ ([main_v0_0, main_v0_1] : List (Ref sig .tc)), Proc.devRef (τ := τ) .tc r ≠ Proc.devRef .tc r' := fun r' hr' he => h (Proc.devRef_injective _ he ▸ hr')
  unfold VK
  rw [Function.update_of_ne (ne _ (by decide)), Function.update_of_ne (ne _ (by decide))]
theorem VK_e (d : Dev nD) : VK m d (Proc.devRef .tc main_v0_0) = eC m d := by
  unfold VK
  rw [Function.update_of_ne (by decide), Function.update_self]
theorem VK_w (d : Dev nD) : VK m d (Proc.devRef .tc main_v0_1) = wC m d := by
  unfold VK
  rw [Function.update_self]
theorem keepVA (d : Dev nD) (r : Ref sig .tc) (h : r ∉ opsAW) : VA m d (Proc.devRef .tc r) = VK m d (Proc.devRef .tc r) :=
  after_of_writes_sub opsA (VK m d) (forall_writes_sub_of_map opsA_writes) h
theorem keepV1 (d : Dev nD) (r : Ref sig .tc) (h : r ∉ ([main_v5_0, main_v5_1, main_v5_2, main_v5_3] : List (Ref sig .tc))) : V1 m d (Proc.devRef .tc r) = VA m d (Proc.devRef .tc r) := by
  have ne : ∀ r' ∈ ([main_v5_0, main_v5_1, main_v5_2, main_v5_3] : List (Ref sig .tc)), Proc.devRef (τ := τ) .tc r ≠ Proc.devRef .tc r' := fun r' hr' he => h (Proc.devRef_injective _ he ▸ hr')
  unfold V1
  rw [Function.update_of_ne (ne _ (by decide)), Function.update_of_ne (ne _ (by decide)), Function.update_of_ne (ne _ (by decide)), Function.update_of_ne (ne _ (by decide))]
theorem keepVB0 (d : Dev nD) (r : Ref sig .tc) (h : r ∉ opsB0W) : VB0 m d (Proc.devRef .tc r) = V1 m d (Proc.devRef .tc r) :=
  after_of_writes_sub opsB0 (V1 m d) (forall_writes_sub_of_map opsB0_writes) h
theorem keepVB1 (d : Dev nD) (r : Ref sig .tc) (h : r ∉ opsB1W) : VB1 m d (Proc.devRef .tc r) = VB0 m d (Proc.devRef .tc r) :=
  after_of_writes_sub opsB1 (VB0 m d) (forall_writes_sub_of_map opsB1_writes) h
theorem keepVB2 (d : Dev nD) (r : Ref sig .tc) (h : r ∉ opsB2W) : VB2 m d (Proc.devRef .tc r) = VB1 m d (Proc.devRef .tc r) :=
  after_of_writes_sub opsB2 (VB1 m d) (forall_writes_sub_of_map opsB2_writes) h
theorem keepVB3 (d : Dev nD) (r : Ref sig .tc) (h : r ∉ opsB3W) : VB3 m d (Proc.devRef .tc r) = VB2 m d (Proc.devRef .tc r) :=
  after_of_writes_sub opsB3 (VB2 m d) (forall_writes_sub_of_map opsB3_writes) h
theorem keepVB4 (d : Dev nD) (r : Ref sig .tc) (h : r ∉ opsB4W) : VB4 m d (Proc.devRef .tc r) = VB3 m d (Proc.devRef .tc r) :=
  after_of_writes_sub opsB4 (VB3 m d) (forall_writes_sub_of_map opsB4_writes) h
theorem keepVB5 (d : Dev nD) (r : Ref sig .tc) (h : r ∉ opsB5W) : VB5 m d (Proc.devRef .tc r) = VB4 m d (Proc.devRef .tc r) :=
  after_of_writes_sub opsB5 (VB4 m d) (forall_writes_sub_of_map opsB5_writes) h
theorem keepVB6 (d : Dev nD) (r : Ref sig .tc) (h : r ∉ opsB6W) : VB6 m d (Proc.devRef .tc r) = VB5 m d (Proc.devRef .tc r) :=
  after_of_writes_sub opsB6 (VB5 m d) (forall_writes_sub_of_map opsB6_writes) h
theorem keepVB7 (d : Dev nD) (r : Ref sig .tc) (h : r ∉ opsB7W) : VB7 m d (Proc.devRef .tc r) = VB6 m d (Proc.devRef .tc r) :=
  after_of_writes_sub opsB7 (VB6 m d) (forall_writes_sub_of_map opsB7_writes) h
theorem keepVB8 (d : Dev nD) (r : Ref sig .tc) (h : r ∉ opsB8W) : VB8 m d (Proc.devRef .tc r) = VB7 m d (Proc.devRef .tc r) :=
  after_of_writes_sub opsB8 (VB7 m d) (forall_writes_sub_of_map opsB8_writes) h
theorem keepVB9 (d : Dev nD) (r : Ref sig .tc) (h : r ∉ opsB9W) : VB9 m d (Proc.devRef .tc r) = VB8 m d (Proc.devRef .tc r) :=
  after_of_writes_sub opsB9 (VB8 m d) (forall_writes_sub_of_map opsB9_writes) h
theorem keepVB10 (d : Dev nD) (r : Ref sig .tc) (h : r ∉ opsB10W) : VB10 m d (Proc.devRef .tc r) = VB9 m d (Proc.devRef .tc r) :=
  after_of_writes_sub opsB10 (VB9 m d) (forall_writes_sub_of_map opsB10_writes) h
theorem keepVB11 (d : Dev nD) (r : Ref sig .tc) (h : r ∉ opsB11W) : VB11 m d (Proc.devRef .tc r) = VB10 m d (Proc.devRef .tc r) :=
  after_of_writes_sub opsB11 (VB10 m d) (forall_writes_sub_of_map opsB11_writes) h
theorem keepVB12 (d : Dev nD) (r : Ref sig .tc) (h : r ∉ opsB12W) : VB12 m d (Proc.devRef .tc r) = VB11 m d (Proc.devRef .tc r) :=
  after_of_writes_sub opsB12 (VB11 m d) (forall_writes_sub_of_map opsB12_writes) h
theorem keepVB13 (d : Dev nD) (r : Ref sig .tc) (h : r ∉ opsB13W) : VB13 m d (Proc.devRef .tc r) = VB12 m d (Proc.devRef .tc r) :=
  after_of_writes_sub opsB13 (VB12 m d) (forall_writes_sub_of_map opsB13_writes) h
theorem keepVR (d : Dev nD) (r : Ref sig .tc) (h : r ∉ ([main_v78] : List (Ref sig .tc))) : VR m d (Proc.devRef .tc r) = VB13 m d (Proc.devRef .tc r) :=
  Function.update_of_ne (fun he => h (List.mem_singleton.2 (Proc.devRef_injective _ he))) _ _
theorem keepVC (d : Dev nD) (r : Ref sig .tc) (h : r ∉ opsCW) : VC m d (Proc.devRef .tc r) = VR m d (Proc.devRef .tc r) :=
  after_of_writes_sub opsC (VR m d) (forall_writes_sub_of_map opsC_writes) h
theorem keepVS (d : Dev nD) (r : Ref sig .tc) (h : r ∉ ([main_v82] : List (Ref sig .tc))) : VS m d (Proc.devRef .tc r) = VC m d (Proc.devRef .tc r) :=
  Function.update_of_ne (fun he => h (List.mem_singleton.2 (Proc.devRef_injective _ he))) _ _
theorem keepVD (d : Dev nD) (r : Ref sig .tc) (h : r ∉ opsDW) : VD m d (Proc.devRef .tc r) = VS m d (Proc.devRef .tc r) :=
  after_of_writes_sub opsD (VS m d) (forall_writes_sub_of_map opsD_writes) h

/-! ## The lines' results -/

theorem V1_xs (d : Dev nD) : (V1 m d (Proc.devRef .tc main_v5_0) : Table F) = rowsA (eA m d) (xA m d) := by
  unfold V1
  rw [Function.update_of_ne (by decide), Function.update_of_ne (by decide), Function.update_of_ne (by decide), Function.update_self]
theorem V1_ws (d : Dev nD) : (V1 m d (Proc.devRef .tc main_v5_1) : Weights F) = pickA (eA m d) (wA m d) := by
  unfold V1
  rw [Function.update_of_ne (by decide), Function.update_of_ne (by decide), Function.update_self]
theorem V1_perm (d : Dev nD) : (V1 m d (Proc.devRef .tc main_v5_2) : Words) = permA (eA m d) := by
  unfold V1
  rw [Function.update_of_ne (by decide), Function.update_self]
theorem V1_cnt (d : Dev nD) : (V1 m d (Proc.devRef .tc main_v5_3) : S16.Idx → BitVec 32) = countA (eA m d) := by
  unfold V1
  rw [Function.update_self]

theorem at_v4 (d : Dev nD) : (VB0 m d (Proc.devRef .tc main_v7) : S2048x2048.Idx → Elt F .f32) = XA m d :=
  (after_v4 (V1 m d)).trans (by rw [(show (V1 m d (Proc.devRef .tc main_v5_0) : Table F) = rowsA (eA m d) (xA m d) from V1_xs m d)]; first | done | exact rfl)
theorem at_v6 (d : Dev nD) : (VB1 m d (Proc.devRef .tc main_v9) : S_.Idx → BitVec 32) = (fun _ => BitVec.ofNat 32 (nA m d)) :=
  (after_v6 (VB0 m d)).trans (by rw [(show (VB0 m d (Proc.devRef .tc main_v5_3) : S16.Idx → BitVec 32) = countA (eA m d) from (keepVB0 m d main_v5_3 (by decide)).trans (V1_cnt m d))]; first | done | exact rfl)
theorem at_v7 (d : Dev nD) : (VB2 m d (Proc.devRef .tc main_v10) : S_.Idx → BitVec 32) = (fun _ => BitVec.ofNat 32 ((nA m d) / 256)) :=
  (after_v7 (VB1 m d)).trans (by rw [(show (VB1 m d (Proc.devRef .tc main_v9) : S_.Idx → BitVec 32) = (fun _ => BitVec.ofNat 32 (nA m d)) from at_v6 m d)]; exact v7_num _ (nA_le m d))
theorem at_v8 (d : Dev nD) : (VB3 m d (Proc.devRef .tc main_v11) : S_.Idx → BitVec 32) = (fun _ => BitVec.ofNat 32 ((nA m d) % 256)) :=
  (after_v8 (VB2 m d)).trans (by rw [(show (VB2 m d (Proc.devRef .tc main_v9) : S_.Idx → BitVec 32) = (fun _ => BitVec.ofNat 32 (nA m d)) from (keepVB2 m d main_v9 (by decide)).trans (at_v6 m d))]; exact v8_num _ (nA_le m d))
theorem at_v11 (d : Dev nD) : (VB4 m d (Proc.devRef .tc main_v14) : S_.Idx → BitVec 32) = (fun _ => BitVec.ofNat 32 (tiles (nA m d))) :=
  (after_v11 (VB3 m d)).trans (by rw [(show (VB3 m d (Proc.devRef .tc main_v10) : S_.Idx → BitVec 32) = (fun _ => BitVec.ofNat 32 ((nA m d) / 256)) from (keepVB3 m d main_v10 (by decide)).trans (at_v7 m d)), (show (VB3 m d (Proc.devRef .tc main_v11) : S_.Idx → BitVec 32) = (fun _ => BitVec.ofNat 32 ((nA m d) % 256)) from at_v8 m d)]; exact v11_num _ (nA_le m d))
theorem at_v12 (d : Dev nD) : (VB5 m d (Proc.devRef .tc main_v15) : S9.Idx → BitVec 32) = val_v12 (F := F) :=
  (after_v12 (VB4 m d)).trans (rfl)
theorem at_v14 (d : Dev nD) : (VB5 m d (Proc.devRef .tc main_v17) : S9.Idx → BitVec 1) = (fun (y : S9.Idx) => if (y 0).val < tiles (nA m d) then 1#1 else 0#1) :=
  (after_v14 (VB4 m d)).trans (by rw [(show (VB4 m d (Proc.devRef .tc main_v14) : S_.Idx → BitVec 32) = (fun _ => BitVec.ofNat 32 (tiles (nA m d))) from at_v11 m d)]; exact v14_num _ (tiles_le' _ (nA_le m d)))
theorem at_v21 (d : Dev nD) : (VB5 m d (Proc.devRef .tc main_v24) : S9.Idx → BitVec 32) = (fun (y : S9.Idx) => BitVec.ofNat 32 (rowAt (nA m d) (y 0).val)) :=
  (after_v21 (VB4 m d)).trans (by rw [(show (VB4 m d (Proc.devRef .tc main_v14) : S_.Idx → BitVec 32) = (fun _ => BitVec.ofNat 32 (tiles (nA m d))) from at_v11 m d), (show (VB4 m d (Proc.devRef .tc main_v10) : S_.Idx → BitVec 32) = (fun _ => BitVec.ofNat 32 ((nA m d) / 256)) from (keepVB4 m d main_v10 (by decide)).trans ((keepVB3 m d main_v10 (by decide)).trans (at_v7 m d)))]; exact v21_num _ (nA_le m d))
theorem at_v28 (d : Dev nD) : (VB6 m d (Proc.devRef .tc main_v31) : S9.Idx → BitVec 1) = (fun (y : S9.Idx) => if (y 0).val < 8 + spare (nA m d) then 1#1 else 0#1) :=
  (after_v28 (VB5 m d)).trans (by rw [(show (VB5 m d (Proc.devRef .tc main_v15) : S9.Idx → BitVec 32) = val_v12 (F := F) from at_v12 m d), (show (VB5 m d (Proc.devRef .tc main_v11) : S_.Idx → BitVec 32) = (fun _ => BitVec.ofNat 32 ((nA m d) % 256)) from (keepVB5 m d main_v11 (by decide)).trans ((keepVB4 m d main_v11 (by decide)).trans (at_v8 m d)))]; exact v28_num _)
theorem at_v37 (d : Dev nD) : (VB6 m d (Proc.devRef .tc main_v40) : S9.Idx → BitVec 32) = (fun (y : S9.Idx) => segI (nA m d) (y 0).val) :=
  (after_v37 (VB5 m d)).trans (by rw [(show (VB5 m d (Proc.devRef .tc main_v15) : S9.Idx → BitVec 32) = val_v12 (F := F) from at_v12 m d), (show (VB5 m d (Proc.devRef .tc main_v14) : S_.Idx → BitVec 32) = (fun _ => BitVec.ofNat 32 (tiles (nA m d))) from (keepVB5 m d main_v14 (by decide)).trans (at_v11 m d)), (show (VB5 m d (Proc.devRef .tc main_v11) : S_.Idx → BitVec 32) = (fun _ => BitVec.ofNat 32 ((nA m d) % 256)) from (keepVB5 m d main_v11 (by decide)).trans ((keepVB4 m d main_v11 (by decide)).trans (at_v8 m d)))]; exact v37_num _ (nA_le m d))
theorem at_v45 (d : Dev nD) : (VB7 m d (Proc.devRef .tc main_v48) : S9x256.Idx → BitVec 32) = val_v45 (F := F) (fun (y : S9.Idx) => BitVec.ofNat 32 (rowAt (nA m d) (y 0).val)) :=
  (after_v45 (VB6 m d)).trans (by rw [(show (VB6 m d (Proc.devRef .tc main_v24) : S9.Idx → BitVec 32) = (fun (y : S9.Idx) => BitVec.ofNat 32 (rowAt (nA m d) (y 0).val)) from (keepVB6 m d main_v24 (by decide)).trans (at_v21 m d))]; first | done | exact rfl)
theorem at_v46 (d : Dev nD) : (VB7 m d (Proc.devRef .tc main_v49) : S2304.Idx → BitVec 32) = val_v46 (F := F) (fun (y : S9.Idx) => BitVec.ofNat 32 (rowAt (nA m d) (y 0).val)) :=
  (after_v46 (VB6 m d)).trans (by rw [(show (VB6 m d (Proc.devRef .tc main_v24) : S9.Idx → BitVec 32) = (fun (y : S9.Idx) => BitVec.ofNat 32 (rowAt (nA m d) (y 0).val)) from (keepVB6 m d main_v24 (by decide)).trans (at_v21 m d))]; first | done | exact rfl)
theorem at_v47 (d : Dev nD) : (VB8 m d (Proc.devRef .tc main_v50) : S2304.Idx → Elt F .f32) = val_v47 (val_v46 (F := F) (fun (y : S9.Idx) => BitVec.ofNat 32 (rowAt (nA m d) (y 0).val))) (pickA (eA m d) (wA m d) : Weights F) :=
  (after_v47 (VB7 m d)).trans (by rw [(show (VB7 m d (Proc.devRef .tc main_v49) : S2304.Idx → BitVec 32) = val_v46 (F := F) (fun (y : S9.Idx) => BitVec.ofNat 32 (rowAt (nA m d) (y 0).val)) from at_v46 m d), (show (VB7 m d (Proc.devRef .tc main_v5_1) : Weights F) = pickA (eA m d) (wA m d) from (keepVB7 m d main_v5_1 (by decide)).trans ((keepVB6 m d main_v5_1 (by decide)).trans ((keepVB5 m d main_v5_1 (by decide)).trans ((keepVB4 m d main_v5_1 (by decide)).trans ((keepVB3 m d main_v5_1 (by decide)).trans ((keepVB2 m d main_v5_1 (by decide)).trans ((keepVB1 m d main_v5_1 (by decide)).trans ((keepVB0 m d main_v5_1 (by decide)).trans (V1_ws m d)))))))))]; first | done | exact rfl)
theorem at_v60 (d : Dev nD) : (VB9 m d (Proc.devRef .tc main_v63) : S9x256x1.Idx → Elt F .f32) = WtA m d :=
  (after_v60 (VB8 m d)).trans (by rw [(show (VB8 m d (Proc.devRef .tc main_v50) : S2304.Idx → Elt F .f32) = val_v47 (val_v46 (F := F) (fun (y : S9.Idx) => BitVec.ofNat 32 (rowAt (nA m d) (y 0).val))) (pickA (eA m d) (wA m d) : Weights F) from at_v47 m d), (show (VB8 m d (Proc.devRef .tc main_v17) : S9.Idx → BitVec 1) = (fun (y : S9.Idx) => if (y 0).val < tiles (nA m d) then 1#1 else 0#1) from (keepVB8 m d main_v17 (by decide)).trans ((keepVB7 m d main_v17 (by decide)).trans ((keepVB6 m d main_v17 (by decide)).trans (at_v14 m d)))), (show (VB8 m d (Proc.devRef .tc main_v48) : S9x256.Idx → BitVec 32) = val_v45 (F := F) (fun (y : S9.Idx) => BitVec.ofNat 32 (rowAt (nA m d) (y 0).val)) from (keepVB8 m d main_v48 (by decide)).trans (at_v45 m d)), (show (VB8 m d (Proc.devRef .tc main_v9) : S_.Idx → BitVec 32) = (fun _ => BitVec.ofNat 32 (nA m d)) from (keepVB8 m d main_v9 (by decide)).trans ((keepVB7 m d main_v9 (by decide)).trans ((keepVB6 m d main_v9 (by decide)).trans ((keepVB5 m d main_v9 (by decide)).trans ((keepVB4 m d main_v9 (by decide)).trans ((keepVB3 m d main_v9 (by decide)).trans ((keepVB2 m d main_v9 (by decide)).trans (at_v6 m d)))))))), (show (VB8 m d (Proc.devRef .tc main_v31) : S9.Idx → BitVec 1) = (fun (y : S9.Idx) => if (y 0).val < 8 + spare (nA m d) then 1#1 else 0#1) from (keepVB8 m d main_v31 (by decide)).trans ((keepVB7 m d main_v31 (by decide)).trans (at_v28 m d)))]; first | done | exact rfl)
theorem at_v61 (d : Dev nD) : (VB10 m d (Proc.devRef .tc main_v64) : S32.Idx → BitVec 32) = val_v61 (F := F) :=
  (after_v61 (VB9 m d)).trans (rfl)
theorem at_v62 (d : Dev nD) : (VB10 m d (Proc.devRef .tc main_v65) : S32.Idx → BitVec 32) = (fun (y : S32.Idx) => BitVec.ofNat 32 ((y 0).val / 2)) :=
  (after_v62 (VB9 m d)).trans (v62_num)
theorem at_v63 (d : Dev nD) : (VB11 m d (Proc.devRef .tc main_v66) : S32.Idx → BitVec 32) = (fun (y : S32.Idx) => BitVec.ofNat 32 ((y 0).val % 2)) :=
  (after_v63 (VB10 m d)).trans (by rw [(show (VB10 m d (Proc.devRef .tc main_v64) : S32.Idx → BitVec 32) = val_v61 (F := F) from at_v61 m d)]; exact v63_num)
theorem at_v67 (d : Dev nD) : (VB12 m d (Proc.devRef .tc main_v70) : S32.Idx → BitVec 32) = (fun (y : S32.Idx) => BitVec.ofNat 32 (segN (nA m d) (y 0).val)) :=
  (after_v67 (VB11 m d)).trans (by rw [(show (VB11 m d (Proc.devRef .tc main_v66) : S32.Idx → BitVec 32) = (fun (y : S32.Idx) => BitVec.ofNat 32 ((y 0).val % 2)) from at_v63 m d), (show (VB11 m d (Proc.devRef .tc main_v14) : S_.Idx → BitVec 32) = (fun _ => BitVec.ofNat 32 (tiles (nA m d))) from (keepVB11 m d main_v14 (by decide)).trans ((keepVB10 m d main_v14 (by decide)).trans ((keepVB9 m d main_v14 (by decide)).trans ((keepVB8 m d main_v14 (by decide)).trans ((keepVB7 m d main_v14 (by decide)).trans ((keepVB6 m d main_v14 (by decide)).trans ((keepVB5 m d main_v14 (by decide)).trans (at_v11 m d))))))))]; exact v67_num _ (nA_le m d))
theorem at_v70 (d : Dev nD) : (VB13 m d (Proc.devRef .tc main_v73) : S32.Idx → BitVec 32) = (fun (y : S32.Idx) => BitVec.ofNat 32 (segT (nA m d) (y 0).val)) :=
  (after_v70 (VB12 m d)).trans (by rw [(show (VB12 m d (Proc.devRef .tc main_v66) : S32.Idx → BitVec 32) = (fun (y : S32.Idx) => BitVec.ofNat 32 ((y 0).val % 2)) from (keepVB12 m d main_v66 (by decide)).trans (at_v63 m d)), (show (VB12 m d (Proc.devRef .tc main_v14) : S_.Idx → BitVec 32) = (fun _ => BitVec.ofNat 32 (tiles (nA m d))) from (keepVB12 m d main_v14 (by decide)).trans ((keepVB11 m d main_v14 (by decide)).trans ((keepVB10 m d main_v14 (by decide)).trans ((keepVB9 m d main_v14 (by decide)).trans ((keepVB8 m d main_v14 (by decide)).trans ((keepVB7 m d main_v14 (by decide)).trans ((keepVB6 m d main_v14 (by decide)).trans ((keepVB5 m d main_v14 (by decide)).trans (at_v11 m d)))))))))]; exact v70_num _ (nA_le m d))
theorem at_v74 (d : Dev nD) : (VB13 m d (Proc.devRef .tc main_v77) : S32.Idx → BitVec 32) = (fun (y : S32.Idx) => BitVec.ofNat 32 (segR (nA m d) (y 0).val)) :=
  (after_v74 (VB12 m d)).trans (by rw [(show (VB12 m d (Proc.devRef .tc main_v66) : S32.Idx → BitVec 32) = (fun (y : S32.Idx) => BitVec.ofNat 32 ((y 0).val % 2)) from (keepVB12 m d main_v66 (by decide)).trans (at_v63 m d)), (show (VB12 m d (Proc.devRef .tc main_v10) : S_.Idx → BitVec 32) = (fun _ => BitVec.ofNat 32 ((nA m d) / 256)) from (keepVB12 m d main_v10 (by decide)).trans ((keepVB11 m d main_v10 (by decide)).trans ((keepVB10 m d main_v10 (by decide)).trans ((keepVB9 m d main_v10 (by decide)).trans ((keepVB8 m d main_v10 (by decide)).trans ((keepVB7 m d main_v10 (by decide)).trans ((keepVB6 m d main_v10 (by decide)).trans ((keepVB5 m d main_v10 (by decide)).trans ((keepVB4 m d main_v10 (by decide)).trans ((keepVB3 m d main_v10 (by decide)).trans (at_v7 m d)))))))))))]; exact v74_num _ (nA_le m d))

/-! ## Before the product -/

theorem pre_v4 (d : Dev nD) : (VB13 m d (Proc.devRef .tc main_v7) : S2048x2048.Idx → Elt F .f32) = XA m d :=
  (keepVB13 m d main_v7 (by decide)).trans ((keepVB12 m d main_v7 (by decide)).trans ((keepVB11 m d main_v7 (by decide)).trans ((keepVB10 m d main_v7 (by decide)).trans ((keepVB9 m d main_v7 (by decide)).trans ((keepVB8 m d main_v7 (by decide)).trans ((keepVB7 m d main_v7 (by decide)).trans ((keepVB6 m d main_v7 (by decide)).trans ((keepVB5 m d main_v7 (by decide)).trans ((keepVB4 m d main_v7 (by decide)).trans ((keepVB3 m d main_v7 (by decide)).trans ((keepVB2 m d main_v7 (by decide)).trans ((keepVB1 m d main_v7 (by decide)).trans (at_v4 m d)))))))))))))
theorem pre_v37 (d : Dev nD) : (VB13 m d (Proc.devRef .tc main_v40) : S9.Idx → BitVec 32) = (fun (y : S9.Idx) => segI (nA m d) (y 0).val) :=
  (keepVB13 m d main_v40 (by decide)).trans ((keepVB12 m d main_v40 (by decide)).trans ((keepVB11 m d main_v40 (by decide)).trans ((keepVB10 m d main_v40 (by decide)).trans ((keepVB9 m d main_v40 (by decide)).trans ((keepVB8 m d main_v40 (by decide)).trans ((keepVB7 m d main_v40 (by decide)).trans (at_v37 m d)))))))
theorem pre_v60 (d : Dev nD) : (VB13 m d (Proc.devRef .tc main_v63) : S9x256x1.Idx → Elt F .f32) = WtA m d :=
  (keepVB13 m d main_v63 (by decide)).trans ((keepVB12 m d main_v63 (by decide)).trans ((keepVB11 m d main_v63 (by decide)).trans ((keepVB10 m d main_v63 (by decide)).trans (at_v60 m d))))
theorem pre_v62 (d : Dev nD) : (VB13 m d (Proc.devRef .tc main_v65) : S32.Idx → BitVec 32) = (fun (y : S32.Idx) => BitVec.ofNat 32 ((y 0).val / 2)) :=
  (keepVB13 m d main_v65 (by decide)).trans ((keepVB12 m d main_v65 (by decide)).trans ((keepVB11 m d main_v65 (by decide)).trans (at_v62 m d)))
theorem pre_v63 (d : Dev nD) : (VB13 m d (Proc.devRef .tc main_v66) : S32.Idx → BitVec 32) = (fun (y : S32.Idx) => BitVec.ofNat 32 ((y 0).val % 2)) :=
  (keepVB13 m d main_v66 (by decide)).trans ((keepVB12 m d main_v66 (by decide)).trans (at_v63 m d))
theorem pre_v67 (d : Dev nD) : (VB13 m d (Proc.devRef .tc main_v70) : S32.Idx → BitVec 32) = (fun (y : S32.Idx) => BitVec.ofNat 32 (segN (nA m d) (y 0).val)) :=
  (keepVB13 m d main_v70 (by decide)).trans (at_v67 m d)
theorem pre_v70 (d : Dev nD) : (VB13 m d (Proc.devRef .tc main_v73) : S32.Idx → BitVec 32) = (fun (y : S32.Idx) => BitVec.ofNat 32 (segT (nA m d) (y 0).val)) :=
  at_v70 m d
theorem pre_v74 (d : Dev nD) : (VB13 m d (Proc.devRef .tc main_v77) : S32.Idx → BitVec 32) = (fun (y : S32.Idx) => BitVec.ofNat 32 (segR (nA m d) (y 0).val)) :=
  at_v74 m d
theorem pre_arg3 (d : Dev nD) : VB13 m d (Proc.devRef .tc main_arg2) = m ((SparseCore.T d).loc main_arg2) :=
  (keepVB13 m d main_arg2 (by decide)).trans ((keepVB12 m d main_arg2 (by decide)).trans ((keepVB11 m d main_arg2 (by decide)).trans ((keepVB10 m d main_arg2 (by decide)).trans ((keepVB9 m d main_arg2 (by decide)).trans ((keepVB8 m d main_arg2 (by decide)).trans ((keepVB7 m d main_arg2 (by decide)).trans ((keepVB6 m d main_arg2 (by decide)).trans ((keepVB5 m d main_arg2 (by decide)).trans ((keepVB4 m d main_arg2 (by decide)).trans ((keepVB3 m d main_arg2 (by decide)).trans ((keepVB2 m d main_arg2 (by decide)).trans ((keepVB1 m d main_arg2 (by decide)).trans ((keepVB0 m d main_arg2 (by decide)).trans ((keepV1 m d main_arg2 (by decide)).trans ((keepVA m d main_arg2 (by decide)).trans (keepVK m d main_arg2 (by decide)))))))))))))))))
theorem pre_arg4 (d : Dev nD) : VB13 m d (Proc.devRef .tc main_arg3) = m ((SparseCore.T d).loc main_arg3) :=
  (keepVB13 m d main_arg3 (by decide)).trans ((keepVB12 m d main_arg3 (by decide)).trans ((keepVB11 m d main_arg3 (by decide)).trans ((keepVB10 m d main_arg3 (by decide)).trans ((keepVB9 m d main_arg3 (by decide)).trans ((keepVB8 m d main_arg3 (by decide)).trans ((keepVB7 m d main_arg3 (by decide)).trans ((keepVB6 m d main_arg3 (by decide)).trans ((keepVB5 m d main_arg3 (by decide)).trans ((keepVB4 m d main_arg3 (by decide)).trans ((keepVB3 m d main_arg3 (by decide)).trans ((keepVB2 m d main_arg3 (by decide)).trans ((keepVB1 m d main_arg3 (by decide)).trans ((keepVB0 m d main_arg3 (by decide)).trans ((keepV1 m d main_arg3 (by decide)).trans ((keepVA m d main_arg3 (by decide)).trans (keepVK m d main_arg3 (by decide)))))))))))))))))
theorem pre_v75 (d : Dev nD) : VB13 m d (Proc.devRef .tc main_v78) = m ((SparseCore.T d).loc main_v78) :=
  (keepVB13 m d main_v78 (by decide)).trans ((keepVB12 m d main_v78 (by decide)).trans ((keepVB11 m d main_v78 (by decide)).trans ((keepVB10 m d main_v78 (by decide)).trans ((keepVB9 m d main_v78 (by decide)).trans ((keepVB8 m d main_v78 (by decide)).trans ((keepVB7 m d main_v78 (by decide)).trans ((keepVB6 m d main_v78 (by decide)).trans ((keepVB5 m d main_v78 (by decide)).trans ((keepVB4 m d main_v78 (by decide)).trans ((keepVB3 m d main_v78 (by decide)).trans ((keepVB2 m d main_v78 (by decide)).trans ((keepVB1 m d main_v78 (by decide)).trans ((keepVB0 m d main_v78 (by decide)).trans ((keepV1 m d main_v78 (by decide)).trans ((keepVA m d main_v78 (by decide)).trans (keepVK m d main_v78 (by decide)))))))))))))))))

/-! ## Before the calls -/

theorem VA_v1 (d : Dev nD) : (VA m d (Proc.devRef .tc main_v4) : Table F) = xA m d :=
  (after_v1 (VK m d)).trans (congrArg val_v1 (keepVK m d main_arg0 (by decide)))
theorem VA_arg0 (d : Dev nD) : VA m d (Proc.devRef .tc main_v1) = eA m d :=
  (after_e (VK m d)).trans (congrArg ((fun x => shapeCast S2048 x shapeCasts_S2048x1_S2048) : (⟨S2048x1, .i32⟩ : BufTy).Contents (Elt F) → (⟨S2048, .i32⟩ : BufTy).Contents (Elt F)) (VK_e m d))
theorem VA_arg1 (d : Dev nD) : VA m d (Proc.devRef .tc main_v2) = wA m d :=
  (after_w (VK m d)).trans (congrArg ((fun x => shapeCast S2048 x shapeCasts_S2048x1_S2048) : (⟨S2048x1, .f32⟩ : BufTy).Contents (Elt F) → (⟨S2048, .f32⟩ : BufTy).Contents (Elt F)) (VK_w m d))

theorem VR_v75 (d : Dev nD) : VR m d (Proc.devRef .tc main_v78) = ysA m d := Function.update_self ..
theorem VC_v77 (d : Dev nD) : (VC m d (Proc.devRef .tc main_v80) : Table F) = yA m d :=
  (after_v77 (VR m d)).trans (congrArg val_v77 (VR_v75 m d))
theorem lists_eq (e : Words) : shapeCast S32x2x32 (permA e : S2048.Idx → BitVec 32) shapeCasts_S2048_S32x2x32 = listsA e := by
  funext j
  have h0 : (j 0).val < 32 := (j 0).isLt
  have h1 : (j 1).val < 2 := (j 1).isLt
  have h2 : (j 2).val < 32 := (j 2).isLt
  refine (shapeCast_apply _ _ j (ix1 ⟨64 * (j 0).val + 32 * (j 1).val + (j 2).val, by omega⟩) ?_).trans rfl
  rw [Shape.rowMajor_val_one, Shape.rowMajor_val_three]
  show 64 * (j 0).val + 32 * (j 1).val + (j 2).val = ((j 0).val * 2 + (j 1).val) * 32 + (j 2).val
  omega
theorem VC_v78 (d : Dev nD) : (VC m d (Proc.devRef .tc main_v81) : S32x2x32.Idx → BitVec 32) = listsA (eA m d) :=
  (after_v78 (VR m d)).trans ((congrArg (val_v78 (F := F)) (show (VR m d (Proc.devRef .tc main_v5_2) : Words) = permA (eA m d) from (keepVR m d main_v5_2 (by decide)).trans ((keepVB13 m d main_v5_2 (by decide)).trans ((keepVB12 m d main_v5_2 (by decide)).trans ((keepVB11 m d main_v5_2 (by decide)).trans ((keepVB10 m d main_v5_2 (by decide)).trans ((keepVB9 m d main_v5_2 (by decide)).trans ((keepVB8 m d main_v5_2 (by decide)).trans ((keepVB7 m d main_v5_2 (by decide)).trans ((keepVB6 m d main_v5_2 (by decide)).trans ((keepVB5 m d main_v5_2 (by decide)).trans ((keepVB4 m d main_v5_2 (by decide)).trans ((keepVB3 m d main_v5_2 (by decide)).trans ((keepVB2 m d main_v5_2 (by decide)).trans ((keepVB1 m d main_v5_2 (by decide)).trans ((keepVB0 m d main_v5_2 (by decide)).trans (V1_perm m d))))))))))))))))).trans (lists_eq _))

/-! ## At the end -/

theorem end_arg0 (d : Dev nD) : VD m d (Proc.devRef .tc main_arg0) = m ((SparseCore.T d).loc main_arg0) :=
  (keepVD m d main_arg0 (by decide)).trans ((keepVS m d main_arg0 (by decide)).trans ((keepVC m d main_arg0 (by decide)).trans ((keepVR m d main_arg0 (by decide)).trans ((keepVB13 m d main_arg0 (by decide)).trans ((keepVB12 m d main_arg0 (by decide)).trans ((keepVB11 m d main_arg0 (by decide)).trans ((keepVB10 m d main_arg0 (by decide)).trans ((keepVB9 m d main_arg0 (by decide)).trans ((keepVB8 m d main_arg0 (by decide)).trans ((keepVB7 m d main_arg0 (by decide)).trans ((keepVB6 m d main_arg0 (by decide)).trans ((keepVB5 m d main_arg0 (by decide)).trans ((keepVB4 m d main_arg0 (by decide)).trans ((keepVB3 m d main_arg0 (by decide)).trans ((keepVB2 m d main_arg0 (by decide)).trans ((keepVB1 m d main_arg0 (by decide)).trans ((keepVB0 m d main_arg0 (by decide)).trans ((keepV1 m d main_arg0 (by decide)).trans ((keepVA m d main_arg0 (by decide)).trans (keepVK m d main_arg0 (by decide)))))))))))))))))))))
theorem end_arg1 (d : Dev nD) : VD m d (Proc.devRef .tc main_arg1) = m ((SparseCore.T d).loc main_arg1) :=
  (keepVD m d main_arg1 (by decide)).trans ((keepVS m d main_arg1 (by decide)).trans ((keepVC m d main_arg1 (by decide)).trans ((keepVR m d main_arg1 (by decide)).trans ((keepVB13 m d main_arg1 (by decide)).trans ((keepVB12 m d main_arg1 (by decide)).trans ((keepVB11 m d main_arg1 (by decide)).trans ((keepVB10 m d main_arg1 (by decide)).trans ((keepVB9 m d main_arg1 (by decide)).trans ((keepVB8 m d main_arg1 (by decide)).trans ((keepVB7 m d main_arg1 (by decide)).trans ((keepVB6 m d main_arg1 (by decide)).trans ((keepVB5 m d main_arg1 (by decide)).trans ((keepVB4 m d main_arg1 (by decide)).trans ((keepVB3 m d main_arg1 (by decide)).trans ((keepVB2 m d main_arg1 (by decide)).trans ((keepVB1 m d main_arg1 (by decide)).trans ((keepVB0 m d main_arg1 (by decide)).trans ((keepV1 m d main_arg1 (by decide)).trans ((keepVA m d main_arg1 (by decide)).trans (keepVK m d main_arg1 (by decide)))))))))))))))))))))
theorem end_arg2 (d : Dev nD) : VD m d (Proc.devRef .tc main_arg2) = m ((SparseCore.T d).loc main_arg2) :=
  (keepVD m d main_arg2 (by decide)).trans ((keepVS m d main_arg2 (by decide)).trans ((keepVC m d main_arg2 (by decide)).trans ((keepVR m d main_arg2 (by decide)).trans ((keepVB13 m d main_arg2 (by decide)).trans ((keepVB12 m d main_arg2 (by decide)).trans ((keepVB11 m d main_arg2 (by decide)).trans ((keepVB10 m d main_arg2 (by decide)).trans ((keepVB9 m d main_arg2 (by decide)).trans ((keepVB8 m d main_arg2 (by decide)).trans ((keepVB7 m d main_arg2 (by decide)).trans ((keepVB6 m d main_arg2 (by decide)).trans ((keepVB5 m d main_arg2 (by decide)).trans ((keepVB4 m d main_arg2 (by decide)).trans ((keepVB3 m d main_arg2 (by decide)).trans ((keepVB2 m d main_arg2 (by decide)).trans ((keepVB1 m d main_arg2 (by decide)).trans ((keepVB0 m d main_arg2 (by decide)).trans ((keepV1 m d main_arg2 (by decide)).trans ((keepVA m d main_arg2 (by decide)).trans (keepVK m d main_arg2 (by decide)))))))))))))))))))))
theorem end_arg3 (d : Dev nD) : VD m d (Proc.devRef .tc main_arg3) = m ((SparseCore.T d).loc main_arg3) :=
  (keepVD m d main_arg3 (by decide)).trans ((keepVS m d main_arg3 (by decide)).trans ((keepVC m d main_arg3 (by decide)).trans ((keepVR m d main_arg3 (by decide)).trans ((keepVB13 m d main_arg3 (by decide)).trans ((keepVB12 m d main_arg3 (by decide)).trans ((keepVB11 m d main_arg3 (by decide)).trans ((keepVB10 m d main_arg3 (by decide)).trans ((keepVB9 m d main_arg3 (by decide)).trans ((keepVB8 m d main_arg3 (by decide)).trans ((keepVB7 m d main_arg3 (by decide)).trans ((keepVB6 m d main_arg3 (by decide)).trans ((keepVB5 m d main_arg3 (by decide)).trans ((keepVB4 m d main_arg3 (by decide)).trans ((keepVB3 m d main_arg3 (by decide)).trans ((keepVB2 m d main_arg3 (by decide)).trans ((keepVB1 m d main_arg3 (by decide)).trans ((keepVB0 m d main_arg3 (by decide)).trans ((keepV1 m d main_arg3 (by decide)).trans ((keepVA m d main_arg3 (by decide)).trans (keepVK m d main_arg3 (by decide)))))))))))))))))))))
theorem VS_v79 (d : Dev nD) : VS m d (Proc.devRef .tc main_v82) = (backA (eA m d) (yA m d) : Table F) := Function.update_self ..
theorem end_v81 (d : Dev nD) : (VD m d (Proc.devRef .tc main_v84) : S2048x2048.Idx → Elt F .f32) = val_v81 (backA (eA m d) (yA m d) : Table F) :=
  (after_v81 (VS m d)).trans (congrArg val_v81 (VS_v79 m d))

end Cert.Proof.Setup

end
-- ==== Proof.FfnAcc.lean ====
/-
  One element of the experts' rows through the segments; what the rows held before does not matter.
-/
module

public import proofs.«01_k».proof.Proof.HostStates

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## One element of the rows through the segments -/

/-- What a tile's product adds. -/
def tileAdd (x : Vec F S256x2048 .f32) (wf : Vec F S1x512x2048 .f32) (w : Vec F S1x256x1 .f32) (wp : Vec F S1x2048x512 .f32) : FVec F S256x2048 .f32 :=
  matmul dot_S256x512_S2048x512_S256x2048_1_1_0_0_n_n none
    (mulf (mulf
        (select (cmpf .ogt (matmul dot_S256x2048_S512x2048_S256x512_1_1_0_0_n_n none (shapeCast S256x2048 x shapeCasts_S256x2048_S256x2048) (shapeCast S512x2048 wf shapeCasts_S1x512x2048_S512x2048) (constant S256x512 .f32 0x00000000#32)) (broadcast S256x512 (Scalar.ofBits .f32 0x00000000#32)))
          (matmul dot_S256x2048_S512x2048_S256x512_1_1_0_0_n_n none (shapeCast S256x2048 x shapeCasts_S256x2048_S256x2048) (shapeCast S512x2048 wf shapeCasts_S1x512x2048_S512x2048) (constant S256x512 .f32 0x00000000#32))
          (mulf (broadcast S256x512 (Scalar.ofBits .f32 0x3F000000#32)) (matmul dot_S256x2048_S512x2048_S256x512_1_1_0_0_n_n none (shapeCast S256x2048 x shapeCasts_S256x2048_S256x2048) (shapeCast S512x2048 wf shapeCasts_S1x512x2048_S512x2048) (constant S256x512 .f32 0x00000000#32))))
        (select (cmpf .ogt (matmul dot_S256x2048_S512x2048_S256x512_1_1_0_0_n_n none (shapeCast S256x2048 x shapeCasts_S256x2048_S256x2048) (shapeCast S512x2048 wf shapeCasts_S1x512x2048_S512x2048) (constant S256x512 .f32 0x00000000#32)) (broadcast S256x512 (Scalar.ofBits .f32 0x00000000#32)))
          (matmul dot_S256x2048_S512x2048_S256x512_1_1_0_0_n_n none (shapeCast S256x2048 x shapeCasts_S256x2048_S256x2048) (shapeCast S512x2048 wf shapeCasts_S1x512x2048_S512x2048) (constant S256x512 .f32 0x00000000#32))
          (mulf (broadcast S256x512 (Scalar.ofBits .f32 0x3F000000#32)) (matmul dot_S256x2048_S512x2048_S256x512_1_1_0_0_n_n none (shapeCast S256x2048 x shapeCasts_S256x2048_S256x2048) (shapeCast S512x2048 wf shapeCasts_S1x512x2048_S512x2048) (constant S256x512 .f32 0x00000000#32)))))
      (broadcastTo S256x512 (shapeCast S256x1 w shapeCasts_S1x256x1_S256x1) broadcasts_S256x1_S256x512))
    (shapeCast S2048x512 wp shapeCasts_S1x2048x512_S2048x512) (constant S256x2048 .f32 0x00000000#32)

theorem pay2_at (x : Vec F S256x2048 .f32) (wf : Vec F S1x512x2048 .f32) (w : Vec F S1x256x1 .f32) (o : Vec F S256x2048 .f32) (wp : Vec F S1x2048x512 .f32)
    (p : S256x2048.Idx) : k2_pay2 x wf w o wp p = FloatOps.addf (o p) (tileAdd x wf w wp p) :=
  congrArg (fun a => FloatOps.addf a (tileAdd x wf w wp p)) (shapeCast_apply o _ p p rfl)

/-- The zero a tile's rows start from. -/
def zero : Elt F .f32 := Scalar.ofBits (F := F) .f32 0x00000000#32

theorem pay1_at (p : S256x2048.Idx) : k2_pay1 (F := F) p = zero := rfl

/-- An element through the first `k` tiles of a segment: `b` its row tile, `bt` the tiles' row tiles, `z` which zero, `D` what each adds. -/
def acc (b : ℕ) (bt : ℕ → ℕ) (z : ℕ → Bool) (D : ℕ → Elt F .f32) (a : Elt F .f32) : ℕ → Elt F .f32
  | 0 => a
  | k + 1 => if bt k = b then FloatOps.addf (if z k then zero else acc b bt z D a k) (D k) else acc b bt z D a k

theorem acc_agree (b : ℕ) (bt : ℕ → ℕ) (z : ℕ → Bool) (D : ℕ → Elt F .f32) (a a' : Elt F .f32) (k : ℕ)
    (h : a = a' ∨ ∃ j < k, bt j = b ∧ z j = true) : acc b bt z D a k = acc b bt z D a' k := by
  induction k with
  | zero => exact h.elim (fun h => h) fun ⟨j, hj, _⟩ => absurd hj (Nat.not_lt_zero j)
  | succ k ih =>
    unfold acc
    by_cases hk : bt k = b
    · rw [if_pos hk, if_pos hk]
      by_cases hz : z k = true
      · rw [if_pos hz, if_pos hz]
      · rw [if_neg hz, if_neg hz, ih (h.imp_right fun ⟨j, hj, h1, h2⟩ => ⟨j, Nat.lt_of_le_of_ne (Nat.le_of_lt_succ hj) fun he => hz (he ▸ h2), h1, h2⟩)]
    · rw [if_neg hk, if_neg hk, ih (h.imp_right fun ⟨j, hj, h1, h2⟩ => ⟨j, Nat.lt_of_le_of_ne (Nat.le_of_lt_succ hj) fun he => hk (he ▸ h1), h1, h2⟩)]

/-- What tile `j` of segment `s` adds at an element. -/
def addAt (n s : ℕ) (X : S2048x2048.Idx → Elt F .f32) (Wfc : S2x8192x2048.Idx → Elt F .f32) (Wpr : S2x2048x8192.Idx → Elt F .f32)
    (W : S9x256x1.Idx → Elt F .f32) (y : S2048x2048.Idx) (j : ℕ) : Elt F .f32 :=
  tileAdd (tileRows (rowT (segR n s) j) X) (fcBlk s Wfc) (tileWts (tilT (segT n s) j) W) (prBlk s Wpr) (ix2 ⟨(y 0).val % 256, Nat.mod_lt _ (by decide)⟩ (y 1))

/-- Whether tile `j` of segment `s` zeroes. -/
def zeroes (n s j : ℕ) : Bool := decide (k2_cond1 (BitVec.ofNat 32 (s / 2)) (segI n (tilT (segT n s) j).val) = 1#1)

/-- An element through segment `s`. -/
def accS (n s : ℕ) (X : S2048x2048.Idx → Elt F .f32) (Wfc : S2x8192x2048.Idx → Elt F .f32) (Wpr : S2x2048x8192.Idx → Elt F .f32)
    (W : S9x256x1.Idx → Elt F .f32) (y : S2048x2048.Idx) (a : Elt F .f32) : ℕ → Elt F .f32 :=
  acc ((y 0).val / 256) (fun j => (rowT (segR n s) j).val) (zeroes n s) (addAt n s X Wfc Wpr W y) a

theorem tileRows_at (b : Fin 8) (O : S2048x2048.Idx → Elt F .f32) (y : S2048x2048.Idx) (h : (y 0).val / 256 = b.val) :
    tileRows b O (ix2 ⟨(y 0).val % 256, Nat.mod_lt _ (by decide)⟩ (y 1)) = O y := by
  unfold tileRows
  refine congrArg O (funext fun a => Fin.ext ?_)
  match a with
  | ⟨0, _⟩ => show b.val * 256 + (y 0).val % 256 = (y 0).val; omega
  | ⟨1, _⟩ => rfl

theorem segSteps_at (n s : ℕ) (X : S2048x2048.Idx → Elt F .f32) (Wfc : S2x8192x2048.Idx → Elt F .f32) (Wpr : S2x2048x8192.Idx → Elt F .f32)
    (W : S9x256x1.Idx → Elt F .f32) (O : S2048x2048.Idx → Elt F .f32) (y : S2048x2048.Idx) (k : ℕ) :
    segSteps (BitVec.ofNat 32 (s / 2)) (segT n s) (segR n s) (fun g => segI n g.val) X (fcBlk s Wfc) (prBlk s Wpr) W O k y
      = accS n s X Wfc Wpr W y (O y) k := by
  induction k with
  | zero => rfl
  | succ k ih =>
    unfold accS at ih ⊢
    show tileStep _ _ _ _ _ _ _ _ y = _
    unfold acc
    rw [← ih]
    generalize segSteps (BitVec.ofNat 32 (s / 2)) (segT n s) (segR n s) (fun g => segI n g.val) X (fcBlk s Wfc) (prBlk s Wpr) W O k = O'
    unfold tileStep
    by_cases hb : (y 0).val / 256 = (rowT (segR n s) k).val
    · rw [if_pos hb.symm]
      dsimp only
      conv_lhs => unfold setRows
      rw [if_pos hb, pay2_at, tileRows_at _ _ y hb]
      refine congrArg (fun a => FloatOps.addf a _) ?_
      by_cases hz : k2_cond1 (BitVec.ofNat 32 (s / 2)) (segI n (tilT (segT n s) k).val) = 1#1
      · rw [if_pos hz, if_pos (show zeroes n s k = true from decide_eq_true hz)]
        exact (if_pos hb).trans rfl
      · rw [if_neg hz, if_neg (show ¬ zeroes n s k = true from fun h => hz (of_decide_eq_true h))]
    · rw [if_neg (show ¬ (rowT (segR n s) k).val = (y 0).val / 256 from fun h => hb h.symm)]
      dsimp only
      conv_lhs => unfold setRows
      rw [if_neg hb]
      split
      · exact if_neg hb
      · rfl

theorem seg_at (n s : ℕ) (X : S2048x2048.Idx → Elt F .f32) (Wfc : S2x8192x2048.Idx → Elt F .f32) (Wpr : S2x2048x8192.Idx → Elt F .f32)
    (W : S9x256x1.Idx → Elt F .f32) (O : S2048x2048.Idx → Elt F .f32) (y : S2048x2048.Idx) :
    seg n s X Wfc Wpr W O y = accS n s X Wfc Wpr W y (O y) (segN n s) := segSteps_at ..

/-! ## Every row tile is zeroed in the first two segments -/

theorem cond_iff : (k2_cond1 (BitVec.ofNat 32 0) 1#32 = 1#1) ∧ ¬ (k2_cond1 (BitVec.ofNat 32 0) 0#32 = 1#1) := by decide

theorem zeroes_iff (n s j : ℕ) (hs : s < 2) (hj : segT n s + j ≤ 8) :
    zeroes n s j = true ↔ ¬ ((segT n s + j = tiles n ∧ n % 256 ≠ 0) ∨ 8 + (if n % 256 = 0 then 0 else 1) ≤ segT n s + j) := by
  have h2 : s / 2 = 0 := by omega
  have e : (tilT (segT n s) j).val = segT n s + j := Nat.min_eq_left hj
  unfold zeroes
  rw [decide_eq_true_iff, h2, e]
  unfold segI
  by_cases h : (segT n s + j = tiles n ∧ n % 256 ≠ 0) ∨ 8 + (if n % 256 = 0 then 0 else 1) ≤ segT n s + j
  · rw [if_pos h]
    exact ⟨fun hc => absurd hc cond_iff.2, fun hc => absurd h hc⟩
  · rw [if_neg h]
    exact ⟨fun _ => h, fun _ => cond_iff.1⟩

theorem zeroed (n : ℕ) (hn : n ≤ 2048) (b : ℕ) (hb : b < 8) :
    (∃ j < segN n 0, (rowT (segR n 0) j).val = b ∧ zeroes n 0 j = true) ∨ (∃ j < segN n 1, (rowT (segR n 1) j).val = b ∧ zeroes n 1 j = true) := by
  by_cases h : b < tiles n
  · left
    refine ⟨b, h, ?_, ?_⟩
    · show min (0 + b) 7 = b; omega
    · rw [zeroes_iff _ _ _ (by decide) (by show 0 + b ≤ 8; omega)]
      show ¬ ((0 + b = tiles n ∧ _) ∨ _ ≤ 0 + b)
      split <;> omega
  · right
    have ht : tiles n = n / 256 + (if n % 256 = 0 then 0 else 1) := rfl
    refine ⟨b - n / 256, ?_, ?_, ?_⟩
    · show b - n / 256 < 9 - tiles n
      split at ht <;> omega
    · show min (min (n / 256) 7 + (b - n / 256)) 7 = b
      split at ht <;> omega
    · have h1 : segT n 1 = tiles n := rfl
      rw [zeroes_iff _ _ _ (by decide) (by rw [h1]; split at ht <;> omega), h1]
      split at ht
      · rw [if_pos (by assumption)]; omega
      · rw [if_neg (by assumption)]; omega

/-- The first `t` segments' work does not depend on what the rows held, from the second on. -/
theorem segs_indep (n : ℕ) (hn : n ≤ 2048) (X : S2048x2048.Idx → Elt F .f32) (Wfc : S2x8192x2048.Idx → Elt F .f32) (Wpr : S2x2048x8192.Idx → Elt F .f32)
    (W : S9x256x1.Idx → Elt F .f32) (O O' : S2048x2048.Idx → Elt F .f32) (t : ℕ) :
    segs n X Wfc Wpr W O (t + 2) = segs n X Wfc Wpr W O' (t + 2) := by
  induction t with
  | zero =>
    funext y
    have hy : (y 0).val < 2048 := (y 0).isLt
    show seg n 1 X Wfc Wpr W (seg n 0 X Wfc Wpr W O) y = seg n 1 X Wfc Wpr W (seg n 0 X Wfc Wpr W O') y
    rw [seg_at, seg_at, seg_at, seg_at]
    refine acc_agree _ _ _ _ _ _ _ ?_
    exact (zeroed n hn ((y 0).val / 256) (by omega)).imp (fun h => acc_agree _ _ _ _ _ _ _ (.inr h)) id
  | succ t ih => exact congrArg (seg n (t + 2) X Wfc Wpr W) ih

end Cert.Proof.Setup

end
-- ==== Proof.FfnOut.lean ====
/-
  The product's array at the end.
-/
module

public import proofs.«01_k».proof.Proof.FfnAcc

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.TcCoe

section Out

variable (n : ℕ) (X : S2048x2048.Idx → Elt F .f32) (Wfc : S2x8192x2048.Idx → Elt F .f32) (Wpr : S2x2048x8192.Idx → Elt F .f32)
  (W : S9x256x1.Idx → Elt F .f32) (O₀ : S2048x2048.Idx → Elt F .f32) (owed₀ : CellTallies nD τ sig (HIx 2))
  (rec₀ : Set (SemLoc sig × HIx 2)) (c : Dev nD)

theorem flush_out (t : Fin grid2.N) : ((PN (F := F) n).win 4).flush t = true ↔ t.val % 32 = 31 :=
  Pipeline.Window.flushOf_const cc2_transform_4 (fun _ _ => rfl) (n := 32) (m := 31) N_2 rfl t

theorem fetch_out (t : Fin grid2.N) : ((PN (F := F) n).win 4).fetch t = false := rfl

/-- After `t` points the rows are what `t` segments made of some first rows. -/
theorem out_leaves : ∀ (k : ℕ) (t : Fin grid2.N), t.val = k → ∀ (Z : S2048x2048.Idx → Elt F .f32),
    (rd n X Wfc Wpr W O₀ owed₀ rec₀ c).Leaves 4 t Z → ∃ O, Z = segs n X Wfc Wpr W O (k + 1) := by
  intro k
  induction k with
  | zero =>
    intro t ht Z hZ
    obtain ⟨Y, -, h⟩ := hZ
    refine ⟨Y, ?_⟩
    have h' : Z = seg n t.val X Wfc Wpr W Y := h
    rw [h', ht]; rfl
  | succ k ih =>
    intro t ht Z hZ
    obtain ⟨Y, hY, h⟩ := hZ
    have h' : Z = seg n t.val X Wfc Wpr W Y := h
    have hlt : t.val < 32 := t.isLt
    rcases ((rd n X Wfc Wpr W O₀ owed₀ rec₀ c).finds_of_pos (fetch_out n t) (by omega) Y).mp hY with hf | hl
    · have := (flush_out n _).mp hf
      have hv : t.val - 1 < 32 := by omega
      have e : (t.val - 1) % 32 = 31 := this
      omega
    · obtain ⟨O, hO⟩ := ih ⟨t.val - 1, Nat.lt_of_le_of_lt (Nat.sub_le _ _) t.isLt⟩ (by show t.val - 1 = k; omega) Y hl
      refine ⟨O, ?_⟩
      rw [h', hO, ht]; rfl

theorem whole_out : ((PN (F := F) n).win 4).WholeAt (31 : Fin 32) := by
  refine ⟨(flush_out n _).mpr rfl, fun t h => ?_, fun a => ?_⟩
  · have h := (flush_out n t).mp h
    have hlt : t.val < 32 := t.isLt
    exact Fin.ext (show t.val = 31 by omega)
  · match a with
    | ⟨0, _⟩ => exact ⟨rfl, rfl⟩
    | ⟨1, _⟩ => exact ⟨rfl, rfl⟩

/-- At the end the output array is what all segments make of the rows. -/
theorem out_final [∀ e, Nonempty (Elt F e)] (hn : n ≤ 2048) (G : S2048x2048.Idx → Elt F .f32)
    (hG : (rd n X Wfc Wpr W O₀ owed₀ rec₀ c).ArrAt 4 (PN (F := F) n).N G) (O : S2048x2048.Idx → Elt F .f32) :
    G = segs n X Wfc Wpr W O 32 := by
  obtain ⟨Z, hZ, e⟩ := Pipeline.RDat.ArrAt.emb_eq_of_wholeAt hG (whole_out n)
  obtain ⟨O', hO'⟩ := out_leaves n X Wfc Wpr W O₀ owed₀ rec₀ c 31 _ rfl Z hZ
  rw [segs_indep n hn X Wfc Wpr W O O' 30, ← hO']
  funext (j : S2048x2048.Idx)
  have ej := e j
  exact ej

end Out

end Cert.Proof.Setup

end
-- ==== Proof.FfnRegion.lean ====
/-
  The product as a step of the program.
-/
module

public import proofs.«01_k».proof.Proof.FfnOut
public import proofs.«01_k».proof.Proof.FfnOblig
public import Idealize.ShloMosaic.Lib.Pipeline.RegionArraysT

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.TcCoe Idealize.ShloMosaic.StableHlo

variable (m : (ℓ : Loc nD τ sig) → Buf (Elt F) ℓ)

theorem nA_dev (d : Dev nD) : nA m d = nA m (0 : Fin 1) := congrArg (nA m) (Subsingleton.elim (α := Fin 1) d 0)

/-! ## The product's data at the program's arrays -/

/-- How far the pairs recorded before the product reach. -/
def recd (c : Dev nD) : Set (SemLoc sig × HIx 2) := fun p => (K (F := F)).lev ((c.tc : Thread nD τ), p.1) p.2 ≤ 8

/-- The tables' contents the pipeline runs at. -/
abbrev admM : (p : Fin 2) → (pcfgs (F := F) p).Adm := adm (nA m (0 : Fin 1))

def rds : (p : Fin 2) → (c : Dev nD) → Pipeline.RDat τ (Elt F) (HIx 2) ℕ UU ℕ (Pipeline.pin (pcfgs (F := F)) (admM m) p) c
  | 0, c => (Rt.dat0 m c).toR
  | 1, c => rd (nA m (0 : Fin 1)) (XA m c) (m ((SparseCore.T c).loc main_arg2)) (m ((SparseCore.T c).loc main_arg3)) (WtA m c)
      (m ((SparseCore.T c).loc main_v78)) ((K (F := F)).Otc c 1) (recd (F := F) c) c
  | ⟨_ + 2, h⟩, _ => absurd h (Nat.not_lt.2 (Nat.le_add_left _ _))

/-- The pipelines' part of the ghost state. -/
def EP : Emb UP 𝕄 := (Emb.inl : Emb UP (UP × Counters)).trans (embR : Emb (UP × Counters) 𝕄)

instance EP_lands : (EP : Emb UP 𝕄).LandsIn (upEmb : UEmb _ 𝕄) := by unfold EP; infer_instance

theorem share1 (c : Dev nD) (w : Fin 5) : (rds m 1 c).share w = fullShare := by
  unfold Pipeline.RDat.share
  split <;> rfl

theorem arrays1 (c : Dev nD) (G : (w : Fin 5) → Buf (Elt F) (((Pipeline.pin (pcfgs (F := F)) (admM m) 1).win w).arr.view.loc (c.tc : Thread nD τ)))
    (V : Valuation τ sig (Elt F)) (hG : ∀ w : Fin 5, G w = V (Proc.devRef .tc (Pipeline.arrRef spec2 w))) :
    ((rds m 1 c).arrays G : sProp 𝕄) = held (c.tc : Thread nD τ) (Pipeline.arrRefs spec2) V := by
  unfold Pipeline.RDat.arrays held Pipeline.arrRefs
  rw [bigSep_map, show Finset.univ.image (Pipeline.arrRef spec2) = Finset.univ.map ⟨Pipeline.arrRef spec2, (launch2 (F := F)).win.arr_inj⟩ from
    (Finset.map_eq_image ⟨Pipeline.arrRef spec2, _⟩ Finset.univ).symm, bigSep_map]
  refine bigSep_congr fun w _ => ?_
  rw [share1, show ((Pipeline.pin (pcfgs (F := F)) (admM m) 1).win w).arr.view.set = Finset.univ from (arr_whole2 w).set_eq_univ, hG]
  rfl

theorem one_of {I : Type} (P : I → Prop) (Φ : I → sProp 𝕄) (G : I) (h : ∀ f, P f → f = G) : iprop(∃ f, ⌜P f⌝ ∗ Φ f) ⊢ Φ G := by
  iintro ⟨%f, %hf, H⟩
  rw [← h f hf]
  iexact H

theorem arraysAt1 (c : Dev nD) (G : (w : Fin 5) → Buf (Elt F) (((Pipeline.pin (pcfgs (F := F)) (admM m) 1).win w).arr.view.loc (c.tc : Thread nD τ)))
    (hG : ∀ w f, (rds m 1 c).ArrAt w (Pipeline.pin (pcfgs (F := F)) (admM m) 1).N f → f = G w) :
    (rds m 1 c).arraysAt (Pipeline.pin (pcfgs (F := F)) (admM m) 1).N ⊢ ((rds m 1 c).arrays G : sProp 𝕄) := by
  unfold Pipeline.RDat.arraysAt Pipeline.RDat.arrays
  exact bigSep_mono fun w _ => one_of (fun f => (rds m 1 c).ArrAt w _ f) (fun f => _ ↦[_]{_} f) (G w) (hG w)

/-- The arrays before: as the lines before leave them. -/
theorem before1 (c : Dev nD) : ((rds m 1 c).arrays (rds m 1 c).A : sProp 𝕄) = held (c.tc : Thread nD τ) (Pipeline.arrRefs spec2) (VB13 m c) :=
  arrays1 m c _ _ fun w => match w with
    | 0 => (pre_v4 m c).symm
    | 1 => (pre_arg3 m c).symm
    | 2 => (pre_arg4 m c).symm
    | 3 => (pre_v60 m c).symm
    | 4 => (pre_v75 m c).symm

theorem pre_tables (c : Dev nD) : ∀ k : Fin 6, tabs (F := F) (nA m (0 : Fin 1)) k = VB13 m c (Proc.devRef .tc (pre2.ref k))
  | 0 => (pre_v63 m c).symm
  | 1 => (pre_v62 m c).symm
  | 2 => by rw [← nA_dev m c]; exact (pre_v67 m c).symm
  | 3 => by rw [← nA_dev m c]; exact (pre_v70 m c).symm
  | 4 => by rw [← nA_dev m c]; exact (pre_v74 m c).symm
  | 5 => by rw [← nA_dev m c]; exact (pre_v37 m c).symm

theorem tables1 (c : Dev nD) : (Pipeline.prefHeld pre2 c (fun _ => fullShare) (tabs (F := F) (nA m (0 : Fin 1))) : sProp 𝕄)
    = held (c.tc : Thread nD τ) (Pipeline.tblRefs pre2) (VB13 m c) :=
  Pipeline.prefHeld_held pre2 preFacts2.inj c _ _ (pre_tables m c)

theorem VR_of_ne (c : Dev nD) (r : Ref sig .tc) (h : r ≠ main_v78) : VR m c (Proc.devRef .tc r) = VB13 m c (Proc.devRef .tc r) := by
  unfold VR
  rw [Function.update_of_ne fun e => h (Proc.devRef_injective _ e)]

theorem tables1' (c : Dev nD) : (Pipeline.prefHeld pre2 c (fun _ => fullShare) (tabs (F := F) (nA m (0 : Fin 1))) : sProp 𝕄)
    = held (c.tc : Thread nD τ) (Pipeline.tblRefs pre2) (VR m c) :=
  Pipeline.prefHeld_held pre2 preFacts2.inj c _ _ fun k => (pre_tables m c k).trans (VR_of_ne m c _ (by revert k; decide)).symm

/-- The arrays after: the output at all segments' work. -/
theorem after1 [∀ e, Nonempty (Elt F e)] (c : Dev nD) :
    (rds m 1 c).arraysAt (Pipeline.pin (pcfgs (F := F)) (admM m) 1).N ⊢ (held (c.tc : Thread nD τ) (Pipeline.arrRefs spec2) (VR m c) : sProp 𝕄) := by
  refine (arraysAt1 m c (fun w => VR m c (Proc.devRef .tc (Pipeline.arrRef spec2 w))) ?_).trans (Entails.of_eq (arrays1 m c _ _ fun _ => rfl))
  intro w f hf
  have hin : ∀ w : Fin 5, ((Pipeline.pin (pcfgs (F := F)) (admM m) 1).win w).isOut = false → (rds m 1 c).ArrAt w (Pipeline.pin (pcfgs (F := F)) (admM m) 1).N = fun f => f = (rds m 1 c).A w :=
    fun w h => Pipeline.RDat.ArrAt_in (rds m 1 c) w h _
  match w, f, hf with
  | 0, f, hf => exact (((congrFun (hin 0 rfl) f).mp hf).trans (pre_v4 m c).symm).trans (VR_of_ne m c _ (by decide)).symm
  | 1, f, hf => exact (((congrFun (hin 1 rfl) f).mp hf).trans (pre_arg3 m c).symm).trans (VR_of_ne m c _ (by decide)).symm
  | 2, f, hf => exact (((congrFun (hin 2 rfl) f).mp hf).trans (pre_arg4 m c).symm).trans (VR_of_ne m c _ (by decide)).symm
  | 3, f, hf => exact (((congrFun (hin 3 rfl) f).mp hf).trans (pre_v60 m c).symm).trans (VR_of_ne m c _ (by decide)).symm
  | 4, f, hf =>
    refine (out_final _ _ _ _ _ _ _ _ c (nA_le m (0 : Fin 1)) f hf (m ((SparseCore.T c).loc main_v78))).trans ?_
    refine Eq.trans ?_ (VR_v75 m c).symm
    unfold ysA
    rw [nA_dev m c]

/-! ## The product -/

/-- What the core owes around the product. -/
def owing (c : Dev nD) : sProp 𝕄 := iprop(∃ W, ⌜(K (F := F)).WBelow (c.tc : Thread nD τ) W 8⌝ ∗ owes (c.tc : Thread nD τ) ((K (F := F)).Otc c 1) W)

theorem owing_in (c : Dev nD) (t) : owing (F := F) c ⊢ ((rds m 1 c).owesAt (none : HIx 2) t : sProp 𝕄) := by
  unfold owing Pipeline.RDat.owesAt Pipeline.owesWithin Pipeline.RDat.bound
  iintro ⟨%W, %hW, H⟩
  iexists W
  isplitr
  · ipureintro; exact fun p hp => Or.inl (hW p hp)
  iexact H

theorem owing_out (c : Dev nD) (t) : ((rds m 1 c).owesAt (none : HIx 2) t : sProp 𝕄) ⊢ owing (F := F) c := by
  unfold owing Pipeline.RDat.owesAt Pipeline.owesWithin Pipeline.RDat.bound
  iintro ⟨%W, %hW, H⟩
  iexists W
  isplitr
  · ipureintro
    intro p hp
    rcases hW hp with h | ⟨w, s, h⟩
    · exact h
    · rw [show p.2 = none from congrArg Prod.snd h]; exact Nat.zero_le _
  iexact H

/-- The product's region: its arrays and tables before and after. -/
def region1 [∀ e, Nonempty (Elt F e)] : Pipeline.RDat.RegionSeg (pcfgs (F := F)) (admM m) (rds m) (none : HIx 2) defs₀ 𝒱₀ (K (F := F)).L (K (F := F)).lev (1 : Fin 2) where
  win := (launch2 (F := F)).to₀.win
  block_pos := block_pos2
  stage_whole := stage_whole2
  K := PEmpty
  osem k := k.elim
  ho := Pipeline.OwnSemFacts.none _
  hbody c := body_obligation _ _ _ _ _ _ _ _ c (nA_le m (0 : Fin 1))
  hwaits c := Pipeline.RDat.cellsWaits_of_cut _ _ _ 1 c 0 ((K (F := F)).Otc c 1) (fun _ => rfl) (fun _ _ => Finset.mem_univ _) (fun _ _ => Nat.le_refl _)
    (fun _ _ h => ⟨Finset.mem_univ _, Nat.lt_of_lt_of_le (Nat.succ_pos _) ((K (F := F)).lev_of_Otc_pos h)⟩)
  pre c := iprop(held (c.tc : Thread nD τ) (Pipeline.arrRefs spec2) (VB13 m c) ∗ held (c.tc : Thread nD τ) (Pipeline.tblRefs pre2) (VB13 m c) ∗ owing (F := F) c)
  post c := iprop(held (c.tc : Thread nD τ) (Pipeline.arrRefs spec2) (VR m c) ∗ held (c.tc : Thread nD τ) (Pipeline.tblRefs pre2) (VR m c) ∗ owing (F := F) c)
  X _ := iprop(emp)
  Y c := Pipeline.prefHeld pre2 c (fun _ => fullShare) (tabs (F := F) (nA m (0 : Fin 1)))
  Z _ := iprop(emp)
  hentry c := by
    rw [Pipeline.ownSems0_none, before1, ← tables1]
    iintro ⟨⟨Ha, Ht, HO⟩, -, -⟩
    imodintro
    isplitl [Ha]; · iexact Ha
    isplitl [Ht]; · iexact Ht
    isplitl [HO]; · iapply (owing_in m c 0); iexact HO
    isplitr <;> iempintro
  hin c := sep_elim_right
  hout c := by
    rw [Pipeline.ownSems0_none]
    refine (show iprop(Pipeline.prefHeld pre2 c (fun _ => fullShare) (tabs (F := F) (nA m (0 : Fin 1))) ∗ Pipeline.scopedRest spec2 c) ⊢ _ from ?_)
    iintro ⟨Ht, HR⟩
    isplitl [Ht]; · iexact Ht
    isplitr; · iempintro
    iexact HR
  hexit c := by
    rw [← tables1']
    iintro ⟨Ha, HO, Ht, -⟩
    imodintro
    isplitl [Ha]; · iapply (after1 m c); iexact Ha
    isplitl [Ht]; · iexact Ht
    iapply (owing_out m c _); iexact HO

/-! ## The router -/

theorem share0 (c : Dev nD) (w : Fin 4) : (Rt.dat0 m c).share w = fullShare := (Rt.dat0 m c).share_full (fun _ => rfl) w

theorem arrays0 (c : Dev nD) (G : (w : Fin 4) → Buf (Elt F) ((cfg0.win w).arr.view.loc (c.tc : Thread nD τ)))
    (V : Valuation τ sig (Elt F)) (hG : ∀ w : Fin 4, G w = V (Proc.devRef .tc (Pipeline.arrRef spec0 w))) :
    ((Rt.dat0 m c).arrays G : sProp 𝕄) = held (c.tc : Thread nD τ) (Pipeline.arrRefs spec0) V := by
  unfold Pipeline.Dat.arrays held Pipeline.arrRefs
  rw [bigSep_map, show Finset.univ.image (Pipeline.arrRef spec0) = Finset.univ.map ⟨Pipeline.arrRef spec0, (launch0 (F := F)).win.arr_inj⟩ from
    (Finset.map_eq_image ⟨Pipeline.arrRef spec0, _⟩ Finset.univ).symm, bigSep_map]
  refine bigSep_congr fun w _ => ?_
  rw [share0, show (cfg0.win w).arr.view.set = Finset.univ from (arr_whole0 w).set_eq_univ, hG]
  rfl

theorem before0 (c : Dev nD) : ((Rt.dat0 m c).arrays (Rt.dat0 m c).A : sProp 𝕄) = held (c.tc : Thread nD τ) (Pipeline.arrRefs spec0) (V0 m c) :=
  arrays0 m c _ _ fun w => Rt.A_eq m c w

theorem after0 (c : Dev nD) : ((Rt.dat0 m c).arrays ((Rt.dat0 m c).arrAt · cfg0.N) : sProp 𝕄) = held (c.tc : Thread nD τ) (Pipeline.arrRefs spec0) (VK m c) :=
  arrays0 m c _ _ fun w => match w with
    | 0 => (((Rt.dat0 m c).arrAt_in 0 rfl _).trans (Rt.A_eq m c 0)).trans (keepVK m c main_arg0 (by decide)).symm
    | 1 => (((Rt.dat0 m c).arrAt_in 1 rfl _).trans (Rt.A_eq m c 1)).trans (keepVK m c main_arg1 (by decide)).symm
    | 2 => (VK_e m c).symm
    | 3 => (VK_w m c).symm

/-- What the core owes around the router. -/
def owing0 (c : Dev nD) : sProp 𝕄 := iprop(∃ W, ⌜(K (F := F)).WBelow (c.tc : Thread nD τ) W 0⌝ ∗ owes (c.tc : Thread nD τ) ((K (F := F)).Otc c 0) W)

theorem owing0_in (c : Dev nD) (t) : owing0 (F := F) c ⊢ ((Rt.dat0 m c).toR.owesAt (none : HIx 2) t : sProp 𝕄) := by
  unfold owing0 Pipeline.RDat.owesAt Pipeline.owesWithin Pipeline.RDat.bound
  iintro ⟨%W, %hW, H⟩
  iexists W
  isplitr
  · ipureintro; exact fun p hp => Or.inl (hW p hp)
  iexact H

theorem owing0_out (c : Dev nD) (t) : ((Rt.dat0 m c).toR.owesAt (none : HIx 2) t : sProp 𝕄) ⊢ owing0 (F := F) c := by
  unfold owing0 Pipeline.RDat.owesAt Pipeline.owesWithin Pipeline.RDat.bound
  iintro ⟨%W, %hW, H⟩
  iexists W
  isplitr
  · ipureintro
    intro p hp
    rcases hW hp with h | ⟨w, s, h⟩
    · exact h
    · rw [show p.2 = none from congrArg Prod.snd h]; exact Nat.zero_le _
  iexact H

/-- The router has no tables. -/
theorem tables0 (c : Dev nD) (V : (Pipeline.Prefetch.none (sig := sig)).Contents (Elt F)) :
    (Pipeline.prefHeld Pipeline.Prefetch.none c (fun _ => fullShare) V : sProp 𝕄) = iprop(emp) := by
  unfold Pipeline.prefHeld
  exact (congrArg (fun s => bigSep s _) Finset.univ_eq_empty).trans bigSep_empty

/-- Into the router: the arrays and what the core owes. -/
theorem entry0 (c : Dev nD) (R S : sProp 𝕄) : iprop((held (c.tc : Thread nD τ) (Pipeline.arrRefs spec0) (V0 m c) ∗ owing0 (F := F) c) ∗ R ∗ S)
    ⊢ |={Set.univ}=> iprop((Rt.dat0 m c).arrays (Rt.dat0 m c).A ∗ Pipeline.prefHeld Pipeline.Prefetch.none c (fun _ => fullShare) Pipeline.Prefetch.Contents.none
      ∗ (Rt.dat0 m c).toR.owesAt (none : HIx 2) 0 ∗ emp ∗ emp) := by
  rw [← before0]
  iintro ⟨⟨Ha, HO⟩, -, -⟩
  imodintro
  isplitl [Ha]; · iexact Ha
  isplitr; · iapply (Entails.of_eq (tables0 (F := F) c Pipeline.Prefetch.Contents.none).symm); iempintro
  isplitl [HO]; · iapply (owing0_in m c 0); iexact HO
  isplitr <;> iempintro

/-- The router's region: its arrays before and after. -/
def region0 [∀ e, Nonempty (Elt F e)] : Pipeline.RDat.RegionSeg (pcfgs (F := F)) (admM m) (rds m) (none : HIx 2) defs₀ 𝒱₀ (K (F := F)).L (K (F := F)).lev (0 : Fin 2) where
  win := (launch0 (F := F)).to₀.win
  block_pos := block_pos0
  stage_whole := stage_whole0
  K := PEmpty
  osem k := k.elim
  ho := Pipeline.OwnSemFacts.none _
  hbody c := (Rt.body_obligation m c).loose.toR
  hwaits c := Pipeline.RDat.cellsWaits_of_cut _ _ _ 0 c 0 ((K (F := F)).Otc c 0) (fun _ => rfl) (fun _ _ => Finset.mem_univ _) (fun _ _ => Nat.le_refl _)
    (fun _ _ h => ⟨Finset.mem_univ _, Nat.lt_of_lt_of_le (Nat.succ_pos _) ((K (F := F)).lev_of_Otc_pos h)⟩)
  pre c := iprop(held (c.tc : Thread nD τ) (Pipeline.arrRefs spec0) (V0 m c) ∗ owing0 (F := F) c)
  post c := iprop(held (c.tc : Thread nD τ) (Pipeline.arrRefs spec0) (VK m c) ∗ owing0 (F := F) c)
  X _ := iprop(emp)
  Y _ := iprop(emp)
  Z _ := iprop(emp)
  hentry c := entry0 m c _ _
  hin c := by
    refine (show _ ⊢ (Pipeline.scopedRest spec0 c : sProp 𝕄) from ?_)
    iintro ⟨-, -, HR⟩
    iexact HR
  hout c := by
    rw [Pipeline.ownSems0_none]
    refine (show (Pipeline.scopedRest spec0 c : sProp 𝕄) ⊢ _ from ?_)
    iintro HR
    isplitr; · iempintro
    isplitr; · iempintro
    iexact HR
  hexit c := by
    rw [← after0]
    iintro ⟨Ha, HO, -, -⟩
    imodintro
    isplitl [Ha]; · iapply ((Rt.dat0 m c).toR_arraysAt_post cfg0.N); iexact Ha
    iapply (owing0_out m c _); iexact HO

end Cert.Proof.Setup

end
-- ==== Proof.FfnRun.lean ====
/-
  The product's run.
-/
module

public import proofs.«01_k».proof.Proof.FfnRegion

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.TcCoe Idealize.ShloMosaic.StableHlo

variable (m : (ℓ : Loc nD τ sig) → Buf (Elt F) ℓ)

/-- The product's call, in the program the call is written in. -/
abbrev ffnCall : Prog (TpuEff nD τ sig (Elt F) (ΛP (F := F)) .tc) PUnit := .op (.customCall (Pipeline.entry 1) ()) fun x => .ret x

theorem ffn_lift : (Prog.lift (.customCall (SparseCore.inner (Pipeline.entry 1)) ()) : Prog (TpuEff nD τ sig (Elt F) (SparseCore.Sig (ΛP (F := F)) 2) .tc) PUnit)
    = SparseCore.liftProg (ffnCall (F := F)) := rfl

theorem ffn_run [∀ e, Nonempty (Elt F e)] (c : Dev nD) (Φ : PUnit → sProp 𝕄) :
    iprop((iprop(boundary (c.tc : Thread nD τ) ∗ (region1 m).post c) -∗ Φ ⟨⟩)
        ∗ boundary (c.tc : Thread nD τ) ∗ (region1 m).pre c ∗ levAts (K (F := F)).L (K (F := F)).lev
        ∗ Pipeline.cellsGhost (Pipeline.pin (pcfgs (F := F)) (admM m)) EP 1 c ∗ Pipeline.toksInit (Pipeline.pin (pcfgs (F := F)) (admM m)) EP 1 c)
      ⊢ wp frame (wpE ((K (F := F)).defs (D (F := F))) 𝒱 (SparseCore.T c) none) Set.univ
          (Prog.lift (.customCall (SparseCore.inner (Pipeline.entry 1)) ())) Φ := by
  rw [ffn_lift]
  refine BIBase.Entails.trans ?_ ((K (F := F)).wp_liftProg (D (F := F)) 𝒱 (SparseCore.T c) Set.univ none (ffnCall (F := F)) Φ)
  have H := Pipeline.RDat.RegionSeg.wp (pcfgs (F := F)) (admM m) (rds m) (none : HIx 2) (cellOf_inj _) EP defs₀ 𝒱₀ (K (F := F)).L (K (F := F)).lev (region1 m) c none
    (by intro u h; cases h) (fun x => .ret x) Φ
  refine BIBase.Entails.trans ?_ H
  iintro ⟨Hk, H⟩
  isplitl [Hk]
  · iintro Hp
    rw [wp_ret]
    imodintro
    iapply Hk; iexact Hp
  iexact H

/-- The router's call, in the program the call is written in. -/
abbrev routerCall : Prog (TpuEff nD τ sig (Elt F) (ΛP (F := F)) .tc) PUnit := .op (.customCall (Pipeline.entry 0) ()) fun x => .ret x

theorem router_lift : (Prog.lift (.customCall (SparseCore.inner (Pipeline.entry 0)) ()) : Prog (TpuEff nD τ sig (Elt F) (SparseCore.Sig (ΛP (F := F)) 2) .tc) PUnit)
    = SparseCore.liftProg (routerCall (F := F)) := rfl

theorem router_run [∀ e, Nonempty (Elt F e)] (c : Dev nD) (Φ : PUnit → sProp 𝕄) :
    iprop((iprop(boundary (c.tc : Thread nD τ) ∗ (region0 m).post c) -∗ Φ ⟨⟩)
        ∗ boundary (c.tc : Thread nD τ) ∗ (region0 m).pre c ∗ levAts (K (F := F)).L (K (F := F)).lev
        ∗ Pipeline.cellsGhost (Pipeline.pin (pcfgs (F := F)) (admM m)) EP 0 c ∗ Pipeline.toksInit (Pipeline.pin (pcfgs (F := F)) (admM m)) EP 0 c)
      ⊢ wp frame (wpE ((K (F := F)).defs (D (F := F))) 𝒱 (SparseCore.T c) none) Set.univ
          (Prog.lift (.customCall (SparseCore.inner (Pipeline.entry 0)) ())) Φ := by
  rw [router_lift]
  refine BIBase.Entails.trans ?_ ((K (F := F)).wp_liftProg (D (F := F)) 𝒱 (SparseCore.T c) Set.univ none (routerCall (F := F)) Φ)
  have H := Pipeline.RDat.RegionSeg.wp (pcfgs (F := F)) (admM m) (rds m) (none : HIx 2) (cellOf_inj _) EP defs₀ 𝒱₀ (K (F := F)).L (K (F := F)).lev (region0 m) c none
    (by intro u h; cases h) (fun x => .ret x) Φ
  refine BIBase.Entails.trans ?_ H
  iintro ⟨Hk, H⟩
  isplitl [Hk]
  · iintro Hp
    rw [wp_ret]
    imodintro
    iapply Hk; iexact Hp
  iexact H

end Cert.Proof.Setup

end
-- ==== Proof.Handover.lean ====
/-
  What each step of the host takes from its arrays and gives back.
-/
module

public import proofs.«01_k».proof.Proof.FfnRun

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.TcCoe Idealize.ShloMosaic.StableHlo

variable (m : (ℓ : Loc nD τ sig) → Buf (Elt F) ℓ)

/-- The host's arrays. -/
abbrev Ucs : Finset (DevRef τ sig) := Pipeline.ucRefs τ sig
abbrev dv (r : Ref sig .tc) : DevRef τ sig := Proc.devRef .tc r

theorem uc_mem {r : Ref sig .tc} (h : r.isScoped = false) : dv r ∈ Ucs :=
  Finset.mem_filter.mpr ⟨devRef_mem_tcRefs _, fun h' => Bool.false_ne_true (h.symm.trans h')⟩

theorem held_part (d : Dev nD) {T : Finset (DevRef τ sig)} (hT : T ⊆ Ucs) (V : Valuation τ sig (Elt F)) :
    (held (SparseCore.T d) Ucs V : sProp 𝕄) = iprop(held (SparseCore.T d) T V ∗ held (SparseCore.T d) (Ucs \ T) V) :=
  held_sub_split (SparseCore.T d) hT V

/-! ## The first call -/

abbrev T0 : Finset (DevRef τ sig) := {dv main_v1, dv main_v2, dv main_v4, dv main_v5_0, dv main_v5_1, dv main_v5_2, dv main_v5_3}

theorem T0_sub : T0 ⊆ Ucs := fun b hb => by
  simp only [T0, Finset.mem_insert, Finset.mem_singleton] at hb
  rcases hb with h | h | h | h | h | h | h <;> (rw [h]; exact uc_mem rfl)

theorem held_T0 (d : Dev nD) (V : Valuation τ sig (Elt F)) :
    (held (SparseCore.T d) T0 V : sProp 𝕄)
      = iprop((eLoc d ↦{fullShare} V (dv main_v1)) ∗ (wLoc d ↦{fullShare} V (dv main_v2)) ∗ (xLoc d ↦{fullShare} V (dv main_v4))
        ∗ (xsLoc d ↦{fullShare} V (dv main_v5_0)) ∗ (wsLoc d ↦{fullShare} V (dv main_v5_1)) ∗ (permLoc d ↦{fullShare} V (dv main_v5_2)) ∗ cntLoc d ↦{fullShare} V (dv main_v5_3)) := by
  unfold held T0
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem rest_T0 (d : Dev nD) : (held (SparseCore.T d) (Ucs \ T0) (V1 m d) : sProp 𝕄) = held (SparseCore.T d) (Ucs \ T0) (VA m d) :=
  held_congr (SparseCore.T d) fun b hb => by
    have hb : b ∉ T0 := (Finset.mem_sdiff.mp hb).2
    simp only [T0, Finset.mem_insert, Finset.mem_singleton, not_or] at hb
    unfold V1
    rw [Function.update_of_ne hb.2.2.2.2.2.2, Function.update_of_ne hb.2.2.2.2.2.1, Function.update_of_ne hb.2.2.2.2.1, Function.update_of_ne hb.2.2.2.1]

theorem call0_in (d : Dev nD) : (held (SparseCore.T d) Ucs (VA m d) : sProp 𝕄) ⊢ iprop(goAll d (eA m d) (wA m d) (xA m d) ∗ held (SparseCore.T d) (Ucs \ T0) (VA m d)) := by
  rw [show (held (SparseCore.T d) Ucs (VA m d) : sProp 𝕄) = _ from held_part d T0_sub (VA m d), held_T0, VA_arg0, VA_arg1, show VA m d (dv main_v4) = xA m d from VA_v1 m d]
  iintro ⟨H, Hr⟩
  isplitl [H]
  · iapply (deal d (eA m d) (wA m d) (xA m d) _ _ _ _); iexact H
  iexact Hr

theorem call0_out (d : Dev nD) : iprop(tdAll d (eA m d) (wA m d) (xA m d) ∗ held (SparseCore.T d) (Ucs \ T0) (VA m d)) ⊢ (held (SparseCore.T d) Ucs (V1 m d) : sProp 𝕄) := by
  rw [show (held (SparseCore.T d) Ucs (V1 m d) : sProp 𝕄) = _ from held_part d T0_sub (V1 m d), rest_T0, held_T0,
    show V1 m d (dv main_v5_0) = _ from V1_xs m d, show V1 m d (dv main_v5_1) = _ from V1_ws m d, show V1 m d (dv main_v5_2) = _ from V1_perm m d, show V1 m d (dv main_v5_3) = _ from V1_cnt m d,
    show V1 m d (dv main_v1) = _ from (keepV1 m d main_v1 (by decide)).trans (VA_arg0 m d), show V1 m d (dv main_v2) = _ from (keepV1 m d main_v2 (by decide)).trans (VA_arg1 m d),
    show V1 m d (dv main_v4) = _ from (keepV1 m d main_v4 (by decide)).trans (VA_v1 m d)]
  iintro ⟨H, Hr⟩
  isplitl [H]
  · iapply (undeal d (eA m d) (wA m d) (xA m d)); iexact H
  iexact Hr

/-! ## The second call -/

abbrev T1 : Finset (DevRef τ sig) := {dv main_v81, dv main_v80, dv main_v82}

theorem T1_sub : T1 ⊆ Ucs := fun b hb => by
  simp only [T1, Finset.mem_insert, Finset.mem_singleton] at hb
  rcases hb with h | h | h <;> (rw [h]; exact uc_mem rfl)

theorem held_T1 (d : Dev nD) (V : Valuation τ sig (Elt F)) :
    (held (SparseCore.T d) T1 V : sProp 𝕄)
      = iprop((lLoc d ↦{fullShare} V (dv main_v81)) ∗ (yLoc d ↦{fullShare} V (dv main_v80)) ∗ oLoc d ↦{fullShare} V (dv main_v82)) := by
  unfold held T1
  rw [SparseCore.bigSep_insert' (by decide), SparseCore.bigSep_insert' (by decide), bigSep_singleton]

theorem rest_T1 (d : Dev nD) : (held (SparseCore.T d) (Ucs \ T1) (VS m d) : sProp 𝕄) = held (SparseCore.T d) (Ucs \ T1) (VC m d) :=
  held_congr (SparseCore.T d) fun b hb => by
    have hb : b ∉ T1 := (Finset.mem_sdiff.mp hb).2
    simp only [T1, Finset.mem_insert, Finset.mem_singleton, not_or] at hb
    unfold VS
    rw [Function.update_of_ne hb.2.2]

theorem call1_in (d : Dev nD) : (held (SparseCore.T d) Ucs (VC m d) : sProp 𝕄) ⊢ iprop(putGoAll d (eA m d) (yA m d) ∗ held (SparseCore.T d) (Ucs \ T1) (VC m d)) := by
  rw [show (held (SparseCore.T d) Ucs (VC m d) : sProp 𝕄) = _ from held_part d T1_sub (VC m d), held_T1, show VC m d (dv main_v81) = _ from VC_v78 m d, show VC m d (dv main_v80) = _ from VC_v77 m d]
  iintro ⟨H, Hr⟩
  isplitl [H]
  · iapply (put_deal d (eA m d) (yA m d) _); iexact H
  iexact Hr

theorem call1_out (d : Dev nD) : iprop(putDoneAll d (eA m d) (yA m d) ∗ held (SparseCore.T d) (Ucs \ T1) (VC m d)) ⊢ (held (SparseCore.T d) Ucs (VS m d) : sProp 𝕄) := by
  rw [show (held (SparseCore.T d) Ucs (VS m d) : sProp 𝕄) = _ from held_part d T1_sub (VS m d), rest_T1, held_T1,
    show VS m d (dv main_v82) = _ from VS_v79 m d, show VS m d (dv main_v81) = _ from (keepVS m d main_v81 (by decide)).trans (VC_v78 m d),
    show VS m d (dv main_v80) = _ from (keepVS m d main_v80 (by decide)).trans (VC_v77 m d)]
  iintro ⟨H, Hr⟩
  isplitl [H]
  · iapply (put_undeal d (eA m d) (yA m d)); iexact H
  iexact Hr

/-! ## The product -/

abbrev TR : Finset (DevRef τ sig) := (Ucs \ Pipeline.arrRefs spec2) \ Pipeline.tblRefs pre2

theorem held_TR (d : Dev nD) (V : Valuation τ sig (Elt F)) :
    (held (SparseCore.T d) Ucs V : sProp 𝕄)
      = iprop(held (SparseCore.T d) (Pipeline.arrRefs spec2) V ∗ held (SparseCore.T d) (Pipeline.tblRefs pre2) V ∗ held (SparseCore.T d) TR V) := by
  rw [show (held (SparseCore.T d) Ucs V : sProp 𝕄) = _ from held_part d (Pipeline.arrRefs_sub_ucRefs spec2 winFacts2.arr_unscoped) V,
    held_sub_split (SparseCore.T d) (Pipeline.tblRefs_sub_ucRefs_sdiff spec2 pre2 preFacts2.unscoped preFacts2.disj) V]

theorem rest_TR (d : Dev nD) : (held (SparseCore.T d) TR (VR m d) : sProp 𝕄) = held (SparseCore.T d) TR (VB13 m d) :=
  held_congr (SparseCore.T d) fun b hb => by
    have hb : b ∉ Pipeline.arrRefs spec2 := (Finset.mem_sdiff.mp (Finset.mem_sdiff.mp hb).1).2
    unfold VR
    refine Function.update_of_ne (fun e => hb ?_) _ _
    rw [e]
    exact Finset.mem_map.mpr ⟨main_v78, Finset.mem_image.mpr ⟨4, Finset.mem_univ _, rfl⟩, rfl⟩

theorem ffn_in (d : Dev nD) : (held (SparseCore.T d) Ucs (VB13 m d) : sProp 𝕄)
    ⊢ iprop(held (SparseCore.T d) (Pipeline.arrRefs spec2) (VB13 m d) ∗ held (SparseCore.T d) (Pipeline.tblRefs pre2) (VB13 m d) ∗ held (SparseCore.T d) TR (VB13 m d)) :=
  Entails.of_eq (held_TR d (VB13 m d))

theorem ffn_out (d : Dev nD) : iprop(held (SparseCore.T d) (Pipeline.arrRefs spec2) (VR m d) ∗ held (SparseCore.T d) (Pipeline.tblRefs pre2) (VR m d) ∗ held (SparseCore.T d) TR (VB13 m d))
    ⊢ (held (SparseCore.T d) Ucs (VR m d) : sProp 𝕄) := by
  rw [← rest_TR]
  exact Entails.of_eq (held_TR d (VR m d)).symm

theorem owing_st (d : Dev nD) : ((K (F := F)).tcSt EH d 1 : sProp 𝕄) ⊢ iprop(owing (F := F) d ∗ (owing (F := F) d -∗ (K (F := F)).tcSt EH d 1)) := by
  unfold SparseCore.Cfg.tcSt owing
  iintro ⟨HO, H⟩
  isplitl [HO]; · iexact HO
  iintro HO
  isplitl [HO]; · iexact HO
  iexact H

/-! ## The router -/

theorem router_in (d : Dev nD) : (held (SparseCore.T d) Ucs (V0 m d) : sProp 𝕄)
    ⊢ iprop(held (SparseCore.T d) (Pipeline.arrRefs spec0) (V0 m d) ∗ held (SparseCore.T d) (Ucs \ Pipeline.arrRefs spec0) (V0 m d)) :=
  Entails.of_eq (held_part d (Pipeline.arrRefs_sub_ucRefs spec0 winFacts0.arr_unscoped) (V0 m d))

theorem rest_router (d : Dev nD) : (held (SparseCore.T d) (Ucs \ Pipeline.arrRefs spec0) (VK m d) : sProp 𝕄) = held (SparseCore.T d) (Ucs \ Pipeline.arrRefs spec0) (V0 m d) :=
  held_congr (SparseCore.T d) fun b hb => by
    have hb : b ∉ Pipeline.arrRefs spec0 := (Finset.mem_sdiff.mp hb).2
    unfold VK
    rw [Function.update_of_ne (fun e => hb ?_), Function.update_of_ne (fun e => hb ?_)]
    · rw [e]
      exact Finset.mem_map.mpr ⟨main_v0_0, Finset.mem_image.mpr ⟨2, Finset.mem_univ _, rfl⟩, rfl⟩
    · rw [e]
      exact Finset.mem_map.mpr ⟨main_v0_1, Finset.mem_image.mpr ⟨3, Finset.mem_univ _, rfl⟩, rfl⟩

theorem router_out (d : Dev nD) : iprop(held (SparseCore.T d) (Pipeline.arrRefs spec0) (VK m d) ∗ held (SparseCore.T d) (Ucs \ Pipeline.arrRefs spec0) (V0 m d))
    ⊢ (held (SparseCore.T d) Ucs (VK m d) : sProp 𝕄) := by
  rw [← rest_router]
  exact Entails.of_eq (held_part d (Pipeline.arrRefs_sub_ucRefs spec0 winFacts0.arr_unscoped) (VK m d)).symm

theorem owing_st0 (d : Dev nD) : ((K (F := F)).tcSt EH d 0 : sProp 𝕄) ⊢ iprop(owing0 (F := F) d ∗ (owing0 (F := F) d -∗ (K (F := F)).tcSt EH d 0)) := by
  unfold SparseCore.Cfg.tcSt owing0
  iintro ⟨HO, H⟩
  isplitl [HO]; · iexact HO
  iintro HO
  isplitl [HO]; · iexact HO
  iexact H

/-! ## The end -/

abbrev TF : Finset (DevRef τ sig) := {dv main_arg0, dv main_arg1, dv main_arg2, dv main_arg3, dv main_v84}

theorem TF_sub : TF ⊆ Ucs := fun b hb => by
  simp only [TF, Finset.mem_insert, Finset.mem_singleton] at hb
  rcases hb with h | h | h | h | h <;> (rw [h]; exact uc_mem rfl)

/-- What the host ends with: the arguments as they were, the result. -/
def FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ (SparseCore.T d).loc main_v84 ↦{fullShare} (val_v81 (backA (eA m d) (yA m d) : Table F) : S2048x2048.Idx → Elt F .f32))

theorem fin_of (d : Dev nD) : (held (SparseCore.T d) Ucs (VD m d) : sProp 𝕄) ⊢ FIN m d := by
  rw [show (held (SparseCore.T d) Ucs (VD m d) : sProp 𝕄) = _ from held_part d TF_sub (VD m d)]
  unfold FIN
  have e : (held (SparseCore.T d) TF (VD m d) : sProp 𝕄) = iprop(((SparseCore.T d).loc main_arg0 ↦{fullShare} VD m d (dv main_arg0)) ∗ ((SparseCore.T d).loc main_arg1 ↦{fullShare} VD m d (dv main_arg1))
    ∗ ((SparseCore.T d).loc main_arg2 ↦{fullShare} VD m d (dv main_arg2)) ∗ ((SparseCore.T d).loc main_arg3 ↦{fullShare} VD m d (dv main_arg3))
    ∗ (SparseCore.T d).loc main_v84 ↦{fullShare} VD m d (dv main_v84)) := by
    unfold held TF
    rw [SparseCore.bigSep_insert' (by decide), SparseCore.bigSep_insert' (by decide), SparseCore.bigSep_insert' (by decide), SparseCore.bigSep_insert' (by decide), bigSep_singleton]
  rw [e, end_arg0, end_arg1, end_arg2, end_arg3, show VD m d (dv main_v84) = _ from end_v81 m d]
  iintro ⟨H, -⟩
  iexact H

/-! ## Lines of host code -/

theorem line (d : Dev nD) (ops : List (HloOp τ sig (Elt F))) (hs : ops.Forall fun op => op.bufs ⊆ tcRefs τ sig) (hf : ops.map HloOp.fresh = ops.map fun _ => (∅ : Finset (DevRef τ sig)))
    (V V' : Valuation τ sig (Elt F)) (hV : after ops V = V') (k : PUnit → Prog (TpuEff nD τ sig (Elt F) (SparseCore.Sig (ΛP (F := F)) 2) .tc) PUnit) (Φ : PUnit → sProp 𝕄) :
    iprop(boundary (SparseCore.T d) ∗ (held (SparseCore.T d) Ucs V : sProp 𝕄))
      ⊢ iprop(((boundary (SparseCore.T d) ∗ (held (SparseCore.T d) Ucs V' : sProp 𝕄)) -∗ wp frame (wpE ((K (F := F)).defs (D (F := F))) 𝒱 (SparseCore.T d) none) Set.univ (k ⟨⟩) Φ)
        -∗ wp frame (wpE ((K (F := F)).defs (D (F := F))) 𝒱 (SparseCore.T d) none) Set.univ (seq ops >>= k) Φ) := by
  subst hV
  exact wp_seq 𝒱 none Set.univ d Ucs k ops (fun op h => Pipeline.sub_ucRefs op (List.forall_iff_forall_mem.mp hs op h)) (List.forall_iff_forall_mem.mp (forall_fresh_of_map hf)) V

set_option maxHeartbeats 1000000 in
theorem lines (d : Dev nD) (k : PUnit → Prog (TpuEff nD τ sig (Elt F) (SparseCore.Sig (ΛP (F := F)) 2) .tc) PUnit) (Φ : PUnit → sProp 𝕄) :
    iprop(boundary (SparseCore.T d) ∗ (held (SparseCore.T d) Ucs (V1 m d) : sProp 𝕄))
      ⊢ iprop(((boundary (SparseCore.T d) ∗ (held (SparseCore.T d) Ucs (VB13 m d) : sProp 𝕄)) -∗ wp frame (wpE ((K (F := F)).defs (D (F := F))) 𝒱 (SparseCore.T d) none) Set.univ (k ⟨⟩) Φ)
        -∗ wp frame (wpE ((K (F := F)).defs (D (F := F))) 𝒱 (SparseCore.T d) none) Set.univ (seq opsB0 >>= fun _ => seq opsB1 >>= fun _ => seq opsB2 >>= fun _ => seq opsB3 >>= fun _ => seq opsB4
          >>= fun _ => seq opsB5 >>= fun _ => seq opsB6 >>= fun _ => seq opsB7 >>= fun _ => seq opsB8 >>= fun _ => seq opsB9 >>= fun _ => seq opsB10 >>= fun _ => seq opsB11 >>= fun _ => seq opsB12
          >>= fun _ => seq opsB13 >>= k) Φ) := by
  iintro H Hk
  iapply (line d opsB0 opsB0_sub opsB0_fresh (V1 m d) (VB0 m d) rfl _ Φ) $$ H; iintro H
  iapply (line d opsB1 opsB1_sub opsB1_fresh (VB0 m d) (VB1 m d) rfl _ Φ) $$ H; iintro H
  iapply (line d opsB2 opsB2_sub opsB2_fresh (VB1 m d) (VB2 m d) rfl _ Φ) $$ H; iintro H
  iapply (line d opsB3 opsB3_sub opsB3_fresh (VB2 m d) (VB3 m d) rfl _ Φ) $$ H; iintro H
  iapply (line d opsB4 opsB4_sub opsB4_fresh (VB3 m d) (VB4 m d) rfl _ Φ) $$ H; iintro H
  iapply (line d opsB5 opsB5_sub opsB5_fresh (VB4 m d) (VB5 m d) rfl _ Φ) $$ H; iintro H
  iapply (line d opsB6 opsB6_sub opsB6_fresh (VB5 m d) (VB6 m d) rfl _ Φ) $$ H; iintro H
  iapply (line d opsB7 opsB7_sub opsB7_fresh (VB6 m d) (VB7 m d) rfl _ Φ) $$ H; iintro H
  iapply (line d opsB8 opsB8_sub opsB8_fresh (VB7 m d) (VB8 m d) rfl _ Φ) $$ H; iintro H
  iapply (line d opsB9 opsB9_sub opsB9_fresh (VB8 m d) (VB9 m d) rfl _ Φ) $$ H; iintro H
  iapply (line d opsB10 opsB10_sub opsB10_fresh (VB9 m d) (VB10 m d) rfl _ Φ) $$ H; iintro H
  iapply (line d opsB11 opsB11_sub opsB11_fresh (VB10 m d) (VB11 m d) rfl _ Φ) $$ H; iintro H
  iapply (line d opsB12 opsB12_sub opsB12_fresh (VB11 m d) (VB12 m d) rfl _ Φ) $$ H; iintro H
  iapply (line d opsB13 opsB13_sub opsB13_fresh (VB12 m d) (VB13 m d) rfl k Φ) $$ H; iintro H
  iapply Hk; iexact H

end Cert.Proof.Setup

end
-- ==== Proof.Land.lean ====
/-
  What lies in a tile's rows of the results once its copies have landed.
-/
module

public import proofs.«01_k».proof.Proof.Own
public import Idealize.ShloMosaic.Lib.VecWindow

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

theorem row0_emb (L : grid1.Coords) (y : S8x32x2x128.Idx) :
    (xsM0 L).view.emb y = ix4 (y 0) (atTile L (0 + (y 1).val) (by have : (y 1).val < 32 := (y 1).isLt; omega)) (y 2) (y 3) := by
  refine (eq_ix4 _).trans ?_
  congr 1
  · exact Fin.ext (by show k1_off9 L 0#32 0 + 1 * (y 0).val = _; rw [off9_0]; show 0 + 1 * (y 0).val = _; omega)
  · exact Fin.ext (by show k1_off9 L 0#32 1 + 1 * (y 1).val = 128 * (L 1).val + 64 * (L 0).val + (0 + (y 1).val); rw [off9_0]; show (128 * (L 1).val + 64 * (L 0).val + 0) + 1 * (y 1).val = _; omega)
  · exact Fin.ext (by show k1_off9 L 0#32 2 + 1 * (y 2).val = _; rw [off9_0]; show 0 + 1 * (y 2).val = _; omega)
  · exact Fin.ext (by show k1_off9 L 0#32 3 + 1 * (y 3).val = _; rw [off9_0]; show 0 + 1 * (y 3).val = _; omega)

theorem rows0_landed (d : Dev nD) (L : grid1.Coords) (e : Words) (x : Table F) {g : S8x32x2x128.Idx → F .f32} (hg : FetchTo e x L 0 (by omega) 8 g) {c : Table F} (hc : (xsM0 L).view.read (Elt F) c = g) :
    ((xsM0 L).view.loc (tile d L) ↦[(xsM0 L).view.set]{fullShare} c : sProp 𝕄)
      = xsLoc d ↦[xsSet (blk L 0)]{fullShare} (rowsA e x : Table F) := by
  rw [← set_xsM0]
  refine pointsTo_congr fun i hi => ?_
  obtain ⟨y, -, rfl⟩ := Finset.mem_map.mp hi
  have h1 := congrFun hc y
  rw [View.read_apply] at h1
  refine (show _ = g y from h1).trans ((hg y (y 0).isLt).trans ?_)
  rw [row0_emb]
  rfl

theorem row1_emb (L : grid1.Coords) (y : S8x32x2x128.Idx) :
    (xsM1 L).view.emb y = ix4 (y 0) (atTile L (32 + (y 1).val) (by have : (y 1).val < 32 := (y 1).isLt; omega)) (y 2) (y 3) := by
  refine (eq_ix4 _).trans ?_
  congr 1
  · exact Fin.ext (by show k1_off9 L 32#32 0 + 1 * (y 0).val = _; rw [off9_1]; show 0 + 1 * (y 0).val = _; omega)
  · exact Fin.ext (by show k1_off9 L 32#32 1 + 1 * (y 1).val = 128 * (L 1).val + 64 * (L 0).val + (32 + (y 1).val); rw [off9_1]; show (128 * (L 1).val + 64 * (L 0).val + 32) + 1 * (y 1).val = _; omega)
  · exact Fin.ext (by show k1_off9 L 32#32 2 + 1 * (y 2).val = _; rw [off9_1]; show 0 + 1 * (y 2).val = _; omega)
  · exact Fin.ext (by show k1_off9 L 32#32 3 + 1 * (y 3).val = _; rw [off9_1]; show 0 + 1 * (y 3).val = _; omega)

theorem rows1_landed (d : Dev nD) (L : grid1.Coords) (e : Words) (x : Table F) {g : S8x32x2x128.Idx → F .f32} (hg : FetchTo e x L 32 (by omega) 8 g) {c : Table F} (hc : (xsM1 L).view.read (Elt F) c = g) :
    ((xsM1 L).view.loc (tile d L) ↦[(xsM1 L).view.set]{fullShare} c : sProp 𝕄)
      = xsLoc d ↦[xsSet (blk L 1)]{fullShare} (rowsA e x : Table F) := by
  rw [← set_xsM1]
  refine pointsTo_congr fun i hi => ?_
  obtain ⟨y, -, rfl⟩ := Finset.mem_map.mp hi
  have h1 := congrFun hc y
  rw [View.read_apply] at h1
  refine (show _ = g y from h1).trans ((hg y (y 0).isLt).trans ?_)
  rw [row1_emb]
  rfl

theorem weight_emb (L : grid1.Coords) (y : S64.Idx) : (wsM L).view.emb y = ix1 (atTile L (y 0).val (y 0).isLt) := by
  refine (eq_ix1 _).trans ?_
  congr 1
  exact Fin.ext (by show k1_off5 L 0 + 1 * (y 0).val = 128 * (L 1).val + 64 * (L 0).val + (y 0).val; rw [k1_off5_eq]; show (128 * (L 1).val + 64 * (L 0).val) + 1 * (y 0).val = _; omega)

theorem weights_landed (d : Dev nD) (L : grid1.Coords) (e : Words) (w : Weights F) {b : S64.Idx → F .f32} (hb : PickTo e w L 64 b) {c : Weights F} (hc : (wsM L).view.read (Elt F) c = b) :
    ((wsM L).view.loc (tile d L) ↦[(wsM L).view.set]{fullShare} c : sProp 𝕄)
      = wsLoc d ↦[wsSet (wid L)]{fullShare} (pickA e w : Weights F) := by
  rw [← set_wsM]
  refine pointsTo_congr fun i hi => ?_
  obtain ⟨y, -, rfl⟩ := Finset.mem_map.mp hi
  have h1 := congrFun hc y
  rw [View.read_apply] at h1
  refine (show _ = b y from h1).trans ((congrArg b (eq_ix1 y)).trans ((hb (y 0) (y 0).isLt).trans ?_))
  rw [weight_emb]
  rfl

/-- The first tile is the one whose number is zero. -/
theorem first_iff (L : grid1.Coords) :
    Scalar.cmpi .ne (Scalar.extui (Scalar.cmpi .eq (Scalar.addi (Scalar.muli (BitVec.ofNat 32 (L 1).val) 2#32) (BitVec.ofNat 32 (L 0).val)) 0#32) : BitVec 32) 0#32 = 1#1 ↔ (wid L).val = 0 := by
  have h0 := coord0_lt L
  have h1 := coord1_lt L
  show _ ↔ 2 * (L 1).val + (L 0).val = 0
  generalize (L 0).val = a at *
  generalize (L 1).val = b at *
  interval_cases a <;> interval_cases b <;> decide

/-- A tile's copies of the expert numbers and of the weights. -/
theorem experts_landed (d : Dev nD) (L : grid1.Coords) (f : Words) {g e : Words} (h : g = e) :
    (tE.view.loc (tile d L) ↦{fullShare} View.write (Elt F) tE.view f g Finset.univ : sProp 𝕄) = tE.view.loc (tile d L) ↦{fullShare} e := by
  subst h; exact congrArg _ (View.write_whole_univ (Val := Elt F) (cc1_scratch0 : Ref sig .scVector) f g)
theorem weights_copied (d : Dev nD) (L : grid1.Coords) (f : Weights F) {g w : Weights F} (h : g = w) :
    (tW.view.loc (tile d L) ↦{fullShare} View.write (Elt F) tW.view f g Finset.univ : sProp 𝕄) = tW.view.loc (tile d L) ↦{fullShare} w := by
  subst h; exact congrArg _ (View.write_whole_univ (Val := Elt F) (cc1_scratch1 : Ref sig .scVector) f g)
theorem no_counts (e : Words) : ((0#32, 0#32) : BitVec 32 × BitVec 32) = (BitVec.ofNat 32 (zeros e (16 * 0)), BitVec.ofNat 32 (ones e (16 * 0))) := by
  unfold zeros ones
  simp

/-- The first tile's order and count, once copied out. -/
theorem order_landed (d : Dev nD) (L : grid1.Coords) (q : Words) {g e : Words} (h : g = permA e) :
    (permV.view.loc (tile d L) ↦{fullShare} View.write (Elt F) permV.view q g Finset.univ : sProp 𝕄) = permLoc d ↦{fullShare} (permA e : Words) := by
  subst h; exact congrArg _ (View.write_whole_univ (Val := Elt F) (main_v5_2_scv : Ref sig .scVector) q _)
theorem count_landed (d : Dev nD) (L : grid1.Coords) (q : S16.Idx → BitVec 32) {g : S16.Idx → BitVec 32} {e : Words} (h : g = countA e) :
    (cntV.view.loc (tile d L) ↦{fullShare} View.write (Elt F) cntV.view q g Finset.univ : sProp 𝕄) = cntLoc d ↦{fullShare} (countA e : S16.Idx → BitVec 32) := by
  subst h; exact congrArg _ (View.write_whole_univ (Val := Elt F) (main_v5_3_scv : Ref sig .scVector) q _)
theorem count_stored (e : Words) : k1_pay1 (BitVec.ofNat 32 (zeros e 2048)) = countA e := rfl

end Cert.Proof.Setup

end
-- ==== Proof.Tile.lean ====
/-
  What one tile computes: the order of all tokens, and its 64 rows and weights in that order.
-/
module

public import proofs.«01_k».proof.Proof.Land

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

theorem tile_body (d : Dev nD) (L : grid1.Coords) (e : Words) (w : Weights F) (x : Table F) (hF : (K (F := F)).Facts)
    (O : CellTallies nD τ sig (HIx 2)) (W : Waits sig (HIx 2)) (hO : ∀ g, O g none = 0) :
    iprop(levAts (K (F := F)).L (K (F := F)).lev ∗ emp ∗ goRes d e w x L
        ∗ scopedBufs (tile d L) ∗ scopedSems0 (tile d L) ∗ owes (tile d L) O W)
      ⊢ wp frame (wpE (defs₀ (F := F)) 𝒱₀ (tile d L) none) Set.univ
          (cc1__sc_gather_body (F := F) L eV (Memref.isWhole_whole _) wV (Memref.isWhole_whole _) xV (Memref.isWhole_whole _) xsV (Memref.isWhole_whole _) wsV (Memref.isWhole_whole _) permV (Memref.isWhole_whole _) cntV (Memref.isWhole_whole _) tE (Memref.isWhole_whole _) tW (Memref.isWhole_whole _) tR0 (Memref.isWhole_whole _) tR1 (Memref.isWhole_whole _) tP (Memref.isWhole_whole _) tB (Memref.isWhole_whole _) tX (Memref.isWhole_whole _) tN (Memref.isWhole_whole _) cc1_scratch8 cc1_scoped0 cc1_scoped1 cc1_scoped2 cc1_scoped3 cc1_scoped4 cc1_scoped5 cc1_scoped6)
          fun _ => iprop(tdRes d e w x L ∗ scopedBufs (tile d L) ∗ scopedSems0 (tile d L)
            ∗ ∃ W', ⌜∀ p ∈ W', p ∈ W ∨ p.2 = none⌝ ∗ owes (tile d L) O W') := by
  rw [cc1__sc_gather_body_eq_skeleton]; unfold cc1__sc_gather_body_skel; rw [k1_part1_eq_skeleton]; unfold k1_part1_skel; rw [wp_bind]
  rw [(K (F := F)).scopedBufs_V hF d (cV L) (jV L), SparseCore.Cfg.scopedSems0_V (Val := Elt F) d (cV L) (jV L), ownSems0_V, ownBufs_V]
  unfold goRes
  iintro ⟨#Hlv, -, ⟨He, Hw, Hx, ⟨%g0, Hs0⟩, ⟨%g1, Hs1⟩, ⟨%g2, Hws⟩, Hfirst⟩, ⟨⟨%fE, HE⟩, ⟨%fW, HW⟩, ⟨%f0, H0⟩, ⟨%f1, H1⟩, ⟨%fP, HP⟩, ⟨%fB, HB⟩, ⟨%fX, HX⟩, ⟨%fN, HN⟩, Hbufs⟩, ⟨Hs8, HsA, HsB, HsC, HsD, HsE, HsF, HsG, Hsems⟩, HO⟩
  ihave #Hmw := (show levAts (K (F := F)).L (K (F := F)).lev ⊢ Transfers.MayWaits (tile d L) (default : HIx 2) O from
    (K (F := F)).mayWaits_none (thr := tile d L) hO) $$ Hlv
  ihave He := (Entails.of_eq (show (eLoc d ↦{shareOf (wid L)} e : sProp 𝕄) = eV.view.loc (tile d L) ↦{shareOf (wid L)} e from rfl)) $$ He
  ihave Hw := (Entails.of_eq (show (wLoc d ↦{shareOf (wid L)} w : sProp 𝕄) = wV.view.loc (tile d L) ↦{shareOf (wid L)} w from rfl)) $$ Hw
  ihave Hx := (Entails.of_eq (show (xLoc d ↦{shareOf (wid L)} x : sProp 𝕄) = xV.view.loc (tile d L) ↦{shareOf (wid L)} x from rfl)) $$ Hx
  ihave Hs0 := (Entails.of_eq (show (xsLoc d ↦[xsSet (blk L 0)]{fullShare} g0 : sProp 𝕄) = (xsM0 L).view.loc (tile d L) ↦[(xsM0 L).view.set]{fullShare} g0 by rw [set_xsM0])) $$ Hs0
  ihave Hs1 := (Entails.of_eq (show (xsLoc d ↦[xsSet (blk L 1)]{fullShare} g1 : sProp 𝕄) = (xsM1 L).view.loc (tile d L) ↦[(xsM1 L).view.set]{fullShare} g1 by rw [set_xsM1])) $$ Hs1
  ihave Hws := (Entails.of_eq (show (wsLoc d ↦[wsSet (wid L)]{fullShare} g2 : sProp 𝕄) = (wsM L).view.loc (tile d L) ↦[(wsM L).view.set]{fullShare} g2 by rw [set_wsM])) $$ Hws
  sl_exec
  ihave HE := (Entails.of_eq (experts_landed (F := F) d L fE (g := tile_body.sl.dma0 e) (e := e) rfl)) $$ HE
  ihave HW := (Entails.of_eq (weights_copied (F := F) d L fW (g := tile_body.sl.dma0_1 w) (w := w) rfl)) $$ HW
  sl_for (ranksInv d L e) $$ [HE H0 H1]
  case region => intro k acc; exact ranks_trip d L e k acc
  · unfold ranksInv
    isplitr; · ipureintro; exact no_counts e
    isplitl [HE]; · iexact HE
    isplitl [H0]
    · iexists _; isplitr; swap; · iexact H0
      ipureintro; exact fun t ht => absurd ht (by omega)
    · iexists _; isplitr; swap; · iexact H1
      ipureintro; exact fun t ht => absurd ht (by omega)
  iintro %acc HI
  unfold ranksInv
  icases HI with ⟨%ha, HE, ⟨%r0, %h0, H0⟩, ⟨%r1, %h1, H1⟩⟩
  subst ha
  sl_exec
  sl_for (orderInv d L e) $$ [HE H0 H1 HP]
  case region => intro k acc; exact order_trip d L e k acc
  · unfold orderInv
    isplitl [HE]; · iexact HE
    isplitl [H0]; · iexists _; isplitr; swap; · iexact H0
                    ipureintro; exact h0
    isplitl [H1]; · iexists _; isplitr; swap; · iexact H1
                    ipureintro; exact h1
    iexists _; isplitr; swap; · iexact HP
    ipureintro; exact fun t ht => absurd ht (by omega)
  iintro %acc2 HI
  unfold orderInv
  icases HI with ⟨HE, ⟨%r0', %h0', H0⟩, ⟨%r1', %h1', H1⟩, ⟨%p, %hp, HP⟩⟩
  obtain rfl := permTo_all (show PermTo e 2048 p from hp)
  sl_exec
  sl_for (pickInv d L e w) $$ [HP HW HB]
  case region => intro k acc; exact pick_trip d L e w k acc
  · unfold pickInv
    isplitl [HP]; · iexact HP
    isplitl [HW]; · iexact HW
    iexists _; isplitr; swap; · iexact HB
    ipureintro; exact fun t ht => absurd ht (by omega)
  iintro %acc3 HI
  unfold pickInv
  icases HI with ⟨HP, HW, ⟨%b, %hb, HB⟩⟩
  sl_exec
  sl_for (fetchInv d L e (shareOf (wid L)) x 0 (by omega) O W) $$ [HP Hx HX Hs8 HO]
  case region => intro k acc; exact fetch1_trip d L e (shareOf (wid L)) x O W k acc
  · unfold fetchInv
    isplitl [HP]; · iexact HP
    isplitl [Hx]; · iexact Hx
    isplitl [HX]; · iexists _; isplitr; swap; · iexact HX
                    ipureintro; exact fun t ht => absurd ht (by omega)
    isplitl [Hs8]; · iexact Hs8
    isplitr; · iexact Hmw
    iexists _; isplitr; swap; · iexact HO
    ipureintro; intro p hp
    simp only [Finset.mem_insert] at hp
    rcases hp with rfl | rfl | rfl | hp
    · exact .inr rfl
    · exact .inr rfl
    · exact .inr rfl
    · exact .inl hp
  iintro %acc4 HI
  unfold fetchInv
  icases HI with ⟨HP, Hx, ⟨%g, %hg, HX⟩, Hs8, -, ⟨%W1, %hW1, HO⟩⟩
  sl_exec
  ihave Hws := (Entails.of_eq (weights_landed (F := F) d L e w (b := tile_body.sl.dma0_2 b) hb (c := (wsM L).view.writes (Elt F) (wsM L).view.junk [⟨Rect.whole S64, tile_body.sl.dma0_2 b⟩]) (View.read_writes_whole _ _ _))) $$ Hws
  ihave Hs0 := (Entails.of_eq (rows0_landed (F := F) d L e x (g := tile_body.sl.dma0_3 g) hg (c := (xsM0 L).view.writes (Elt F) (xsM0 L).view.junk [⟨Rect.whole S8x32x2x128, tile_body.sl.dma0_3 g⟩]) (View.read_writes_whole _ _ _))) $$ Hs0
  sl_for (fetchInv d L e (shareOf (wid L)) x 32 (by omega) O W) $$ [HP Hx HX Hs8 HO]
  case region => intro k acc; exact fetch2_trip d L e (shareOf (wid L)) x O W k acc
  · unfold fetchInv
    isplitl [HP]; · iexact HP
    isplitl [Hx]; · iexact Hx
    isplitl [HX]; · iexists _; isplitr; swap; · iexact HX
                    ipureintro; exact fun t ht => absurd ht (by omega)
    isplitl [Hs8]; · iexact Hs8
    isplitr; · iexact Hmw
    iexists _; isplitr; swap; · iexact HO
    ipureintro; intro p hp
    simp only [Finset.mem_insert] at hp
    rcases hp with rfl | hp
    · exact .inr rfl
    · exact hW1 p hp
  iintro %acc5 HI
  unfold fetchInv
  icases HI with ⟨HP, Hx, ⟨%g', %hg', HX⟩, Hs8, -, ⟨%W2, %hW2, HO⟩⟩
  rcases Classical.em ((wid L).val = 0) with h | h
  · have hc : Scalar.cmpi .ne (Scalar.extui (Scalar.cmpi .eq (tile_body.sl.v1 L) 0#32) : BitVec 32) 0#32 = 1#1 := (first_iff L).mpr h
    ihave Hfirst := (Entails.of_eq (if_pos h)) $$ Hfirst
    icases Hfirst with ⟨⟨%q0, Hperm⟩, ⟨%q1, Hcnt⟩⟩
    ihave Hperm := (Entails.of_eq (show (permLoc d ↦{fullShare} q0 : sProp 𝕄) = permV.view.loc (tile d L) ↦{fullShare} q0 from rfl)) $$ Hperm
    ihave Hcnt := (Entails.of_eq (show (cntLoc d ↦{fullShare} q1 : sProp 𝕄) = cntV.view.loc (tile d L) ↦{fullShare} q1 from rfl)) $$ Hcnt
    sl_exec
    ihave Hs1 := (Entails.of_eq (rows1_landed (F := F) d L e x (g := tile_body.sl.dma0_4 g') hg' (c := (xsM1 L).view.writes (Elt F) g1 [⟨Rect.whole S8x32x2x128, tile_body.sl.dma0_4 g'⟩]) (View.read_writes_whole _ _ _))) $$ Hs1
    ihave Hperm := (Entails.of_eq (order_landed (F := F) d L q0 (g := tile_body.sl.dma0_5 e) (e := e) rfl)) $$ Hperm
    ihave Hcnt := (Entails.of_eq (count_landed (F := F) d L q1 (g := tile_body.sl.dma2 d L e fN) (e := e)
      ((View.read_writes_full (Val := Elt F) tN.view fN inb_S16_S16_0 _ []).trans (count_stored e)))) $$ Hcnt
    sl_step
    unfold tdRes
    isplitl [He Hw Hx Hs0 Hs1 Hws Hperm Hcnt]
    · isplitl [He]; · iexact He
      isplitl [Hw]; · iexact Hw
      isplitl [Hx]; · iexact Hx
      isplitl [Hs0]; · iexact Hs0
      isplitl [Hs1]; · iexact Hs1
      isplitl [Hws]; · iexact Hws
      iapply (Entails.of_eq (if_pos h).symm)
      isplitl [Hperm]; · iexact Hperm
      iexact Hcnt
    isplitl [HE HW H0 H1 HP HB HX HN Hbufs]
    · isplitl [HE]; · iexists _; iexact HE
      isplitl [HW]; · iexists _; iexact HW
      isplitl [H0]; · iexists _; iexact H0
      isplitl [H1]; · iexists _; iexact H1
      isplitl [HP]; · iexists _; iexact HP
      isplitl [HB]; · iexists _; iexact HB
      isplitl [HX]; · iexists _; iexact HX
      isplitl [HN]; · iexists _; iexact HN
      iexact Hbufs
    isplitl [Hs8 HsA HsB HsC HsD HsE HsF HsG Hsems]
    · isplitl [Hs8]; · iexact Hs8
      isplitl [HsA]; · iexact HsA
      isplitl [HsB]; · iexact HsB
      isplitl [HsC]; · iexact HsC
      isplitl [HsD]; · iexact HsD
      isplitl [HsE]; · iexact HsE
      isplitl [HsF]; · iexact HsF
      isplitl [HsG]; · iexact HsG
      iexact Hsems
    iexists _; isplitr; swap; · iexact HO
    ipureintro; intro p hp
    simp only [Finset.mem_insert] at hp
    rcases hp with rfl | rfl | rfl | hp
    · exact .inr rfl
    · exact .inr rfl
    · exact .inr rfl
    · exact hW2 p hp
  · have hc : ¬ Scalar.cmpi .ne (Scalar.extui (Scalar.cmpi .eq (tile_body.sl.v1 L) 0#32) : BitVec 32) 0#32 = 1#1 := fun hh => h ((first_iff L).mp hh)
    ihave Hfirst := (Entails.of_eq (if_neg h)) $$ Hfirst
    sl_exec
    ihave Hs1 := (Entails.of_eq (rows1_landed (F := F) d L e x (g := tile_body.sl.dma0_6 g') hg' (c := (xsM1 L).view.writes (Elt F) g1 [⟨Rect.whole S8x32x2x128, tile_body.sl.dma0_6 g'⟩]) (View.read_writes_whole _ _ _))) $$ Hs1
    sl_step
    unfold tdRes
    isplitl [He Hw Hx Hs0 Hs1 Hws Hfirst]
    · isplitl [He]; · iexact He
      isplitl [Hw]; · iexact Hw
      isplitl [Hx]; · iexact Hx
      isplitl [Hs0]; · iexact Hs0
      isplitl [Hs1]; · iexact Hs1
      isplitl [Hws]; · iexact Hws
      iapply (Entails.of_eq (if_neg h).symm)
      iexact Hfirst
    isplitl [HE HW H0 H1 HP HB HX HN Hbufs]
    · isplitl [HE]; · iexists _; iexact HE
      isplitl [HW]; · iexists _; iexact HW
      isplitl [H0]; · iexists _; iexact H0
      isplitl [H1]; · iexists _; iexact H1
      isplitl [HP]; · iexists _; iexact HP
      isplitl [HB]; · iexists _; iexact HB
      isplitl [HX]; · iexists _; iexact HX
      isplitl [HN]; · iexists _; iexact HN
      iexact Hbufs
    isplitl [Hs8 HsA HsB HsC HsD HsE HsF HsG Hsems]
    · isplitl [Hs8]; · iexact Hs8
      isplitl [HsA]; · iexact HsA
      isplitl [HsB]; · iexact HsB
      isplitl [HsC]; · iexact HsC
      isplitl [HsD]; · iexact HsD
      isplitl [HsE]; · iexact HsE
      isplitl [HsF]; · iexact HsF
      isplitl [HsG]; · iexact HsG
      iexact Hsems
    iexists _; isplitr; swap; · iexact HO
    ipureintro; intro p hp
    simp only [Finset.mem_insert] at hp
    rcases hp with rfl | hp
    · exact .inr rfl
    · exact hW2 p hp

end Cert.Proof.Setup

end
-- ==== Proof.Calls.lean ====
/-
  What the two SparseCore calls carry, and each tile's run in them.
-/
module

public import proofs.«01_k».proof.Proof.HostStates
public import proofs.«01_k».proof.Proof.Tile
public import proofs.«01_k».proof.Proof.Back
public import proofs.«01_k».proof.Proof.Split

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (ρ : Dev nD → PrngReg)

/-! ## What the calls carry -/

def P : (K (F := F)).Pay (nD := nD) (Val := Elt F) (Name := ℕ) (U := UU) where
  st := fun q d c => match q with
    | 0 => bigSep Finset.univ fun s : Fin 16 => goRes d (eA m d) (wA m d) (xA m d) (coordsV c s)
    | 1 => bigSep Finset.univ fun s : Fin 16 => putGo d (eA m d) (yA m d) (coordsV c s)
  dn := fun q d c => match q with
    | 0 => bigSep Finset.univ fun s : Fin 16 => tdRes d (eA m d) (wA m d) (xA m d) (coordsV c s)
    | 1 => bigSep Finset.univ fun s : Fin 16 => putDone d (eA m d) (yA m d) (coordsV c s)
  go := fun q d c i => match q with
    | 0 => goRes d (eA m d) (wA m d) (xA m d) (coordsV c i)
    | 1 => putGo d (eA m d) (yA m d) (coordsV c i)
  td := fun q d c i => match q with
    | 0 => tdRes d (eA m d) (wA m d) (xA m d) (coordsV c i)
    | 1 => putDone d (eA m d) (yA m d) (coordsV c i)
  x := fun _ _ => iprop(emp)

instance P_storable : (P (F := F) m).IsStorable where
  st q d c := match q with
    | 0 => haveI := fun s : Fin 16 => goRes_storable d (eA m d) (wA m d) (xA m d) (coordsV c s)
      Storable.bigSep (upEmb : UEmb _ 𝕄) Finset.univ fun s : Fin 16 => goRes d (eA m d) (wA m d) (xA m d) (coordsV c s)
    | 1 => haveI := fun s : Fin 16 => putGo_storable d (eA m d) (yA m d) (coordsV c s)
      Storable.bigSep (upEmb : UEmb _ 𝕄) Finset.univ fun s : Fin 16 => putGo d (eA m d) (yA m d) (coordsV c s)
  dn q d c := match q with
    | 0 => haveI := fun s : Fin 16 => tdRes_storable d (eA m d) (wA m d) (xA m d) (coordsV c s)
      Storable.bigSep (upEmb : UEmb _ 𝕄) Finset.univ fun s : Fin 16 => tdRes d (eA m d) (wA m d) (xA m d) (coordsV c s)
    | 1 => haveI := fun s : Fin 16 => putDone_storable d (eA m d) (yA m d) (coordsV c s)
      Storable.bigSep (upEmb : UEmb _ 𝕄) Finset.univ fun s : Fin 16 => putDone d (eA m d) (yA m d) (coordsV c s)
  go q d c i := match q with
    | 0 => goRes_storable d (eA m d) (wA m d) (xA m d) (coordsV c i)
    | 1 => putGo_storable d (eA m d) (yA m d) (coordsV c i)
  td q d c i := match q with
    | 0 => tdRes_storable d (eA m d) (wA m d) (xA m d) (coordsV c i)
    | 1 => putDone_storable d (eA m d) (yA m d) (coordsV c i)

theorem widen {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W₁, %hW, HO⟩
  isplitl [HA]; · iexact HA
  isplitl [HB]; · iexact HB
  isplitl [HC]; · iexact HC
  iexists W₁
  isplitr
  · ipureintro; exact fun p hp => (hW p hp).elim .inl fun h => .inr (.inl h)
  iexact HO

theorem defs₀_vector (c : Fin τ.nSC) (s : Fin τ.nSub) :
    defs₀ (F := F) (.scVector c s) 1 ()
      = SparseCore.onTile hcore1 hsub1 (fun c s => cc1__sc_gather_body (coordsV c s) eV (Memref.isWhole_whole _) wV (Memref.isWhole_whole _) xV (Memref.isWhole_whole _) xsV (Memref.isWhole_whole _) wsV (Memref.isWhole_whole _) permV (Memref.isWhole_whole _) cntV (Memref.isWhole_whole _) tE (Memref.isWhole_whole _) tW (Memref.isWhole_whole _) tR0 (Memref.isWhole_whole _) tR1 (Memref.isWhole_whole _) tP (Memref.isWhole_whole _) tB (Memref.isWhole_whole _) tX (Memref.isWhole_whole _) tN (Memref.isWhole_whole _) cc1_scratch8 cc1_scoped0 cc1_scoped1 cc1_scoped2 cc1_scoped3 cc1_scoped4 cc1_scoped5 cc1_scoped6) ⟨⟩ c s := rfl

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BIBase.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (eA m d) (wA m d) (xA m d) hF O W hO).trans (wp_mono frame _ _ fun _ => widen)

theorem vecSplit : (K (F := F)).VecSplit' (P m) 0 := by
  intro d c
  show (bigSep Finset.univ fun s : Fin 16 => goRes d (eA m d) (wA m d) (xA m d) (coordsV c s))
    ⊢ |={Set.univ}=> iprop((bigSep Finset.univ fun s : Fin 16 => goRes d (eA m d) (wA m d) (xA m d) (coordsV c s))
      ∗ ((bigSep Finset.univ fun s : Fin 16 => tdRes d (eA m d) (wA m d) (xA m d) (coordsV c s))
        -∗ bigSep Finset.univ fun s : Fin 16 => tdRes d (eA m d) (wA m d) (xA m d) (coordsV c s)))
  iintro H
  imodintro
  isplitl [H]; · iexact H
  iintro H; iexact H

theorem defs₀_put (c : Fin τ.nSC) (s : Fin τ.nSub) :
    defs₀ (F := F) (.scVector c s) 3 ()
      = SparseCore.onTile hcore3 hsub3 (fun c s => cc3__sc_scatter_body (coordsV c s) yV (Memref.isWhole_whole _) lV (Memref.isWhole_whole _) oV (Memref.isWhole_whole _) tI (Memref.isWhole_whole _) tY (Memref.isWhole_whole _) cc3_scratch2 cc3_scoped0 cc3_scoped1 cc3_scoped2) ⟨⟩ c s := rfl

set_option maxRecDepth 16384 in
theorem putObl (hF : (K (F := F)).Facts) : (K (F := F)).TileObl (D (F := F)) 𝒱 (P m) v₀ 1 := by
  intro d c i O W hO _ _
  simp only [show (P m).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BIBase.Entails.trans ?_ (Pipeline.wp_liftProg (D (F := F)) (Pipeline.defs_kernel pcfgs defs₀) 𝒱₀ _ Set.univ none _ _)
  rw [defs₀_put]; simp only [SparseCore.onTile, hci, and_self, ↓reduceDIte]
  exact (put_body d (coordsV ⟨_, hci.1⟩ ⟨_, hci.2⟩) (eA m d) (yA m d) hF O W hO).trans (wp_mono frame _ _ fun _ => widen)

theorem putSplit : (K (F := F)).VecSplit' (P m) 1 := by
  intro d c
  show (bigSep Finset.univ fun s : Fin 16 => putGo d (eA m d) (yA m d) (coordsV c s))
    ⊢ |={Set.univ}=> iprop((bigSep Finset.univ fun s : Fin 16 => putGo d (eA m d) (yA m d) (coordsV c s))
      ∗ ((bigSep Finset.univ fun s : Fin 16 => putDone d (eA m d) (yA m d) (coordsV c s))
        -∗ bigSep Finset.univ fun s : Fin 16 => putDone d (eA m d) (yA m d) (coordsV c s)))
  iintro H
  imodintro
  isplitl [H]; · iexact H
  iintro H; iexact H

theorem st_all (d : Dev nD) : (bigSep Finset.univ fun c : Fin ((K (F := F)).nCore 0) => (P m).st 0 d c) = goAll d (eA m d) (wA m d) (xA m d) := rfl
theorem dn_all (d : Dev nD) : (bigSep Finset.univ fun c : Fin ((K (F := F)).nCore 0) => (P m).dn 0 d c) = tdAll d (eA m d) (wA m d) (xA m d) := rfl
theorem st_put (d : Dev nD) : (bigSep Finset.univ fun c : Fin ((K (F := F)).nCore 1) => (P m).st 1 d c) = putGoAll d (eA m d) (yA m d) := rfl
theorem dn_put (d : Dev nD) : (bigSep Finset.univ fun c : Fin ((K (F := F)).nCore 1) => (P m).dn 1 d c) = putDoneAll d (eA m d) (yA m d) := rfl

end Cert.Proof.Setup

end
-- ==== Proof.Launch.lean ====
/-
  The start, the host's side, and the whole program's run.
-/
module

public import proofs.«01_k».proof.Proof.Handover
public import proofs.«01_k».proof.Proof.Calls
public import Idealize.ShloMosaic.Lib.SparseCore.Quiescent

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.TcCoe Idealize.ShloMosaic.StableHlo

variable (m : (ℓ : Loc nD τ sig) → Buf (Elt F) ℓ) (ρ : Dev nD → PrngReg)

/-! ## The start -/

/-- What the two pipelines' rounds start from, at each device. -/
def G (d : Dev nD) : sProp 𝕄 :=
  iprop((Pipeline.cellsGhost (Pipeline.pin (pcfgs (F := F)) (admM m)) EP 0 d ∗ Pipeline.cellsGhost (Pipeline.pin (pcfgs (F := F)) (admM m)) EP 1 d)
    ∗ Pipeline.toksInit (Pipeline.pin (pcfgs (F := F)) (admM m)) EP 0 d ∗ Pipeline.toksInit (Pipeline.pin (pcfgs (F := F)) (admM m)) EP 1 d)

theorem both (Φ : Fin 2 → sProp 𝕄) : bigSep Finset.univ Φ = iprop(Φ 0 ∗ Φ 1) :=
  bigSep_univ_eq_bigSepL [(0 : Fin 2), 1] (by decide) (by decide) Φ

def u₀ : UU := (initOf (K (F := F)).hsCells (K (F := F)).hsToks,
  (initOf (Pipeline.cells (Pipeline.pin (pcfgs (F := F)) (admM m)) (cellOf_inj _)) (Pipeline.launchToks (Pipeline.pin (pcfgs (F := F)) (admM m)) (cellOf_inj _)), 1))

theorem no_tiles {I : Type} (s : Finset I) : (bigSep s fun _ => iprop(emp)) = (iprop(emp) : sProp 𝕄) := bigSep_emp_const s

theorem no_extra (thr : Thread nD τ) : (bigSep Finset.univ fun q : Fin 2 => (P (F := F) m).x q thr) = (iprop(emp) : sProp 𝕄) := no_tiles _

theorem ghosts : (BI.own (EP (initOf (Pipeline.cells (Pipeline.pin (pcfgs (F := F)) (admM m)) (cellOf_inj _)) (Pipeline.launchToks (Pipeline.pin (pcfgs (F := F)) (admM m)) (cellOf_inj _)))) : sProp 𝕄)
    ⊢ iprop(|==> bigSep Finset.univ fun d : Dev nD => G m d) := by
  refine (Pipeline.fund_ghost (Pipeline.pin (pcfgs (F := F)) (admM m)) EP (cellOf_inj _)).trans (bupd_mono ?_)
  unfold G
  rw [bigSep_sep']
  refine sep_mono (bigSep_mono fun d _ => ?_) (bigSep_mono fun d _ => ?_)
  · exact Entails.of_eq (both _)
  · exact Entails.of_eq (both _)

theorem half : (BI.own ((embR : Emb (UP × Counters) 𝕄) (initOf (Pipeline.cells (Pipeline.pin (pcfgs (F := F)) (admM m)) (cellOf_inj _)) (Pipeline.launchToks (Pipeline.pin (pcfgs (F := F)) (admM m)) (cellOf_inj _)), 1)) : sProp 𝕄)
    ⊢ BI.own (EP (initOf (Pipeline.cells (Pipeline.pin (pcfgs (F := F)) (admM m)) (cellOf_inj _)) (Pipeline.launchToks (Pipeline.pin (pcfgs (F := F)) (admM m)) (cellOf_inj _)))) :=
  (own_pair_emb (embR : Emb (UP × Counters) 𝕄) _ (1 : Counters)).trans sep_elim_left

theorem hu₀ : (ownU (u₀ m) : sProp 𝕄)
    ⊢ |={Set.univ}=> iprop(BI.own (EH (initOf (K (F := F)).hsCells (K (F := F)).hsToks)) ∗ (bigSep Finset.univ fun d : Dev nD => G m d)
        ∗ bigSep Finset.univ fun thr : Thread nD τ => bigSep Finset.univ fun q : Fin 2 => (P m).x q thr) := by
  unfold u₀
  iintro Hu
  ihave H := (ownU_pair (initOf (K (F := F)).hsCells (K (F := F)).hsToks) _) $$ Hu
  icases H with ⟨HH, HR⟩
  ihave HP := (half m) $$ HR
  imod ((ghosts m)) $$ HP with HG
  imodintro
  isplitl [HH]; · iexact HH
  isplitl [HG]; · iexact HG
  rw [bigSep_congr (fun thr _ => no_extra m thr), no_tiles]
  iempintro

/-! ## The host's side -/

theorem pre_of [∀ e, Nonempty (Elt F e)] (d : Dev nD) : iprop(held (SparseCore.T d) (Pipeline.arrRefs spec2) (VB13 m d) ∗ held (SparseCore.T d) (Pipeline.tblRefs pre2) (VB13 m d) ∗ owing (F := F) d)
    ⊢ ((region1 m).pre d : sProp 𝕄) := Entails.of_eq rfl

theorem of_post [∀ e, Nonempty (Elt F e)] (d : Dev nD) : ((region1 m).post d : sProp 𝕄)
    ⊢ iprop(held (SparseCore.T d) (Pipeline.arrRefs spec2) (VR m d) ∗ held (SparseCore.T d) (Pipeline.tblRefs pre2) (VR m d) ∗ owing (F := F) d) := Entails.of_eq rfl

theorem pre_of0 [∀ e, Nonempty (Elt F e)] (d : Dev nD) : iprop(held (SparseCore.T d) (Pipeline.arrRefs spec0) (V0 m d) ∗ owing0 (F := F) d)
    ⊢ ((region0 m).pre d : sProp 𝕄) := Entails.of_eq rfl

theorem of_post0 [∀ e, Nonempty (Elt F e)] (d : Dev nD) : ((region0 m).post d : sProp 𝕄)
    ⊢ iprop(held (SparseCore.T d) (Pipeline.arrRefs spec0) (VK m d) ∗ owing0 (F := F) d) := Entails.of_eq rfl

set_option maxHeartbeats 2000000 in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G m d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd G
  rw [main_lines, show (unscopedBufs d (fun b => m ((SparseCore.T d).loc b)) : sProp 𝕄) = held (SparseCore.T d) Ucs (V0 m d) from Pipeline.unscopedBufs_held d (V0 m d)]
  iintro ⟨#Hctx, Hst, ⟨Hb, Hheld, Hts, -⟩, ⟨Hcg0, Hcg⟩, Htk0, Htk⟩
  rw [wp_bind]
  ihave H := (router_in m d) $$ Hheld
  icases H with ⟨Harr, Hrest⟩
  ihave H := (owing_st0 (F := F) d) $$ Hst
  icases H with ⟨Ho, Hback⟩
  iapply (router_run m d)
  isplitr [Hb Harr Ho Hcg0 Htk0]
  rotate_left
  · isplitl [Hb]; · iexact Hb
    isplitl [Harr Ho]
    · iapply (pre_of0 m d)
      isplitl [Harr]; · iexact Harr
      iexact Ho
    isplitr
    · iapply ((K (F := F)).ctx_levAts κ); iexact Hctx
    isplitl [Hcg0]; · iexact Hcg0
    iexact Htk0
  iintro ⟨Hb, Hpost⟩
  ihave H := (of_post0 m d) $$ Hpost
  icases H with ⟨Harr, Ho⟩
  ihave Hst := Hback $$ Ho
  ihave Hheld := (router_out m d) $$ [Harr Hrest]
  · isplitl [Harr]; · iexact Harr
    iexact Hrest
  iapply (line d opsA opsA_sub opsA_fresh (VK m d) (VA m d) rfl) $$ [Hb Hheld]
  · isplitl [Hb]; · iexact Hb
    iexact Hheld
  iintro ⟨Hb, Hheld⟩
  rw [wp_bind]
  ihave H := (call0_in m d) $$ Hheld
  icases H with ⟨Hgo, Hrest⟩
  iapply ((K (F := F)).wp_run (D (F := F)) 𝒱 (EH := EH) (P := P m) κ d 0) $$ [Hst Hgo Hb Hrest Hts Hcg Htk]
  isplitr; · iexact Hctx
  isplitl [Hst]; · iexact Hst
  isplitl [Hgo]
  · rw [st_all]; iexact Hgo
  iintro ⟨Hst, Hdn⟩
  ihave Hheld := (call0_out m d) $$ [Hdn Hrest]
  · isplitl [Hdn]; · rw [← dn_all]; iexact Hdn
    iexact Hrest
  iapply (lines m d) $$ [Hb Hheld]
  · isplitl [Hb]; · iexact Hb
    iexact Hheld
  iintro ⟨Hb, Hheld⟩
  rw [wp_bind]
  ihave H := (ffn_in m d) $$ Hheld
  icases H with ⟨Harr, Htbl, Hrest⟩
  ihave Hst := (Entails.of_eq (show ((K (F := F)).tcSt EH d ((0 : Fin 2).val + 1) : sProp 𝕄) = (K (F := F)).tcSt EH d 1 from rfl)) $$ Hst
  ihave H := (owing_st (F := F) d) $$ Hst
  icases H with ⟨Ho, Hback⟩
  iapply (ffn_run m d) $$ [Hb Harr Htbl Hrest Ho Hback Hts Hcg Htk]
  isplitl [Hrest Hback Hts]
  · iintro ⟨Hb, Hpost⟩
    ihave H := (of_post m d) $$ Hpost
    icases H with ⟨Harr, Htbl, Ho⟩
    ihave Hst := Hback $$ Ho
    ihave Hheld := (ffn_out m d) $$ [Harr Htbl Hrest]
    · isplitl [Harr]; · iexact Harr
      isplitl [Htbl]; · iexact Htbl
      iexact Hrest
    iapply (line d opsC opsC_sub opsC_fresh (VR m d) (VC m d) rfl) $$ [Hb Hheld]
    · isplitl [Hb]; · iexact Hb
      iexact Hheld
    iintro ⟨Hb, Hheld⟩
    rw [wp_bind]
    ihave H := (call1_in m d) $$ Hheld
    icases H with ⟨Hgo, Hrest⟩
    iapply ((K (F := F)).wp_run (D (F := F)) 𝒱 (EH := EH) (P := P m) κ d 1) $$ [Hst Hgo Hb Hrest Hts]
    isplitr; · iexact Hctx
    isplitl [Hst]; · iexact Hst
    isplitl [Hgo]
    · rw [st_put]; iexact Hgo
    iintro ⟨Hst, Hdn⟩
    ihave Hheld := (call1_out m d) $$ [Hdn Hrest]
    · isplitl [Hdn]; · rw [← dn_put]; iexact Hdn
      iexact Hrest
    rw [← bind_pure (seq opsD)]
    iapply (line d opsD opsD_sub opsD_fresh (VS m d) (VD m d) rfl) $$ [Hb Hheld]
    · isplitl [Hb]; · iexact Hb
      iexact Hheld
    iintro ⟨Hb, Hheld⟩
    rw [wp_pure]
    imodintro
    ihave Hfin := (fin_of m d) $$ Hheld
    isplitl [Hst]; · iexact Hst
    isplitl [Hfin]; · iexact Hfin
    isplitl [Hb] <;> iassumption
  isplitl [Hb]; · iexact Hb
  isplitl [Harr Htbl Ho]
  · iapply (pre_of m d)
    isplitl [Harr]; · iexact Harr
    isplitl [Htbl]; · iexact Htbl
    iexact Ho
  isplitr
  · iapply ((K (F := F)).ctx_levAts κ); iexact Hctx
  isplitl [Hcg]; · iexact Hcg
  iexact Htk

/-! ## The end, and the run -/

/-- What a final state holds of the arguments and the result. -/
def fq (d : Dev nD) (s : Phys nD τ sig (Elt F)) : Prop :=
  s.mem.mem ((SparseCore.T d).loc main_arg0) = m ((SparseCore.T d).loc main_arg0)
    ∧ s.mem.mem ((SparseCore.T d).loc main_arg1) = m ((SparseCore.T d).loc main_arg1)
    ∧ s.mem.mem ((SparseCore.T d).loc main_arg2) = m ((SparseCore.T d).loc main_arg2)
    ∧ s.mem.mem ((SparseCore.T d).loc main_arg3) = m ((SparseCore.T d).loc main_arg3)
    ∧ s.mem.mem ((SparseCore.T d).loc main_v84) = (val_v81 (backA (eA m d) (yA m d) : Table F) : S2048x2048.Idx → Elt F .f32)

theorem read_off (s : Phys nD τ sig (Elt F)) {ℓ : Loc nD τ sig} (f : Buf (Elt F) ℓ) :
    (iprop((ℓ ↦{fullShare} f) ∗ SI s) : sProp 𝕄) ⊢ iprop(⌜s.mem.mem ℓ = f⌝ ∗ SI s) := by
  iintro ⟨Hf, HSI⟩
  ihave H := (persistent_entails_right (SI_pointsTo_agree (st := s) (ℓ := ℓ) (I := Finset.univ) (q := fullShare) (f := f))) $$ [HSI Hf]
  · isplitl [HSI] <;> iassumption
  icases H with ⟨%h, HSI, -⟩
  isplitr
  · ipureintro; exact funext fun i => h i (Finset.mem_univ i)
  iexact HSI

theorem hfin (d : Dev nD) (s : Phys nD τ sig (Elt F)) : iprop(FIN m d ∗ SI s) ⊢ (⌜fq m d s⌝ : sProp 𝕄) := by
  unfold FIN
  iintro ⟨⟨H0, H1, H2, H3, H81⟩, HSI⟩
  ihave H := (read_off s (ℓ := (SparseCore.T d).loc main_arg0) _) $$ [H0 HSI]
  · isplitl [H0] <;> iassumption
  icases H with ⟨%h0, HSI⟩
  ihave H := (read_off s (ℓ := (SparseCore.T d).loc main_arg1) _) $$ [H1 HSI]
  · isplitl [H1] <;> iassumption
  icases H with ⟨%h1, HSI⟩
  ihave H := (read_off s (ℓ := (SparseCore.T d).loc main_arg2) _) $$ [H2 HSI]
  · isplitl [H2] <;> iassumption
  icases H with ⟨%h2, HSI⟩
  ihave H := (read_off s (ℓ := (SparseCore.T d).loc main_arg3) _) $$ [H3 HSI]
  · isplitl [H3] <;> iassumption
  icases H with ⟨%h3, HSI⟩
  ihave H := (read_off s (ℓ := (SparseCore.T d).loc main_v84) _) $$ [H81 HSI]
  · isplitl [H81] <;> iassumption
  icases H with ⟨%h81, -⟩
  ipureintro; exact ⟨h0, h1, h2, h3, h81⟩

/-- The final states: each device's arrays as above, every semaphore at zero. -/
def QC : PUnit × MemSt nD τ sig (Elt F) → Prop := fun r =>
  (∀ d : Dev nD, r.2.mem ((SparseCore.T d).loc main_arg0) = m ((SparseCore.T d).loc main_arg0)
    ∧ r.2.mem ((SparseCore.T d).loc main_arg1) = m ((SparseCore.T d).loc main_arg1)
    ∧ r.2.mem ((SparseCore.T d).loc main_arg2) = m ((SparseCore.T d).loc main_arg2)
    ∧ r.2.mem ((SparseCore.T d).loc main_arg3) = m ((SparseCore.T d).loc main_arg3)
    ∧ r.2.mem ((SparseCore.T d).loc main_v84) = (val_v81 (backA (eA m d) (yA m d) : Table F) : S2048x2048.Idx → Elt F .f32))
    ∧ r.2.sem = fun _ => 0

set_option maxHeartbeats 1000000 in
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl m facts | 1 => putObl m facts)
    (fun q _ => match q with | 0 => SparseCore.Cfg.VecSplit.of_plain (vecSplit m) | 1 => SparseCore.Cfg.VecSplit.of_plain (putSplit m))
    m ρ main (G m) (FIN m) (u₀ m) (sep_elim_left.trans (hu₀ m)) (hmain m ρ) (fq m) (hfin m) (QC m) (fun _ h hz => ⟨h, hz⟩)

end Cert.Proof.Setup

end
-- ==== Proof.Panels.lean ====
/-
  The table cut into panels and joined again: the rows in order of expert, and the rows put back.
-/
module

public import proofs.«01_k».proof.Proof.HostStates
public import Idealize.ShloMosaic.Lib.Pipeline.Value
public import Idealize.ShloMosaic.Lib.ValueIdxCore

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.TcCoe Idealize.ShloMosaic.StableHlo

/-- Column `c` in the panels: panel, half of the row, lane. -/
def pa (c : Fin 2048) : Fin 8 := ⟨c.val / 256, by omega⟩
def ha (c : Fin 2048) : Fin 2 := ⟨c.val / 128 % 2, by omega⟩
def la (c : Fin 2048) : Fin 128 := ⟨c.val % 128, by omega⟩

theorem flat (r c : Fin 2048) : (S2048x8x2x128.rowMajor (ix4 r (pa c) (ha c) (la c))).val = (S2048x2048.rowMajor (ix2 r c)).val := by
  rw [Shape.rowMajor_val_four, Shape.rowMajor_val_two]
  show ((r.val * 8 + c.val / 256) * 2 + c.val / 128 % 2) * 128 + c.val % 128 = r.val * 2048 + c.val
  omega

/-- A table cut into panels, at a panel's place. -/
theorem cut_at (x : S2048x2048.Idx → Elt F .f32) (r c : Fin 2048) : val_v1 x (ix4 (pa c) r (ha c) (la c)) = x (ix2 r c) := by
  unfold val_v1
  dsimp only
  rw [transpose_apply _ _ _ _ (ix4 r (pa c) (ha c) (la c)) (fun b => by
    match b with
    | ⟨0, _⟩ => rfl
    | ⟨1, _⟩ => rfl
    | ⟨2, _⟩ => rfl
    | ⟨3, _⟩ => rfl)]
  exact shapeCast_apply _ _ _ _ (flat r c).symm

theorem cut_at' (x : S2048x2048.Idx → Elt F .f32) (r c : Fin 2048) : val_v77 x (ix4 (pa c) r (ha c) (la c)) = x (ix2 r c) := cut_at x r c

/-- Panels joined into a table. -/
theorem join_at (t : Table F) (r c : Fin 2048) : val_v4 t (ix2 r c) = t (ix4 (pa c) r (ha c) (la c)) := by
  unfold val_v4
  dsimp only
  rw [shapeCast_apply _ _ _ (ix4 r (pa c) (ha c) (la c)) (flat r c), transpose_apply _ _ _ _ (ix4 (pa c) r (ha c) (la c)) (fun b => by
    match b with
    | ⟨0, _⟩ => rfl
    | ⟨1, _⟩ => rfl
    | ⟨2, _⟩ => rfl
    | ⟨3, _⟩ => rfl)]

theorem join_at' (t : Table F) (r c : Fin 2048) : val_v81 t (ix2 r c) = t (ix4 (pa c) r (ha c) (la c)) := join_at t r c

/-- The rows in order of expert, cut and joined. -/
theorem sorted_at (e : Words) (x : S2048x2048.Idx → Elt F .f32) (i c : Fin 2048) :
    val_v4 (rowsA e (val_v1 x : Table F) : Table F) (ix2 i c) = x (ix2 (tok e i) c) :=
  (join_at _ i c).trans (cut_at x (tok e i) c)

/-- The rows put back, cut and joined. -/
theorem back_at (e : Words) (y : S2048x2048.Idx → Elt F .f32) (r c : Fin 2048) :
    val_v81 (backA e (val_v77 y : Table F) : Table F) (ix2 r c) = y (ix2 ⟨place e r.val, place_lt e _ r.isLt⟩ c) :=
  (join_at' _ r c).trans (cut_at' y ⟨place e r.val, place_lt e _ r.isLt⟩ c)

end Cert.Proof.Setup

end
-- ==== Proof.Weights.lean ====
/-
  The tiles' weights, place by place: a row's weight where the row is the tile's own, 0 elsewhere.
-/
module

public import proofs.«01_k».proof.Proof.Panels
public import Idealize.ShloMosaic.Lib.Routing.Ops
public import Idealize.ShloMosaic.Lib.Routing.OpsSet
public import Idealize.ShloMosaic.Lib.ReduceAll

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.TcCoe Idealize.ShloMosaic.StableHlo
open Idealize.ShloMosaic.Routing (bc0 bcCol bcRows bcCols gather_take1)

theorem pos_at (f : S9.Idx → BitVec 32) (g : Fin 9) (p : Fin 256) :
    val_v45 (F := F) f (ix2 g p) = IntOp.addi (IntOp.muli (f (ix1 g)) 256#32) (BitVec.ofNat 32 p.val) := by
  unfold val_v45
  dsimp only
  show IntOp.addi (broadcastInDim (s := S9x1) S9x256 ![0, 1] bcast_S9x1_S9x256_0_1 _ (ix2 g p)) (broadcastInDim (s := S1x256) S9x256 ![0, 1] bcast_S1x256_S9x256_0_1 _ (ix2 g p)) = _
  refine congrArg₂ IntOp.addi ?_ (bcCols bcast_S256_S1x256_1 bcast_S1x256_S9x256_0_1 _ g p)
  refine (broadcastInDim_apply _ bcast_S9x1_S9x256_0_1 _ _ (ix2 g (0 : Fin 1)) fun a => ?_).trans ?_
  · match a with
    | ⟨0, _⟩ => rfl
    | ⟨1, _⟩ => rfl
  · show IntOp.muli (broadcastInDim (s := S9) S9x1 ![0] bcast_S9_S9x1_0 f (ix2 g (0 : Fin 1))) (broadcastInDim (s := S_) S9x1 ![] bcast_S_S9x1 _ (ix2 g (0 : Fin 1))) = _
    exact congrArg₂ IntOp.muli (bcCol bcast_S9_S9x1_0 f g) (bc0 bcast_S_S9x1 _ _)

theorem rowAt_le (n g : ℕ) (h : n ≤ 2048) : rowAt n g ≤ 7 := by
  have := tiles_le' n h
  unfold rowAt; split <;> omega

/-- Place `p` of tile `g`, as a row. -/
def posn (n : ℕ) (g : Fin 9) (p : Fin 256) : ℕ := rowAt n g.val * 256 + p.val

theorem posn_lt (n : ℕ) (h : n ≤ 2048) (g : Fin 9) (p : Fin 256) : posn n g p < 2048 := by
  have := rowAt_le n g.val h; have := p.isLt; unfold posn; omega

theorem pos_num (n : ℕ) (h : n ≤ 2048) (g : Fin 9) (p : Fin 256) :
    val_v45 (F := F) (fun (y : S9.Idx) => BitVec.ofNat 32 (rowAt n (y 0).val)) (ix2 g p) = BitVec.ofNat 32 (posn n g p) := by
  rw [pos_at]
  have := rowAt_le n g.val h
  have := p.isLt
  apply BitVec.eq_of_toNat_eq
  show ((BitVec.ofNat 32 (rowAt n g.val)) * 256#32 + BitVec.ofNat 32 p.val).toNat = (BitVec.ofNat 32 (posn n g p)).toNat
  unfold posn
  simp only [BitVec.toNat_add, BitVec.toNat_mul, BitVec.toNat_ofNat]
  omega

/-- The place's number in the flat list. -/
def flatAt (g : Fin 9) (p : Fin 256) : Fin 2304 := ⟨g.val * 256 + p.val, by have := g.isLt; have := p.isLt; omega⟩

theorem flat_eq (g : Fin 9) (p : Fin 256) : (S9x256.rowMajor (ix2 g p)).val = (S2304.rowMajor (ix1 (flatAt g p))).val := by
  rw [Shape.rowMajor_val_two, Shape.rowMajor_val_one]
  rfl

theorem pos_flat (n : ℕ) (h : n ≤ 2048) (g : Fin 9) (p : Fin 256) :
    val_v46 (F := F) (fun (y : S9.Idx) => BitVec.ofNat 32 (rowAt n (y 0).val)) (ix1 (flatAt g p)) = BitVec.ofNat 32 (posn n g p) :=
  (shapeCast_apply (val_v45 (F := F) (fun (y : S9.Idx) => BitVec.ofNat 32 (rowAt n (y 0).val))) shapeCasts_S9x256_S2304 _ (ix2 g p) (flat_eq g p)).trans (pos_num n h g p)

theorem flat_surj (i : S2304.Idx) : ∃ g p, i = ix1 (flatAt g p) := by
  have h : (i 0).val < 2304 := (i 0).isLt
  refine ⟨⟨(i 0).val / 256, by omega⟩, ⟨(i 0).val % 256, Nat.mod_lt _ (by decide)⟩, (eq_ix1 i).trans (congrArg ix1 (Fin.ext ?_))⟩
  show (i 0).val = (i 0).val / 256 * 256 + (i 0).val % 256
  omega

theorem word_in (k : ℕ) (h : k < 2048) : IntOp.andi (IntOp.cmpi .sge (BitVec.ofNat 32 k) 0#32) (IntOp.cmpi .sle (BitVec.ofNat 32 k) 2047#32) = 1#1 := by
  have e := StableHlo.Predicate.toInt_ofNat_small k (by omega)
  have h1 : (0#32).sle (BitVec.ofNat 32 k) = true := by
    rw [BitVec.sle_iff_toInt_le, e]; show (0 : Int) ≤ k; omega
  have h2 : (BitVec.ofNat 32 k).sle 2047#32 = true := by
    rw [BitVec.sle_iff_toInt_le, e]; show (k : Int) ≤ 2047; omega
  show BitVec.ofBool ((0#32).sle (BitVec.ofNat 32 k)) &&& BitVec.ofBool ((BitVec.ofNat 32 k).sle 2047#32) = 1#1
  rw [h1, h2]; rfl

theorem word_kept (k : ℕ) (h : k < 2048) (a : BitVec 32) : Scalar.select (IntOp.cmpi .slt (BitVec.ofNat 32 k) 0#32) a (BitVec.ofNat 32 k) = BitVec.ofNat 32 k := by
  show Scalar.select (BitVec.ofBool ((BitVec.ofNat 32 k).slt 0#32)) _ _ = _
  have : (BitVec.ofNat 32 k).slt 0#32 = false := by
    have e := StableHlo.Predicate.toInt_ofNat_small k (by omega)
    simp only [BitVec.slt, e]
    simp
  rw [this]; rfl

/-- The weights taken at the places. -/
theorem take_at (n : ℕ) (h : n ≤ 2048) (ws : S2048.Idx → Elt F .f32) (g : Fin 9) (p : Fin 256) :
    val_v47 (F := F) (val_v46 (F := F) (fun (y : S9.Idx) => BitVec.ofNat 32 (rowAt n (y 0).val))) ws (ix1 (flatAt g p)) = ws (ix1 ⟨posn n g p, posn_lt n h g p⟩) := by
  have hp := pos_flat (F := F) n h
  generalize val_v46 (F := F) (fun (y : S9.Idx) => BitVec.ofNat 32 (rowAt n (y 0).val)) = P at hp
  have hcol : ∀ g p, broadcastInDim S2304x1 ![0] bcast_S2304_S2304x1_0 (select (cmpi .slt P (broadcastInDim S2304 ![] bcast_S_S2304 (constantI S_ 32 0#32)))
      (addi P (broadcastInDim S2304 ![] bcast_S_S2304 (constantI S_ 32 2048#32))) P) (ix2 (flatAt g p) (0 : Fin 1)) = BitVec.ofNat 32 (posn n g p) := fun g p => by
    refine (bcCol bcast_S2304_S2304x1_0 _ (flatAt g p)).trans ?_
    show Scalar.select (IntOp.cmpi .slt (P (ix1 (flatAt g p))) (broadcastInDim S2304 ![] bcast_S_S2304 (constantI S_ 32 0#32) (ix1 (flatAt g p)))) _ (P (ix1 (flatAt g p))) = _
    rw [hp]
    exact word_kept _ (posn_lt n h g p) _
  unfold val_v47
  dsimp only
  generalize broadcastInDim S2304x1 ![0] bcast_S2304_S2304x1_0 (select (cmpi .slt P (broadcastInDim S2304 ![] bcast_S_S2304 (constantI S_ 32 0#32)))
      (addi P (broadcastInDim S2304 ![] bcast_S_S2304 (constantI S_ 32 2048#32))) P) = C at hcol
  refine (congrArg (fun b => Scalar.select b _ _) (Host.reduce_andi_one _ _ reducesTo_S2304x1_S2304_d1 h_S_ _ rfl fun i => ?_)).trans ?_
  · obtain ⟨a, b, rfl⟩ : ∃ a b, i = ix2 a b := ⟨i 0, i 1, ValueIdx.eq_ix2 i⟩
    obtain ⟨g', p', hg⟩ := flat_surj (ix1 a)
    have ha : a = flatAt g' p' := congrFun hg 0
    subst ha
    have hb : b = (0 : Fin 1) := Subsingleton.elim _ _
    subst hb
    show IntOp.andi (IntOp.cmpi .sge (C (ix2 (flatAt g' p') 0)) _) (IntOp.cmpi .sle (C (ix2 (flatAt g' p') 0)) _) = 1#1
    rw [hcol]
    exact word_in _ (posn_lt n h g' p')
  · exact gather_take1 gather_S2048_S2304x1_S2304_n_0_n_n_0_1_1 rfl rfl rfl rfl ws C (flatAt g p) ⟨posn n g p, posn_lt n h g p⟩ (hcol g p) (by decide)

theorem ofNat_slt (a b : ℕ) (ha : a < 4096) (hb : b < 4096) : IntOp.cmpi .slt (BitVec.ofNat 32 a) (BitVec.ofNat 32 b) = if a < b then 1#1 else 0#1 := by
  show BitVec.ofBool ((BitVec.ofNat 32 a).slt (BitVec.ofNat 32 b)) = _
  simp only [BitVec.slt, StableHlo.Predicate.toInt_ofNat_small a (by omega), StableHlo.Predicate.toInt_ofNat_small b (by omega)]
  by_cases h : a < b
  · rw [if_pos h, decide_eq_true (by omega)]; rfl
  · rw [if_neg h, decide_eq_false (by omega)]; rfl

theorem ofNat_sge (a b : ℕ) (ha : a < 4096) (hb : b < 4096) : IntOp.cmpi .sge (BitVec.ofNat 32 a) (BitVec.ofNat 32 b) = if b ≤ a then 1#1 else 0#1 := by
  show BitVec.ofBool ((BitVec.ofNat 32 b).sle (BitVec.ofNat 32 a)) = _
  simp only [BitVec.sle, StableHlo.Predicate.toInt_ofNat_small a (by omega), StableHlo.Predicate.toInt_ofNat_small b (by omega)]
  by_cases h : b ≤ a
  · rw [if_pos h, decide_eq_true (by omega)]; rfl
  · rw [if_neg h, decide_eq_false (by omega)]; rfl

/-- Whether place `p` of tile `g` is a row of the tile's own expert. -/
def owns (n : ℕ) (g : Fin 9) (p : Fin 256) : Prop :=
  (if g.val < tiles n then posn n g p < n else n ≤ posn n g p) ∧ g.val < 8 + spare n

instance (n : ℕ) (g : Fin 9) (p : Fin 256) : Decidable (owns n g p) := by unfold owns; infer_instance

theorem select_congr {a a' : BitVec 1} {b b' c c' : BitVec 1} (ha : a = a') (hb : b = b') (hc : c = c') : Scalar.select a b c = Scalar.select a' b' c' := by
  rw [ha, hb, hc]

theorem v60_at (A : S2304.Idx → Elt F .f32) (f f' : S9.Idx → BitVec 1) (Q : S9x256.Idx → BitVec 32) (v : S_.Idx → BitVec 32) (g : Fin 9) (p : Fin 256) :
    val_v60 (F := F) A f Q v f' (ix3 g p (0 : Fin 1)) = FloatOps.mulf (A (ix1 (flatAt g p))) (FloatOps.uitofp .f32 (IntOp.andi (Scalar.select (f (ix1 g))
      (IntOp.cmpi .slt (Q (ix2 g p)) (v ix0)) (IntOp.cmpi .sge (Q (ix2 g p)) (v ix0))) (f' (ix1 g)))) := by
  have e1 : ∀ q : S9.Idx → BitVec 1, broadcastInDim S9x256 ![0, 1] bcast_S9x1_S9x256_0_1 (broadcastInDim S9x1 ![0] bcast_S9_S9x1_0 q) (ix2 g p) = q (ix1 g) := fun q =>
    bcRows bcast_S9_S9x1_0 bcast_S9x1_S9x256_0_1 q g p
  have e2 : broadcastInDim S9x256 ![] bcast_S_S9x256 v (ix2 g p) = v ix0 := bc0 bcast_S_S9x256 v _
  have e3 : shapeCast S9x256 A shapeCasts_S2304_S9x256 (ix2 g p) = A (ix1 (flatAt g p)) := shapeCast_apply A shapeCasts_S2304_S9x256 _ (ix1 (flatAt g p)) (flat_eq g p).symm
  have e4 : (S9x256.rowMajor (ix2 g p)).val = (S9x256x1.rowMajor (ix3 g p (0 : Fin 1))).val := by
    rw [Shape.rowMajor_val_two, Shape.rowMajor_val_three]
    show g.val * 256 + p.val = (g.val * 256 + p.val) * 1 + 0
    omega
  unfold val_v60
  dsimp only
  refine (shapeCast_apply _ shapeCasts_S9x256_S9x256x1 _ (ix2 g p) e4).trans ?_
  exact congrArg₂ FloatOps.mulf e3 (congrArg (FloatOps.uitofp .f32) (congrArg₂ IntOp.andi (select_congr (e1 f) (congrArg (IntOp.cmpi .slt _) e2) (congrArg (IntOp.cmpi .sge _) e2)) (e1 f')))

/-- A tile's weight at a place. -/
theorem wtiles_at (n : ℕ) (h : n ≤ 2048) (ws : S2048.Idx → Elt F .f32) (g : Fin 9) (p : Fin 256) :
    wtiles n ws (ix3 g p (0 : Fin 1)) = FloatOps.mulf (ws (ix1 ⟨posn n g p, posn_lt n h g p⟩)) (FloatOps.uitofp .f32 (if owns n g p then 1#1 else 0#1)) := by
  have hl := posn_lt n h g p
  unfold wtiles
  refine (v60_at _ _ _ _ _ g p).trans ?_
  rw [take_at (F := F) n h ws g p, pos_num (F := F) n h g p, ofNat_slt _ _ (by omega) (by omega), ofNat_sge _ _ (by omega) (by omega)]
  refine congrArg (fun b => FloatOps.mulf _ (FloatOps.uitofp .f32 b)) ?_
  show IntOp.andi (Scalar.select (if g.val < tiles n then 1#1 else 0#1) (if posn n g p < n then 1#1 else 0#1) (if n ≤ posn n g p then 1#1 else 0#1)) (if g.val < 8 + spare n then 1#1 else 0#1) = _
  unfold owns
  by_cases h1 : g.val < tiles n <;> by_cases h2 : posn n g p < n <;> by_cases h3 : n ≤ posn n g p <;> by_cases h4 : g.val < 8 + spare n <;> simp [h1, h2, h3, h4, Scalar.select, IntOp.andi]

end Cert.Proof.Setup

end
-- ==== Proof.TileSum.lean ====
/-
  What one tile's product adds, as a sum of extended reals.
-/
module

public import proofs.«01_k».proof.Proof.Weights
public import proofs.«01_k».proof.Proof.FfnAcc
public import Idealize.ShloMosaic.PureOps.Ideal.Laws
public import Idealize.ShloMosaic.Lib.MatmulPlain

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- An activation: a value that is not above 0 halved, then the square. -/
def lk (v : EReal) : EReal := Scalar.select (Ideal.cmp .ogt v 0) v (Ideal.ofBits .f32 0x3F000000#32 * v)
def act (v : EReal) : EReal := lk v * lk v

/-- Hidden number `k` of expert `E` at row `r`. -/
def hid (x : S2048x2048.Idx → EReal) (Wfc : S2x8192x2048.Idx → EReal) (E : Fin 2) (r : Fin 2048) (k : Fin 8192) : EReal :=
  ∑ a : Fin 2048, x (ix2 r a) * Wfc (ix3 E k a)

theorem zero_eq : (zero : Elt Ideal .f32) = (0 : EReal) := Ideal.ofBits_zero_f32

theorem constant_zero {s : Shape} (j : s.Idx) : (constant s .f32 0x00000000#32 : FVec Ideal s .f32) j = (0 : EReal) := Ideal.ofBits_zero_f32

/-- The hidden numbers of a tile. -/
def hidT (x : Vec Ideal S256x2048 .f32) (wf : Vec Ideal S1x512x2048 .f32) : FVec Ideal S256x512 .f32 :=
  matmul (φ₁ := .f32) (φ₂ := .f32) dot_S256x2048_S512x2048_S256x512_1_1_0_0_n_n none (shapeCast S256x2048 x shapeCasts_S256x2048_S256x2048) (shapeCast S512x2048 wf shapeCasts_S1x512x2048_S512x2048)
      (constant S256x512 .f32 0x00000000#32)

/-- The product with the second weights, from the hidden numbers. -/
def outT (H : FVec Ideal S256x512 .f32) (w : Vec Ideal S1x256x1 .f32) (wp : Vec Ideal S1x2048x512 .f32) : FVec Ideal S256x2048 .f32 :=
  matmul (φ₁ := .f32) (φ₂ := .f32) dot_S256x512_S2048x512_S256x2048_1_1_0_0_n_n none
    (mulf (mulf
        (select (cmpf .ogt H (broadcast S256x512 (Scalar.ofBits .f32 0x00000000#32))) H (mulf (broadcast S256x512 (Scalar.ofBits .f32 0x3F000000#32)) H))
        (select (cmpf .ogt H (broadcast S256x512 (Scalar.ofBits .f32 0x00000000#32))) H (mulf (broadcast S256x512 (Scalar.ofBits .f32 0x3F000000#32)) H)))
      (broadcastTo S256x512 (shapeCast S256x1 w shapeCasts_S1x256x1_S256x1) broadcasts_S256x1_S256x512))
    (shapeCast S2048x512 wp shapeCasts_S1x2048x512_S2048x512) (constant S256x2048 .f32 0x00000000#32)

theorem tileAdd_out (x : Vec Ideal S256x2048 .f32) (wf : Vec Ideal S1x512x2048 .f32) (w : Vec Ideal S1x256x1 .f32) (wp : Vec Ideal S1x2048x512 .f32) :
    tileAdd x wf w wp = outT (hidT x wf) w wp := rfl

/-- A hidden number of a tile. -/
theorem tile_hid (x : Vec Ideal S256x2048 .f32) (wf : Vec Ideal S1x512x2048 .f32) (p : Fin 256) (k : Fin 512) :
    (hidT x wf (ix2 p k) : EReal) = ∑ a : Fin 2048, (x (ix2 p a) * wf (ix3 (0 : Fin 1) k a) : EReal) := by
  refine (Ideal.matmul_transposedRhs_apply (M := 256) (K := 2048) (N := 512) none (shapeCast S256x2048 x shapeCasts_S256x2048_S256x2048)
    (shapeCast S512x2048 wf shapeCasts_S1x512x2048_S512x2048) (constant S256x512 .f32 0x00000000#32) p k).trans ?_
  rw [constant_zero, zero_add]
  refine Finset.sum_congr rfl fun a _ => congrArg₂ (fun u v : EReal => u * v) (shapeCast_apply x _ _ _ rfl) (shapeCast_apply wf _ _ (ix3 (0 : Fin 1) k a) ?_)
  rw [Shape.rowMajor_val_two, Shape.rowMajor_val_three]
  show (0 * 512 + k.val) * 2048 + a.val = k.val * 2048 + a.val
  omega

/-- What a tile's product adds, at a place and a column. -/
theorem tileAdd_at (x : Vec Ideal S256x2048 .f32) (wf : Vec Ideal S1x512x2048 .f32) (w : Vec Ideal S1x256x1 .f32) (wp : Vec Ideal S1x2048x512 .f32) (p : Fin 256) (c : Fin 2048) :
    tileAdd x wf w wp (ix2 p c) = ∑ k : Fin 512, ((act (∑ a : Fin 2048, (x (ix2 p a) * wf (ix3 (0 : Fin 1) k a) : EReal)) * w (ix3 (0 : Fin 1) p (0 : Fin 1))) * wp (ix3 (0 : Fin 1) c k) : EReal) := by
  have hh := tile_hid x wf p
  rw [tileAdd_out]
  generalize hidT x wf = H at hh
  refine (Ideal.matmul_transposedRhs_apply (M := 256) (K := 512) (N := 2048) none _ (shapeCast S2048x512 wp shapeCasts_S1x2048x512_S2048x512) (constant S256x2048 .f32 0x00000000#32) p c).trans ?_
  rw [constant_zero, zero_add]
  refine Finset.sum_congr rfl fun k _ => congrArg₂ (fun u v : EReal => u * v) (congrArg₂ (fun u v : EReal => u * v) ?_ ?_) (shapeCast_apply wp _ _ (ix3 (0 : Fin 1) c k) ?_)
  · rw [← hh k]
    show (Scalar.select (Ideal.cmp .ogt (H (ix2 p k)) (Ideal.ofBits .f32 0x00000000#32)) (H (ix2 p k)) (Ideal.ofBits .f32 0x3F000000#32 * H (ix2 p k)) *
      Scalar.select (Ideal.cmp .ogt (H (ix2 p k)) (Ideal.ofBits .f32 0x00000000#32)) (H (ix2 p k)) (Ideal.ofBits .f32 0x3F000000#32 * H (ix2 p k)) : EReal) = _
    rw [Ideal.ofBits_zero_f32]
    rfl
  · refine (broadcastTo_apply _ broadcasts_S256x1_S256x512 _ (ix2 p (0 : Fin 1)) fun a => ?_).trans (shapeCast_apply w _ _ (ix3 (0 : Fin 1) p (0 : Fin 1)) ?_)
    · match a with
      | ⟨0, _⟩ => rfl
      | ⟨1, _⟩ => rfl
    · rw [Shape.rowMajor_val_two, Shape.rowMajor_val_three]
      show (0 * 256 + p.val) * 1 + 0 = p.val * 1 + 0
      omega
  · rw [Shape.rowMajor_val_two, Shape.rowMajor_val_three]
    show (0 * 2048 + c.val) * 512 + k.val = c.val * 512 + k.val
    omega

theorem bit_one : (FloatOps.uitofp (F := Ideal) .f32 (1#1 : BitVec 1) : EReal) = 1 := by
  show (((1#1 : BitVec 1).toNat : ℝ) : EReal) = 1
  simp
theorem bit_zero : (FloatOps.uitofp (F := Ideal) .f32 (0#1 : BitVec 1) : EReal) = 0 := by
  show (((0#1 : BitVec 1).toNat : ℝ) : EReal) = 0
  simp

/-- Hidden number `k` of block `h`. -/
def hblk (h : Fin 16) (k : Fin 512) : Fin 8192 := ⟨h.val * 512 + k.val, by have := h.isLt; have := k.isLt; omega⟩

/-- What block `h` of expert `E` adds at row `y 0` and column `y 1`, weighted. -/
def piece (X : S2048x2048.Idx → EReal) (Wfc : S2x8192x2048.Idx → EReal) (Wpr : S2x2048x8192.Idx → EReal) (ws : S2048.Idx → EReal) (y : S2048x2048.Idx)
    (E : Fin 2) (h : Fin 16) : EReal :=
  ∑ k : Fin 512, (act (hid X Wfc E (y 0) (hblk h k)) * ws (ix1 (y 0))) * Wpr (ix3 E (y 1) (hblk h k))

/-- What tile `j` of segment `s` adds at a row of its own rows. -/
theorem addAt_eq (n s : ℕ) (hn : n ≤ 2048) (X : S2048x2048.Idx → EReal) (Wfc : S2x8192x2048.Idx → EReal) (Wpr : S2x2048x8192.Idx → EReal) (ws : S2048.Idx → EReal)
    (y : S2048x2048.Idx) (j : ℕ) (hb : (rowT (segR n s) j).val = (y 0).val / 256)
    (hr : posn n (tilT (segT n s) j) ⟨(y 0).val % 256, Nat.mod_lt _ (by decide)⟩ = (y 0).val) :
    (addAt (F := Ideal) n s X Wfc Wpr (wtiles (F := Ideal) n ws) y j : EReal)
      = if owns n (tilT (segT n s) j) ⟨(y 0).val % 256, Nat.mod_lt _ (by decide)⟩ then piece X Wfc Wpr ws y ⟨s % 2, Nat.mod_lt _ (by decide)⟩ ⟨s / 2 % 16, Nat.mod_lt _ (by decide)⟩ else 0 := by
  have hy : (y 0).val < 2048 := (y 0).isLt
  unfold addAt
  refine (tileAdd_at _ _ _ _ ⟨(y 0).val % 256, Nat.mod_lt _ (by decide)⟩ (y 1)).trans ?_
  have hw : tileWts (tilT (segT n s) j) (wtiles (F := Ideal) n ws) (ix3 (0 : Fin 1) ⟨(y 0).val % 256, Nat.mod_lt _ (by decide)⟩ (0 : Fin 1))
      = (ws (ix1 (y 0)) * (if owns n (tilT (segT n s) j) ⟨(y 0).val % 256, Nat.mod_lt _ (by decide)⟩ then 1 else 0) : EReal) := by
    refine (wtiles_at (F := Ideal) n hn ws (tilT (segT n s) j) ⟨(y 0).val % 256, Nat.mod_lt _ (by decide)⟩).trans ?_
    refine congrArg₂ (fun u v : EReal => u * v) (congrArg (fun i => ws (ix1 i)) (Fin.ext hr)) ?_
    split
    · exact bit_one
    · exact bit_zero
  have hx : ∀ a : Fin 2048, (tileRows (F := Ideal) (rowT (segR n s) j) X (ix2 ⟨(y 0).val % 256, Nat.mod_lt _ (by decide)⟩ a) : EReal) = X (ix2 (y 0) a) := fun a =>
    congrArg X (congrArg (fun i : Fin 2048 => (ix2 i a : S2048x2048.Idx)) (Fin.ext (by show (rowT (segR n s) j).val * 256 + (y 0).val % 256 = (y 0).val; omega)))
  simp only [hw, hx]
  split
  · unfold piece
    refine Finset.sum_congr rfl fun k _ => ?_
    rw [mul_one]
    rfl
  · refine Finset.sum_eq_zero fun k _ => ?_
    rw [mul_zero, mul_zero, zero_mul]

end Cert.Proof.Setup

end
-- ==== Proof.AccSum.lean ====
/-
  The experts' rows, element by element: a sum over the blocks of the row's own expert.
-/
module

public import proofs.«01_k».proof.Proof.TileSum

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- An element through the tiles is what it was plus what its tiles add, if a tile that zeroes finds 0. -/
theorem acc_sum (b : ℕ) (bt : ℕ → ℕ) (z : ℕ → Bool) (D : ℕ → EReal) (a : EReal) (k : ℕ)
    (hz : ∀ j < k, bt j = b → z j = true → a = 0 ∧ ∀ i < j, bt i ≠ b) :
    (acc (F := Ideal) b bt z D a k : EReal) = a + ∑ j ∈ Finset.range k, if bt j = b then D j else 0 := by
  induction k with
  | zero => exact (add_zero a).symm
  | succ k ih =>
    have ih := ih fun j hj => hz j (Nat.lt_succ_of_lt hj)
    rw [Finset.sum_range_succ]
    unfold acc
    by_cases hb : bt k = b
    · rw [if_pos hb, if_pos hb]
      show ((if z k = true then (zero : Elt Ideal .f32) else acc (F := Ideal) b bt z D a k : EReal) + D k : EReal) = _
      by_cases hk : z k = true
      · obtain ⟨ha, hi⟩ := hz k (Nat.lt_succ_self k) hb hk
        rw [if_pos hk, zero_eq, ha, Finset.sum_eq_zero fun j hj => if_neg (hi j (Finset.mem_range.mp hj)), zero_add, zero_add]
      · rw [if_neg hk, ih, add_assoc]
    · rw [if_neg hb, if_neg hb, ih, add_zero]

theorem cond_late : ∀ u : Fin 16, u.val ≠ 0 → ¬ (k2_cond1 (BitVec.ofNat 32 u.val) 1#32 = 1#1) ∧ ¬ (k2_cond1 (BitVec.ofNat 32 u.val) 0#32 = 1#1) := by decide

theorem zeroes_late (n s j : ℕ) (h : 2 ≤ s) (hs : s < 32) : zeroes n s j = false := by
  have h' := cond_late ⟨s / 2, by omega⟩ (by show s / 2 ≠ 0; omega)
  refine decide_eq_false fun hc => ?_
  unfold segI at hc
  by_cases h : ((tilT (segT n s) j).val = tiles n ∧ n % 256 ≠ 0) ∨ 8 + (if n % 256 = 0 then 0 else 1) ≤ (tilT (segT n s) j).val
  · rw [if_pos h] at hc; exact h'.2 hc
  · rw [if_neg h] at hc; exact h'.1 hc

section Element

variable (n : ℕ) (hn : n ≤ 2048) (X : S2048x2048.Idx → EReal) (Wfc : S2x8192x2048.Idx → EReal) (Wpr : S2x2048x8192.Idx → EReal) (ws : S2048.Idx → EReal) (y : S2048x2048.Idx)

/-- What segment `s` adds at an element: its block's part if the row is the segment's expert's. -/
def adds (s : ℕ) : EReal :=
  if (if s % 2 = 0 then (y 0).val < n else n ≤ (y 0).val) then piece X Wfc Wpr ws y ⟨s % 2, Nat.mod_lt _ (by decide)⟩ ⟨s / 2 % 16, Nat.mod_lt _ (by decide)⟩ else 0

include hn

theorem row_of_tile (s j : ℕ) (hj : j < segN n s) : (tilT (segT n s) j).val = segT n s + j ∧ rowAt n (segT n s + j) = (rowT (segR n s) j).val := by
  have ht := tiles_le' n hn
  have h9 := seg_le n s hn
  refine ⟨Nat.min_eq_left (by omega), ?_⟩
  show _ = min (segR n s + j) 7
  unfold rowAt
  have hq : n / 256 ≤ 8 := by omega
  by_cases h : s % 2 = 0
  · have e1 : segT n s = 0 := if_pos h
    have e2 : segR n s = 0 := if_pos h
    have e3 : segN n s = tiles n := if_pos h
    rw [e1, e2, if_pos (by omega)]; omega
  · have e1 : segT n s = tiles n := if_neg h
    have e2 : segR n s = min (n / 256) 7 := if_neg h
    rw [e1, e2, if_neg (by omega)]; omega

/-- What a tile adds at an element of its rows. -/
theorem tile_adds (s j : ℕ) (hj : j < segN n s) (hb : (rowT (segR n s) j).val = (y 0).val / 256) :
    (addAt (F := Ideal) n s X Wfc Wpr (wtiles (F := Ideal) n ws) y j : EReal)
      = if (if s % 2 = 0 then (y 0).val < n else n ≤ (y 0).val) ∧ segT n s + j < 8 + spare n then
          piece X Wfc Wpr ws y ⟨s % 2, Nat.mod_lt _ (by decide)⟩ ⟨s / 2 % 16, Nat.mod_lt _ (by decide)⟩ else 0 := by
  obtain ⟨e1, e2⟩ := row_of_tile n hn s j hj
  have hp : posn n (tilT (segT n s) j) ⟨(y 0).val % 256, Nat.mod_lt _ (by decide)⟩ = (y 0).val := by
    unfold posn
    rw [e1, e2, hb]
    show (y 0).val / 256 * 256 + (y 0).val % 256 = (y 0).val
    omega
  rw [addAt_eq n s hn X Wfc Wpr ws y j hb hp]
  refine if_congr ?_ rfl rfl
  unfold owns
  rw [hp, e1]
  by_cases h : s % 2 = 0
  · have e1 : segT n s = 0 := if_pos h
    have e3 : segN n s = tiles n := if_pos h
    rw [if_pos h, if_pos (by omega)]
  · have e1 : segT n s = tiles n := if_neg h
    rw [if_neg h, if_neg (by omega)]

/-- What a segment's tiles add at an element. -/
theorem seg_adds (s : ℕ) : (∑ j ∈ Finset.range (segN n s), if (rowT (segR n s) j).val = (y 0).val / 256 then (addAt (F := Ideal) n s X Wfc Wpr (wtiles (F := Ideal) n ws) y j : EReal) else 0)
    = adds n X Wfc Wpr ws y s := by
  have hy : (y 0).val < 2048 := (y 0).isLt
  have ht := tiles_le' n hn
  have htd : tiles n = n / 256 + (if n % 256 = 0 then 0 else 1) := rfl
  have hsd : spare n = if n % 256 = 0 then 0 else 1 := rfl
  have hr : ∀ j, (rowT (segR n s) j).val = min (segR n s + j) 7 := fun _ => rfl
  have terms : ∀ j ∈ Finset.range (segN n s), (if (rowT (segR n s) j).val = (y 0).val / 256 then (addAt (F := Ideal) n s X Wfc Wpr (wtiles (F := Ideal) n ws) y j : EReal) else 0)
      = if ((rowT (segR n s) j).val = (y 0).val / 256 ∧ segT n s + j < 8 + spare n) then adds n X Wfc Wpr ws y s else 0 := fun j hj => by
    by_cases hb : (rowT (segR n s) j).val = (y 0).val / 256
    · rw [if_pos hb, tile_adds n hn X Wfc Wpr ws y s j (Finset.mem_range.mp hj) hb]
      unfold adds
      by_cases h1 : segT n s + j < 8 + spare n
      · rw [if_pos (show _ ∧ _ from ⟨hb, h1⟩)]
        exact if_congr (and_iff_left h1) rfl rfl
      · rw [if_neg (fun h => h1 h.2), if_neg (fun h => h1 h.2)]
    · rw [if_neg hb, if_neg fun h => hb h.1]
  rw [Finset.sum_congr rfl terms]
  by_cases ho : (if s % 2 = 0 then (y 0).val < n else n ≤ (y 0).val)
  · by_cases h : s % 2 = 0
    · have e1 : segT n s = 0 := if_pos h
      have e2 : segR n s = 0 := if_pos h
      have e3 : segN n s = tiles n := if_pos h
      rw [if_pos h] at ho
      rw [Finset.sum_eq_single ((y 0).val / 256)]
      · rw [if_pos]
        rw [hr, e2, e1]
        split at htd <;> omega
      · intro j hj hne
        have := Finset.mem_range.mp hj
        rw [if_neg]
        rw [hr, e2]
        omega
      · intro hj
        refine absurd (Finset.mem_range.mpr ?_) hj
        rw [e3]
        split at htd <;> omega
    · have e1 : segT n s = tiles n := if_neg h
      have e2 : segR n s = min (n / 256) 7 := if_neg h
      have e3 : segN n s = 9 - tiles n := if_neg h
      rw [if_neg h] at ho
      rw [Finset.sum_eq_single ((y 0).val / 256 - n / 256)]
      · rw [if_pos]
        rw [hr, e2, e1]
        split at htd <;> split at hsd <;> omega
      · intro j hj hne
        have := Finset.mem_range.mp hj
        rw [if_neg]
        rw [hr, e2, e1]
        split at htd <;> split at hsd <;> omega
      · intro hj
        refine absurd (Finset.mem_range.mpr ?_) hj
        rw [e3]
        split at htd <;> omega
  · have e : adds n X Wfc Wpr ws y s = 0 := if_neg ho
    rw [e]
    exact Finset.sum_eq_zero fun j _ => ite_self 0

/-- An element after the first `t` segments, from 0. -/
theorem segs_sum (t : ℕ) (ht : t ≤ 32) : (segs (F := Ideal) n X Wfc Wpr (wtiles (F := Ideal) n ws) (fun _ => (0 : EReal)) t y : EReal) = ∑ s ∈ Finset.range t, adds n X Wfc Wpr ws y s := by
  have hy : (y 0).val < 2048 := (y 0).isLt
  have h8 := tiles_le' n hn
  have htd : tiles n = n / 256 + (if n % 256 = 0 then 0 else 1) := rfl
  induction t with
  | zero => rfl
  | succ t ih =>
    have ih := ih (by omega)
    rw [Finset.sum_range_succ, ← ih, ← seg_adds n hn X Wfc Wpr ws y t]
    show (seg (F := Ideal) n t X Wfc Wpr _ _ y : EReal) = _
    rw [seg_at]
    refine acc_sum _ _ _ _ _ _ fun j hj hb hz => ?_
    by_cases h2 : 2 ≤ t
    · exact absurd ((zeroes_late n t j h2 (by omega)).symm.trans hz) Bool.false_ne_true
    · have h9 := seg_le n t hn
      have hz := (zeroes_iff n t j (by omega) (by omega)).mp hz
      have hr : ∀ j, (rowT (segR n t) j).val = min (segR n t + j) 7 := fun _ => rfl
      have hb : min (segR n t + j) 7 = (y 0).val / 256 := hb
      rcases (show t = 0 ∨ t = 1 by omega) with rfl | rfl
      · have e2 : segR n 0 = 0 := rfl
        have e3 : segN n 0 = tiles n := rfl
        refine ⟨ih, fun i hi => ?_⟩
        show min (segR n 0 + i) 7 ≠ _
        omega
      · have e1 : segT n 1 = tiles n := rfl
        have e2 : segR n 1 = min (n / 256) 7 := rfl
        have e3 : segN n 1 = 9 - tiles n := rfl
        rw [e1] at hz
        refine ⟨?_, fun i hi => ?_⟩
        · rw [ih, Finset.sum_range_one]
          refine if_neg ?_
          rw [if_pos rfl]
          split at htd <;> rename_i h <;> simp only [h, if_true, if_false] at hz <;> omega
        · show min (segR n 1 + i) 7 ≠ _
          split at htd <;> rename_i h <;> simp only [h, if_true, if_false] at hz <;> omega

/-- An element of the experts' rows: the sum over the blocks of its own expert's parts. -/
theorem rows_sum (O : S2048x2048.Idx → EReal) : (segs (F := Ideal) n X Wfc Wpr (wtiles (F := Ideal) n ws) O 32 y : EReal)
    = ∑ h : Fin 16, piece X Wfc Wpr ws y (if (y 0).val < n then 0 else 1) h := by
  refine (congrFun (segs_indep (F := Ideal) n hn X Wfc Wpr _ O (fun _ => (0 : EReal)) 30) y).trans ((segs_sum n hn X Wfc Wpr ws y 32 le_rfl).trans ?_)
  have pairs : ∀ k : ℕ, ∑ s ∈ Finset.range (2 * k), adds n X Wfc Wpr ws y s = ∑ h ∈ Finset.range k, (adds n X Wfc Wpr ws y (2 * h) + adds n X Wfc Wpr ws y (2 * h + 1)) := fun k => by
    induction k with
    | zero => rfl
    | succ k ih => rw [show 2 * (k + 1) = 2 * k + 1 + 1 by omega, Finset.sum_range_succ, Finset.sum_range_succ, ih, Finset.sum_range_succ, add_assoc]
  rw [pairs 16, Finset.sum_range]
  refine Finset.sum_congr rfl fun h _ => ?_
  have hh := h.isLt
  have a0 : (2 * h.val) % 2 = 0 := by omega
  have a1 : ¬ (2 * h.val + 1) % 2 = 0 := by omega
  have A0 : adds n X Wfc Wpr ws y (2 * h.val) = if (y 0).val < n then piece X Wfc Wpr ws y 0 h else 0 :=
    if_congr (by rw [if_pos a0]) (congrArg₂ (piece X Wfc Wpr ws y) (Fin.ext a0) (Fin.ext (by show 2 * h.val / 2 % 16 = h.val; omega))) rfl
  have A1 : adds n X Wfc Wpr ws y (2 * h.val + 1) = if n ≤ (y 0).val then piece X Wfc Wpr ws y 1 h else 0 :=
    if_congr (by rw [if_neg a1]) (congrArg₂ (piece X Wfc Wpr ws y) (Fin.ext (by show (2 * h.val + 1) % 2 = 1; omega)) (Fin.ext (by show (2 * h.val + 1) / 2 % 16 = h.val; omega))) rfl
  rw [A0, A1]
  by_cases hy : (y 0).val < n
  · rw [if_pos hy, if_neg (by omega), if_pos hy, add_zero]
  · rw [if_neg hy, if_pos (by omega), if_neg hy, zero_add]

end Element

end Cert.Proof.Setup

end
-- ==== Proof.Total.lean ====
/-
  Each row of the result: the row through its own expert, times its weight.
-/
module

public import proofs.«01_k».proof.Proof.AccSum
public import proofs.«01_k».proof.Proof.Panels

@[expose] public section

noncomputable section

namespace Cert.Proof.Setup

open Cert.KernelIdeal hiding ix2
open Cert.KernelIdeal.Gen Cert.Proof.Values Cert.Proof.Lanes Cert.Proof.Pays

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

theorem sum_mul_weight {ι : Type} (s : Finset ι) (f : ι → EReal) (w : EReal) (h : 0 ≤ w) (ht : w ≠ ⊤) : ∑ i ∈ s, f i * w = (∑ i ∈ s, f i) * w := by
  classical
  induction s using Finset.induction_on with
  | empty => exact (zero_mul w).symm
  | insert a s ha ih => rw [Finset.sum_insert ha, Finset.sum_insert ha, ih, EReal.right_distrib_of_nonneg_of_ne_top h ht]

/-- Sixteen blocks of 512 are the 8192. -/
theorem sum_blocks (f : Fin 8192 → EReal) : ∑ h : Fin 16, ∑ k : Fin 512, f (hblk h k) = ∑ κ : Fin 8192, f κ := by
  rw [← Fintype.sum_prod_type' (fun h k => f (hblk h k)), ← Equiv.sum_comp (finProdFinEquiv (m := 16) (n := 512)) f]
  refine Finset.sum_congr rfl fun p _ => congrArg f (Fin.ext ?_)
  show p.1.val * 512 + p.2.val = p.2.val + 512 * p.1.val
  omega

/-- A row through its expert, times its weight. -/
def moe (e : Words) (w : S2048.Idx → EReal) (x : S2048x2048.Idx → EReal) (Wfc : S2x8192x2048.Idx → EReal) (Wpr : S2x2048x8192.Idx → EReal) (r c : Fin 2048) : EReal :=
  (∑ κ : Fin 8192, act (hid x Wfc (if isZero e r.val then 0 else 1) r κ) * Wpr (ix3 (if isZero e r.val then 0 else 1) c κ)) * w (ix1 r)

theorem place_zero (e : Words) (r : Fin 2048) : place e r.val < zeros e 2048 ↔ isZero e r.val := by
  have h := Cert.Proof.Partition.src_first (z := isZero e) (n := 2048) ⟨place e r.val, place_lt e _ r.isLt⟩
  have ht : Cert.Proof.Partition.src (isZero e) 2048 ⟨place e r.val, place_lt e _ r.isLt⟩ = r := tok_place e r
  rw [ht] at h
  exact h.symm

/-- The rows gathered in order of expert, through the experts, and put back: each through its own, times its weight. -/
theorem total (e : Words) (w : S2048.Idx → EReal) (x : S2048x2048.Idx → EReal) (Wfc : S2x8192x2048.Idx → EReal) (Wpr : S2x2048x8192.Idx → EReal) (O : S2048x2048.Idx → EReal)
    (h0 : ∀ t, 0 ≤ w t) (h1 : ∀ t, w t ≠ ⊤) (r c : Fin 2048) :
    (val_v81 (F := Ideal) (backA e (val_v77 (F := Ideal) (segs (F := Ideal) (zeros e 2048) (val_v4 (F := Ideal) (rowsA e (val_v1 (F := Ideal) x : Table Ideal) : Table Ideal)) Wfc Wpr
      (wtiles (F := Ideal) (zeros e 2048) (pickA e w)) O 32) : Table Ideal) : Table Ideal) (ix2 r c) : EReal) = moe e w x Wfc Wpr r c := by
  refine (back_at (F := Ideal) e _ r c).trans ((rows_sum (zeros e 2048) (zeros_le e 2048) _ Wfc Wpr (pickA e w) _ O).trans ?_)
  have hE : (if ((ix2 (⟨place e r.val, place_lt e _ r.isLt⟩ : Fin 2048) c : S2048x2048.Idx) 0).val < zeros e 2048 then (0 : Fin 2) else 1) = if isZero e r.val then 0 else 1 :=
    if_congr (place_zero e r) rfl rfl
  rw [hE]
  unfold moe
  generalize (if isZero e r.val then (0 : Fin 2) else 1) = E
  rw [← sum_mul_weight _ _ _ (h0 _) (h1 _), ← sum_blocks fun κ => act (hid x Wfc E r κ) * Wpr (ix3 E c κ) * w (ix1 r)]
  refine Finset.sum_congr rfl fun h _ => ?_
  unfold piece
  refine Finset.sum_congr rfl fun k _ => ?_
  have hh : hid (val_v4 (F := Ideal) (rowsA e (val_v1 (F := Ideal) x : Table Ideal) : Table Ideal)) Wfc E (⟨place e r.val, place_lt e _ r.isLt⟩ : Fin 2048) (hblk h k) = hid x Wfc E r (hblk h k) := by
    unfold hid
    refine Finset.sum_congr rfl fun a _ => congrArg (· * _) ((sorted_at (F := Ideal) e x _ a).trans ?_)
    rw [tok_place]
  have hw : pickA e w (ix1 (⟨place e r.val, place_lt e _ r.isLt⟩ : Fin 2048)) = w (ix1 r) := congrArg (fun t => w (ix1 t)) (tok_place e r)
  refine Eq.trans (congrArg₂ (fun a b => act a * b * Wpr (ix3 E c (hblk h k))) hh hw) ?_
  exact mul_right_comm _ _ _

end Cert.Proof.Setup

end
-- ==== Proof.RouteReal.lean ====
/-
  The choice between two finite logits: the softmax's likelier entry and its probability are the sign of the
  difference and the logistic function of its absolute value.
-/
module

public import Idealize.ShloMosaic.PureOps
public import Idealize.ShloMosaic.PureOps.Ideal
public import Idealize.ShloMosaic.PureOps.Ideal.Laws

@[expose] public section

noncomputable section

namespace Cert.Proof.Route

open Idealize.ShloMosaic

/-- The expert the kernel chooses: 1 where the second logit is above the first. -/
def pick (l0 l1 : EReal) : BitVec 32 := (Ideal.cmp .ogt (l1 - l0) 0).setWidth 32

/-- The weight the kernel gives it. -/
def conf (l0 l1 : EReal) : EReal := Ideal.logistic (max (l1 - l0) (-(l1 - l0)))

/-- An entry of the softmax of two logits, `l` being one of them. -/
def soft (l0 l1 l : EReal) : EReal :=
  Ideal.div (Ideal.exp (l - max l0 l1)) (Ideal.exp (l0 - max l0 l1) + Ideal.exp (l1 - max l0 l1))

/-- The logistic function on the reals. -/
def sgm (t : ℝ) : ℝ := (1 + Real.exp (-t))⁻¹

theorem sgm_lt {s t : ℝ} (h : s < t) : sgm s < sgm t := by
  unfold sgm
  have hs := Real.exp_pos (-t)
  have hlt : Real.exp (-t) < Real.exp (-s) := Real.exp_lt_exp.2 (by linarith)
  exact inv_strictAnti₀ (by linarith) (by linarith)

theorem sgm_le {s t : ℝ} (h : s ≤ t) : sgm s ≤ sgm t := by
  rcases h.lt_or_eq with h | h
  · exact (sgm_lt h).le
  · rw [h]

theorem quot (a b M : ℝ) : Real.exp (a - M) * (1 / (Real.exp (a - M) + Real.exp (b - M))) = sgm (a - b) := by
  unfold sgm
  have ha := Real.exp_pos (a - M)
  have hb : Real.exp (b - M) = Real.exp (a - M) * Real.exp (-(a - b)) := by
    rw [← Real.exp_add]; congr 1; ring
  have hc := Real.exp_pos (-(a - b))
  rw [hb]
  field_simp

theorem max_coe (a b : ℝ) : max (a : EReal) (b : EReal) = ((max a b : ℝ) : EReal) :=
  ((EReal.coe_strictMono.monotone).map_max (a := a) (b := b)).symm

theorem soft_coe (a b l : ℝ) : soft a b l = ((Real.exp (l - max a b) * (1 / (Real.exp (a - max a b) + Real.exp (b - max a b))) : ℝ) : EReal) := by
  unfold soft
  have ha := Real.exp_pos (a - max a b)
  have hb := Real.exp_pos (b - max a b)
  rw [max_coe, ← EReal.coe_sub, ← EReal.coe_sub, ← EReal.coe_sub, Ideal.exp_coe, Ideal.exp_coe, Ideal.exp_coe, ← EReal.coe_add,
    Ideal.div_coe (add_pos ha hb).ne', ← EReal.coe_mul]

theorem soft_left (a b : ℝ) : soft a b a = ((sgm (a - b) : ℝ) : EReal) := by rw [soft_coe, quot]

theorem soft_right (a b : ℝ) : soft a b b = ((sgm (b - a) : ℝ) : EReal) := by
  rw [soft_coe, add_comm (Real.exp (a - max a b)), quot]

/-- The likelier entry, the first of equals. -/
theorem pick_soft (a b : ℝ) : Scalar.select (Ideal.cmp .ogt (soft a b b) (soft a b a)) (1#32) (0#32) = pick a b := by
  have one : ∀ p : Bool, Scalar.select (BitVec.ofBool p) (1#32) (0#32) = (BitVec.ofBool p).setWidth 32 := by decide
  have key : Ideal.cmp .ogt (soft a b b) (soft a b a) = Ideal.cmp .ogt ((b : EReal) - a) 0 := by
    rw [soft_left, soft_right]
    show BitVec.ofBool (decide (((sgm (a - b) : ℝ) : EReal) < ((sgm (b - a) : ℝ) : EReal))) = BitVec.ofBool (decide ((0 : EReal) < (b : EReal) - a))
    refine congrArg BitVec.ofBool (decide_eq_decide.2 ?_)
    rw [← EReal.coe_sub, ← EReal.coe_zero, EReal.coe_lt_coe_iff, EReal.coe_lt_coe_iff]
    constructor
    · intro h
      by_contra hn
      exact absurd h (not_lt.2 (sgm_le (by linarith)))
    · exact fun h => sgm_lt (by linarith)
  rw [key]
  exact one _

/-- Its probability. -/
theorem conf_soft (a b : ℝ) : max (soft a b a) (soft a b b) = conf a b := by
  unfold conf
  rw [soft_left, soft_right, ← EReal.coe_sub, ← EReal.coe_neg, max_coe, max_coe, Ideal.logistic_coe]
  show ((max (sgm (a - b)) (sgm (b - a)) : ℝ) : EReal) = ((sgm (max (b - a) (-(b - a))) : ℝ) : EReal)
  have e : -(b - a) = a - b := by ring
  rw [e]
  rcases le_total (a - b) (b - a) with h | h
  · rw [max_eq_right (sgm_le h), max_eq_left h]
  · rw [max_eq_left (sgm_le h), max_eq_right h]

/-- The weight is no less than 0, and not infinite. -/
theorem conf_range (a b : ℝ) : (0 : EReal) ≤ conf a b ∧ conf a b ≠ ⊤ := by
  have h : conf a b = ((sgm (max (b - a) (-(b - a))) : ℝ) : EReal) := by
    unfold conf
    rw [← EReal.coe_sub, ← EReal.coe_neg, max_coe, Ideal.logistic_coe]
    rfl
  rw [h]
  refine ⟨EReal.coe_nonneg.2 ?_, EReal.coe_ne_top _⟩
  unfold sgm
  have := Real.exp_pos (-(max (b - a) (-(b - a))))
  positivity

end Cert.Proof.Route

end
-- ==== Proof.RtSum.lean ====
/-
  What the router leaves: each token's two logits, the expert chosen from them and its weight.
-/
module

public import proofs.«01_k».proof.Proof.RouteReal
public import proofs.«01_k».proof.Proof.RtData
public import Idealize.ShloMosaic.Lib.Pipeline.Value
public import Idealize.ShloMosaic.Lib.MatmulPlain
public import Idealize.ShloMosaic.Lib.Pointwise.Index

@[expose] public section

noncomputable section

namespace Cert.Proof.Route

open Idealize.ShloMosaic Idealize.ShloMosaic.TcCoe Idealize.SL.Sem

/-- Token `r`'s logit of expert `k`. -/
def logit (x : (⟨2, ![2048, 2048]⟩ : Shape).Idx → EReal) (w : (⟨2, ![2, 2048]⟩ : Shape).Idx → EReal) (r : Fin 2048) (k : Fin 2) : EReal :=
  ∑ a : Fin 2048, x (ix2 r a) * w (ix2 k a)

section Kernel
open Cert.KernelIdeal hiding ix2
open Cert.KernelIdeal.Gen Cert.Proof.Setup.Rt
open Idealize.ShloMosaic.Pipeline (Dat)
open Idealize.ShloMosaic.SparseCore.Cfg (HIx)

/-- A block's logits. -/
def prod (v0 : Vec Ideal S256x2048 .f32) (v1 : Vec Ideal S2x2048 .f32) : FVec Ideal S256x2 .f32 :=
  matmul (φ₁ := .f32) (φ₂ := .f32) dot_S256x2048_S2x2048_S256x2_1_1_0_0_n_n none v0 v1 (constant S256x2 .f32 0x00000000#32)

theorem prod_at (v0 : Vec Ideal S256x2048 .f32) (v1 : Vec Ideal S2x2048 .f32) (p : Fin 256) (k : Fin 2) :
    (prod v0 v1 (ix2 p k) : EReal) = ∑ a : Fin 2048, (v0 (ix2 p a) * v1 (ix2 k a) : EReal) := by
  refine (Ideal.matmul_transposedRhs_apply (M := 256) (K := 2048) (N := 2) none v0 v1 (constant S256x2 .f32 0x00000000#32) p k).trans ?_
  have h : ∀ j, (constant S256x2 .f32 0x00000000#32 : FVec Ideal S256x2 .f32) j = (0 : EReal) := fun _ => Ideal.ofBits_zero_f32
  rw [h, zero_add]
  rfl

theorem pay1_at (v0 : Vec Ideal S256x2048 .f32) (v1 : Vec Ideal S2x2048 .f32) (p : Fin 256) :
    (k0_pay1 v0 v1 (ix2 p (0 : Fin 1)) : EReal)
      = (∑ a : Fin 2048, (v0 (ix2 p a) * v1 (ix2 (1 : Fin 2) a) : EReal)) - ∑ a : Fin 2048, (v0 (ix2 p a) * v1 (ix2 (0 : Fin 2) a) : EReal) := by
  rw [← prod_at, ← prod_at]
  show (extractStridedSlice S256x1 ![0, 1] (prod v0 v1) slices_S256x2_o0_1_S256x1 (ix2 p (0 : Fin 1)) : EReal)
      - extractStridedSlice S256x1 ![0, 0] (prod v0 v1) slices_S256x2_o0_0_S256x1 (ix2 p (0 : Fin 1)) = _
  refine congrArg₂ (fun a b : EReal => a - b) (extractStridedSlice_apply _ _ _ _ (ix2 p (1 : Fin 2)) fun b => ?_)
    (extractStridedSlice_apply _ _ _ _ (ix2 p (0 : Fin 2)) fun b => ?_)
  · match b with
    | ⟨0, _⟩ => exact (Nat.zero_add _).symm
    | ⟨1, _⟩ => rfl
  · match b with
    | ⟨0, _⟩ => exact (Nat.zero_add _).symm
    | ⟨1, _⟩ => rfl

theorem pay2_at (v0 : Vec Ideal S256x2048 .f32) (v1 : Vec Ideal S2x2048 .f32) (p : Fin 256) :
    k0_pay2 v0 v1 (ix2 p (0 : Fin 1)) = pick (∑ a : Fin 2048, (v0 (ix2 p a) * v1 (ix2 (0 : Fin 2) a) : EReal)) (∑ a : Fin 2048, (v0 (ix2 p a) * v1 (ix2 (1 : Fin 2) a) : EReal)) := by
  show (Ideal.cmp .ogt (k0_pay1 v0 v1 (ix2 p (0 : Fin 1)) : EReal) (Ideal.ofBits .f32 0x00000000#32)).setWidth 32 = _
  rw [pay1_at, Ideal.ofBits_zero_f32]
  rfl

theorem pay3_at (v0 : Vec Ideal S256x2048 .f32) (v1 : Vec Ideal S2x2048 .f32) (p : Fin 256) :
    (k0_pay3 v0 v1 (ix2 p (0 : Fin 1)) : EReal) = conf (∑ a : Fin 2048, (v0 (ix2 p a) * v1 (ix2 (0 : Fin 2) a) : EReal)) (∑ a : Fin 2048, (v0 (ix2 p a) * v1 (ix2 (1 : Fin 2) a) : EReal)) := by
  show Ideal.logistic (max (k0_pay1 v0 v1 (ix2 p (0 : Fin 1)) : EReal) (-(k0_pay1 v0 v1 (ix2 p (0 : Fin 1)) : EReal))) = _
  rw [pay1_at]
  rfl

variable (m : (ℓ : Loc nD τ sig) → Buf (Elt Ideal) ℓ)

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem lt8 (t : Fin cfg0.N) : t.val < 8 := t.isLt

/-- The row of the array that place `p` of block `t` is. -/
def row (t : Fin cfg0.N) (p : Fin 256) : Fin 2048 := ⟨t.val * 256 + p.val, by have := lt8 t; have := p.isLt; omega⟩

theorem block0 (c : Dev nD) (t : Fin cfg0.N) (p : Fin 256) (a : Fin 2048) :
    (iblk m c 0 t (ix2 p a) : EReal) = m ((c.tc : Thread nD τ).loc main_arg0) (ix2 (row t p) a) := by
  show at0 m c main_arg0 ((win0_0.rect t).emb (ix2 p a)) = at0 m c main_arg0 (ix2 (row t p) a)
  refine congrArg (at0 m c main_arg0) (funext fun b => Fin.ext ?_)
  refine (win0_0.rect_emb_val t (ix2 p a) b).trans ?_
  match b with
  | ⟨0, _⟩ => exact congrArg (fun n => n * 256 + p.val) (idx0 t).1
  | ⟨1, _⟩ => exact (congrArg (fun n => n * 2048 + a.val) (idx0 t).2).trans (by show 0 * 2048 + a.val = a.val; omega)

theorem block1 (c : Dev nD) (t : Fin cfg0.N) (k : Fin 2) (a : Fin 2048) :
    (iblk m c 1 t (ix2 k a) : EReal) = m ((c.tc : Thread nD τ).loc main_arg1) (ix2 k a) := by
  show at0 m c main_arg1 ((win0_1.rect t).emb (ix2 k a)) = at0 m c main_arg1 (ix2 k a)
  refine congrArg (at0 m c main_arg1) (funext fun b => Fin.ext ?_)
  refine (win0_1.rect_emb_val t (ix2 k a) b).trans ?_
  match b with
  | ⟨0, _⟩ => exact (congrArg (fun n => n * 2 + k.val) (idx1 t).1).trans (by show 0 * 2 + k.val = k.val; omega)
  | ⟨1, _⟩ => exact (congrArg (fun n => n * 2048 + a.val) (idx1 t).2).trans (by show 0 * 2048 + a.val = a.val; omega)

/-- The logits of a block are the logits of its rows. -/
theorem block_logit (c : Dev nD) (t : Fin cfg0.N) (p : Fin 256) (k : Fin 2) :
    (∑ a : Fin 2048, ((show EReal from iblk m c 0 t (ix2 p a)) * (show EReal from iblk m c 1 t (ix2 k a)) : EReal))
      = logit (m ((c.tc : Thread nD τ).loc main_arg0)) (m ((c.tc : Thread nD τ).loc main_arg1)) (row t p) k :=
  Finset.sum_congr rfl fun a _ => congrArg₂ (fun u v : EReal => u * v) (block0 m c t p a) (block1 m c t k a)

theorem zeros2 : (![0, 0] : Fin 2 → ℕ) = fun _ => 0 := by
  funext a
  match a with
  | ⟨0, _⟩ => rfl
  | ⟨1, _⟩ => rfl

theorem ld0 (X : Vec Ideal S256x2048 .f32) : View.ld X r0_0 = X := View.ld_unit_zero zeros2 _ X
theorem ld1 (X : Vec Ideal S2x2048 .f32) : View.ld X r0_1 = X := View.ld_unit_zero zeros2 _ X

theorem r2_emb (p : Fin 256) : r0_2.emb (ix2 p (0 : Fin 1)) = ix2 p (0 : Fin 1) :=
  funext fun b => Fin.ext (by
    rw [Rect.emb_apply]
    match b with
    | ⟨0, _⟩ => show 0 + 1 * p.val = p.val; omega
    | ⟨1, _⟩ => rfl)

theorem one_piece {e : EltTy} (w : r0_2.shape.Idx → Elt Ideal e) (p : Fin 256) :
    View.canon (Val := Elt Ideal) [⟨r0_2, w⟩] (ix2 p (0 : Fin 1)) = w (ix2 p (0 : Fin 1)) := by
  have h := View.canon_cons_emb (Val := Elt Ideal) r0_2 w [] (ix2 p (0 : Fin 1))
  rw [r2_emb p] at h
  exact h

theorem out2_at (x0 : Vec Ideal S256x2048 .f32) (x1 : Vec Ideal S2x2048 .f32) (p : Fin 256) :
    out0_2 x0 x1 (ix2 p (0 : Fin 1)) = k0_pay2 x0 x1 (ix2 p (0 : Fin 1)) := by
  unfold out0_2
  rw [ld0, ld1]
  exact one_piece _ p

theorem out3_at (x0 : Vec Ideal S256x2048 .f32) (x1 : Vec Ideal S2x2048 .f32) (p : Fin 256) :
    out0_3 x0 x1 (ix2 p (0 : Fin 1)) = k0_pay3 x0 x1 (ix2 p (0 : Fin 1)) := by
  unfold out0_3
  rw [ld0, ld1]
  exact one_piece _ p

theorem emb2 (t : Fin cfg0.N) (p : Fin 256) : ((win0_2.rect t).emb (ix2 p (0 : Fin 1)) : S2048x1.Idx) = ix2 (row t p) (0 : Fin 1) :=
  funext fun b => Fin.ext (by
    refine (win0_2.rect_emb_val t (ix2 p (0 : Fin 1)) b).trans ?_
    match b with
    | ⟨0, _⟩ => exact congrArg (fun n => n * 256 + p.val) (idx2 t).1
    | ⟨1, _⟩ => exact (congrArg (fun n => n * 1 + 0) (idx2 t).2).trans rfl)

theorem emb3 (t : Fin cfg0.N) (p : Fin 256) : ((win0_3.rect t).emb (ix2 p (0 : Fin 1)) : S2048x1.Idx) = ix2 (row t p) (0 : Fin 1) :=
  funext fun b => Fin.ext (by
    refine (win0_3.rect_emb_val t (ix2 p (0 : Fin 1)) b).trans ?_
    match b with
    | ⟨0, _⟩ => exact congrArg (fun n => n * 256 + p.val) (idx3 t).1
    | ⟨1, _⟩ => exact (congrArg (fun n => n * 1 + 0) (idx3 t).2).trans rfl)

/-- Every row is a place of a block. -/
theorem row_of (r : Fin 2048) : ∃ (t : Fin cfg0.N) (p : Fin 256), row t p = r :=
  ⟨(⟨r.val / 256, by have := r.isLt; omega⟩ : Fin 8), ⟨r.val % 256, Nat.mod_lt _ (by decide)⟩, Fin.ext (by
    show r.val / 256 * 256 + r.val % 256 = r.val
    omega)⟩

theorem inj2 : ∀ t t' : Fin cfg0.N, win0_2.index t = win0_2.index t' → t = t' :=
  (by decide +kernel : ∀ t t' : Fin grid0.N, win0_2.index t = win0_2.index t' → t = t')
theorem flush2 : ∀ t : Fin cfg0.N, (cfg0.win 2).flush t = true :=
  (by decide +kernel : ∀ t : Fin grid0.N, win0_2.flush t = true)

theorem inj3 : ∀ t t' : Fin cfg0.N, win0_3.index t = win0_3.index t' → t = t' :=
  (by decide +kernel : ∀ t t' : Fin grid0.N, win0_3.index t = win0_3.index t' → t = t')
theorem flush3 : ∀ t : Fin cfg0.N, (cfg0.win 3).flush t = true :=
  (by decide +kernel : ∀ t : Fin grid0.N, win0_3.flush t = true)

/-! Each block of an output is written once. -/

theorem blocks2 (c : Dev nD) (t : Fin cfg0.N) (hf : (cfg0.win 2).flush t = true) :
    ((cfg0.win 2).blk t).view.read (Elt Ideal) ((dat0 m c).arrAt 2 cfg0.N) = (dat0 m c).flushed 2 t :=
  (dat0 m c).read_blk_arrAt_eq_flushed 2 (fun t t' _ _ hne => (cfg0.win 2).disjoint_blk fun h => hne (inj2 t t' h)) cfg0.N t t.isLt hf

theorem flushed2 (c : Dev nD) (t : Fin cfg0.N) :
    (dat0 m c).flushed 2 t = (cfg0.win 2).cut (grid0.coords t) (out0_2 (iblk m c 0 t) (iblk m c 1 t)) := by
  show (cfg0.win 2).cut (grid0.coords t) ((dat0 m c).after 2 t) = _
  rw [after0_2]

theorem blocks3 (c : Dev nD) (t : Fin cfg0.N) (hf : (cfg0.win 3).flush t = true) :
    ((cfg0.win 3).blk t).view.read (Elt Ideal) ((dat0 m c).arrAt 3 cfg0.N) = (dat0 m c).flushed 3 t :=
  (dat0 m c).read_blk_arrAt_eq_flushed 3 (fun t t' _ _ hne => (cfg0.win 3).disjoint_blk fun h => hne (inj3 t t' h)) cfg0.N t t.isLt hf

theorem flushed3 (c : Dev nD) (t : Fin cfg0.N) :
    (dat0 m c).flushed 3 t = (cfg0.win 3).cut (grid0.coords t) (out0_3 (iblk m c 0 t) (iblk m c 1 t)) := by
  show (cfg0.win 3).cut (grid0.coords t) ((dat0 m c).after 3 t) = _
  rw [after0_3]

/-- The expert chosen for each token. -/
theorem choice_at (c : Dev nD) (r : Fin 2048) :
    ((dat0 m c).arrAt 2 cfg0.N : S2048x1.Idx → BitVec 32) (ix2 r (0 : Fin 1))
      = pick (logit (m ((c.tc : Thread nD τ).loc main_arg0)) (m ((c.tc : Thread nD τ).loc main_arg1)) r 0) (logit (m ((c.tc : Thread nD τ).loc main_arg0)) (m ((c.tc : Thread nD τ).loc main_arg1)) r 1) := by
  obtain ⟨t, p, rfl⟩ := row_of r
  have h := congrFun ((blocks2 m c t (flush2 t)).trans (flushed2 m c t)) (ix2 p (0 : Fin 1))
  rw [← emb2 t p, ← block_logit m c, ← block_logit m c, ← pay2_at, ← out2_at]
  exact h

/-- The weight given to it. -/
theorem weight_at (c : Dev nD) (r : Fin 2048) :
    ((dat0 m c).arrAt 3 cfg0.N : S2048x1.Idx → EReal) (ix2 r (0 : Fin 1))
      = conf (logit (m ((c.tc : Thread nD τ).loc main_arg0)) (m ((c.tc : Thread nD τ).loc main_arg1)) r 0) (logit (m ((c.tc : Thread nD τ).loc main_arg0)) (m ((c.tc : Thread nD τ).loc main_arg1)) r 1) := by
  obtain ⟨t, p, rfl⟩ := row_of r
  have h := congrFun ((blocks3 m c t (flush3 t)).trans (flushed3 m c t)) (ix2 p (0 : Fin 1))
  rw [← emb3 t p, ← block_logit, ← block_logit, ← pay3_at, ← out3_at]
  exact h

end Kernel

end Cert.Proof.Route

end
-- ==== Proof.RtRef.lean ====
/-
  What the reference's softmax gives: the likelier of each token's two softmax entries and its probability.
-/
module

public import proofs.«01_k».proof.Proof.RtSum
public import proofs.«01_k».proof.Proof.Gen.ReferenceIdeal
public import proofs.«01_k».proof.Proof.Gen.ReferenceIdeal.Run
public import Idealize.ShloMosaic.Lib.StackMember
public import Idealize.ShloMosaic.Lib.IdealHost
public import Idealize.ShloMosaic.Lib.Pointwise.Reduce
public import Idealize.ShloMosaic.Lib.Routing.Ops

@[expose] public section

noncomputable section

namespace Cert.Proof.Route

open Cert.ReferenceIdeal Cert.ReferenceIdeal.Gen
open Idealize.ShloMosaic Idealize.ShloMosaic.TcCoe Idealize.SL.Sem Idealize.ShloMosaic.Routing

/-- The logits. -/
def logits (x : FVec Ideal S2048x2048 .f32) (w : FVec Ideal S2x2048 .f32) : FVec Ideal S2048x2 .f32 :=
  Host.dotGeneral dot_S2048x2048_S2048x2_S2048x2_1_0_0_1_n_n none x (transpose S2048x2 [1, 0] w transposes_S2x2048_S2048x2_1_0)

theorem logits_at (x : FVec Ideal S2048x2048 .f32) (w : FVec Ideal S2x2048 .f32) (r : Fin 2048) (k : Fin 2) :
    (logits x w (ix2 r k) : EReal) = logit x w r k := by
  refine (StackMember.dotGeneral_plain_apply (m := 2048) (k := 2048) (n := 2) none x (transpose S2048x2 [1, 0] w transposes_S2x2048_S2048x2_1_0) r k).trans ?_
  refine Finset.sum_congr rfl fun a _ => congrArg (fun b : EReal => x (ix2 r a) * b) ?_
  exact transpose_apply _ _ _ (ix2 a k) (ix2 k a) (fun b => by
    match b with
    | ⟨0, _⟩ => rfl
    | ⟨1, _⟩ => rfl)

/-- The rows' greatest entries. -/
def top (L : FVec Ideal S2048x2 .f32) : FVec Ideal S2048 .f32 :=
  Host.reduce FloatOps.maximumf L (constant S_ .f32 0xFF800000#32) reducesTo_S2048x2_S2048_d1 h_S_

theorem neg_inf : Ideal.ofBits .f32 0xFF800000#32 = (⊥ : EReal) := by simp [Ideal.ofBits, Ideal.ieee]

theorem top_at (L : FVec Ideal S2048x2 .f32) (r : Fin 2048) :
    (top L (ix1 r) : EReal) = max (L (ix2 r (0 : Fin 2))) (L (ix2 r (1 : Fin 2)) : EReal) := by
  have h1 : (top L (ix1 r) : EReal) = (Finset.univ : Finset (Fin 2)).fold max (Ideal.ofBits .f32 0xFF800000#32 : EReal) (fun k => (L (ix2 r k) : EReal)) :=
    (Host.reduce_eq_fold (max : EReal → EReal → EReal) L (constant S_ .f32 0xFF800000#32 : FVec Ideal S_ .f32) reducesTo_S2048x2_S2048_d1 h_S_ (ix1 r)).trans
      (Shape.ReducesTo.fold_fiber_r2_a1 (n0 := 2048) (n1 := 2) reducesTo_S2048x2_S2048_d1 (ix1 r) (max : EReal → EReal → EReal) _ L)
  rw [h1, neg_inf, show (Finset.univ : Finset (Fin 2)) = {0, 1} from rfl, Finset.fold_insert (by decide), Finset.fold_singleton, max_bot_right]

/-- The exponentials of the differences to the greatest entry. -/
def exps (L : FVec Ideal S2048x2 .f32) : FVec Ideal S2048x2 .f32 :=
  Host.exp (subf L (broadcastInDim S2048x2 ![0, 1] bcast_S2048x1_S2048x2_0_1 (broadcastInDim S2048x1 ![0] bcast_S2048_S2048x1_0
    (maximumf (broadcastInDim S2048 ![] bcast_S_S2048 (constant S_ .f32 0xFF800000#32)) (top L)))))

theorem exps_at (L : FVec Ideal S2048x2 .f32) (r : Fin 2048) (k : Fin 2) :
    (exps L (ix2 r k) : EReal) = Ideal.exp (L (ix2 r k) - max (L (ix2 r (0 : Fin 2))) (L (ix2 r (1 : Fin 2)) : EReal)) := by
  refine congrArg (fun b : EReal => Ideal.exp (L (ix2 r k) - b)) ?_
  refine (bcRows bcast_S2048_S2048x1_0 bcast_S2048x1_S2048x2_0_1 _ r k).trans ?_
  show max (Ideal.ofBits .f32 0xFF800000#32 : EReal) (top L (ix1 r)) = _
  rw [neg_inf, max_bot_left, top_at]

/-- The softmax. -/
def probs (L : FVec Ideal S2048x2 .f32) : FVec Ideal S2048x2 .f32 :=
  Host.divf (exps L) (broadcastInDim S2048x2 ![0, 1] bcast_S2048x1_S2048x2_0_1 (broadcastInDim S2048x1 ![0] bcast_S2048_S2048x1_0
    (Host.reduceAdd (exps L) (constant S_ .f32 0x00000000#32) reducesTo_S2048x2_S2048_d1 h_S_)))

theorem total_at (E : FVec Ideal S2048x2 .f32) (r : Fin 2048) :
    (Host.reduceAdd E (constant S_ .f32 0x00000000#32) reducesTo_S2048x2_S2048_d1 h_S_ (ix1 r) : EReal) = E (ix2 r (0 : Fin 2)) + (E (ix2 r (1 : Fin 2)) : EReal) := by
  refine (Ideal.hostReduceAdd_r2_a1 (n0 := 2048) (n1 := 2) reducesTo_S2048x2_S2048_d1 E (Ideal.ofBits .f32 0x00000000#32) (ix1 r)).trans ?_
  rw [Ideal.ofBits_zero_f32, zero_add, Fin.sum_univ_two]
  rfl

theorem probs_at (L : FVec Ideal S2048x2 .f32) (r : Fin 2048) (k : Fin 2) :
    (probs L (ix2 r k) : EReal) = soft (L (ix2 r (0 : Fin 2))) (L (ix2 r (1 : Fin 2))) (L (ix2 r k)) := by
  refine congrArg₂ Ideal.div (exps_at L r k) ?_
  refine (bcRows bcast_S2048_S2048x1_0 bcast_S2048x1_S2048x2_0_1 _ r k).trans ?_
  exact (total_at (exps L) r).trans (congrArg₂ (fun a b : EReal => a + b) (exps_at L r 0) (exps_at L r 1))

/-- Whether the second entry is the likelier. -/
def second (P : FVec Ideal S2048x2 .f32) : IVec S2048 1 :=
  cmpf .ogt (shapeCast _ (extractStridedSlice S2048x1 ![0, 1] P slices_S2048x2_S2048x1_0_1) shapeCasts_S2048x1_S2048)
    (shapeCast _ (extractStridedSlice S2048x1 ![0, 0] P slices_S2048x2_S2048x1_0_0) shapeCasts_S2048x1_S2048)

theorem column (off : Fin 2 → ℕ) (k : Fin 2) (ho : off = ![0, k.val]) (hs : S2048x2.Slices off S2048x1) (P : FVec Ideal S2048x2 .f32) (r : Fin 2048) :
    shapeCast S2048 (extractStridedSlice S2048x1 off P hs) shapeCasts_S2048x1_S2048 (ix1 r) = P (ix2 r k) := by
  subst ho
  rw [shapeCast_apply _ _ (ix1 r) (ix2 r (0 : Fin 1)) (by
    rw [Shape.rowMajor_val_two, Shape.rowMajor_val_one]
    show r.val * 1 + 0 = r.val
    omega)]
  refine extractStridedSlice_apply _ _ _ _ (ix2 r k) fun b => ?_
  match b with
  | ⟨0, _⟩ => exact (Nat.zero_add _).symm
  | ⟨1, _⟩ => rfl

theorem second_at (P : FVec Ideal S2048x2 .f32) (r : Fin 2048) :
    second P (ix1 r) = Ideal.cmp .ogt (P (ix2 r (1 : Fin 2))) (P (ix2 r (0 : Fin 2))) :=
  congrArg₂ (fun a b : EReal => Ideal.cmp .ogt a b) (column ![0, 1] 1 rfl slices_S2048x2_S2048x1_0_1 P r) (column ![0, 0] 0 rfl slices_S2048x2_S2048x1_0_0 P r)

/-- A sum of products of numbers that are not infinite is a real number. -/
theorem logit_real (x : FVec Ideal S2048x2048 .f32) (w : FVec Ideal S2x2048 .f32) (hx : ∀ i, ∃ a : ℝ, (x i : EReal) = a) (hw : ∀ i, ∃ a : ℝ, (w i : EReal) = a)
    (r : Fin 2048) (k : Fin 2) : ∃ a : ℝ, logit x w r k = a := by
  choose f hf using hx
  choose g hg using hw
  refine ⟨∑ a : Fin 2048, f (ix2 r a) * g (ix2 k a), ?_⟩
  unfold logit
  rw [show ((∑ a : Fin 2048, f (ix2 r a) * g (ix2 k a) : ℝ) : EReal) = ∑ a : Fin 2048, ((f (ix2 r a) * g (ix2 k a) : ℝ) : EReal) from
    map_sum (⟨⟨fun a : ℝ => (a : EReal), EReal.coe_zero⟩, EReal.coe_add⟩ : ℝ →+ EReal) _ _]
  exact Finset.sum_congr rfl fun a _ => by rw [hf, hg, EReal.coe_mul]

section Values
variable (x : FVec Ideal S2048x2048 .f32) (w : FVec Ideal S2x2048 .f32) (hx : ∀ i, ∃ a : ℝ, (x i : EReal) = a) (hw : ∀ i, ∃ a : ℝ, (w i : EReal) = a)
include hx hw

theorem second_eq (r : Fin 2048) : Scalar.select (second (probs (logits x w)) (ix1 r)) (1#32) (0#32) = pick (logit x w r 0) (logit x w r 1) := by
  rw [second_at, probs_at, probs_at, logits_at, logits_at]
  obtain ⟨a, ha⟩ := logit_real x w hx hw r 0
  obtain ⟨b, hb⟩ := logit_real x w hx hw r 1
  rw [ha, hb]
  exact pick_soft a b

theorem top_eq (r : Fin 2048) : (top (probs (logits x w)) (ix1 r) : EReal) = conf (logit x w r 0) (logit x w r 1) := by
  rw [top_at, probs_at, probs_at, logits_at, logits_at]
  obtain ⟨a, ha⟩ := logit_real x w hx hw r 0
  obtain ⟨b, hb⟩ := logit_real x w hx hw r 1
  rw [ha, hb]
  exact conf_soft a b

end Values

end Cert.Proof.Route

end
-- ==== Proof.Dense.lean ====
/-
  The reference's result, element by element: each row through the likelier expert, times its probability.
-/
module

public import proofs.«01_k».proof.Proof.Total
public import proofs.«01_k».proof.Proof.RtRef
public import proofs.«01_k».proof.Proof.Gen.ReferenceIdeal
public import proofs.«01_k».proof.Proof.Gen.ReferenceIdeal.Run
public import Idealize.ShloMosaic.Lib.StackMember
public import Idealize.ShloMosaic.Lib.IdealHost
public import Idealize.ShloMosaic.Lib.Routing.Ops

@[expose] public section

noncomputable section

namespace Cert.Proof.Dense

open Cert.ReferenceIdeal Cert.ReferenceIdeal.Gen Cert.Proof.Values
open Idealize.ShloMosaic Idealize.ShloMosaic.TcCoe Idealize.SL.Sem Idealize.ShloMosaic.Routing
open Cert.Proof.Setup (act lk hid moe)
open Cert.Proof.Route (logits probs top second)

/-- Expert `E`'s first table, transposed. -/
def fcT (off : Fin 3 → ℕ) (hs : S2x8192x2048.Slices off S1x8192x2048) (W : FVec Ideal S2x8192x2048 .f32) : FVec Ideal S2048x8192 .f32 :=
  transpose S2048x8192 [1, 0] (shapeCast _ (extractStridedSlice S1x8192x2048 off W hs) shapeCasts_S1x8192x2048_S8192x2048) transposes_S8192x2048_S2048x8192_1_0

/-- Expert `E`'s second table, transposed. -/
def prT (off : Fin 3 → ℕ) (hs : S2x2048x8192.Slices off S1x2048x8192) (W : FVec Ideal S2x2048x8192 .f32) : FVec Ideal S8192x2048 .f32 :=
  transpose S8192x2048 [1, 0] (shapeCast _ (extractStridedSlice S1x2048x8192 off W hs) shapeCasts_S1x2048x8192_S2048x8192) transposes_S2048x8192_S8192x2048_1_0

theorem fcT_at (E : Fin 2) (off : Fin 3 → ℕ) (hs : S2x8192x2048.Slices off S1x8192x2048) (W : FVec Ideal S2x8192x2048 .f32) (ho : off = ![E.val, 0, 0]) (a : Fin 2048) (k : Fin 8192) :
    fcT off hs W (ix2 a k) = W (ix3 E k a) := by
  subst ho
  unfold fcT
  rw [transpose_apply _ _ _ (ix2 a k) (ix2 k a) (fun b => by
    match b with
    | ⟨0, _⟩ => rfl
    | ⟨1, _⟩ => rfl)]
  rw [shapeCast_apply _ _ (ix2 k a) (ix3 (0 : Fin 1) k a) (by
    rw [Shape.rowMajor_val_three, Shape.rowMajor_val_two]
    show (0 * 8192 + k.val) * 2048 + a.val = k.val * 2048 + a.val
    omega)]
  refine extractStridedSlice_apply _ _ _ _ (ix3 E k a) fun b => ?_
  match b with
  | ⟨0, _⟩ => rfl
  | ⟨1, _⟩ => exact (Nat.zero_add _).symm
  | ⟨2, _⟩ => exact (Nat.zero_add _).symm

theorem prT_at (E : Fin 2) (off : Fin 3 → ℕ) (hs : S2x2048x8192.Slices off S1x2048x8192) (W : FVec Ideal S2x2048x8192 .f32) (ho : off = ![E.val, 0, 0]) (k : Fin 8192) (c : Fin 2048) :
    prT off hs W (ix2 k c) = W (ix3 E c k) := by
  subst ho
  unfold prT
  rw [transpose_apply _ _ _ (ix2 k c) (ix2 c k) (fun b => by
    match b with
    | ⟨0, _⟩ => rfl
    | ⟨1, _⟩ => rfl)]
  rw [shapeCast_apply _ _ (ix2 c k) (ix3 (0 : Fin 1) c k) (by
    rw [Shape.rowMajor_val_three, Shape.rowMajor_val_two]
    show (0 * 2048 + c.val) * 8192 + k.val = c.val * 8192 + k.val
    omega)]
  refine extractStridedSlice_apply _ _ _ _ (ix3 E c k) fun b => ?_
  match b with
  | ⟨0, _⟩ => rfl
  | ⟨1, _⟩ => exact (Nat.zero_add _).symm
  | ⟨2, _⟩ => exact (Nat.zero_add _).symm

/-- The hidden numbers. -/
def hidden (x : FVec Ideal S2048x2048 .f32) (A : FVec Ideal S2048x8192 .f32) : FVec Ideal S2048x8192 .f32 :=
  Host.dotGeneral dot_S2048x2048_S2048x8192_S2048x8192_1_0_0_1_n_n none x A

theorem hidden_at (x : FVec Ideal S2048x2048 .f32) (A : FVec Ideal S2048x8192 .f32) (r : Fin 2048) (k : Fin 8192) :
    hidden x A (ix2 r k) = ∑ a : Fin 2048, (x (ix2 r a) * A (ix2 a k) : EReal) :=
  StackMember.dotGeneral_plain_apply (m := 2048) (k := 2048) (n := 8192) none x A r k

/-- Halved where not above 0. -/
def leak (h : FVec Ideal S2048x8192 .f32) : FVec Ideal S2048x8192 .f32 :=
  select (cmpf .ogt h (broadcastInDim S2048x8192 ![] bcast_S_S2048x8192 (constant S_ .f32 0x00000000#32))) h
    (mulf (broadcastInDim S2048x8192 ![] bcast_S_S2048x8192 (constant S_ .f32 0x3F000000#32)) h)

theorem leak_at (h : FVec Ideal S2048x8192 .f32) (j : S2048x8192.Idx) : (leak h j : EReal) = lk (h j) := by
  show Scalar.select (Ideal.cmp .ogt (h j) (Ideal.ofBits .f32 0x00000000#32)) (h j) (Ideal.ofBits .f32 0x3F000000#32 * h j : EReal) = _
  rw [Ideal.ofBits_zero_f32]
  rfl

/-- The second product. -/
def outs (h : FVec Ideal S2048x8192 .f32) (B : FVec Ideal S8192x2048 .f32) : FVec Ideal S2048x2048 .f32 :=
  Host.dotGeneral dot_S2048x8192_S8192x2048_S2048x2048_1_0_0_1_n_n none (mulf (leak h) (leak h)) B

theorem outs_at (h : FVec Ideal S2048x8192 .f32) (B : FVec Ideal S8192x2048 .f32) (r c : Fin 2048) :
    outs h B (ix2 r c) = ∑ κ : Fin 8192, (act (h (ix2 r κ)) * B (ix2 κ c) : EReal) := by
  refine (StackMember.dotGeneral_plain_apply (m := 2048) (k := 8192) (n := 2048) none (mulf (leak h) (leak h)) B r c).trans ?_
  refine Finset.sum_congr rfl fun κ _ => congrArg (· * _) ?_
  show (leak h (ix2 r κ) * leak h (ix2 r κ) : EReal) = _
  rw [leak_at]
  rfl

/-- One expert's part of the result. -/
def part1 (q : IVec S2048 1) (w : FVec Ideal S2048 .f32) (P : FVec Ideal S2048x2048 .f32) : FVec Ideal S2048x2048 .f32 :=
  mulf (mulf (broadcastInDim S2048x2048 ![0, 1] bcast_S2048x1_S2048x2048_0_1 (id (broadcastInDim S2048x1 ![0] bcast_S2048_S2048x1_0
    (select q (broadcastInDim S2048 ![] bcast_S_S2048 (constant S_ .f32 0x3F800000#32)) (broadcastInDim S2048 ![] bcast_S_S2048 (constant S_ .f32 0x00000000#32)))))) P)
    (broadcastInDim S2048x2048 ![0, 1] bcast_S2048x1_S2048x2048_0_1 (broadcastInDim S2048x1 ![0] bcast_S2048_S2048x1_0 w))

theorem part1_at (q : IVec S2048 1) (w : FVec Ideal S2048 .f32) (P : FVec Ideal S2048x2048 .f32) (r c : Fin 2048) :
    (part1 q w P (ix2 r c) : EReal) = (Scalar.select (q (ix1 r)) 1 0 : EReal) * P (ix2 r c) * w (ix1 r) := by
  unfold part1
  refine congrArg₂ (fun a b : EReal => a * P (ix2 r c) * b) ?_ (bcRows bcast_S2048_S2048x1_0 bcast_S2048x1_S2048x2048_0_1 w r c)
  refine (bcRows bcast_S2048_S2048x1_0 bcast_S2048x1_S2048x2048_0_1 _ r c).trans ?_
  show Scalar.select (q (ix1 r)) (Ideal.ofBits .f32 0x3F800000#32) (Ideal.ofBits .f32 0x00000000#32) = _
  rw [Ideal.ofBits_one_f32, Ideal.ofBits_zero_f32]

/-- The two experts' masks, from the choice between them. -/
theorem masks (b : BitVec 1) (e : IVec S2048 32) (r : Fin 2048) (h : Scalar.select b (1#32) (0#32) = e (ix1 r)) :
    (Scalar.select (~~~ b) (1 : EReal) 0 = if isZero e r.val then 1 else 0) ∧ (Scalar.select b (1 : EReal) 0 = if isZero e r.val then 0 else 1) := by
  rcases (show ∀ b : BitVec 1, b = 0#1 ∨ b = 1#1 by decide) b with rfl | rfl
  · have hz : e (ix1 r) = 0#32 := h.symm
    rw [if_pos ((isZero_iff e r).2 hz), if_pos ((isZero_iff e r).2 hz)]
    exact ⟨rfl, rfl⟩
  · have hz : e (ix1 r) = 1#32 := h.symm
    have hn : ¬ isZero e r.val := fun h' => absurd (hz.symm.trans ((isZero_iff e r).1 h')) (by decide)
    rw [if_neg hn, if_neg hn]
    exact ⟨rfl, rfl⟩

theorem proj_at (E : Fin 2) (off : Fin 3 → ℕ) (h3 : S2x8192x2048.Slices off S1x8192x2048) (h4 : S2x2048x8192.Slices off S1x2048x8192) (ho : off = ![E.val, 0, 0])
    (x : FVec Ideal S2048x2048 .f32) (Wfc : FVec Ideal S2x8192x2048 .f32) (Wpr : FVec Ideal S2x2048x8192 .f32) (r c : Fin 2048) :
    (outs (hidden x (fcT off h3 Wfc)) (prT off h4 Wpr) (ix2 r c) : EReal) = ∑ κ : Fin 8192, act (hid x Wfc E r κ) * Wpr (ix3 E c κ) := by
  rw [outs_at]
  refine Finset.sum_congr rfl fun κ _ => congrArg₂ (fun a b : EReal => act a * b) ?_ (prT_at E off h4 Wpr ho κ c)
  rw [hidden_at]
  exact Finset.sum_congr rfl fun a _ => congrArg (fun b : EReal => x (ix2 r a) * b) (fcT_at E off h3 Wfc ho a κ)

/-- The two experts' parts, from 0. -/
def whole (P : FVec Ideal S2048x2 .f32) (x : FVec Ideal S2048x2048 .f32) (Wfc : FVec Ideal S2x8192x2048 .f32) (Wpr : FVec Ideal S2x2048x8192 .f32) : FVec Ideal S2048x2048 .f32 :=
  addf (addf (broadcastInDim S2048x2048 ![] bcast_S_S2048x2048 (constant S_ .f32 0x00000000#32))
    (part1 (noti (second P)) (top P)
      (outs (hidden x (fcT ![0, 0, 0] slices_S2x8192x2048_S1x8192x2048_0_0_0 Wfc)) (prT ![0, 0, 0] slices_S2x2048x8192_S1x2048x8192_0_0_0 Wpr))))
    (part1 (second P) (top P)
      (outs (hidden x (fcT ![1, 0, 0] slices_S2x8192x2048_S1x8192x2048_1_0_0 Wfc)) (prT ![1, 0, 0] slices_S2x2048x8192_S1x2048x8192_1_0_0 Wpr)))

theorem whole_at (P : FVec Ideal S2048x2 .f32) (e : IVec S2048 32) (w : FVec Ideal S2048 .f32) (x : FVec Ideal S2048x2048 .f32) (Wfc : FVec Ideal S2x8192x2048 .f32) (Wpr : FVec Ideal S2x2048x8192 .f32) (r c : Fin 2048)
    (he : Scalar.select (second P (ix1 r)) (1#32) (0#32) = e (ix1 r)) (hw : (top P (ix1 r) : EReal) = w (ix1 r)) :
    (whole P x Wfc Wpr (ix2 r c) : EReal) = moe e w x Wfc Wpr r c := by
  have l0 := part1_at (noti (second P)) (top P)
      (outs (hidden x (fcT ![0, 0, 0] slices_S2x8192x2048_S1x8192x2048_0_0_0 Wfc)) (prT ![0, 0, 0] slices_S2x2048x8192_S1x2048x8192_0_0_0 Wpr)) r c
  have l1 := part1_at (second P) (top P)
      (outs (hidden x (fcT ![1, 0, 0] slices_S2x8192x2048_S1x8192x2048_1_0_0 Wfc)) (prT ![1, 0, 0] slices_S2x2048x8192_S1x2048x8192_1_0_0 Wpr)) r c
  rw [proj_at 0 ![0, 0, 0] _ _ rfl, hw] at l0
  rw [proj_at 1 ![1, 0, 0] _ _ rfl, hw] at l1
  have hm := masks (second P (ix1 r)) e r he
  have l0 := l0.trans (congrArg (fun a : EReal => a * _ * _) hm.1)
  have l1 := l1.trans (congrArg (fun a : EReal => a * _ * _) hm.2)
  refine (congrArg₂ (fun a b : EReal => Ideal.ofBits .f32 0x00000000#32 + a + b) l0 l1).trans ?_
  rw [Ideal.ofBits_zero_f32, zero_add]
  unfold moe
  by_cases h : isZero e r.val
  · rw [if_pos h, if_pos h, if_pos h, one_mul, zero_mul, zero_mul, add_zero]
  · rw [if_neg h, if_neg h, if_neg h, one_mul, zero_mul, zero_mul, zero_add]

theorem result_eq (m : (ℓ : Loc nD τ sig) → Buf (Elt Ideal) ℓ) (c : Dev nD) : Value.res_main_v66 (F := Ideal) m c
    = whole (probs (logits (m ((c.tc : Thread nD τ).loc main_arg0)) (m ((c.tc : Thread nD τ).loc main_arg1)))) (m ((c.tc : Thread nD τ).loc main_arg0)) (m ((c.tc : Thread nD τ).loc main_arg2)) (m ((c.tc : Thread nD τ).loc main_arg3)) := by
  unfold Value.res_main_v66
  rfl

end Cert.Proof.Dense

end
-- ==== Proof.SameBase.lean ====
module

public import proofs.«01_k».proof.Proof.Gen.Kernel
public import proofs.«01_k».proof.Proof.Gen.KernelIdeal

/-! The kernel is printed twice, in two namespaces. Host programs of the two are compared here:
sequences of statements that agree one by one are the same program. -/

@[expose] public section
noncomputable section
namespace Cert.Proof.Same
open Idealize.ShloMosaic Cert.KernelIdeal
variable {F : FTy → Type} [FloatOps F]
set_option maxHeartbeats 4000000

/-- The labels of the kernel as printed. -/
abbrev LabelsK (F : FTy → Type) [FloatOps F] : Idealize.SL.Sem.Labels :=
  SparseCore.Sig (Pipeline.Sig Cert.Kernel.Λ₀ (Fin 2) fun p => (Cert.Kernel.pcfgs (F := F) p).Adm) 2

/-- The labels of its ideal reading. -/
abbrev LabelsI (F : FTy → Type) [FloatOps F] : Idealize.SL.Sem.Labels :=
  SparseCore.Sig (Pipeline.Sig Λ₀ (Fin 2) fun p => (pcfgs (F := F) p).Adm) 2

/-- A host program over given labels. -/
abbrev HostProg (F : FTy → Type) (M : Idealize.SL.Sem.Labels) : Type 1 :=
  Idealize.SL.Sem.Prog (TpuEff nD τ sig (Elt F) M Proc.tc) PUnit

theorem router_same : Cert.Kernel.cfg0 = cfg0 := rfl

theorem product_same : Cert.Kernel.pcfg2 (F := F) = pcfg2 := rfl

theorem pipelines_same : Cert.Kernel.pcfgs (F := F) = pcfgs := by
  funext p
  match p with
  | 0 => exact congrArg (fun c => Pipeline.Cfg.toPCfg (Val := Elt F) c) router_same
  | 1 => exact product_same

theorem labels : LabelsK F = LabelsI F :=
  congrArg (fun pc : Fin 2 → Pipeline.PCfg sig Λ₀ (Elt F) => SparseCore.Sig (Pipeline.Sig Λ₀ (Fin 2) fun p => (pc p).Adm) 2) pipelines_same

/-- Two sequences agree when their first statements and their remainders do. -/
theorem seq {M N : Idealize.SL.Sem.Labels} (h : M = N) {p : HostProg F M} {q : HostProg F N}
    {f : PUnit → HostProg F M} {g : PUnit → HostProg F N} (hp : HEq p q) (k : ∀ a, HEq (f a) (g a)) :
    HEq (p >>= f) (q >>= g) := by
  subst h
  cases hp
  rw [show f = g from funext fun a => eq_of_heq (k a)]

/-- The same host operation over equal labels. -/
theorem oper {M N : Idealize.SL.Sem.Labels} (h : M = N) {a b : HloOp τ sig (Elt F)} (e : a = b) :
    HEq (hlo (nD := nD) (Λ := M) (p := Proc.tc) rfl a fun _ => .ret PUnit.unit)
      (hlo (nD := nD) (Λ := N) (p := Proc.tc) rfl b fun _ => .ret PUnit.unit) := by
  subst h e
  rfl

/-- The end of a program over equal labels. -/
theorem stop {M N : Idealize.SL.Sem.Labels} (h : M = N) :
    HEq (pure PUnit.unit : HostProg F M) (pure PUnit.unit : HostProg F N) := by
  subst h
  rfl

theorem launch (d) (q : Fin 2) : HEq (Cert.Kernel.sc.run (Val := Elt F) d q : HostProg F (LabelsK F))
    (sc.run (Val := Elt F) d q : HostProg F (LabelsI F)) := heq_of_eq rfl

end Cert.Proof.Same
end
-- ==== Proof.SameFns.lean ====
module

public import proofs.«01_k».proof.Proof.SameBase

/-! The host functions that the program calls are the same in both namespaces. -/

@[expose] public section
noncomputable section
namespace Cert.Proof.Same
open Idealize.ShloMosaic Idealize.SL.Sem Cert.KernelIdeal
variable {F : FTy → Type} [FloatOps F]
set_option maxHeartbeats 4000000

/-- The same pipeline's call over equal pipelines. -/
theorem pipe_of {P Q : Fin 2 → Pipeline.PCfg sig Λ₀ (Elt F)} (h : P = Q) (p : Fin 2) :
    HEq (Prog.lift (.customCall (SparseCore.inner (Pipeline.entry p)) ()) : HostProg F (SparseCore.Sig (Pipeline.Sig Λ₀ (Fin 2) fun p => (P p).Adm) 2))
      (Prog.lift (.customCall (SparseCore.inner (Pipeline.entry p)) ()) : HostProg F (SparseCore.Sig (Pipeline.Sig Λ₀ (Fin 2) fun p => (Q p).Adm) 2)) := by
  subst h
  rfl

theorem pipe (p : Fin 2) : HEq (Prog.lift (.customCall (SparseCore.inner (Pipeline.entry p)) ()) : HostProg F (LabelsK F))
    (Prog.lift (.customCall (SparseCore.inner (Pipeline.entry p)) ()) : HostProg F (LabelsI F)) :=
  pipe_of pipelines_same p

/-- The buffers of one call of `fn_where`, as the ideal reading records them. -/
def conv_fn_where (φ : Cert.Kernel.fn_where.Bufs) : fn_where.Bufs :=
  ⟨φ.v0⟩

theorem eq_fn_where (a0 a1 a2) (φ : Cert.Kernel.fn_where.Bufs) :
    HEq (Cert.Kernel.fn_where.body (F := F) a0 a1 a2 φ) (fn_where.body (F := F) a0 a1 a2 (conv_fn_where φ)) := by
  unfold Cert.Kernel.fn_where.body fn_where.body
  refine seq labels (oper labels rfl) fun _ => ?_
  exact stop labels

/-- The buffers of one call of `fn_floor_divide`, as the ideal reading records them. -/
def conv_fn_floor_divide (φ : Cert.Kernel.fn_floor_divide.Bufs) : fn_floor_divide.Bufs :=
  ⟨φ.v0, φ.v1, φ.v2, φ.v3, φ.v4, φ.v5, φ.c, φ.v6, φ.v7, φ.c_0, φ.v8, conv_fn_where φ.call0⟩

theorem eq_fn_floor_divide (a0 a1) (φ : Cert.Kernel.fn_floor_divide.Bufs) :
    HEq (Cert.Kernel.fn_floor_divide.body (F := F) a0 a1 φ) (fn_floor_divide.body (F := F) a0 a1 (conv_fn_floor_divide φ)) := by
  unfold Cert.Kernel.fn_floor_divide.body fn_floor_divide.body
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (eq_fn_where _ _ _ _) fun _ => ?_
  exact stop labels

/-- The buffers of one call of `fn_remainder`, as the ideal reading records them. -/
def conv_fn_remainder (φ : Cert.Kernel.fn_remainder.Bufs) : fn_remainder.Bufs :=
  ⟨φ.v0, φ.c, φ.v1, φ.c_0, conv_fn_where φ.call0, φ.v3, φ.c_1, φ.v4, φ.c_2, φ.v5, φ.c_3, φ.v6,
   φ.v7, φ.v8, φ.v9, φ.v10⟩

theorem eq_fn_remainder (a0 a1) (φ : Cert.Kernel.fn_remainder.Bufs) :
    HEq (Cert.Kernel.fn_remainder.body (F := F) a0 a1 φ) (fn_remainder.body (F := F) a0 a1 (conv_fn_remainder φ)) := by
  unfold Cert.Kernel.fn_remainder.body fn_remainder.body
  refine seq labels (oper labels rfl) fun _ => ?_
  refine seq labels (oper labels rfl) fun _ => ?_
  refine seq labels (oper labels rfl) fun _ => ?_
  refine seq labels (oper labels rfl) fun _ => ?_
  refine seq labels (eq_fn_where _ _ _ _) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  exact stop labels

/-- The buffers of one call of `fn_where_0`, as the ideal reading records them. -/
def conv_fn_where_0 (φ : Cert.Kernel.fn_where_0.Bufs) : fn_where_0.Bufs :=
  ⟨φ.v0⟩

theorem eq_fn_where_0 (a0 a1 a2) (φ : Cert.Kernel.fn_where_0.Bufs) :
    HEq (Cert.Kernel.fn_where_0.body (F := F) a0 a1 a2 φ) (fn_where_0.body (F := F) a0 a1 a2 (conv_fn_where_0 φ)) := by
  unfold Cert.Kernel.fn_where_0.body fn_where_0.body
  refine seq labels (oper labels rfl) fun _ => ?_
  exact stop labels

/-- The buffers of one call of `fn_where_1`, as the ideal reading records them. -/
def conv_fn_where_1 (φ : Cert.Kernel.fn_where_1.Bufs) : fn_where_1.Bufs :=
  ⟨φ.v0, φ.v1, φ.v2⟩

theorem eq_fn_where_1 (a0 a1 a2) (φ : Cert.Kernel.fn_where_1.Bufs) :
    HEq (Cert.Kernel.fn_where_1.body (F := F) a0 a1 a2 φ) (fn_where_1.body (F := F) a0 a1 a2 (conv_fn_where_1 φ)) := by
  unfold Cert.Kernel.fn_where_1.body fn_where_1.body
  refine seq labels (oper labels rfl) fun _ => ?_
  refine seq labels (oper labels rfl) fun _ => ?_
  refine seq labels (oper labels rfl) fun _ => ?_
  exact stop labels

/-- The buffers of one call of `fn_where_2`, as the ideal reading records them. -/
def conv_fn_where_2 (φ : Cert.Kernel.fn_where_2.Bufs) : fn_where_2.Bufs :=
  ⟨φ.v0⟩

theorem eq_fn_where_2 (a0 a1 a2) (φ : Cert.Kernel.fn_where_2.Bufs) :
    HEq (Cert.Kernel.fn_where_2.body (F := F) a0 a1 a2 φ) (fn_where_2.body (F := F) a0 a1 a2 (conv_fn_where_2 φ)) := by
  unfold Cert.Kernel.fn_where_2.body fn_where_2.body
  refine seq labels (oper labels rfl) fun _ => ?_
  exact stop labels

/-- The buffers of one call of `fn_take`, as the ideal reading records them. -/
def conv_fn_take (φ : Cert.Kernel.fn_take.Bufs) : fn_take.Bufs :=
  ⟨φ.c, φ.v0, φ.v1, φ.c_0, φ.v2, φ.v3, conv_fn_where_2 φ.call0, φ.v5, φ.c_1, φ.c_2, φ.v6, φ.v7,
   φ.v8, φ.v9, φ.v10, φ.v11, φ.c_3, φ.v12, φ.v13, φ.cst, φ.v14, φ.v15⟩

theorem eq_fn_take (a0 a1) (φ : Cert.Kernel.fn_take.Bufs) :
    HEq (Cert.Kernel.fn_take.body (F := F) a0 a1 φ) (fn_take.body (F := F) a0 a1 (conv_fn_take φ)) := by
  unfold Cert.Kernel.fn_take.body fn_take.body
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (eq_fn_where_2 _ _ _ _) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  exact stop labels

/-- The buffers of one call of `fn_where_3`, as the ideal reading records them. -/
def conv_fn_where_3 (φ : Cert.Kernel.fn_where_3.Bufs) : fn_where_3.Bufs :=
  ⟨φ.v0, φ.v1⟩

theorem eq_fn_where_3 (a0 a1 a2) (φ : Cert.Kernel.fn_where_3.Bufs) :
    HEq (Cert.Kernel.fn_where_3.body (F := F) a0 a1 a2 φ) (fn_where_3.body (F := F) a0 a1 a2 (conv_fn_where_3 φ)) := by
  unfold Cert.Kernel.fn_where_3.body fn_where_3.body
  refine seq labels (oper labels rfl) fun _ => ?_
  refine seq labels (oper labels rfl) fun _ => ?_
  exact stop labels

/-- The buffers of one call of `fn_where_5`, as the ideal reading records them. -/
def conv_fn_where_5 (φ : Cert.Kernel.fn_where_5.Bufs) : fn_where_5.Bufs :=
  ⟨φ.v0⟩

theorem eq_fn_where_5 (a0 a1 a2) (φ : Cert.Kernel.fn_where_5.Bufs) :
    HEq (Cert.Kernel.fn_where_5.body (F := F) a0 a1 a2 φ) (fn_where_5.body (F := F) a0 a1 a2 (conv_fn_where_5 φ)) := by
  unfold Cert.Kernel.fn_where_5.body fn_where_5.body
  refine seq labels (oper labels rfl) fun _ => ?_
  exact stop labels

/-- The buffers of one call of `fn_floor_divide_4`, as the ideal reading records them. -/
def conv_fn_floor_divide_4 (φ : Cert.Kernel.fn_floor_divide_4.Bufs) : fn_floor_divide_4.Bufs :=
  ⟨φ.v0, φ.v1, φ.v2, φ.v3, φ.v4, φ.v5, φ.v6, φ.v7, φ.v8, φ.c, φ.v9, φ.v10, φ.v11, φ.c_0, φ.v12,
   φ.v13, conv_fn_where_5 φ.call0⟩

theorem eq_fn_floor_divide_4 (a0 a1) (φ : Cert.Kernel.fn_floor_divide_4.Bufs) :
    HEq (Cert.Kernel.fn_floor_divide_4.body (F := F) a0 a1 φ) (fn_floor_divide_4.body (F := F) a0 a1 (conv_fn_floor_divide_4 φ)) := by
  unfold Cert.Kernel.fn_floor_divide_4.body fn_floor_divide_4.body
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (eq_fn_where_5 _ _ _ _) fun _ => ?_
  exact stop labels

/-- The buffers of one call of `fn_remainder_6`, as the ideal reading records them. -/
def conv_fn_remainder_6 (φ : Cert.Kernel.fn_remainder_6.Bufs) : fn_remainder_6.Bufs :=
  ⟨φ.v0, φ.c, φ.v1, φ.c_0, conv_fn_where φ.call0, φ.v3, φ.v4, φ.c_1, φ.v5, φ.v6, φ.c_2, φ.v7,
   φ.v8, φ.c_3, φ.v9, φ.v10, φ.v11, φ.v12, φ.v13, φ.v14, φ.v15⟩

theorem eq_fn_remainder_6 (a0 a1) (φ : Cert.Kernel.fn_remainder_6.Bufs) :
    HEq (Cert.Kernel.fn_remainder_6.body (F := F) a0 a1 φ) (fn_remainder_6.body (F := F) a0 a1 (conv_fn_remainder_6 φ)) := by
  unfold Cert.Kernel.fn_remainder_6.body fn_remainder_6.body
  refine seq labels (oper labels rfl) fun _ => ?_
  refine seq labels (oper labels rfl) fun _ => ?_
  refine seq labels (oper labels rfl) fun _ => ?_
  refine seq labels (oper labels rfl) fun _ => ?_
  refine seq labels (eq_fn_where _ _ _ _) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  exact stop labels

/-- The buffers of one call of `fn_where_7`, as the ideal reading records them. -/
def conv_fn_where_7 (φ : Cert.Kernel.fn_where_7.Bufs) : fn_where_7.Bufs :=
  ⟨φ.v0, φ.v1, φ.v2⟩

theorem eq_fn_where_7 (a0 a1 a2) (φ : Cert.Kernel.fn_where_7.Bufs) :
    HEq (Cert.Kernel.fn_where_7.body (F := F) a0 a1 a2 φ) (fn_where_7.body (F := F) a0 a1 a2 (conv_fn_where_7 φ)) := by
  unfold Cert.Kernel.fn_where_7.body fn_where_7.body
  refine seq labels (oper labels rfl) fun _ => ?_
  refine seq labels (oper labels rfl) fun _ => ?_
  refine seq labels (oper labels rfl) fun _ => ?_
  exact stop labels

/-- The buffers of one call of `fn_where_8`, as the ideal reading records them. -/
def conv_fn_where_8 (φ : Cert.Kernel.fn_where_8.Bufs) : fn_where_8.Bufs :=
  ⟨φ.v0, φ.v1, φ.v2, φ.v3⟩

theorem eq_fn_where_8 (a0 a1 a2) (φ : Cert.Kernel.fn_where_8.Bufs) :
    HEq (Cert.Kernel.fn_where_8.body (F := F) a0 a1 a2 φ) (fn_where_8.body (F := F) a0 a1 a2 (conv_fn_where_8 φ)) := by
  unfold Cert.Kernel.fn_where_8.body fn_where_8.body
  refine seq labels (oper labels rfl) fun _ => ?_
  refine seq labels (oper labels rfl) fun _ => ?_
  refine seq labels (oper labels rfl) fun _ => ?_
  refine seq labels (oper labels rfl) fun _ => ?_
  exact stop labels

end Cert.Proof.Same
end
-- ==== Proof.SameMain0.lean ====
module

public import proofs.«01_k».proof.Proof.SameFns

/-! The host program, statement by statement, is the same in both namespaces. -/

@[expose] public section
noncomputable section
namespace Cert.Proof.Same
open Idealize.ShloMosaic Cert.KernelIdeal
variable {F : FTy → Type} [FloatOps F]
set_option maxHeartbeats 4000000

theorem main_part0 (d) : HEq (Cert.Kernel.main_part0 (F := F) d) (Cert.KernelIdeal.main_part0 (F := F) d) := by
  unfold Cert.Kernel.main_part0 Cert.KernelIdeal.main_part0
  refine seq labels (pipe 0) fun _ => ?_
  refine seq labels (oper labels rfl) fun _ => ?_
  refine seq labels (oper labels rfl) fun _ => ?_
  refine seq labels (oper labels rfl) fun _ => ?_
  refine seq labels (oper labels rfl) fun _ => ?_
  refine seq labels (launch d 0) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (eq_fn_floor_divide _ _ _) fun _ => ?_
  refine seq labels (oper labels rfl) fun _ => ?_
  refine seq labels (eq_fn_remainder _ _ _) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (eq_fn_where_0 _ _ _ _) fun _ => ?_
  refine seq labels (oper labels rfl) fun _ => ?_
  refine seq labels (oper labels rfl) fun _ => ?_
  refine seq labels (eq_fn_where_1 _ _ _ _) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (eq_fn_where_1 _ _ _ _) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  exact oper labels rfl

end Cert.Proof.Same
end
-- ==== Proof.SameMain1.lean ====
module

public import proofs.«01_k».proof.Proof.SameFns

/-! The host program, statement by statement, is the same in both namespaces. -/

@[expose] public section
noncomputable section
namespace Cert.Proof.Same
open Idealize.ShloMosaic Cert.KernelIdeal
variable {F : FTy → Type} [FloatOps F]
set_option maxHeartbeats 4000000

theorem main_part1 (d) : HEq (Cert.Kernel.main_part1 (F := F) d) (Cert.KernelIdeal.main_part1 (F := F) d) := by
  unfold Cert.Kernel.main_part1 Cert.KernelIdeal.main_part1
  refine seq labels (oper labels rfl) fun _ => ?_
  refine seq labels (oper labels rfl) fun _ => ?_
  refine seq labels (eq_fn_take _ _ _) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (eq_fn_where_3 _ _ _ _) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (eq_fn_floor_divide_4 _ _ _) fun _ => ?_
  refine seq labels (oper labels rfl) fun _ => ?_
  refine seq labels (eq_fn_remainder_6 _ _ _) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (eq_fn_where_7 _ _ _ _) fun _ => ?_
  refine seq labels (oper labels rfl) fun _ => ?_
  refine seq labels (oper labels rfl) fun _ => ?_
  refine seq labels (oper labels rfl) fun _ => ?_
  refine seq labels (oper labels rfl) fun _ => ?_
  refine seq labels (eq_fn_where_8 _ _ _ _) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (oper labels rfl) fun _ => ?_
  refine seq labels (eq_fn_where_8 _ _ _ _) fun _ => ?_
  refine seq labels (pipe 1) fun _ => ?_
  refine seq labels (oper labels rfl) fun _ => ?_
  refine seq labels (oper labels rfl) fun _ => ?_
  refine seq labels (oper labels rfl) fun _ => ?_
  refine seq labels (launch d 1) fun _ => ?_
  refine seq labels (oper labels rfl) fun _ => ?_
  refine seq labels (oper labels rfl) fun _ => ?_
  exact stop labels

end Cert.Proof.Same
end
-- ==== Proof.Same.lean ====
module

public import proofs.«01_k».proof.Proof.SameMain0
public import proofs.«01_k».proof.Proof.SameMain1

/-! The two namespaces hold the same program, so a run of one is a run of the other. -/

@[expose] public section
noncomputable section
namespace Cert.Proof.Same
open Idealize.ShloMosaic Cert.KernelIdeal
variable {F : FTy → Type} [FloatOps F]
set_option maxHeartbeats 4000000

theorem bodies : Cert.Kernel.defs₀ (F := F) = defs₀ (F := F) := by
  funext c l a
  unfold Cert.Kernel.defs₀ Cert.KernelIdeal.defs₀
  rcases c with _ | _ | ⟨c, s⟩ <;> fin_cases l <;> rfl

/-- The SparseCore calls, over given pipelines. -/
def calls (P : Fin 2 → Pipeline.PCfg sig Λ₀ (Elt F)) : SparseCore.Cfg τ sig (Pipeline.Sig Λ₀ (Fin 2) fun p => (P p).Adm) 2 where
  kind := scKind
  nCore := scNCore
  nSub := scNSub
  hkind := (sc (F := F)).hkind
  hCore := (sc (F := F)).hCore
  hSub := (sc (F := F)).hSub
  body := fun | 0 => Pipeline.kernel 1 | 1 => Pipeline.kernel 3 | ⟨_ + 2, h⟩ => absurd h (Nat.not_lt.2 (Nat.le_add_left _ _))
  args := fun | 0 => ⟨⟩ | 1 => ⟨⟩ | ⟨_ + 2, h⟩ => absurd h (Nat.not_lt.2 (Nat.le_add_left _ _))
  start := sc_start
  done := sc_done
  go := sc_go
  taskDone := sc_taskDone

theorem calls_kernel : Cert.Kernel.sc (F := F) = calls (F := F) Cert.Kernel.pcfgs := rfl

theorem calls_ideal : sc (F := F) = calls (F := F) pcfgs := rfl

theorem defs_of {P Q : Fin 2 → Pipeline.PCfg sig Λ₀ (Elt F)} (h : P = Q) (D : Defs nD τ sig (Elt F) Λ₀) :
    HEq ((calls P).defs (Pipeline.defs P D)) ((calls Q).defs (Pipeline.defs Q D)) := by
  subst h
  rfl

theorem threads_of {P Q : Fin 2 → Pipeline.PCfg sig Λ₀ (Elt F)} (h : P = Q)
    {p : Dev nD → HostProg F (SparseCore.Sig (Pipeline.Sig Λ₀ (Fin 2) fun p => (P p).Adm) 2)}
    {q : Dev nD → HostProg F (SparseCore.Sig (Pipeline.Sig Λ₀ (Fin 2) fun p => (Q p).Adm) 2)} (k : ∀ d, HEq (p d) (q d)) :
    HEq ((calls P).threads (Val := Elt F) p) ((calls Q).threads (Val := Elt F) q) := by
  subst h
  rw [show p = q from funext fun d => eq_of_heq (k d)]

theorem defs_kernel : Cert.Kernel.defs (F := F) = (calls Cert.Kernel.pcfgs).defs (Pipeline.defs Cert.Kernel.pcfgs Cert.Kernel.defs₀) := by
  unfold Cert.Kernel.defs
  rw [calls_kernel]
  rfl

theorem defs_ideal : defs (F := F) = (calls pcfgs).defs (Pipeline.defs pcfgs defs₀) := by
  unfold Cert.KernelIdeal.defs
  rw [calls_ideal]

theorem defs_same : HEq (Cert.Kernel.defs (F := F)) (defs (F := F)) := by
  rw [defs_kernel, defs_ideal, bodies]
  exact defs_of pipelines_same _

theorem main_same (d) : HEq (Cert.Kernel.main (F := F) d) (main (F := F) d) := by
  unfold Cert.Kernel.main Cert.KernelIdeal.main
  exact seq labels (main_part0 d) fun _ => main_part1 d

theorem threads_same : HEq (Cert.Kernel.threads (F := F)) (threads (F := F)) := by
  unfold Cert.Kernel.threads Cert.KernelIdeal.threads
  rw [calls_kernel, calls_ideal]
  exact threads_of pipelines_same main_same

/-- Runs of equal programs over equal labels are equal. -/
theorem run_same {M N : Idealize.SL.Sem.Labels} (h : M = N)
    {D : Defs nD τ sig (Elt F) M} {E : Defs nD τ sig (Elt F) N}
    {p : (c : Thread nD τ) → Idealize.SL.Sem.Prog (TpuEff nD τ sig (Elt F) M c.2) PUnit}
    {q : (c : Thread nD τ) → Idealize.SL.Sem.Prog (TpuEff nD τ sig (Elt F) N c.2) PUnit}
    (hD : HEq D E) (hp : HEq p q) : θ_run D p = θ_run E q := by
  subst h
  cases hD
  cases hp
  rfl

end Cert.Proof.Same
end
-- ==== Proof.RtEnd.lean ====
/-
  The router's two results as the rest of the program reads them, and what the precondition says of them.
-/
module

public import proofs.«01_k».proof.Proof.RtRef
public import proofs.«01_k».proof.Proof.HostStates
public import proofs.«01_k».proof.Proof.Gen.Pre_finite
public import Idealize.ShloMosaic.Lib.ReduceAll

@[expose] public section

noncomputable section

namespace Cert.Proof.Route

open Idealize.ShloMosaic Idealize.ShloMosaic.TcCoe Idealize.SL.Sem

/-- Every element is a real number. -/
def Reals {s : Shape} (v : s.Idx → EReal) : Prop := ∀ i, ∃ a : ℝ, v i = a

section Finite
open Cert.Pre_finite Cert.Pre_finite.Gen

instance : Subsingleton S_.Idx := ⟨fun _ _ => funext fun a => a.elim0⟩

/-- An extended real whose absolute value is below infinity is a real number. -/
theorem real_of_abs (v : EReal) (h : Ideal.cmp .olt (max v (-v)) (Ideal.ofBits .f32 0x7F800000#32) = 1#1) : ∃ a : ℝ, v = a := by
  have one : ∀ b : Bool, BitVec.ofBool b = 1#1 → b = true := by decide
  have h : max v (-v) < Ideal.ofBits .f32 0x7F800000#32 := of_decide_eq_true (one _ h)
  induction v with
  | bot => exact absurd h (not_lt.2 (le_trans (le_top) (by rw [EReal.neg_bot]; exact le_max_right _ _)))
  | top => exact absurd h (not_lt.2 (le_trans (le_top) (le_max_left _ _)))
  | coe a => exact ⟨a, rfl⟩

/-- What the precondition says: the tokens and the router's matrix are real numbers. -/
theorem reals (x : FVec Ideal S2048x2048 .f32) (w : FVec Ideal S2x2048 .f32) (Wfc : FVec Ideal S2x8192x2048 .f32) (Wpr : FVec Ideal S2x2048x8192 .f32)
    (h : Cert.Pre_finite.fn (F := Ideal) x w Wfc Wpr = fun _ => 1#1) :
    (∀ i, ∃ a : ℝ, (x i : EReal) = a) ∧ ∀ i, ∃ a : ℝ, (w i : EReal) = a := by
  have h := congrFun h ValueIdx.ix0
  obtain ⟨ha, hb⟩ := (show ∀ a b : BitVec 1, a &&& b = 1#1 → a = 1#1 ∧ b = 1#1 by decide) _ _ h
  exact ⟨fun i => real_of_abs _ (Host.reduce_andi_all _ _ _ _ _ ha i), fun i => real_of_abs _ (Host.reduce_andi_all _ _ _ _ _ hb i)⟩

end Finite

section Kernel
open Cert.KernelIdeal hiding ix2
variable (m : (ℓ : Loc nD τ sig) → Buf (Elt Ideal) ℓ)

theorem choice (c : Dev nD) (r : Fin 2048) : Setup.eA m c (ix1 r)
    = pick (logit (m ((c.tc : Thread nD τ).loc main_arg0)) (m ((c.tc : Thread nD τ).loc main_arg1)) r 0) (logit (m ((c.tc : Thread nD τ).loc main_arg0)) (m ((c.tc : Thread nD τ).loc main_arg1)) r 1) := by
  refine Eq.trans ?_ (choice_at m c r)
  refine shapeCast_apply _ _ (ix1 r) (ix2 r (0 : Fin 1)) ?_
  rw [Shape.rowMajor_val_two, Shape.rowMajor_val_one]
  show r.val * 1 + 0 = r.val
  omega

theorem amount (c : Dev nD) (r : Fin 2048) : (Setup.wA m c (ix1 r) : EReal)
    = conf (logit (m ((c.tc : Thread nD τ).loc main_arg0)) (m ((c.tc : Thread nD τ).loc main_arg1)) r 0) (logit (m ((c.tc : Thread nD τ).loc main_arg0)) (m ((c.tc : Thread nD τ).loc main_arg1)) r 1) := by
  refine Eq.trans ?_ (weight_at m c r)
  refine shapeCast_apply _ _ (ix1 r) (ix2 r (0 : Fin 1)) ?_
  rw [Shape.rowMajor_val_two, Shape.rowMajor_val_one]
  show r.val * 1 + 0 = r.val
  omega

/-- A weight is no less than 0, and not infinite. -/
theorem weight (c : Dev nD) (hx : Route.Reals (s := S2048x2048) (m ((c.tc : Thread nD τ).loc main_arg0)))
    (hr : Route.Reals (s := S2x2048) (m ((c.tc : Thread nD τ).loc main_arg1))) (t : S2048.Idx) :
    (0 : EReal) ≤ Setup.wA m c t ∧ (Setup.wA m c t : EReal) ≠ ⊤ := by
  obtain ⟨r, rfl⟩ : ∃ r : Fin 2048, t = ix1 r := ⟨t 0, eq_ix1 t⟩
  obtain ⟨a, ha⟩ := logit_real _ _ hx hr r 0
  obtain ⟨b, hb⟩ := logit_real _ _ hx hr r 1
  rw [amount m c r, ha, hb]
  exact conf_range a b

end Kernel

end Cert.Proof.Route

end
-- ==== Proof.RouteSum.lean ====
/-
  What the router's call leaves by itself: the expert chosen for each token and its weight.
-/
module

public import proofs.«01_k».proof.Proof.RtSum
public import proofs.«01_k».proof.Proof.Gen.RouterIdeal
public import proofs.«01_k».proof.Proof.Gen.RouterIdeal.Frame
public import proofs.«01_k».proof.Proof.Gen.RouterIdeal.Value
public import Idealize.ShloMosaic.Lib.MatmulPlain
public import Idealize.ShloMosaic.Lib.Pointwise.Index

@[expose] public section

noncomputable section

namespace Cert.Proof.Alone

open Idealize.ShloMosaic Idealize.ShloMosaic.TcCoe Idealize.SL.Sem

section Kernel
open Cert.RouterIdeal Cert.RouterIdeal.Gen Cert.RouterIdeal.Value
open Cert.Proof.Route (pick conf logit)
open Idealize.ShloMosaic.Pipeline (Dat)

theorem pay2_at (v0 : Vec Ideal S256x2048 .f32) (v1 : Vec Ideal S2x2048 .f32) (p : Fin 256) :
    k0_pay2 v0 v1 (ix2 p (0 : Fin 1)) = pick (∑ a : Fin 2048, (v0 (ix2 p a) * v1 (ix2 (0 : Fin 2) a) : EReal)) (∑ a : Fin 2048, (v0 (ix2 p a) * v1 (ix2 (1 : Fin 2) a) : EReal)) :=
  Route.pay2_at v0 v1 p

theorem pay3_at (v0 : Vec Ideal S256x2048 .f32) (v1 : Vec Ideal S2x2048 .f32) (p : Fin 256) :
    (k0_pay3 v0 v1 (ix2 p (0 : Fin 1)) : EReal) = conf (∑ a : Fin 2048, (v0 (ix2 p a) * v1 (ix2 (0 : Fin 2) a) : EReal)) (∑ a : Fin 2048, (v0 (ix2 p a) * v1 (ix2 (1 : Fin 2) a) : EReal)) :=
  Route.pay3_at v0 v1 p

variable (m : (ℓ : Loc nD τ sig) → Buf (Elt Ideal) ℓ)

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem lt8 (t : Fin cfg0.N) : t.val < 8 := t.isLt

/-- The row of the array that place `p` of block `t` is. -/
def row (t : Fin cfg0.N) (p : Fin 256) : Fin 2048 := ⟨t.val * 256 + p.val, by have := lt8 t; have := p.isLt; omega⟩

theorem block0 (c : Dev nD) (t : Fin cfg0.N) (p : Fin 256) (a : Fin 2048) :
    (iblk m c 0 t (ix2 p a) : EReal) = m ((c.tc : Thread nD τ).loc main_arg0) (ix2 (row t p) a) := by
  show V m c main_arg0 ((win0_0.rect t).emb (ix2 p a)) = V m c main_arg0 (ix2 (row t p) a)
  refine congrArg (V m c main_arg0) (funext fun b => Fin.ext ?_)
  refine (win0_0.rect_emb_val t (ix2 p a) b).trans ?_
  match b with
  | ⟨0, _⟩ => exact congrArg (fun n => n * 256 + p.val) (idx0 t).1
  | ⟨1, _⟩ => exact (congrArg (fun n => n * 2048 + a.val) (idx0 t).2).trans (by show 0 * 2048 + a.val = a.val; omega)

theorem block1 (c : Dev nD) (t : Fin cfg0.N) (k : Fin 2) (a : Fin 2048) :
    (iblk m c 1 t (ix2 k a) : EReal) = m ((c.tc : Thread nD τ).loc main_arg1) (ix2 k a) := by
  show V m c main_arg1 ((win0_1.rect t).emb (ix2 k a)) = V m c main_arg1 (ix2 k a)
  refine congrArg (V m c main_arg1) (funext fun b => Fin.ext ?_)
  refine (win0_1.rect_emb_val t (ix2 k a) b).trans ?_
  match b with
  | ⟨0, _⟩ => exact (congrArg (fun n => n * 2 + k.val) (idx1 t).1).trans (by show 0 * 2 + k.val = k.val; omega)
  | ⟨1, _⟩ => exact (congrArg (fun n => n * 2048 + a.val) (idx1 t).2).trans (by show 0 * 2048 + a.val = a.val; omega)

/-- The logits of a block are the logits of its rows. -/
theorem block_logit (c : Dev nD) (t : Fin cfg0.N) (p : Fin 256) (k : Fin 2) :
    (∑ a : Fin 2048, ((show EReal from iblk m c 0 t (ix2 p a)) * (show EReal from iblk m c 1 t (ix2 k a)) : EReal))
      = logit (m ((c.tc : Thread nD τ).loc main_arg0)) (m ((c.tc : Thread nD τ).loc main_arg1)) (row t p) k :=
  Finset.sum_congr rfl fun a _ => congrArg₂ (fun u v : EReal => u * v) (block0 m c t p a) (block1 m c t k a)

theorem ld0 (X : Vec Ideal S256x2048 .f32) : View.ld X r0_0 = X := View.ld_unit_zero Route.zeros2 _ X
theorem ld1 (X : Vec Ideal S2x2048 .f32) : View.ld X r0_1 = X := View.ld_unit_zero Route.zeros2 _ X

theorem out2_at (x0 : Vec Ideal S256x2048 .f32) (x1 : Vec Ideal S2x2048 .f32) (p : Fin 256) :
    out0_2 x0 x1 (ix2 p (0 : Fin 1)) = k0_pay2 x0 x1 (ix2 p (0 : Fin 1)) := by
  unfold out0_2
  rw [ld0, ld1]
  exact Route.one_piece _ p

theorem out3_at (x0 : Vec Ideal S256x2048 .f32) (x1 : Vec Ideal S2x2048 .f32) (p : Fin 256) :
    out0_3 x0 x1 (ix2 p (0 : Fin 1)) = k0_pay3 x0 x1 (ix2 p (0 : Fin 1)) := by
  unfold out0_3
  rw [ld0, ld1]
  exact Route.one_piece _ p

theorem emb2 (t : Fin cfg0.N) (p : Fin 256) : ((win0_2.rect t).emb (ix2 p (0 : Fin 1)) : S2048x1.Idx) = ix2 (row t p) (0 : Fin 1) :=
  funext fun b => Fin.ext (by
    refine (win0_2.rect_emb_val t (ix2 p (0 : Fin 1)) b).trans ?_
    match b with
    | ⟨0, _⟩ => exact congrArg (fun n => n * 256 + p.val) (idx2 t).1
    | ⟨1, _⟩ => exact (congrArg (fun n => n * 1 + 0) (idx2 t).2).trans rfl)

theorem emb3 (t : Fin cfg0.N) (p : Fin 256) : ((win0_3.rect t).emb (ix2 p (0 : Fin 1)) : S2048x1.Idx) = ix2 (row t p) (0 : Fin 1) :=
  funext fun b => Fin.ext (by
    refine (win0_3.rect_emb_val t (ix2 p (0 : Fin 1)) b).trans ?_
    match b with
    | ⟨0, _⟩ => exact congrArg (fun n => n * 256 + p.val) (idx3 t).1
    | ⟨1, _⟩ => exact (congrArg (fun n => n * 1 + 0) (idx3 t).2).trans rfl)

/-- The expert chosen for each token. -/
theorem choice_at (c : Dev nD) (r : Fin 2048) :
    ((dats m 0 c).arrAt 2 cfg0.N : S2048x1.Idx → BitVec 32) (ix2 r (0 : Fin 1))
      = pick (logit (m ((c.tc : Thread nD τ).loc main_arg0)) (m ((c.tc : Thread nD τ).loc main_arg1)) r 0) (logit (m ((c.tc : Thread nD τ).loc main_arg0)) (m ((c.tc : Thread nD τ).loc main_arg1)) r 1) := by
  obtain ⟨t, p, rfl⟩ : ∃ (t : Fin cfg0.N) (p : Fin 256), row t p = r := Route.row_of r
  have h := congrFun ((blocks2 m c t (flush0_2 t)).trans (flushed2 m c t)) (ix2 p (0 : Fin 1))
  rw [← emb2 t p, ← block_logit m c, ← block_logit m c, ← pay2_at, ← out2_at]
  exact h

/-- The weight given to it. -/
theorem weight_at (c : Dev nD) (r : Fin 2048) :
    ((dats m 0 c).arrAt 3 cfg0.N : S2048x1.Idx → EReal) (ix2 r (0 : Fin 1))
      = conf (logit (m ((c.tc : Thread nD τ).loc main_arg0)) (m ((c.tc : Thread nD τ).loc main_arg1)) r 0) (logit (m ((c.tc : Thread nD τ).loc main_arg0)) (m ((c.tc : Thread nD τ).loc main_arg1)) r 1) := by
  obtain ⟨t, p, rfl⟩ : ∃ (t : Fin cfg0.N) (p : Fin 256), row t p = r := Route.row_of r
  have h := congrFun ((blocks3 m c t (flush0_3 t)).trans (flushed3 m c t)) (ix2 p (0 : Fin 1))
  rw [← emb3 t p, ← block_logit, ← block_logit, ← pay3_at, ← out3_at]
  exact h

end Kernel

end Cert.Proof.Alone

end
-- ==== Proof.Route.lean ====
/-
  The claims of the router's call by itself.
-/
module

public import proofs.«01_k».proof.Defs
public import proofs.«01_k».proof.Proof.RouteSum
public import proofs.«01_k».proof.Proof.RtRef
public import proofs.«01_k».proof.Proof.RtEnd
public import proofs.«01_k».proof.Proof.Gen.ChoiceIdeal
public import proofs.«01_k».proof.Proof.Gen.ChoiceIdeal.Run
public import proofs.«01_k».proof.Proof.Gen.Router
public import proofs.«01_k».proof.Proof.Gen.Router.Frame
public import proofs.«01_k».proof.Proof.Gen.Kernel
public import proofs.«01_k».proof.Proof.Gen.Pre_router_finite
public import Idealize.ShloMosaic.Adequacy
public import Idealize.ShloMosaic.Init
public import Idealize.ShloMosaic.Lib.Quiescent
public import Idealize.ShloMosaic.Lib.ReduceAll

@[expose] public section

noncomputable section

namespace Cert.Proof.Alone

open Idealize.ShloMosaic Idealize.ShloMosaic.TcCoe Idealize.SL.Sem Idealize.ShloMosaic.Routing
open Cert.Proof.Route (pick conf logit real_of_abs logits probs top logit_real logits_at probs_at top_at pick_soft conf_soft)

section Finite
open Cert.Pre_router_finite Cert.Pre_router_finite.Gen

instance : Subsingleton S_.Idx := ⟨fun _ _ => funext fun a => a.elim0⟩

/-- What the precondition says: every argument is a real number. -/
theorem reals (x : FVec Ideal S2048x2048 .f32) (w : FVec Ideal S2x2048 .f32) (h : Cert.Pre_router_finite.fn (F := Ideal) x w = fun _ => 1#1) :
    (∀ i, ∃ a : ℝ, (x i : EReal) = a) ∧ ∀ i, ∃ a : ℝ, (w i : EReal) = a := by
  have h := congrFun h ValueIdx.ix0
  obtain ⟨ha, hb⟩ := (show ∀ a b : BitVec 1, a &&& b = 1#1 → a = 1#1 ∧ b = 1#1 by decide) _ _ h
  exact ⟨fun i => real_of_abs _ (Host.reduce_andi_all _ _ _ _ _ ha i), fun i => real_of_abs _ (Host.reduce_andi_all _ _ _ _ _ hb i)⟩

end Finite

/-! ## The reference -/

section Choice
open Cert.ChoiceIdeal Cert.ChoiceIdeal.Gen

/-- The likelier entry's number. -/
def likelier (P : FVec Ideal S2048x2 .f32) : IVec S2048x1 32 :=
  select (cmpf .ogt (extractStridedSlice S2048x1 ![0, 1] P slices_S2048x2_S2048x1_0_1) (extractStridedSlice S2048x1 ![0, 0] P slices_S2048x2_S2048x1_0_0))
    (broadcastInDim S2048x1 ![] bcast_S_S2048x1 (constantI S_ 32 1#32)) (broadcastInDim S2048x1 ![] bcast_S_S2048x1 (constantI S_ 32 0#32))

theorem likelier_at (P : FVec Ideal S2048x2 .f32) (r : Fin 2048) :
    likelier P (ix2 r (0 : Fin 1)) = Scalar.select (Ideal.cmp .ogt (P (ix2 r (1 : Fin 2))) (P (ix2 r (0 : Fin 2)))) (1#32) (0#32) := by
  refine congrArg₂ (fun a b : EReal => Scalar.select (Ideal.cmp .ogt a b) (1#32) (0#32)) (extractStridedSlice_apply _ _ _ _ (ix2 r (1 : Fin 2)) fun b => ?_)
    (extractStridedSlice_apply _ _ _ _ (ix2 r (0 : Fin 2)) fun b => ?_)
  · match b with
    | ⟨0, _⟩ => exact (Nat.zero_add _).symm
    | ⟨1, _⟩ => rfl
  · match b with
    | ⟨0, _⟩ => exact (Nat.zero_add _).symm
    | ⟨1, _⟩ => rfl

/-- Its probability. -/
def likeliest (P : FVec Ideal S2048x2 .f32) : FVec Ideal S2048x1 .f32 :=
  broadcastInDim S2048x1 ![0] bcast_S2048_S2048x1_0 (top P)

theorem likeliest_at (P : FVec Ideal S2048x2 .f32) (r : Fin 2048) :
    (likeliest P (ix2 r (0 : Fin 1)) : EReal) = max (P (ix2 r (0 : Fin 2))) (P (ix2 r (1 : Fin 2)) : EReal) :=
  (bcCol bcast_S2048_S2048x1_0 (top P) r).trans (top_at P r)

section Values
variable (x : FVec Ideal S2048x2048 .f32) (w : FVec Ideal S2x2048 .f32) (hx : ∀ i, ∃ a : ℝ, (x i : EReal) = a) (hw : ∀ i, ∃ a : ℝ, (w i : EReal) = a)
include hx hw

theorem likelier_eq (r : Fin 2048) : likelier (probs (logits x w)) (ix2 r (0 : Fin 1)) = pick (logit x w r 0) (logit x w r 1) := by
  rw [likelier_at, probs_at, probs_at, logits_at, logits_at]
  obtain ⟨a, ha⟩ := logit_real x w hx hw r 0
  obtain ⟨b, hb⟩ := logit_real x w hx hw r 1
  rw [ha, hb]
  exact pick_soft a b

theorem likeliest_eq (r : Fin 2048) : (likeliest (probs (logits x w)) (ix2 r (0 : Fin 1)) : EReal) = conf (logit x w r 0) (logit x w r 1) := by
  rw [likeliest_at, probs_at, probs_at, logits_at, logits_at]
  obtain ⟨a, ha⟩ := logit_real x w hx hw r 0
  obtain ⟨b, hb⟩ := logit_real x w hx hw r 1
  rw [ha, hb]
  exact conf_soft a b

end Values

end Choice

/-! ## The claims -/

theorem frame_router : Cert.quiescent_Router := fun m ρ _ => Cert.Router.Gen.frame m ρ

theorem frame_routerIdeal : Cert.quiescent_RouterIdeal := fun m ρ _ => Cert.RouterIdeal.Gen.frame m ρ

theorem frame_routerIdeal_pre : Cert.quiescent_RouterIdeal_pre_router_finite := fun m ρ _ => Cert.RouterIdeal.Gen.frame m ρ

theorem frame_choiceIdeal : Cert.quiescent_ChoiceIdeal := fun m ρ _ =>
  (θ_run Cert.ChoiceIdeal.defs _ _).mono (fun r h => ⟨fun c => (h c).2.2, sem_eq_zero_of_no_sems (by decide) r.2⟩) (Cert.ChoiceIdeal.Value.run (F := Ideal) m ρ)

theorem frame_choiceIdeal_pre : Cert.quiescent_ChoiceIdeal_pre_router_finite := fun m ρ _ =>
  (θ_run Cert.ChoiceIdeal.defs _ _).mono (fun r h => ⟨fun c => (h c).2.2, sem_eq_zero_of_no_sems (by decide) r.2⟩) (Cert.ChoiceIdeal.Value.run (F := Ideal) m ρ)

/-- The two results as functions of the arguments. -/
def choice (x : FVec Ideal Cert.ChoiceIdeal.S2048x2048 .f32) (w : FVec Ideal Cert.ChoiceIdeal.S2x2048 .f32) : Cert.ChoiceIdeal.S2048x1.Idx → BitVec 32 :=
  fun y => pick (logit x w (y 0) 0) (logit x w (y 0) 1)

def trust (x : FVec Ideal Cert.ChoiceIdeal.S2048x2048 .f32) (w : FVec Ideal Cert.ChoiceIdeal.S2x2048 .f32) : Cert.ChoiceIdeal.S2048x1.Idx → EReal :=
  fun y => conf (logit x w (y 0) 0) (logit x w (y 0) 1)

theorem idx_eq (y : Cert.ChoiceIdeal.S2048x1.Idx) : ∃ r : Fin 2048, y = ValueIdx.ix2 r (0 : Fin 1) :=
  ⟨y 0, funext fun a => match a with
    | ⟨0, _⟩ => rfl
    | ⟨1, _⟩ => Subsingleton.elim (α := Fin 1) _ _⟩

theorem algebraic : Cert.algebraic_RouterIdeal_ChoiceIdeal_pre_router_finite := by
  intro m ρ m' ρ' hpre hagree
  refine ⟨fun c => choice (m ((c.tc : Thread Cert.RouterIdeal.nD Cert.RouterIdeal.τ).loc Cert.RouterIdeal.main_arg0)) (m ((c.tc : Thread Cert.RouterIdeal.nD Cert.RouterIdeal.τ).loc Cert.RouterIdeal.main_arg1)),
    fun c => trust (m ((c.tc : Thread Cert.RouterIdeal.nD Cert.RouterIdeal.τ).loc Cert.RouterIdeal.main_arg0)) (m ((c.tc : Thread Cert.RouterIdeal.nD Cert.RouterIdeal.τ).loc Cert.RouterIdeal.main_arg1)),
    (θ_run Cert.RouterIdeal.defs _ _).mono (fun _ h c => ?_) (Cert.RouterIdeal.Value.run_blocks (F := Ideal) m ρ),
    (θ_run Cert.ChoiceIdeal.defs _ _).mono (fun _ h c => ?_) (Cert.ChoiceIdeal.Value.run (F := Ideal) m' ρ')⟩
  · obtain ⟨h0, h1, h2⟩ := h c
    refine ⟨h0.trans (funext fun y => ?_), h1.trans (funext fun y => ?_), h2⟩
    · obtain ⟨r, rfl⟩ := idx_eq y
      exact choice_at m c r
    · obtain ⟨r, rfl⟩ := idx_eq y
      exact weight_at m c r
  · obtain ⟨a0, a1⟩ := hagree c
    obtain ⟨h0, h1, h2⟩ := h c
    obtain ⟨hx, hw⟩ := reals _ _ (hpre c)
    refine ⟨h0.trans ?_, h1.trans ?_, h2⟩
    · rw [a0, a1]
      funext y
      obtain ⟨r, rfl⟩ := idx_eq y
      exact likelier_eq _ _ hx hw r
    · rw [a0, a1]
      funext y
      obtain ⟨r, rfl⟩ := idx_eq y
      exact likeliest_eq _ _ hx hw r

end Cert.Proof.Alone

end
-- ==== Proof.lean ====
/-
  The certificate's claims, from the program's one run over any element type and the reference's run.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_finite
public import proofs.«01_k».proof.Proof.Launch
public import proofs.«01_k».proof.Proof.Dense
public import proofs.«01_k».proof.Proof.Same
public import proofs.«01_k».proof.Proof.RtEnd
public import proofs.«01_k».proof.Proof.Route
public import Idealize.ShloMosaic.Adequacy
public import Idealize.ShloMosaic.Init
public import Idealize.ShloMosaic.Lib.Quiescent
public import Idealize.ShloMosaic.Lib.ReduceAll

@[expose] public section

noncomputable section

namespace Cert.Proof

open Idealize.ShloMosaic Idealize.SL.Sem Cert.Proof.Values

/-! ## The program -/

section Program
open Cert.KernelIdeal
variable {F : FTy → Type} [FloatOps F] [∀ e, Nonempty (Elt F e)]
variable (m : (ℓ : Loc nD τ sig) → Buf (Elt F) ℓ) (ρ : Dev nD → PrngReg)

theorem kernel_frame : θ_run (defs (F := F)) (threads (F := F)) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0 :=
  (θ_run defs _ _).mono (fun _ h => ⟨fun c => by
    obtain ⟨h0, h1, h2, h3, _⟩ := h.1 c
    exact ⟨h0, h1, h2, h3⟩, h.2⟩) (Setup.run_main (F := F) m ρ)

end Program

section Ideal
open Cert.KernelIdeal
variable (m : (ℓ : Loc nD τ sig) → Buf (Elt Ideal) ℓ)

/-- The result as a function of the arguments: each token through the expert the router chose, times the router's weight. -/
def resultOf (c : Dev nD) : S2048x2048.Idx → EReal :=
  fun y => Setup.moe (Setup.eA m c) (Setup.wA m c) (m ((c.tc : Thread nD τ).loc main_arg0)) (m ((c.tc : Thread nD τ).loc main_arg2))
    (m ((c.tc : Thread nD τ).loc main_arg3)) (y 0) (y 1)

theorem kernel_value (d : Dev nD) (hx : Route.Reals (s := S2048x2048) (m ((d.tc : Thread nD τ).loc main_arg0)))
    (hr : Route.Reals (s := S2x2048) (m ((d.tc : Thread nD τ).loc main_arg1))) :
    (Setup.val_v81 (F := Ideal) (Setup.backA (Setup.eA m d) (Setup.yA m d) : Setup.Table Ideal) : S2048x2048.Idx → EReal) = resultOf m d := by
  funext y
  obtain ⟨r, c, rfl⟩ : ∃ r c : Fin 2048, y = ix2 r c := ⟨y 0, y 1, eq_ix2 y⟩
  exact Setup.total _ _ _ _ _ _ (fun t => (Route.weight m d hx hr t).1) (fun t => (Route.weight m d hx hr t).2) r c

end Ideal

/-! ## The claims -/

theorem frame_kernel : Cert.quiescent_Kernel := fun m ρ _ => by
  have h := kernel_frame (F := Bits) m ρ
  rw [← Same.run_same Same.labels Same.defs_same Same.threads_same] at h
  exact h

theorem frame_kernelIdeal : Cert.quiescent_KernelIdeal := fun m ρ _ => kernel_frame (F := Ideal) m ρ

theorem frame_kernelIdeal_pre : Cert.quiescent_KernelIdeal_pre_finite := fun m ρ _ => kernel_frame (F := Ideal) m ρ

theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

theorem frame_referenceIdeal_pre : Cert.quiescent_ReferenceIdeal_pre_finite := fun m ρ _ =>
  (θ_run Cert.ReferenceIdeal.defs _ _).mono (fun r h => ⟨fun c => (h c).2, sem_eq_zero_of_no_sems (by decide) r.2⟩) (Cert.ReferenceIdeal.Value.run (F := Ideal) m ρ)

theorem algebraic : Cert.algebraic_KernelIdeal_ReferenceIdeal_pre_finite := by
  intro m ρ m' ρ' hpre hagree
  refine ⟨fun c => resultOf m c, (θ_run Cert.KernelIdeal.defs _ _).mono (fun _ h c => ?_) (Setup.run_main (F := Ideal) m ρ),
    (θ_run Cert.ReferenceIdeal.defs _ _).mono (fun _ h c => ?_) (Cert.ReferenceIdeal.Value.run (F := Ideal) m' ρ')⟩
  · obtain ⟨h0, h1, h2, h3, h4⟩ := h.1 c
    obtain ⟨hx, hr⟩ := Route.reals _ _ _ _ (hpre c)
    exact ⟨h4.trans (kernel_value m c hx hr), h0, h1, h2, h3⟩
  · obtain ⟨a0, a1, a2, a3⟩ := hagree c
    obtain ⟨hx, hr⟩ := Route.reals _ _ _ _ (hpre c)
    obtain ⟨hv, h0⟩ := h c
    refine ⟨hv.trans ((Dense.result_eq m' c).trans ?_), h0⟩
    rw [a0, a1, a2, a3]
    funext y
    obtain ⟨r, k, rfl⟩ : ∃ r k : Fin 2048, y = ix2 r k := ⟨y 0, y 1, eq_ix2 y⟩
    exact Dense.whole_at _ _ _ _ _ _ r k ((Route.second_eq _ _ hx hr r).trans (Route.choice m c r).symm) ((Route.top_eq _ _ hx hr r).trans (Route.amount m c r).symm)

theorem claim : Cert.Claim :=
  ⟨Cert.Kernel.Gen.facts, Cert.KernelIdeal.Gen.facts, Cert.ReferenceIdeal.Gen.facts, Cert.Router.Gen.facts, Cert.RouterIdeal.Gen.facts, Cert.ChoiceIdeal.Gen.facts,
    Cert.Pre_finite.Gen.facts, Cert.Pre_router_finite.Gen.facts,
    frame_kernel, frame_kernelIdeal, frame_kernelIdeal_pre, frame_referenceIdeal, frame_referenceIdeal_pre,
    Alone.frame_router, Alone.frame_routerIdeal, Alone.frame_routerIdeal_pre, Alone.frame_choiceIdeal, Alone.frame_choiceIdeal_pre,
    trivial, algebraic, trivial, Alone.algebraic⟩

end Cert.Proof

end
